-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenRefIdeal (m : (ℓ : Loc Cert.EvenRefIdeal.nD Cert.EvenRefIdeal.τ Cert.EvenRefIdeal.sig) → Buf (Elt Ideal) ℓ) : Prop :=
  True

def Pre_Quer (m : (ℓ : Loc Cert.Quer.nD Cert.Quer.τ Cert.Quer.sig) → Buf (Elt Bits) ℓ) : Prop :=
  True

def Pre_QuerIdeal (m : (ℓ : Loc Cert.QuerIdeal.nD Cert.QuerIdeal.τ Cert.QuerIdeal.sig) → Buf (Elt Ideal) ℓ) : Prop :=
  True

def Pre_QuerRefIdeal (m : (ℓ : Loc Cert.QuerRefIdeal.nD Cert.QuerRefIdeal.τ Cert.QuerRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2))
      ∧ r.2.sem = fun _ => 0)

def quiescent_Quer [hQuer : Cert.Quer.Facts] : Prop :=
  ∀ (m : (ℓ : Loc Cert.Quer.nD Cert.Quer.τ Cert.Quer.sig) → Buf (Elt Bits) ℓ) (g : Dev Cert.Quer.nD → PrngReg), Pre_Quer m →
    θ_run (Cert.Quer.defs (F := Bits)) (onTc (τ := Cert.Quer.τ) (Cert.Quer.main (F := Bits))) ⟨m, fun _ => 0, g⟩ (fun r => (∀ c : Dev Cert.Quer.nD,
      r.2.mem ((c.tc : Thread Cert.Quer.nD Cert.Quer.τ).loc Cert.Quer.main_arg0) = m ((c.tc : Thread Cert.Quer.nD Cert.Quer.τ).loc Cert.Quer.main_arg0)
      ∧ r.2.mem ((c.tc : Thread Cert.Quer.nD Cert.Quer.τ).loc Cert.Quer.main_arg1) = m ((c.tc : Thread Cert.Quer.nD Cert.Quer.τ).loc Cert.Quer.main_arg1)
      ∧ r.2.mem ((c.tc : Thread Cert.Quer.nD Cert.Quer.τ).loc Cert.Quer.main_arg2) = m ((c.tc : Thread Cert.Quer.nD Cert.Quer.τ).loc Cert.Quer.main_arg2))
      ∧ r.2.sem = fun _ => 0)

def quiescent_QuerIdeal [hQuerIdeal : Cert.QuerIdeal.Facts] : Prop :=
  ∀ (m : (ℓ : Loc Cert.QuerIdeal.nD Cert.QuerIdeal.τ Cert.QuerIdeal.sig) → Buf (Elt Ideal) ℓ) (g : Dev Cert.QuerIdeal.nD → PrngReg), Pre_QuerIdeal m →
    θ_run (Cert.QuerIdeal.defs (F := Ideal)) (onTc (τ := Cert.QuerIdeal.τ) (Cert.QuerIdeal.main (F := Ideal))) ⟨m, fun _ => 0, g⟩ (fun r => (∀ c : Dev Cert.QuerIdeal.nD,
      r.2.mem ((c.tc : Thread Cert.QuerIdeal.nD Cert.QuerIdeal.τ).loc Cert.QuerIdeal.main_arg0) = m ((c.tc : Thread Cert.QuerIdeal.nD Cert.QuerIdeal.τ).loc Cert.QuerIdeal.main_arg0)
      ∧ r.2.mem ((c.tc : Thread Cert.QuerIdeal.nD Cert.QuerIdeal.τ).loc Cert.QuerIdeal.main_arg1) = m ((c.tc : Thread Cert.QuerIdeal.nD Cert.QuerIdeal.τ).loc Cert.QuerIdeal.main_arg1)
      ∧ r.2.mem ((c.tc : Thread Cert.QuerIdeal.nD Cert.QuerIdeal.τ).loc Cert.QuerIdeal.main_arg2) = m ((c.tc : Thread Cert.QuerIdeal.nD Cert.QuerIdeal.τ).loc Cert.QuerIdeal.main_arg2))
      ∧ r.2.sem = fun _ => 0)

def quiescent_QuerRefIdeal [hQuerRefIdeal : Cert.QuerRefIdeal.Facts] : Prop :=
  ∀ (m : (ℓ : Loc Cert.QuerRefIdeal.nD Cert.QuerRefIdeal.τ Cert.QuerRefIdeal.sig) → Buf (Elt Ideal) ℓ) (g : Dev Cert.QuerRefIdeal.nD → PrngReg), Pre_QuerRefIdeal m →
    θ_run (Cert.QuerRefIdeal.defs (F := Ideal)) (onTc (τ := Cert.QuerRefIdeal.τ) (Cert.QuerRefIdeal.main (F := Ideal))) ⟨m, fun _ => 0, g⟩ (fun r => (∀ c : Dev Cert.QuerRefIdeal.nD,
      r.2.mem ((c.tc : Thread Cert.QuerRefIdeal.nD Cert.QuerRefIdeal.τ).loc Cert.QuerRefIdeal.main_arg0) = m ((c.tc : Thread Cert.QuerRefIdeal.nD Cert.QuerRefIdeal.τ).loc Cert.QuerRefIdeal.main_arg0)
      ∧ r.2.mem ((c.tc : Thread Cert.QuerRefIdeal.nD Cert.QuerRefIdeal.τ).loc Cert.QuerRefIdeal.main_arg1) = m ((c.tc : Thread Cert.QuerRefIdeal.nD Cert.QuerRefIdeal.τ).loc Cert.QuerRefIdeal.main_arg1)
      ∧ r.2.mem ((c.tc : Thread Cert.QuerRefIdeal.nD Cert.QuerRefIdeal.τ).loc Cert.QuerRefIdeal.main_arg2) = m ((c.tc : Thread Cert.QuerRefIdeal.nD Cert.QuerRefIdeal.τ).loc Cert.QuerRefIdeal.main_arg2))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5)
      ∧ r.2.mem ((c.tc : Thread Cert.Odd.nD Cert.Odd.τ).loc Cert.Odd.main_arg6) = m ((c.tc : Thread Cert.Odd.nD Cert.Odd.τ).loc Cert.Odd.main_arg6))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
      ∧ r.2.mem ((c.tc : Thread Cert.OddIdeal.nD Cert.OddIdeal.τ).loc Cert.OddIdeal.main_arg6) = m ((c.tc : Thread Cert.OddIdeal.nD Cert.OddIdeal.τ).loc Cert.OddIdeal.main_arg6))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5)
      ∧ r.2.mem ((c.tc : Thread Cert.OddRefIdeal.nD Cert.OddRefIdeal.τ).loc Cert.OddRefIdeal.main_arg6) = m ((c.tc : Thread Cert.OddRefIdeal.nD Cert.OddRefIdeal.τ).loc Cert.OddRefIdeal.main_arg6))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v37) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_Even_EvenIdeal : Prop :=
  True

def algebraic_EvenIdeal_EvenRefIdeal [hEvenIdeal : Cert.EvenIdeal.Facts] [hEvenRefIdeal : Cert.EvenRefIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenIdeal m →
    (∀ c : Dev Cert.EvenIdeal.nD,
      m' ((c.tc : Thread Cert.EvenRefIdeal.nD Cert.EvenRefIdeal.τ).loc Cert.EvenRefIdeal.main_arg0) = m ((c.tc : Thread Cert.EvenIdeal.nD Cert.EvenIdeal.τ).loc Cert.EvenIdeal.main_arg0)
      ∧ m' ((c.tc : Thread Cert.EvenRefIdeal.nD Cert.EvenRefIdeal.τ).loc Cert.EvenRefIdeal.main_arg1) = m ((c.tc : Thread Cert.EvenIdeal.nD Cert.EvenIdeal.τ).loc Cert.EvenIdeal.main_arg1)
      ∧ m' ((c.tc : Thread Cert.EvenRefIdeal.nD Cert.EvenRefIdeal.τ).loc Cert.EvenRefIdeal.main_arg2) = m ((c.tc : Thread Cert.EvenIdeal.nD Cert.EvenIdeal.τ).loc Cert.EvenIdeal.main_arg2)) →
    ∃ (v0 : (c : Dev Cert.EvenIdeal.nD) → Buf (Elt Ideal) ((c.tc : Thread Cert.EvenIdeal.nD Cert.EvenIdeal.τ).loc Cert.EvenIdeal.main_v0)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v0) = v0 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v11) = v0 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1)
          ∧ r.2.mem ((c.tc : Thread Cert.EvenRefIdeal.nD Cert.EvenRefIdeal.τ).loc Cert.EvenRefIdeal.main_arg2) = m' ((c.tc : Thread Cert.EvenRefIdeal.nD Cert.EvenRefIdeal.τ).loc Cert.EvenRefIdeal.main_arg2))

def preserves_Quer_QuerIdeal : Prop :=
  True

def algebraic_QuerIdeal_QuerRefIdeal [hQuerIdeal : Cert.QuerIdeal.Facts] [hQuerRefIdeal : Cert.QuerRefIdeal.Facts] : Prop :=
  ∀ (m : (ℓ : Loc Cert.QuerIdeal.nD Cert.QuerIdeal.τ Cert.QuerIdeal.sig) → Buf (Elt Ideal) ℓ) (g : Dev Cert.QuerIdeal.nD → PrngReg)
    (m' : (ℓ : Loc Cert.QuerRefIdeal.nD Cert.QuerRefIdeal.τ Cert.QuerRefIdeal.sig) → Buf (Elt Ideal) ℓ) (g' : Dev Cert.QuerRefIdeal.nD → PrngReg), Pre_QuerIdeal m →
    (∀ c : Dev Cert.QuerIdeal.nD,
      m' ((c.tc : Thread Cert.QuerRefIdeal.nD Cert.QuerRefIdeal.τ).loc Cert.QuerRefIdeal.main_arg0) = m ((c.tc : Thread Cert.QuerIdeal.nD Cert.QuerIdeal.τ).loc Cert.QuerIdeal.main_arg0)
      ∧ m' ((c.tc : Thread Cert.QuerRefIdeal.nD Cert.QuerRefIdeal.τ).loc Cert.QuerRefIdeal.main_arg1) = m ((c.tc : Thread Cert.QuerIdeal.nD Cert.QuerIdeal.τ).loc Cert.QuerIdeal.main_arg1)
      ∧ m' ((c.tc : Thread Cert.QuerRefIdeal.nD Cert.QuerRefIdeal.τ).loc Cert.QuerRefIdeal.main_arg2) = m ((c.tc : Thread Cert.QuerIdeal.nD Cert.QuerIdeal.τ).loc Cert.QuerIdeal.main_arg2)) →
    ∃ (v0 : (c : Dev Cert.QuerIdeal.nD) → Buf (Elt Ideal) ((c.tc : Thread Cert.QuerIdeal.nD Cert.QuerIdeal.τ).loc Cert.QuerIdeal.main_v0_0)) (v1 : (c : Dev Cert.QuerIdeal.nD) → Buf (Elt Ideal) ((c.tc : Thread Cert.QuerIdeal.nD Cert.QuerIdeal.τ).loc Cert.QuerIdeal.main_v0_1)),
      θ_run (Cert.QuerIdeal.defs (F := Ideal)) (onTc (τ := Cert.QuerIdeal.τ) (Cert.QuerIdeal.main (F := Ideal))) ⟨m, fun _ => 0, g⟩ (fun r => ∀ c : Dev Cert.QuerIdeal.nD,
          r.2.mem ((c.tc : Thread Cert.QuerIdeal.nD Cert.QuerIdeal.τ).loc Cert.QuerIdeal.main_v0_0) = v0 c
          ∧ r.2.mem ((c.tc : Thread Cert.QuerIdeal.nD Cert.QuerIdeal.τ).loc Cert.QuerIdeal.main_v0_1) = v1 c
          ∧ r.2.mem ((c.tc : Thread Cert.QuerIdeal.nD Cert.QuerIdeal.τ).loc Cert.QuerIdeal.main_arg0) = m ((c.tc : Thread Cert.QuerIdeal.nD Cert.QuerIdeal.τ).loc Cert.QuerIdeal.main_arg0)
          ∧ r.2.mem ((c.tc : Thread Cert.QuerIdeal.nD Cert.QuerIdeal.τ).loc Cert.QuerIdeal.main_arg1) = m ((c.tc : Thread Cert.QuerIdeal.nD Cert.QuerIdeal.τ).loc Cert.QuerIdeal.main_arg1)
          ∧ r.2.mem ((c.tc : Thread Cert.QuerIdeal.nD Cert.QuerIdeal.τ).loc Cert.QuerIdeal.main_arg2) = m ((c.tc : Thread Cert.QuerIdeal.nD Cert.QuerIdeal.τ).loc Cert.QuerIdeal.main_arg2))
      ∧ θ_run (Cert.QuerRefIdeal.defs (F := Ideal)) (onTc (τ := Cert.QuerRefIdeal.τ) (Cert.QuerRefIdeal.main (F := Ideal))) ⟨m', fun _ => 0, g'⟩ (fun r => ∀ c : Dev Cert.QuerRefIdeal.nD,
          r.2.mem ((c.tc : Thread Cert.QuerRefIdeal.nD Cert.QuerRefIdeal.τ).loc Cert.QuerRefIdeal.main_v12) = v0 c
          ∧ r.2.mem ((c.tc : Thread Cert.QuerRefIdeal.nD Cert.QuerRefIdeal.τ).loc Cert.QuerRefIdeal.main_v14) = v1 c
          ∧ r.2.mem ((c.tc : Thread Cert.QuerRefIdeal.nD Cert.QuerRefIdeal.τ).loc Cert.QuerRefIdeal.main_arg0) = m' ((c.tc : Thread Cert.QuerRefIdeal.nD Cert.QuerRefIdeal.τ).loc Cert.QuerRefIdeal.main_arg0)
          ∧ r.2.mem ((c.tc : Thread Cert.QuerRefIdeal.nD Cert.QuerRefIdeal.τ).loc Cert.QuerRefIdeal.main_arg1) = m' ((c.tc : Thread Cert.QuerRefIdeal.nD Cert.QuerRefIdeal.τ).loc Cert.QuerRefIdeal.main_arg1)
          ∧ r.2.mem ((c.tc : Thread Cert.QuerRefIdeal.nD Cert.QuerRefIdeal.τ).loc Cert.QuerRefIdeal.main_arg2) = m' ((c.tc : Thread Cert.QuerRefIdeal.nD Cert.QuerRefIdeal.τ).loc Cert.QuerRefIdeal.main_arg2))

def preserves_Odd_OddIdeal : Prop :=
  IdealRules.named_const.Statement Cert.OddIdeal.κ "qscale" .f32 0x3E0293EE#32 ((((Real.sqrt 128) * (Real.log 2))⁻¹ : ℝ) : EReal)

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)
      ∧ m' ((c.tc : Thread Cert.OddRefIdeal.nD Cert.OddRefIdeal.τ).loc Cert.OddRefIdeal.main_arg4) = m ((c.tc : Thread Cert.OddIdeal.nD Cert.OddIdeal.τ).loc Cert.OddIdeal.main_arg4)
      ∧ m' ((c.tc : Thread Cert.OddRefIdeal.nD Cert.OddRefIdeal.τ).loc Cert.OddRefIdeal.main_arg5) = m ((c.tc : Thread Cert.OddIdeal.nD Cert.OddIdeal.τ).loc Cert.OddIdeal.main_arg5)
      ∧ m' ((c.tc : Thread Cert.OddRefIdeal.nD Cert.OddRefIdeal.τ).loc Cert.OddRefIdeal.main_arg6) = m ((c.tc : Thread Cert.OddIdeal.nD Cert.OddIdeal.τ).loc Cert.OddIdeal.main_arg6)) →
    ∃ (v0 : (c : Dev Cert.OddIdeal.nD) → Buf (Elt Ideal) ((c.tc : Thread Cert.OddIdeal.nD Cert.OddIdeal.τ).loc Cert.OddIdeal.main_v0_0)) (v1 : (c : Dev Cert.OddIdeal.nD) → Buf (Elt Ideal) ((c.tc : Thread Cert.OddIdeal.nD Cert.OddIdeal.τ).loc Cert.OddIdeal.main_v0_1)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v0_0) = v0 c
          ∧ r.2.mem ((c.tc : Thread Cert.OddIdeal.nD Cert.OddIdeal.τ).loc Cert.OddIdeal.main_v0_1) = v1 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
          ∧ r.2.mem ((c.tc : Thread Cert.OddIdeal.nD Cert.OddIdeal.τ).loc Cert.OddIdeal.main_arg6) = m ((c.tc : Thread Cert.OddIdeal.nD Cert.OddIdeal.τ).loc Cert.OddIdeal.main_arg6))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v22) = v0 c
          ∧ r.2.mem ((c.tc : Thread Cert.OddRefIdeal.nD Cert.OddRefIdeal.τ).loc Cert.OddRefIdeal.main_v24) = v1 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3)
          ∧ r.2.mem ((c.tc : Thread Cert.OddRefIdeal.nD Cert.OddRefIdeal.τ).loc Cert.OddRefIdeal.main_arg4) = m' ((c.tc : Thread Cert.OddRefIdeal.nD Cert.OddRefIdeal.τ).loc Cert.OddRefIdeal.main_arg4)
          ∧ r.2.mem ((c.tc : Thread Cert.OddRefIdeal.nD Cert.OddRefIdeal.τ).loc Cert.OddRefIdeal.main_arg5) = m' ((c.tc : Thread Cert.OddRefIdeal.nD Cert.OddRefIdeal.τ).loc Cert.OddRefIdeal.main_arg5)
          ∧ r.2.mem ((c.tc : Thread Cert.OddRefIdeal.nD Cert.OddRefIdeal.τ).loc Cert.OddRefIdeal.main_arg6) = m' ((c.tc : Thread Cert.OddRefIdeal.nD Cert.OddRefIdeal.τ).loc Cert.OddRefIdeal.main_arg6))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v0)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v0) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v34) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)) →
    ∃ (v0 : (c : Dev Cert.DenseIdeal.nD) → Buf (Elt Ideal) ((c.tc : Thread Cert.DenseIdeal.nD Cert.DenseIdeal.τ).loc Cert.DenseIdeal.main_v0)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v0) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v24) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hEven : Cert.Even.Facts) (hEvenIdeal : Cert.EvenIdeal.Facts) (hEvenRefIdeal : Cert.EvenRefIdeal.Facts) (hQuer : Cert.Quer.Facts) (hQuerIdeal : Cert.QuerIdeal.Facts) (hQuerRefIdeal : Cert.QuerRefIdeal.Facts) (hOdd : Cert.Odd.Facts) (hOddIdeal : Cert.OddIdeal.Facts) (hOddRefIdeal : Cert.OddRefIdeal.Facts) (hLast : Cert.Last.Facts) (hLastIdeal : Cert.LastIdeal.Facts) (hLastRefIdeal : Cert.LastRefIdeal.Facts) (hAda : Cert.Ada.Facts) (hAdaIdeal : Cert.AdaIdeal.Facts) (hAdaRefIdeal : Cert.AdaRefIdeal.Facts) (hDense : Cert.Dense.Facts) (hDenseIdeal : Cert.DenseIdeal.Facts) (hDenseRefIdeal : Cert.DenseRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Proj (hProj := hProj)
    ∧ quiescent_ProjIdeal (hProjIdeal := hProjIdeal)
    ∧ quiescent_ProjRefIdeal (hProjRefIdeal := hProjRefIdeal)
    ∧ quiescent_Even (hEven := hEven)
    ∧ quiescent_EvenIdeal (hEvenIdeal := hEvenIdeal)
    ∧ quiescent_EvenRefIdeal (hEvenRefIdeal := hEvenRefIdeal)
    ∧ quiescent_Quer (hQuer := hQuer)
    ∧ quiescent_QuerIdeal (hQuerIdeal := hQuerIdeal)
    ∧ quiescent_QuerRefIdeal (hQuerRefIdeal := hQuerRefIdeal)
    ∧ quiescent_Odd (hOdd := hOdd)
    ∧ quiescent_OddIdeal (hOddIdeal := hOddIdeal)
    ∧ quiescent_OddRefIdeal (hOddRefIdeal := hOddRefIdeal)
    ∧ quiescent_Last (hLast := hLast)
    ∧ quiescent_LastIdeal (hLastIdeal := hLastIdeal)
    ∧ quiescent_LastRefIdeal (hLastRefIdeal := hLastRefIdeal)
    ∧ quiescent_Ada (hAda := hAda)
    ∧ quiescent_AdaIdeal (hAdaIdeal := hAdaIdeal)
    ∧ quiescent_AdaRefIdeal (hAdaRefIdeal := hAdaRefIdeal)
    ∧ quiescent_Dense (hDense := hDense)
    ∧ quiescent_DenseIdeal (hDenseIdeal := hDenseIdeal)
    ∧ quiescent_DenseRefIdeal (hDenseRefIdeal := hDenseRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Proj_ProjIdeal
    ∧ algebraic_ProjIdeal_ProjRefIdeal (hProjIdeal := hProjIdeal) (hProjRefIdeal := hProjRefIdeal)
    ∧ preserves_Even_EvenIdeal
    ∧ algebraic_EvenIdeal_EvenRefIdeal (hEvenIdeal := hEvenIdeal) (hEvenRefIdeal := hEvenRefIdeal)
    ∧ preserves_Quer_QuerIdeal
    ∧ algebraic_QuerIdeal_QuerRefIdeal (hQuerIdeal := hQuerIdeal) (hQuerRefIdeal := hQuerRefIdeal)
    ∧ preserves_Odd_OddIdeal
    ∧ algebraic_OddIdeal_OddRefIdeal (hOddIdeal := hOddIdeal) (hOddRefIdeal := hOddRefIdeal)
    ∧ preserves_Last_LastIdeal
    ∧ algebraic_LastIdeal_LastRefIdeal (hLastIdeal := hLastIdeal) (hLastRefIdeal := hLastRefIdeal)
    ∧ preserves_Ada_AdaIdeal
    ∧ algebraic_AdaIdeal_AdaRefIdeal (hAdaIdeal := hAdaIdeal) (hAdaRefIdeal := hAdaRefIdeal)
    ∧ preserves_Dense_DenseIdeal
    ∧ algebraic_DenseIdeal_DenseRefIdeal (hDenseIdeal := hDenseIdeal) (hDenseRefIdeal := hDenseRefIdeal)
-- ==== Pre_finite.lean ====
abbrev S16384x4096 : Shape := ⟨2, ![16384, 4096]⟩
abbrev S2048x16384 : Shape := ⟨2, ![2048, 16384]⟩
abbrev S32x1x8192 : Shape := ⟨3, ![32, 1, 8192]⟩
abbrev S16384x2048 : Shape := ⟨2, ![16384, 2048]⟩
abbrev S_ : Shape := ⟨0, ![]⟩

class Facts : Prop where
  slices_S16384x4096_S16384x2048_0_0 : S16384x4096.Slices ![0, 0] S16384x2048
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x16384 : S_.BroadcastsInDim S2048x16384 (![] : Fin 0 → Fin S2048x16384.rank)
  reducesTo_S2048x16384_S_d0_1 : S2048x16384.ReducesTo [0, 1] S_
  bcast_S_S32x1x8192 : S_.BroadcastsInDim S32x1x8192 (![] : Fin 0 → Fin S32x1x8192.rank)
  reducesTo_S32x1x8192_S_d0_1_2 : S32x1x8192.ReducesTo [0, 1, 2] S_

variable [Facts]

def fn {F : FTy → Type} [FloatOps F] (main_arg0 : FVec F S16384x4096 .bf16) (main_arg1 : FVec F S2048x16384 .bf16) (main_arg2 : FVec F S32x1x8192 .f32) : IVec S_ 1 :=
  let main_v0 : FVec F S16384x2048 .bf16 := (extractStridedSlice S16384x2048 ![0, 0] · slices_S16384x4096_S16384x2048_0_0) main_arg0
  let main_v1 : FVec F S16384x2048 .f32 := (extf .f32 · bitsLt_bf16_f32) main_v0
  let main_v2 : FVec F S16384x2048 .f32 := Host.absf main_v1
  let main_cst : FVec F S_ .f32 := constant S_ .f32 0x7F800000#32
  let main_v3 : FVec F S16384x2048 .f32 := broadcastInDim S16384x2048 ![] bcast_S_S16384x2048 main_cst
  let main_v4 : IVec S16384x2048 1 := cmpf .olt main_v2 main_v3
  let main_c : IVec S_ 1 := constantI S_ 1 1#1
  let main_v5 : IVec S_ 1 := (fun x v => Host.reduce IntOp.andi x v reducesTo_S16384x2048_S_d0_1 h_S_) main_v4 main_c
  let main_v6 : FVec F S2048x16384 .f32 := (extf .f32 · bitsLt_bf16_f32) main_arg1
  let main_v7 : FVec F S2048x16384 .f32 := Host.absf main_v6
  let main_cst_0 : FVec F S_ .f32 := constant S_ .f32 0x7F800000#32
  let main_v8 : FVec F S2048x16384 .f32 := broadcastInDim S2048x16384 ![] bcast_S_S2048x16384 main_cst_0
  let main_v9 : IVec S2048x16384 1 := cmpf .olt main_v7 main_v8
  let main_c_1 : IVec S_ 1 := constantI S_ 1 1#1
  let main_v10 : IVec S_ 1 := (fun x v => Host.reduce IntOp.andi x v reducesTo_S2048x16384_S_d0_1 h_S_) main_v9 main_c_1
  let main_v11 : IVec S_ 1 := andi main_v5 main_v10
  let main_v12 : FVec F S32x1x8192 .f32 := Host.absf main_arg2
  let main_cst_2 : FVec F S_ .f32 := constant S_ .f32 0x7F800000#32
  let main_v13 : FVec F S32x1x8192 .f32 := broadcastInDim S32x1x8192 ![] bcast_S_S32x1x8192 main_cst_2
  let main_v14 : IVec S32x1x8192 1 := cmpf .olt main_v12 main_v13
  let main_c_3 : IVec S_ 1 := constantI S_ 1 1#1
  let main_v15 : IVec S_ 1 := (fun x v => Host.reduce IntOp.andi x v reducesTo_S32x1x8192_S_d0_1_2 h_S_) main_v14 main_c_3
  let main_v16 : IVec S_ 1 := andi main_v11 main_v15
  main_v16
-- ==== Kernel.lean ====
abbrev S16384x4096 : Shape := ⟨2, ![16384, 4096]⟩
abbrev S2048x16384 : Shape := ⟨2, ![2048, 16384]⟩
abbrev S32x1x8192 : Shape := ⟨3, ![32, 1, 8192]⟩
abbrev S16384x2048 : Shape := ⟨2, ![16384, 2048]⟩
abbrev S512x128 : Shape := ⟨2, ![512, 128]⟩
abbrev S128x8192 : Shape := ⟨2, ![128, 8192]⟩
abbrev S8192x128 : Shape := ⟨2, ![8192, 128]⟩
abbrev S1x1x8192 : Shape := ⟨3, ![1, 1, 8192]⟩
abbrev S512x512 : Shape := ⟨2, ![512, 512]⟩
abbrev S8192x256 : Shape := ⟨2, ![8192, 256]⟩
abbrev S1x1x512 : Shape := ⟨3, ![1, 1, 512]⟩
abbrev S1x512 : Shape := ⟨2, ![1, 512]⟩
abbrev S1x1 : Shape := ⟨2, ![1, 1]⟩
abbrev S128x512 : Shape := ⟨2, ![128, 512]⟩
abbrev S512x1 : Shape := ⟨2, ![512, 1]⟩
abbrev S512x256 : Shape := ⟨2, ![512, 256]⟩
abbrev S512 : Shape := ⟨1, ![512]⟩

abbrev nBuf : Space → Nat
  | .hbm => 4
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S2048x16384, .bf16⟩
  | .hbm, ⟨2, _⟩ => ⟨S32x1x8192, .f32⟩
  | .hbm, ⟨3, _⟩ => ⟨S16384x2048, .bf16⟩
  | .local _ .vmem, ⟨0, _⟩ => ⟨S512x128, .bf16⟩
  | .local _ .vmem, ⟨1, _⟩ => ⟨S512x128, .bf16⟩
  | .local _ .vmem, ⟨2, _⟩ => ⟨S128x8192, .bf16⟩
  | .local _ .vmem, ⟨3, _⟩ => ⟨S128x8192, .bf16⟩
  | .local _ .vmem, ⟨4, _⟩ => ⟨S8192x128, .bf16⟩
  | .local _ .vmem, ⟨5, _⟩ => ⟨S8192x128, .bf16⟩
  | .local _ .vmem, ⟨6, _⟩ => ⟨S1x1x8192, .f32⟩
  | .local _ .vmem, ⟨7, _⟩ => ⟨S1x1x8192, .f32⟩
  | .local _ .vmem, ⟨8, _⟩ => ⟨S512x128, .bf16⟩
  | .local _ .vmem, ⟨9, _⟩ => ⟨S512x128, .bf16⟩
  | .local _ .vmem, ⟨10, _⟩ => ⟨S512x512, .f32⟩
  | .local _ .vmem, ⟨11, _⟩ => ⟨S512x512, .f32⟩
  | .local _ .vmem, ⟨12, _⟩ => ⟨S8192x256, .bf16⟩
  | .local _ .vmem, ⟨13, _⟩ => ⟨S512x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 16], ![false, false, false]⟩

def k0_mult1 (i : grid0.Coords) : BitVec 32 :=
  let arg2 : BitVec 32 := BitVec.ofNat 32 (i 2).val
  let c512_i32 : BitVec 32 := 512#32
  let v0 : BitVec 32 := Scalar.muli arg2 c512_i32
  v0
def k0_off1 (i : grid0.Coords) : Fin 3 → Nat :=
  let c0 : Index := 0#32
  let c0_0 : Index := 0#32
  let arg2 : BitVec 32 := BitVec.ofNat 32 (i 2).val
  let c512_i32 : BitVec 32 := 512#32
  let v0 : BitVec 32 := Scalar.muli arg2 c512_i32
  let v1 : BitVec 32 := v0
  let v2 : Index := Scalar.indexCast v1
  ![0, 0, v2.toNat]
def k0_mult2 : BitVec 32 :=
  let c0_i32_4 : BitVec 32 := 0#32
  c0_i32_4
@[reducible] def k0_t1_loop (i : grid0.Coords) : Scf.Loop 32 :=
  let c0_i32_23 : BitVec 32 := 0#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_25 : BitVec 32 := 1#32
  ⟨c0_i32_23, v55, c1_i32_25⟩
def k0_mult3 (i : grid0.Coords) (k0_t1 : Fin (k0_t1_loop i).trips) : BitVec 32 :=
  let c0_i32_64 : BitVec 32 := 0#32
  let c8_i32_63 : BitVec 32 := 8#32
  let c0_i32_23 : BitVec 32 := 0#32
  let c1_i32_25 : BitVec 32 := 1#32
  let arg12 : BitVec 32 := Scf.iv c0_i32_23 c1_i32_25 k0_t1
  let v136 : BitVec 32 := Scalar.muli c8_i32_63 arg12
  let v137 : BitVec 32 := Scalar.addi c0_i32_64 v136
  let c1_i32_65 : BitVec 32 := 1#32
  let v138 : BitVec 32 := Scalar.subi v137 c1_i32_65
  let c0_i32_66 : BitVec 32 := 0#32
  let v139 : BitVec 32 := Scalar.maxsi v138 c0_i32_66
  let c512_i32_69 : BitVec 32 := 512#32
  let v141 : BitVec 32 := Scalar.muli v139 c512_i32_69
  v141
def k0_off2 (i : grid0.Coords) (k0_t1 : Fin (k0_t1_loop i).trips) : Fin 2 → Nat :=
  let c0_i32_64 : BitVec 32 := 0#32
  let c8_i32_63 : BitVec 32 := 8#32
  let c0_i32_23 : BitVec 32 := 0#32
  let c1_i32_25 : BitVec 32 := 1#32
  let arg12 : BitVec 32 := Scf.iv c0_i32_23 c1_i32_25 k0_t1
  let v136 : BitVec 32 := Scalar.muli c8_i32_63 arg12
  let v137 : BitVec 32 := Scalar.addi c0_i32_64 v136
  let c1_i32_65 : BitVec 32 := 1#32
  let v138 : BitVec 32 := Scalar.subi v137 c1_i32_65
  let c0_i32_66 : BitVec 32 := 0#32
  let v139 : BitVec 32 := Scalar.maxsi v138 c0_i32_66
  let c512_i32_69 : BitVec 32 := 512#32
  let v141 : BitVec 32 := Scalar.muli v139 c512_i32_69
  let v142 : BitVec 32 := v141
  let v143 : Index := Scalar.indexCast v142
  let c0_70 : Index := 0#32
  ![v143.toNat, 0]
def k0_mult4 (i : grid0.Coords) (k0_t1 : Fin (k0_t1_loop i).trips) : BitVec 32 :=
  let c0_i32_64 : BitVec 32 := 0#32
  let c8_i32_63 : BitVec 32 := 8#32
  let c0_i32_23 : BitVec 32 := 0#32
  let c1_i32_25 : BitVec 32 := 1#32
  let arg12 : BitVec 32 := Scf.iv c0_i32_23 c1_i32_25 k0_t1
  let v136 : BitVec 32 := Scalar.muli c8_i32_63 arg12
  let v137 : BitVec 32 := Scalar.addi c0_i32_64 v136
  let c0_i32_72 : BitVec 32 := 0#32
  let v147 : BitVec 32 := Scalar.addi v137 c0_i32_72
  let c1_i32_73 : BitVec 32 := 1#32
  let v148 : BitVec 32 := Scalar.addi v147 c1_i32_73
  let c512_i32_74 : BitVec 32 := 512#32
  let v149 : BitVec 32 := Scalar.muli v148 c512_i32_74
  v149
def k0_off3 (i : grid0.Coords) (k0_t1 : Fin (k0_t1_loop i).trips) (c0_i32_72 : BitVec 32) : Fin 2 → Nat :=
  let c0_77 : Index := 0#32
  let c0_i32_64 : BitVec 32 := 0#32
  let c8_i32_63 : BitVec 32 := 8#32
  let c0_i32_23 : BitVec 32 := 0#32
  let c1_i32_25 : BitVec 32 := 1#32
  let arg12 : BitVec 32 := Scf.iv c0_i32_23 c1_i32_25 k0_t1
  let v136 : BitVec 32 := Scalar.muli c8_i32_63 arg12
  let v137 : BitVec 32 := Scalar.addi c0_i32_64 v136
  let v147 : BitVec 32 := Scalar.addi v137 c0_i32_72
  let c1_i32_73 : BitVec 32 := 1#32
  let v148 : BitVec 32 := Scalar.addi v147 c1_i32_73
  let c512_i32_74 : BitVec 32 := 512#32
  let v149 : BitVec 32 := Scalar.muli v148 c512_i32_74
  let v150 : BitVec 32 := v149
  let v152 : Index := Scalar.indexCast v150
  ![0, v152.toNat]
def k0_off4 (i : grid0.Coords) (k0_t1 : Fin (k0_t1_loop i).trips) (c0_i32_72 : BitVec 32) : Fin 3 → Nat :=
  let c0_79 : Index := 0#32
  let c0_80 : Index := 0#32
  let c0_i32_64 : BitVec 32 := 0#32
  let c8_i32_63 : BitVec 32 := 8#32
  let c0_i32_23 : BitVec 32 := 0#32
  let c1_i32_25 : BitVec 32 := 1#32
  let arg12 : BitVec 32 := Scf.iv c0_i32_23 c1_i32_25 k0_t1
  let v136 : BitVec 32 := Scalar.muli c8_i32_63 arg12
  let v137 : BitVec 32 := Scalar.addi c0_i32_64 v136
  let v147 : BitVec 32 := Scalar.addi v137 c0_i32_72
  let c1_i32_73 : BitVec 32 := 1#32
  let v148 : BitVec 32 := Scalar.addi v147 c1_i32_73
  let c512_i32_74 : BitVec 32 := 512#32
  let v149 : BitVec 32 := Scalar.muli v148 c512_i32_74
  let v150 : BitVec 32 := v149
  let v155 : Index := Scalar.indexCast v150
  ![0, 0, v155.toNat]
def k0_mult5 (i : grid0.Coords) (k0_t1 : Fin (k0_t1_loop i).trips) : BitVec 32 :=
  let c0_i32_64 : BitVec 32 := 0#32
  let c8_i32_63 : BitVec 32 := 8#32
  let c0_i32_23 : BitVec 32 := 0#32
  let c1_i32_25 : BitVec 32 := 1#32
  let arg12 : BitVec 32 := Scf.iv c0_i32_23 c1_i32_25 k0_t1
  let v136 : BitVec 32 := Scalar.muli c8_i32_63 arg12
  let v137 : BitVec 32 := Scalar.addi c0_i32_64 v136
  let c0_i32_89 : BitVec 32 := 0#32
  let v180 : BitVec 32 := Scalar.addi v137 c0_i32_89
  let c512_i32_90 : BitVec 32 := 512#32
  let v181 : BitVec 32 := Scalar.muli v180 c512_i32_90
  v181
def k0_off5 (i : grid0.Coords) (k0_t1 : Fin (k0_t1_loop i).trips) (c0_i32_89 : BitVec 32) : Fin 2 → Nat :=
  let c0_i32_64 : BitVec 32 := 0#32
  let c8_i32_63 : BitVec 32 := 8#32
  let c0_i32_23 : BitVec 32 := 0#32
  let c1_i32_25 : BitVec 32 := 1#32
  let arg12 : BitVec 32 := Scf.iv c0_i32_23 c1_i32_25 k0_t1
  let v136 : BitVec 32 := Scalar.muli c8_i32_63 arg12
  let v137 : BitVec 32 := Scalar.addi c0_i32_64 v136
  let v180 : BitVec 32 := Scalar.addi v137 c0_i32_89
  let c512_i32_90 : BitVec 32 := 512#32
  let v181 : BitVec 32 := Scalar.muli v180 c512_i32_90
  let v182 : BitVec 32 := v181
  let v183 : Index := Scalar.indexCast v182
  let c0_91 : Index := 0#32
  ![v183.toNat, 0]
def k0_mult6 (i : grid0.Coords) (k0_t1 : Fin (k0_t1_loop i).trips) : BitVec 32 :=
  let c0_i32_64 : BitVec 32 := 0#32
  let c8_i32_63 : BitVec 32 := 8#32
  let c0_i32_23 : BitVec 32 := 0#32
  let c1_i32_25 : BitVec 32 := 1#32
  let arg12 : BitVec 32 := Scf.iv c0_i32_23 c1_i32_25 k0_t1
  let v136 : BitVec 32 := Scalar.muli c8_i32_63 arg12
  let v137 : BitVec 32 := Scalar.addi c0_i32_64 v136
  let c1_i32_93 : BitVec 32 := 1#32
  let v187 : BitVec 32 := Scalar.addi v137 c1_i32_93
  let c1_i32_94 : BitVec 32 := 1#32
  let v188 : BitVec 32 := Scalar.addi v187 c1_i32_94
  let c512_i32_95 : BitVec 32 := 512#32
  let v189 : BitVec 32 := Scalar.muli v188 c512_i32_95
  v189
def k0_mult7 (i : grid0.Coords) (k0_t1 : Fin (k0_t1_loop i).trips) : BitVec 32 :=
  let c0_i32_64 : BitVec 32 := 0#32
  let c8_i32_63 : BitVec 32 := 8#32
  let c0_i32_23 : BitVec 32 := 0#32
  let c1_i32_25 : BitVec 32 := 1#32
  let arg12 : BitVec 32 := Scf.iv c0_i32_23 c1_i32_25 k0_t1
  let v136 : BitVec 32 := Scalar.muli c8_i32_63 arg12
  let v137 : BitVec 32 := Scalar.addi c0_i32_64 v136
  let c1_i32_110 : BitVec 32 := 1#32
  let v220 : BitVec 32 := Scalar.addi v137 c1_i32_110
  let c512_i32_111 : BitVec 32 := 512#32
  let v221 : BitVec 32 := Scalar.muli v220 c512_i32_111
  v221
def k0_mult8 (i : grid0.Coords) (k0_t1 : Fin (k0_t1_loop i).trips) : BitVec 32 :=
  let c0_i32_64 : BitVec 32 := 0#32
  let c8_i32_63 : BitVec 32 := 8#32
  let c0_i32_23 : BitVec 32 := 0#32
  let c1_i32_25 : BitVec 32 := 1#32
  let arg12 : BitVec 32 := Scf.iv c0_i32_23 c1_i32_25 k0_t1
  let v136 : BitVec 32 := Scalar.muli c8_i32_63 arg12
  let v137 : BitVec 32 := Scalar.addi c0_i32_64 v136
  let c2_i32_114 : BitVec 32 := 2#32
  let v227 : BitVec 32 := Scalar.addi v137 c2_i32_114
  let c1_i32_115 : BitVec 32 := 1#32
  let v228 : BitVec 32 := Scalar.addi v227 c1_i32_115
  let c512_i32_116 : BitVec 32 := 512#32
  let v229 : BitVec 32 := Scalar.muli v228 c512_i32_116
  v229
def k0_mult9 (i : grid0.Coords) (k0_t1 : Fin (k0_t1_loop i).trips) : BitVec 32 :=
  let c0_i32_64 : BitVec 32 := 0#32
  let c8_i32_63 : BitVec 32 := 8#32
  let c0_i32_23 : BitVec 32 := 0#32
  let c1_i32_25 : BitVec 32 := 1#32
  let arg12 : BitVec 32 := Scf.iv c0_i32_23 c1_i32_25 k0_t1
  let v136 : BitVec 32 := Scalar.muli c8_i32_63 arg12
  let v137 : BitVec 32 := Scalar.addi c0_i32_64 v136
  let c2_i32_131 : BitVec 32 := 2#32
  let v260 : BitVec 32 := Scalar.addi v137 c2_i32_131
  let c512_i32_132 : BitVec 32 := 512#32
  let v261 : BitVec 32 := Scalar.muli v260 c512_i32_132
  v261
def k0_mult10 (i : grid0.Coords) (k0_t1 : Fin (k0_t1_loop i).trips) : BitVec 32 :=
  let c0_i32_64 : BitVec 32 := 0#32
  let c8_i32_63 : BitVec 32 := 8#32
  let c0_i32_23 : BitVec 32 := 0#32
  let c1_i32_25 : BitVec 32 := 1#32
  let arg12 : BitVec 32 := Scf.iv c0_i32_23 c1_i32_25 k0_t1
  let v136 : BitVec 32 := Scalar.muli c8_i32_63 arg12
  let v137 : BitVec 32 := Scalar.addi c0_i32_64 v136
  let c3_i32 : BitVec 32 := 3#32
  let v267 : BitVec 32 := Scalar.addi v137 c3_i32
  let c1_i32_135 : BitVec 32 := 1#32
  let v268 : BitVec 32 := Scalar.addi v267 c1_i32_135
  let c512_i32_136 : BitVec 32 := 512#32
  let v269 : BitVec 32 := Scalar.muli v268 c512_i32_136
  v269
def k0_mult11 (i : grid0.Coords) (k0_t1 : Fin (k0_t1_loop i).trips) : BitVec 32 :=
  let c0_i32_64 : BitVec 32 := 0#32
  let c8_i32_63 : BitVec 32 := 8#32
  let c0_i32_23 : BitVec 32 := 0#32
  let c1_i32_25 : BitVec 32 := 1#32
  let arg12 : BitVec 32 := Scf.iv c0_i32_23 c1_i32_25 k0_t1
  let v136 : BitVec 32 := Scalar.muli c8_i32_63 arg12
  let v137 : BitVec 32 := Scalar.addi c0_i32_64 v136
  let c3_i32_151 : BitVec 32 := 3#32
  let v300 : BitVec 32 := Scalar.addi v137 c3_i32_151
  let c512_i32_152 : BitVec 32 := 512#32
  let v301 : BitVec 32 := Scalar.muli v300 c512_i32_152
  v301
def k0_mult12 (i : grid0.Coords) (k0_t1 : Fin (k0_t1_loop i).trips) : BitVec 32 :=
  let c0_i32_64 : BitVec 32 := 0#32
  let c8_i32_63 : BitVec 32 := 8#32
  let c0_i32_23 : BitVec 32 := 0#32
  let c1_i32_25 : BitVec 32 := 1#32
  let arg12 : BitVec 32 := Scf.iv c0_i32_23 c1_i32_25 k0_t1
  let v136 : BitVec 32 := Scalar.muli c8_i32_63 arg12
  let v137 : BitVec 32 := Scalar.addi c0_i32_64 v136
  let c4_i32_155 : BitVec 32 := 4#32
  let v307 : BitVec 32 := Scalar.addi v137 c4_i32_155
  let c1_i32_156 : BitVec 32 := 1#32
  let v308 : BitVec 32 := Scalar.addi v307 c1_i32_156
  let c512_i32_157 : BitVec 32 := 512#32
  let v309 : BitVec 32 := Scalar.muli v308 c512_i32_157
  v309
def k0_mult13 (i : grid0.Coords) (k0_t1 : Fin (k0_t1_loop i).trips) : BitVec 32 :=
  let c0_i32_64 : BitVec 32 := 0#32
  let c8_i32_63 : BitVec 32 := 8#32
  let c0_i32_23 : BitVec 32 := 0#32
  let c1_i32_25 : BitVec 32 := 1#32
  let arg12 : BitVec 32 := Scf.iv c0_i32_23 c1_i32_25 k0_t1
  let v136 : BitVec 32 := Scalar.muli c8_i32_63 arg12
  let v137 : BitVec 32 := Scalar.addi c0_i32_64 v136
  let c4_i32_172 : BitVec 32 := 4#32
  let v340 : BitVec 32 := Scalar.addi v137 c4_i32_172
  let c512_i32_173 : BitVec 32 := 512#32
  let v341 : BitVec 32 := Scalar.muli v340 c512_i32_173
  v341
def k0_mult14 (i : grid0.Coords) (k0_t1 : Fin (k0_t1_loop i).trips) : BitVec 32 :=
  let c0_i32_64 : BitVec 32 := 0#32
  let c8_i32_63 : BitVec 32 := 8#32
  let c0_i32_23 : BitVec 32 := 0#32
  let c1_i32_25 : BitVec 32 := 1#32
  let arg12 : BitVec 32 := Scf.iv c0_i32_23 c1_i32_25 k0_t1
  let v136 : BitVec 32 := Scalar.muli c8_i32_63 arg12
  let v137 : BitVec 32 := Scalar.addi c0_i32_64 v136
  let c5_i32 : BitVec 32 := 5#32
  let v347 : BitVec 32 := Scalar.addi v137 c5_i32
  let c1_i32_176 : BitVec 32 := 1#32
  let v348 : BitVec 32 := Scalar.addi v347 c1_i32_176
  let c512_i32_177 : BitVec 32 := 512#32
  let v349 : BitVec 32 := Scalar.muli v348 c512_i32_177
  v349
def k0_mult15 (i : grid0.Coords) (k0_t1 : Fin (k0_t1_loop i).trips) : BitVec 32 :=
  let c0_i32_64 : BitVec 32 := 0#32
  let c8_i32_63 : BitVec 32 := 8#32
  let c0_i32_23 : BitVec 32 := 0#32
  let c1_i32_25 : BitVec 32 := 1#32
  let arg12 : BitVec 32 := Scf.iv c0_i32_23 c1_i32_25 k0_t1
  let v136 : BitVec 32 := Scalar.muli c8_i32_63 arg12
  let v137 : BitVec 32 := Scalar.addi c0_i32_64 v136
  let c5_i32_192 : BitVec 32 := 5#32
  let v380 : BitVec 32 := Scalar.addi v137 c5_i32_192
  let c512_i32_193 : BitVec 32 := 512#32
  let v381 : BitVec 32 := Scalar.muli v380 c512_i32_193
  v381
def k0_mult16 (i : grid0.Coords) (k0_t1 : Fin (k0_t1_loop i).trips) : BitVec 32 :=
  let c0_i32_64 : BitVec 32 := 0#32
  let c8_i32_63 : BitVec 32 := 8#32
  let c0_i32_23 : BitVec 32 := 0#32
  let c1_i32_25 : BitVec 32 := 1#32
  let arg12 : BitVec 32 := Scf.iv c0_i32_23 c1_i32_25 k0_t1
  let v136 : BitVec 32 := Scalar.muli c8_i32_63 arg12
  let v137 : BitVec 32 := Scalar.addi c0_i32_64 v136
  let c6_i32 : BitVec 32 := 6#32
  let v387 : BitVec 32 := Scalar.addi v137 c6_i32
  let c1_i32_196 : BitVec 32 := 1#32
  let v388 : BitVec 32 := Scalar.addi v387 c1_i32_196
  let c512_i32_197 : BitVec 32 := 512#32
  let v389 : BitVec 32 := Scalar.muli v388 c512_i32_197
  v389
def k0_mult17 (i : grid0.Coords) (k0_t1 : Fin (k0_t1_loop i).trips) : BitVec 32 :=
  let c0_i32_64 : BitVec 32 := 0#32
  let c8_i32_63 : BitVec 32 := 8#32
  let c0_i32_23 : BitVec 32 := 0#32
  let c1_i32_25 : BitVec 32 := 1#32
  let arg12 : BitVec 32 := Scf.iv c0_i32_23 c1_i32_25 k0_t1
  let v136 : BitVec 32 := Scalar.muli c8_i32_63 arg12
  let v137 : BitVec 32 := Scalar.addi c0_i32_64 v136
  let c6_i32_212 : BitVec 32 := 6#32
  let v420 : BitVec 32 := Scalar.addi v137 c6_i32_212
  let c512_i32_213 : BitVec 32 := 512#32
  let v421 : BitVec 32 := Scalar.muli v420 c512_i32_213
  v421
def k0_mult18 (i : grid0.Coords) (k0_t1 : Fin (k0_t1_loop i).trips) : BitVec 32 :=
  let c0_i32_64 : BitVec 32 := 0#32
  let c8_i32_63 : BitVec 32 := 8#32
  let c0_i32_23 : BitVec 32 := 0#32
  let c1_i32_25 : BitVec 32 := 1#32
  let arg12 : BitVec 32 := Scf.iv c0_i32_23 c1_i32_25 k0_t1
  let v136 : BitVec 32 := Scalar.muli c8_i32_63 arg12
  let v137 : BitVec 32 := Scalar.addi c0_i32_64 v136
  let c7_i32 : BitVec 32 := 7#32
  let v427 : BitVec 32 := Scalar.addi v137 c7_i32
  let c1_i32_216 : BitVec 32 := 1#32
  let v428 : BitVec 32 := Scalar.addi v427 c1_i32_216
  let c512_i32_217 : BitVec 32 := 512#32
  let v429 : BitVec 32 := Scalar.muli v428 c512_i32_217
  v429
@[reducible] def k0_t2_loop (i : grid0.Coords) : Scf.Loop 32 :=
  let c0_i32_23 : BitVec 32 := 0#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let v52 : BitVec 32 := Scalar.addi c0_i32_23 v51
  let c1_i32_26 : BitVec 32 := 1#32
  ⟨v55, v52, c1_i32_26⟩
def k0_mult19 (i : grid0.Coords) (k0_t2 : Fin (k0_t2_loop i).trips) : BitVec 32 :=
  let c0_i32_64 : BitVec 32 := 0#32
  let c8_i32_63 : BitVec 32 := 8#32
  let c0_i32_23 : BitVec 32 := 0#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t2
  let v136 : BitVec 32 := Scalar.muli c8_i32_63 arg12
  let v137 : BitVec 32 := Scalar.addi c0_i32_64 v136
  let c1_i32_65 : BitVec 32 := 1#32
  let v138 : BitVec 32 := Scalar.subi v137 c1_i32_65
  let c0_i32_66 : BitVec 32 := 0#32
  let v139 : BitVec 32 := Scalar.maxsi v138 c0_i32_66
  let c512_i32_69 : BitVec 32 := 512#32
  let v141 : BitVec 32 := Scalar.muli v139 c512_i32_69
  v141
def k0_off6 (i : grid0.Coords) (k0_t2 : Fin (k0_t2_loop i).trips) : Fin 2 → Nat :=
  let c0_i32_64 : BitVec 32 := 0#32
  let c8_i32_63 : BitVec 32 := 8#32
  let c0_i32_23 : BitVec 32 := 0#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t2
  let v136 : BitVec 32 := Scalar.muli c8_i32_63 arg12
  let v137 : BitVec 32 := Scalar.addi c0_i32_64 v136
  let c1_i32_65 : BitVec 32 := 1#32
  let v138 : BitVec 32 := Scalar.subi v137 c1_i32_65
  let c0_i32_66 : BitVec 32 := 0#32
  let v139 : BitVec 32 := Scalar.maxsi v138 c0_i32_66
  let c512_i32_69 : BitVec 32 := 512#32
  let v141 : BitVec 32 := Scalar.muli v139 c512_i32_69
  let v142 : BitVec 32 := v141
  let v143 : Index := Scalar.indexCast v142
  let c0_70 : Index := 0#32
  ![v143.toNat, 0]
def k0_mult20 (i : grid0.Coords) (k0_t2 : Fin (k0_t2_loop i).trips) : BitVec 32 :=
  let c0_i32_64 : BitVec 32 := 0#32
  let c8_i32_63 : BitVec 32 := 8#32
  let c0_i32_23 : BitVec 32 := 0#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t2
  let v136 : BitVec 32 := Scalar.muli c8_i32_63 arg12
  let v137 : BitVec 32 := Scalar.addi c0_i32_64 v136
  let c0_i32_72 : BitVec 32 := 0#32
  let v147 : BitVec 32 := Scalar.addi v137 c0_i32_72
  let c1_i32_73 : BitVec 32 := 1#32
  let v148 : BitVec 32 := Scalar.addi v147 c1_i32_73
  let c512_i32_74 : BitVec 32 := 512#32
  let v149 : BitVec 32 := Scalar.muli v148 c512_i32_74
  v149
def k0_off7 (i : grid0.Coords) (k0_t2 : Fin (k0_t2_loop i).trips) (c0_i32_72 : BitVec 32) : Fin 2 → Nat :=
  let c0_77 : Index := 0#32
  let c0_i32_64 : BitVec 32 := 0#32
  let c8_i32_63 : BitVec 32 := 8#32
  let c0_i32_23 : BitVec 32 := 0#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t2
  let v136 : BitVec 32 := Scalar.muli c8_i32_63 arg12
  let v137 : BitVec 32 := Scalar.addi c0_i32_64 v136
  let v147 : BitVec 32 := Scalar.addi v137 c0_i32_72
  let c1_i32_73 : BitVec 32 := 1#32
  let v148 : BitVec 32 := Scalar.addi v147 c1_i32_73
  let c512_i32_74 : BitVec 32 := 512#32
  let v149 : BitVec 32 := Scalar.muli v148 c512_i32_74
  let v150 : BitVec 32 := v149
  let v152 : Index := Scalar.indexCast v150
  ![0, v152.toNat]
def k0_off8 (i : grid0.Coords) (k0_t2 : Fin (k0_t2_loop i).trips) (c0_i32_72 : BitVec 32) : Fin 3 → Nat :=
  let c0_79 : Index := 0#32
  let c0_80 : Index := 0#32
  let c0_i32_64 : BitVec 32 := 0#32
  let c8_i32_63 : BitVec 32 := 8#32
  let c0_i32_23 : BitVec 32 := 0#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t2
  let v136 : BitVec 32 := Scalar.muli c8_i32_63 arg12
  let v137 : BitVec 32 := Scalar.addi c0_i32_64 v136
  let v147 : BitVec 32 := Scalar.addi v137 c0_i32_72
  let c1_i32_73 : BitVec 32 := 1#32
  let v148 : BitVec 32 := Scalar.addi v147 c1_i32_73
  let c512_i32_74 : BitVec 32 := 512#32
  let v149 : BitVec 32 := Scalar.muli v148 c512_i32_74
  let v150 : BitVec 32 := v149
  let v155 : Index := Scalar.indexCast v150
  ![0, 0, v155.toNat]
def k0_mult21 (i : grid0.Coords) (k0_t2 : Fin (k0_t2_loop i).trips) : BitVec 32 :=
  let c0_i32_64 : BitVec 32 := 0#32
  let c8_i32_63 : BitVec 32 := 8#32
  let c0_i32_23 : BitVec 32 := 0#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t2
  let v136 : BitVec 32 := Scalar.muli c8_i32_63 arg12
  let v137 : BitVec 32 := Scalar.addi c0_i32_64 v136
  let c0_i32_89 : BitVec 32 := 0#32
  let v180 : BitVec 32 := Scalar.addi v137 c0_i32_89
  let c512_i32_90 : BitVec 32 := 512#32
  let v181 : BitVec 32 := Scalar.muli v180 c512_i32_90
  v181
def k0_off9 (i : grid0.Coords) (k0_t2 : Fin (k0_t2_loop i).trips) (c0_i32_89 : BitVec 32) : Fin 2 → Nat :=
  let c0_i32_64 : BitVec 32 := 0#32
  let c8_i32_63 : BitVec 32 := 8#32
  let c0_i32_23 : BitVec 32 := 0#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t2
  let v136 : BitVec 32 := Scalar.muli c8_i32_63 arg12
  let v137 : BitVec 32 := Scalar.addi c0_i32_64 v136
  let v180 : BitVec 32 := Scalar.addi v137 c0_i32_89
  let c512_i32_90 : BitVec 32 := 512#32
  let v181 : BitVec 32 := Scalar.muli v180 c512_i32_90
  let v182 : BitVec 32 := v181
  let v183 : Index := Scalar.indexCast v182
  let c0_91 : Index := 0#32
  ![v183.toNat, 0]
def k0_mult22 (i : grid0.Coords) (k0_t2 : Fin (k0_t2_loop i).trips) : BitVec 32 :=
  let c0_i32_64 : BitVec 32 := 0#32
  let c8_i32_63 : BitVec 32 := 8#32
  let c0_i32_23 : BitVec 32 := 0#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t2
  let v136 : BitVec 32 := Scalar.muli c8_i32_63 arg12
  let v137 : BitVec 32 := Scalar.addi c0_i32_64 v136
  let c1_i32_93 : BitVec 32 := 1#32
  let v187 : BitVec 32 := Scalar.addi v137 c1_i32_93
  let c1_i32_94 : BitVec 32 := 1#32
  let v188 : BitVec 32 := Scalar.addi v187 c1_i32_94
  let c512_i32_95 : BitVec 32 := 512#32
  let v189 : BitVec 32 := Scalar.muli v188 c512_i32_95
  v189
def k0_mult23 (i : grid0.Coords) (k0_t2 : Fin (k0_t2_loop i).trips) : BitVec 32 :=
  let c0_i32_64 : BitVec 32 := 0#32
  let c8_i32_63 : BitVec 32 := 8#32
  let c0_i32_23 : BitVec 32 := 0#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t2
  let v136 : BitVec 32 := Scalar.muli c8_i32_63 arg12
  let v137 : BitVec 32 := Scalar.addi c0_i32_64 v136
  let c1_i32_110 : BitVec 32 := 1#32
  let v220 : BitVec 32 := Scalar.addi v137 c1_i32_110
  let c512_i32_111 : BitVec 32 := 512#32
  let v221 : BitVec 32 := Scalar.muli v220 c512_i32_111
  v221
def k0_mult24 (i : grid0.Coords) (k0_t2 : Fin (k0_t2_loop i).trips) : BitVec 32 :=
  let c0_i32_64 : BitVec 32 := 0#32
  let c8_i32_63 : BitVec 32 := 8#32
  let c0_i32_23 : BitVec 32 := 0#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t2
  let v136 : BitVec 32 := Scalar.muli c8_i32_63 arg12
  let v137 : BitVec 32 := Scalar.addi c0_i32_64 v136
  let c2_i32_114 : BitVec 32 := 2#32
  let v227 : BitVec 32 := Scalar.addi v137 c2_i32_114
  let c1_i32_115 : BitVec 32 := 1#32
  let v228 : BitVec 32 := Scalar.addi v227 c1_i32_115
  let c512_i32_116 : BitVec 32 := 512#32
  let v229 : BitVec 32 := Scalar.muli v228 c512_i32_116
  v229
def k0_mult25 (i : grid0.Coords) (k0_t2 : Fin (k0_t2_loop i).trips) : BitVec 32 :=
  let c0_i32_64 : BitVec 32 := 0#32
  let c8_i32_63 : BitVec 32 := 8#32
  let c0_i32_23 : BitVec 32 := 0#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t2
  let v136 : BitVec 32 := Scalar.muli c8_i32_63 arg12
  let v137 : BitVec 32 := Scalar.addi c0_i32_64 v136
  let c2_i32_131 : BitVec 32 := 2#32
  let v260 : BitVec 32 := Scalar.addi v137 c2_i32_131
  let c512_i32_132 : BitVec 32 := 512#32
  let v261 : BitVec 32 := Scalar.muli v260 c512_i32_132
  v261
def k0_mult26 (i : grid0.Coords) (k0_t2 : Fin (k0_t2_loop i).trips) : BitVec 32 :=
  let c0_i32_64 : BitVec 32 := 0#32
  let c8_i32_63 : BitVec 32 := 8#32
  let c0_i32_23 : BitVec 32 := 0#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t2
  let v136 : BitVec 32 := Scalar.muli c8_i32_63 arg12
  let v137 : BitVec 32 := Scalar.addi c0_i32_64 v136
  let c3_i32 : BitVec 32 := 3#32
  let v267 : BitVec 32 := Scalar.addi v137 c3_i32
  let c1_i32_135 : BitVec 32 := 1#32
  let v268 : BitVec 32 := Scalar.addi v267 c1_i32_135
  let c512_i32_136 : BitVec 32 := 512#32
  let v269 : BitVec 32 := Scalar.muli v268 c512_i32_136
  v269
def k0_mult27 (i : grid0.Coords) (k0_t2 : Fin (k0_t2_loop i).trips) : BitVec 32 :=
  let c0_i32_64 : BitVec 32 := 0#32
  let c8_i32_63 : BitVec 32 := 8#32
  let c0_i32_23 : BitVec 32 := 0#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t2
  let v136 : BitVec 32 := Scalar.muli c8_i32_63 arg12
  let v137 : BitVec 32 := Scalar.addi c0_i32_64 v136
  let c3_i32_151 : BitVec 32 := 3#32
  let v300 : BitVec 32 := Scalar.addi v137 c3_i32_151
  let c512_i32_152 : BitVec 32 := 512#32
  let v301 : BitVec 32 := Scalar.muli v300 c512_i32_152
  v301
def k0_mult28 (i : grid0.Coords) (k0_t2 : Fin (k0_t2_loop i).trips) : BitVec 32 :=
  let c0_i32_64 : BitVec 32 := 0#32
  let c8_i32_63 : BitVec 32 := 8#32
  let c0_i32_23 : BitVec 32 := 0#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t2
  let v136 : BitVec 32 := Scalar.muli c8_i32_63 arg12
  let v137 : BitVec 32 := Scalar.addi c0_i32_64 v136
  let c4_i32_155 : BitVec 32 := 4#32
  let v307 : BitVec 32 := Scalar.addi v137 c4_i32_155
  let c1_i32_156 : BitVec 32 := 1#32
  let v308 : BitVec 32 := Scalar.addi v307 c1_i32_156
  let c512_i32_157 : BitVec 32 := 512#32
  let v309 : BitVec 32 := Scalar.muli v308 c512_i32_157
  v309
def k0_mult29 (i : grid0.Coords) (k0_t2 : Fin (k0_t2_loop i).trips) : BitVec 32 :=
  let c0_i32_64 : BitVec 32 := 0#32
  let c8_i32_63 : BitVec 32 := 8#32
  let c0_i32_23 : BitVec 32 := 0#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t2
  let v136 : BitVec 32 := Scalar.muli c8_i32_63 arg12
  let v137 : BitVec 32 := Scalar.addi c0_i32_64 v136
  let c4_i32_172 : BitVec 32 := 4#32
  let v340 : BitVec 32 := Scalar.addi v137 c4_i32_172
  let c512_i32_173 : BitVec 32 := 512#32
  let v341 : BitVec 32 := Scalar.muli v340 c512_i32_173
  v341
def k0_mult30 (i : grid0.Coords) (k0_t2 : Fin (k0_t2_loop i).trips) : BitVec 32 :=
  let c0_i32_64 : BitVec 32 := 0#32
  let c8_i32_63 : BitVec 32 := 8#32
  let c0_i32_23 : BitVec 32 := 0#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t2
  let v136 : BitVec 32 := Scalar.muli c8_i32_63 arg12
  let v137 : BitVec 32 := Scalar.addi c0_i32_64 v136
  let c5_i32 : BitVec 32 := 5#32
  let v347 : BitVec 32 := Scalar.addi v137 c5_i32
  let c1_i32_176 : BitVec 32 := 1#32
  let v348 : BitVec 32 := Scalar.addi v347 c1_i32_176
  let c512_i32_177 : BitVec 32 := 512#32
  let v349 : BitVec 32 := Scalar.muli v348 c512_i32_177
  v349
def k0_mult31 (i : grid0.Coords) (k0_t2 : Fin (k0_t2_loop i).trips) : BitVec 32 :=
  let c0_i32_64 : BitVec 32 := 0#32
  let c8_i32_63 : BitVec 32 := 8#32
  let c0_i32_23 : BitVec 32 := 0#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t2
  let v136 : BitVec 32 := Scalar.muli c8_i32_63 arg12
  let v137 : BitVec 32 := Scalar.addi c0_i32_64 v136
  let c5_i32_192 : BitVec 32 := 5#32
  let v380 : BitVec 32 := Scalar.addi v137 c5_i32_192
  let c512_i32_193 : BitVec 32 := 512#32
  let v381 : BitVec 32 := Scalar.muli v380 c512_i32_193
  v381
def k0_mult32 (i : grid0.Coords) (k0_t2 : Fin (k0_t2_loop i).trips) : BitVec 32 :=
  let c0_i32_64 : BitVec 32 := 0#32
  let c8_i32_63 : BitVec 32 := 8#32
  let c0_i32_23 : BitVec 32 := 0#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t2
  let v136 : BitVec 32 := Scalar.muli c8_i32_63 arg12
  let v137 : BitVec 32 := Scalar.addi c0_i32_64 v136
  let c6_i32 : BitVec 32 := 6#32
  let v387 : BitVec 32 := Scalar.addi v137 c6_i32
  let c1_i32_196 : BitVec 32 := 1#32
  let v388 : BitVec 32 := Scalar.addi v387 c1_i32_196
  let c512_i32_197 : BitVec 32 := 512#32
  let v389 : BitVec 32 := Scalar.muli v388 c512_i32_197
  v389
def k0_mult33 (i : grid0.Coords) (k0_t2 : Fin (k0_t2_loop i).trips) : BitVec 32 :=
  let c0_i32_64 : BitVec 32 := 0#32
  let c8_i32_63 : BitVec 32 := 8#32
  let c0_i32_23 : BitVec 32 := 0#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t2
  let v136 : BitVec 32 := Scalar.muli c8_i32_63 arg12
  let v137 : BitVec 32 := Scalar.addi c0_i32_64 v136
  let c6_i32_212 : BitVec 32 := 6#32
  let v420 : BitVec 32 := Scalar.addi v137 c6_i32_212
  let c512_i32_213 : BitVec 32 := 512#32
  let v421 : BitVec 32 := Scalar.muli v420 c512_i32_213
  v421
def k0_mult34 (i : grid0.Coords) (k0_t2 : Fin (k0_t2_loop i).trips) : BitVec 32 :=
  let c0_i32_64 : BitVec 32 := 0#32
  let c8_i32_63 : BitVec 32 := 8#32
  let c0_i32_23 : BitVec 32 := 0#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t2
  let v136 : BitVec 32 := Scalar.muli c8_i32_63 arg12
  let v137 : BitVec 32 := Scalar.addi c0_i32_64 v136
  let c7_i32 : BitVec 32 := 7#32
  let v427 : BitVec 32 := Scalar.addi v137 c7_i32
  let c1_i32_216 : BitVec 32 := 1#32
  let v428 : BitVec 32 := Scalar.addi v427 c1_i32_216
  let c512_i32_217 : BitVec 32 := 512#32
  let v429 : BitVec 32 := Scalar.muli v428 c512_i32_217
  v429
@[reducible] def k0_t3_loop (i : grid0.Coords) : Scf.Loop 32 :=
  let c0_i32_35 : BitVec 32 := 0#32
  let arg2 : BitVec 32 := BitVec.ofNat 32 (i 2).val
  let c1_i32 : BitVec 32 := 1#32
  let v9 : BitVec 32 := Scalar.muli arg2 c1_i32
  let c0_i32_28 : BitVec 32 := 0#32
  let c8_i32_27 : BitVec 32 := 8#32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v78 : BitVec 32 := Scalar.subi v77 c0_i32_35
  let c1_i32_36 : BitVec 32 := 1#32
  let v80 : BitVec 32 := Scalar.divsi v78 c1_i32_36
  let v81 : BitVec 32 := Scalar.muli v80 c1_i32_36
  let v82 : BitVec 32 := Scalar.addi c0_i32_35 v81
  let c1_i32_37 : BitVec 32 := 1#32
  ⟨c0_i32_35, v82, c1_i32_37⟩
def k0_mult35 (i : grid0.Coords) (k0_t3 : Fin (k0_t3_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let c1_i32_37 : BitVec 32 := 1#32
  let arg12 : BitVec 32 := Scf.iv c0_i32_35 c1_i32_37 k0_t3
  let v136 : BitVec 32 := Scalar.muli c4_i32_63 arg12
  let v137 : BitVec 32 := Scalar.addi v59 v136
  let c1_i32_64 : BitVec 32 := 1#32
  let v138 : BitVec 32 := Scalar.subi v137 c1_i32_64
  let c0_i32_65 : BitVec 32 := 0#32
  let v139 : BitVec 32 := Scalar.maxsi v138 c0_i32_65
  let c512_i32_68 : BitVec 32 := 512#32
  let v141 : BitVec 32 := Scalar.muli v139 c512_i32_68
  v141
def k0_off10 (i : grid0.Coords) (k0_t3 : Fin (k0_t3_loop i).trips) : Fin 2 → Nat :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let c1_i32_37 : BitVec 32 := 1#32
  let arg12 : BitVec 32 := Scf.iv c0_i32_35 c1_i32_37 k0_t3
  let v136 : BitVec 32 := Scalar.muli c4_i32_63 arg12
  let v137 : BitVec 32 := Scalar.addi v59 v136
  let c1_i32_64 : BitVec 32 := 1#32
  let v138 : BitVec 32 := Scalar.subi v137 c1_i32_64
  let c0_i32_65 : BitVec 32 := 0#32
  let v139 : BitVec 32 := Scalar.maxsi v138 c0_i32_65
  let c512_i32_68 : BitVec 32 := 512#32
  let v141 : BitVec 32 := Scalar.muli v139 c512_i32_68
  let v142 : BitVec 32 := v141
  let v143 : Index := Scalar.indexCast v142
  let c0_69 : Index := 0#32
  ![v143.toNat, 0]
def k0_mult36 (i : grid0.Coords) (k0_t3 : Fin (k0_t3_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let c1_i32_37 : BitVec 32 := 1#32
  let arg12 : BitVec 32 := Scf.iv c0_i32_35 c1_i32_37 k0_t3
  let v136 : BitVec 32 := Scalar.muli c4_i32_63 arg12
  let v137 : BitVec 32 := Scalar.addi v59 v136
  let c0_i32_71 : BitVec 32 := 0#32
  let v147 : BitVec 32 := Scalar.addi v137 c0_i32_71
  let c1_i32_72 : BitVec 32 := 1#32
  let v148 : BitVec 32 := Scalar.addi v147 c1_i32_72
  let c512_i32_73 : BitVec 32 := 512#32
  let v149 : BitVec 32 := Scalar.muli v148 c512_i32_73
  v149
def k0_off11 (i : grid0.Coords) (k0_t3 : Fin (k0_t3_loop i).trips) (c0_i32_71 : BitVec 32) : Fin 2 → Nat :=
  let c0_76 : Index := 0#32
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let c1_i32_37 : BitVec 32 := 1#32
  let arg12 : BitVec 32 := Scf.iv c0_i32_35 c1_i32_37 k0_t3
  let v136 : BitVec 32 := Scalar.muli c4_i32_63 arg12
  let v137 : BitVec 32 := Scalar.addi v59 v136
  let v147 : BitVec 32 := Scalar.addi v137 c0_i32_71
  let c1_i32_72 : BitVec 32 := 1#32
  let v148 : BitVec 32 := Scalar.addi v147 c1_i32_72
  let c512_i32_73 : BitVec 32 := 512#32
  let v149 : BitVec 32 := Scalar.muli v148 c512_i32_73
  let v150 : BitVec 32 := v149
  let v152 : Index := Scalar.indexCast v150
  ![0, v152.toNat]
def k0_off12 (i : grid0.Coords) (k0_t3 : Fin (k0_t3_loop i).trips) (c0_i32_71 : BitVec 32) : Fin 3 → Nat :=
  let c0_78 : Index := 0#32
  let c0_79 : Index := 0#32
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let c1_i32_37 : BitVec 32 := 1#32
  let arg12 : BitVec 32 := Scf.iv c0_i32_35 c1_i32_37 k0_t3
  let v136 : BitVec 32 := Scalar.muli c4_i32_63 arg12
  let v137 : BitVec 32 := Scalar.addi v59 v136
  let v147 : BitVec 32 := Scalar.addi v137 c0_i32_71
  let c1_i32_72 : BitVec 32 := 1#32
  let v148 : BitVec 32 := Scalar.addi v147 c1_i32_72
  let c512_i32_73 : BitVec 32 := 512#32
  let v149 : BitVec 32 := Scalar.muli v148 c512_i32_73
  let v150 : BitVec 32 := v149
  let v155 : Index := Scalar.indexCast v150
  ![0, 0, v155.toNat]
def k0_mult37 (i : grid0.Coords) (k0_t3 : Fin (k0_t3_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let c1_i32_37 : BitVec 32 := 1#32
  let arg12 : BitVec 32 := Scf.iv c0_i32_35 c1_i32_37 k0_t3
  let v136 : BitVec 32 := Scalar.muli c4_i32_63 arg12
  let v137 : BitVec 32 := Scalar.addi v59 v136
  let c0_i32_88 : BitVec 32 := 0#32
  let v180 : BitVec 32 := Scalar.addi v137 c0_i32_88
  let c512_i32_89 : BitVec 32 := 512#32
  let v181 : BitVec 32 := Scalar.muli v180 c512_i32_89
  v181
def k0_off13 (i : grid0.Coords) (k0_t3 : Fin (k0_t3_loop i).trips) (c0_i32_88 : BitVec 32) : Fin 2 → Nat :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let c1_i32_37 : BitVec 32 := 1#32
  let arg12 : BitVec 32 := Scf.iv c0_i32_35 c1_i32_37 k0_t3
  let v136 : BitVec 32 := Scalar.muli c4_i32_63 arg12
  let v137 : BitVec 32 := Scalar.addi v59 v136
  let v180 : BitVec 32 := Scalar.addi v137 c0_i32_88
  let c512_i32_89 : BitVec 32 := 512#32
  let v181 : BitVec 32 := Scalar.muli v180 c512_i32_89
  let v182 : BitVec 32 := v181
  let v183 : Index := Scalar.indexCast v182
  let c0_90 : Index := 0#32
  ![v183.toNat, 0]
def k0_mult38 (i : grid0.Coords) (k0_t3 : Fin (k0_t3_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let c1_i32_37 : BitVec 32 := 1#32
  let arg12 : BitVec 32 := Scf.iv c0_i32_35 c1_i32_37 k0_t3
  let v136 : BitVec 32 := Scalar.muli c4_i32_63 arg12
  let v137 : BitVec 32 := Scalar.addi v59 v136
  let c1_i32_92 : BitVec 32 := 1#32
  let v187 : BitVec 32 := Scalar.addi v137 c1_i32_92
  let c1_i32_93 : BitVec 32 := 1#32
  let v188 : BitVec 32 := Scalar.addi v187 c1_i32_93
  let c512_i32_94 : BitVec 32 := 512#32
  let v189 : BitVec 32 := Scalar.muli v188 c512_i32_94
  v189
def k0_mult39 (i : grid0.Coords) (k0_t3 : Fin (k0_t3_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let c1_i32_37 : BitVec 32 := 1#32
  let arg12 : BitVec 32 := Scf.iv c0_i32_35 c1_i32_37 k0_t3
  let v136 : BitVec 32 := Scalar.muli c4_i32_63 arg12
  let v137 : BitVec 32 := Scalar.addi v59 v136
  let c1_i32_109 : BitVec 32 := 1#32
  let v220 : BitVec 32 := Scalar.addi v137 c1_i32_109
  let c512_i32_110 : BitVec 32 := 512#32
  let v221 : BitVec 32 := Scalar.muli v220 c512_i32_110
  v221
def k0_mult40 (i : grid0.Coords) (k0_t3 : Fin (k0_t3_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let c1_i32_37 : BitVec 32 := 1#32
  let arg12 : BitVec 32 := Scf.iv c0_i32_35 c1_i32_37 k0_t3
  let v136 : BitVec 32 := Scalar.muli c4_i32_63 arg12
  let v137 : BitVec 32 := Scalar.addi v59 v136
  let c2_i32_113 : BitVec 32 := 2#32
  let v227 : BitVec 32 := Scalar.addi v137 c2_i32_113
  let c1_i32_114 : BitVec 32 := 1#32
  let v228 : BitVec 32 := Scalar.addi v227 c1_i32_114
  let c512_i32_115 : BitVec 32 := 512#32
  let v229 : BitVec 32 := Scalar.muli v228 c512_i32_115
  v229
def k0_mult41 (i : grid0.Coords) (k0_t3 : Fin (k0_t3_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let c1_i32_37 : BitVec 32 := 1#32
  let arg12 : BitVec 32 := Scf.iv c0_i32_35 c1_i32_37 k0_t3
  let v136 : BitVec 32 := Scalar.muli c4_i32_63 arg12
  let v137 : BitVec 32 := Scalar.addi v59 v136
  let c2_i32_130 : BitVec 32 := 2#32
  let v260 : BitVec 32 := Scalar.addi v137 c2_i32_130
  let c512_i32_131 : BitVec 32 := 512#32
  let v261 : BitVec 32 := Scalar.muli v260 c512_i32_131
  v261
def k0_mult42 (i : grid0.Coords) (k0_t3 : Fin (k0_t3_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let c1_i32_37 : BitVec 32 := 1#32
  let arg12 : BitVec 32 := Scf.iv c0_i32_35 c1_i32_37 k0_t3
  let v136 : BitVec 32 := Scalar.muli c4_i32_63 arg12
  let v137 : BitVec 32 := Scalar.addi v59 v136
  let c3_i32 : BitVec 32 := 3#32
  let v267 : BitVec 32 := Scalar.addi v137 c3_i32
  let c1_i32_134 : BitVec 32 := 1#32
  let v268 : BitVec 32 := Scalar.addi v267 c1_i32_134
  let c512_i32_135 : BitVec 32 := 512#32
  let v269 : BitVec 32 := Scalar.muli v268 c512_i32_135
  v269
@[reducible] def k0_t4_loop (i : grid0.Coords) : Scf.Loop 32 :=
  let c0_i32_35 : BitVec 32 := 0#32
  let arg2 : BitVec 32 := BitVec.ofNat 32 (i 2).val
  let c1_i32 : BitVec 32 := 1#32
  let v9 : BitVec 32 := Scalar.muli arg2 c1_i32
  let c0_i32_28 : BitVec 32 := 0#32
  let c8_i32_27 : BitVec 32 := 8#32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v78 : BitVec 32 := Scalar.subi v77 c0_i32_35
  let c1_i32_36 : BitVec 32 := 1#32
  let v80 : BitVec 32 := Scalar.divsi v78 c1_i32_36
  let v81 : BitVec 32 := Scalar.muli v80 c1_i32_36
  let v82 : BitVec 32 := Scalar.addi c0_i32_35 v81
  let v79 : BitVec 32 := Scalar.addi c0_i32_35 v78
  let c1_i32_38 : BitVec 32 := 1#32
  ⟨v82, v79, c1_i32_38⟩
def k0_mult43 (i : grid0.Coords) (k0_t4 : Fin (k0_t4_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v78 : BitVec 32 := Scalar.subi v77 c0_i32_35
  let c1_i32_36 : BitVec 32 := 1#32
  let v80 : BitVec 32 := Scalar.divsi v78 c1_i32_36
  let v81 : BitVec 32 := Scalar.muli v80 c1_i32_36
  let v82 : BitVec 32 := Scalar.addi c0_i32_35 v81
  let c1_i32_38 : BitVec 32 := 1#32
  let arg12 : BitVec 32 := Scf.iv v82 c1_i32_38 k0_t4
  let v136 : BitVec 32 := Scalar.muli c4_i32_63 arg12
  let v137 : BitVec 32 := Scalar.addi v59 v136
  let c1_i32_64 : BitVec 32 := 1#32
  let v138 : BitVec 32 := Scalar.subi v137 c1_i32_64
  let c0_i32_65 : BitVec 32 := 0#32
  let v139 : BitVec 32 := Scalar.maxsi v138 c0_i32_65
  let c512_i32_68 : BitVec 32 := 512#32
  let v141 : BitVec 32 := Scalar.muli v139 c512_i32_68
  v141
def k0_off14 (i : grid0.Coords) (k0_t4 : Fin (k0_t4_loop i).trips) : Fin 2 → Nat :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v78 : BitVec 32 := Scalar.subi v77 c0_i32_35
  let c1_i32_36 : BitVec 32 := 1#32
  let v80 : BitVec 32 := Scalar.divsi v78 c1_i32_36
  let v81 : BitVec 32 := Scalar.muli v80 c1_i32_36
  let v82 : BitVec 32 := Scalar.addi c0_i32_35 v81
  let c1_i32_38 : BitVec 32 := 1#32
  let arg12 : BitVec 32 := Scf.iv v82 c1_i32_38 k0_t4
  let v136 : BitVec 32 := Scalar.muli c4_i32_63 arg12
  let v137 : BitVec 32 := Scalar.addi v59 v136
  let c1_i32_64 : BitVec 32 := 1#32
  let v138 : BitVec 32 := Scalar.subi v137 c1_i32_64
  let c0_i32_65 : BitVec 32 := 0#32
  let v139 : BitVec 32 := Scalar.maxsi v138 c0_i32_65
  let c512_i32_68 : BitVec 32 := 512#32
  let v141 : BitVec 32 := Scalar.muli v139 c512_i32_68
  let v142 : BitVec 32 := v141
  let v143 : Index := Scalar.indexCast v142
  let c0_69 : Index := 0#32
  ![v143.toNat, 0]
def k0_mult44 (i : grid0.Coords) (k0_t4 : Fin (k0_t4_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v78 : BitVec 32 := Scalar.subi v77 c0_i32_35
  let c1_i32_36 : BitVec 32 := 1#32
  let v80 : BitVec 32 := Scalar.divsi v78 c1_i32_36
  let v81 : BitVec 32 := Scalar.muli v80 c1_i32_36
  let v82 : BitVec 32 := Scalar.addi c0_i32_35 v81
  let c1_i32_38 : BitVec 32 := 1#32
  let arg12 : BitVec 32 := Scf.iv v82 c1_i32_38 k0_t4
  let v136 : BitVec 32 := Scalar.muli c4_i32_63 arg12
  let v137 : BitVec 32 := Scalar.addi v59 v136
  let c0_i32_71 : BitVec 32 := 0#32
  let v147 : BitVec 32 := Scalar.addi v137 c0_i32_71
  let c1_i32_72 : BitVec 32 := 1#32
  let v148 : BitVec 32 := Scalar.addi v147 c1_i32_72
  let c512_i32_73 : BitVec 32 := 512#32
  let v149 : BitVec 32 := Scalar.muli v148 c512_i32_73
  v149
def k0_off15 (i : grid0.Coords) (k0_t4 : Fin (k0_t4_loop i).trips) (c0_i32_71 : BitVec 32) : Fin 2 → Nat :=
  let c0_76 : Index := 0#32
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v78 : BitVec 32 := Scalar.subi v77 c0_i32_35
  let c1_i32_36 : BitVec 32 := 1#32
  let v80 : BitVec 32 := Scalar.divsi v78 c1_i32_36
  let v81 : BitVec 32 := Scalar.muli v80 c1_i32_36
  let v82 : BitVec 32 := Scalar.addi c0_i32_35 v81
  let c1_i32_38 : BitVec 32 := 1#32
  let arg12 : BitVec 32 := Scf.iv v82 c1_i32_38 k0_t4
  let v136 : BitVec 32 := Scalar.muli c4_i32_63 arg12
  let v137 : BitVec 32 := Scalar.addi v59 v136
  let v147 : BitVec 32 := Scalar.addi v137 c0_i32_71
  let c1_i32_72 : BitVec 32 := 1#32
  let v148 : BitVec 32 := Scalar.addi v147 c1_i32_72
  let c512_i32_73 : BitVec 32 := 512#32
  let v149 : BitVec 32 := Scalar.muli v148 c512_i32_73
  let v150 : BitVec 32 := v149
  let v152 : Index := Scalar.indexCast v150
  ![0, v152.toNat]
def k0_off16 (i : grid0.Coords) (k0_t4 : Fin (k0_t4_loop i).trips) (c0_i32_71 : BitVec 32) : Fin 3 → Nat :=
  let c0_78 : Index := 0#32
  let c0_79 : Index := 0#32
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v78 : BitVec 32 := Scalar.subi v77 c0_i32_35
  let c1_i32_36 : BitVec 32 := 1#32
  let v80 : BitVec 32 := Scalar.divsi v78 c1_i32_36
  let v81 : BitVec 32 := Scalar.muli v80 c1_i32_36
  let v82 : BitVec 32 := Scalar.addi c0_i32_35 v81
  let c1_i32_38 : BitVec 32 := 1#32
  let arg12 : BitVec 32 := Scf.iv v82 c1_i32_38 k0_t4
  let v136 : BitVec 32 := Scalar.muli c4_i32_63 arg12
  let v137 : BitVec 32 := Scalar.addi v59 v136
  let v147 : BitVec 32 := Scalar.addi v137 c0_i32_71
  let c1_i32_72 : BitVec 32 := 1#32
  let v148 : BitVec 32 := Scalar.addi v147 c1_i32_72
  let c512_i32_73 : BitVec 32 := 512#32
  let v149 : BitVec 32 := Scalar.muli v148 c512_i32_73
  let v150 : BitVec 32 := v149
  let v155 : Index := Scalar.indexCast v150
  ![0, 0, v155.toNat]
def k0_mult45 (i : grid0.Coords) (k0_t4 : Fin (k0_t4_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v78 : BitVec 32 := Scalar.subi v77 c0_i32_35
  let c1_i32_36 : BitVec 32 := 1#32
  let v80 : BitVec 32 := Scalar.divsi v78 c1_i32_36
  let v81 : BitVec 32 := Scalar.muli v80 c1_i32_36
  let v82 : BitVec 32 := Scalar.addi c0_i32_35 v81
  let c1_i32_38 : BitVec 32 := 1#32
  let arg12 : BitVec 32 := Scf.iv v82 c1_i32_38 k0_t4
  let v136 : BitVec 32 := Scalar.muli c4_i32_63 arg12
  let v137 : BitVec 32 := Scalar.addi v59 v136
  let c0_i32_88 : BitVec 32 := 0#32
  let v180 : BitVec 32 := Scalar.addi v137 c0_i32_88
  let c512_i32_89 : BitVec 32 := 512#32
  let v181 : BitVec 32 := Scalar.muli v180 c512_i32_89
  v181
def k0_off17 (i : grid0.Coords) (k0_t4 : Fin (k0_t4_loop i).trips) (c0_i32_88 : BitVec 32) : Fin 2 → Nat :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v78 : BitVec 32 := Scalar.subi v77 c0_i32_35
  let c1_i32_36 : BitVec 32 := 1#32
  let v80 : BitVec 32 := Scalar.divsi v78 c1_i32_36
  let v81 : BitVec 32 := Scalar.muli v80 c1_i32_36
  let v82 : BitVec 32 := Scalar.addi c0_i32_35 v81
  let c1_i32_38 : BitVec 32 := 1#32
  let arg12 : BitVec 32 := Scf.iv v82 c1_i32_38 k0_t4
  let v136 : BitVec 32 := Scalar.muli c4_i32_63 arg12
  let v137 : BitVec 32 := Scalar.addi v59 v136
  let v180 : BitVec 32 := Scalar.addi v137 c0_i32_88
  let c512_i32_89 : BitVec 32 := 512#32
  let v181 : BitVec 32 := Scalar.muli v180 c512_i32_89
  let v182 : BitVec 32 := v181
  let v183 : Index := Scalar.indexCast v182
  let c0_90 : Index := 0#32
  ![v183.toNat, 0]
def k0_mult46 (i : grid0.Coords) (k0_t4 : Fin (k0_t4_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v78 : BitVec 32 := Scalar.subi v77 c0_i32_35
  let c1_i32_36 : BitVec 32 := 1#32
  let v80 : BitVec 32 := Scalar.divsi v78 c1_i32_36
  let v81 : BitVec 32 := Scalar.muli v80 c1_i32_36
  let v82 : BitVec 32 := Scalar.addi c0_i32_35 v81
  let c1_i32_38 : BitVec 32 := 1#32
  let arg12 : BitVec 32 := Scf.iv v82 c1_i32_38 k0_t4
  let v136 : BitVec 32 := Scalar.muli c4_i32_63 arg12
  let v137 : BitVec 32 := Scalar.addi v59 v136
  let c1_i32_92 : BitVec 32 := 1#32
  let v187 : BitVec 32 := Scalar.addi v137 c1_i32_92
  let c1_i32_93 : BitVec 32 := 1#32
  let v188 : BitVec 32 := Scalar.addi v187 c1_i32_93
  let c512_i32_94 : BitVec 32 := 512#32
  let v189 : BitVec 32 := Scalar.muli v188 c512_i32_94
  v189
def k0_mult47 (i : grid0.Coords) (k0_t4 : Fin (k0_t4_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v78 : BitVec 32 := Scalar.subi v77 c0_i32_35
  let c1_i32_36 : BitVec 32 := 1#32
  let v80 : BitVec 32 := Scalar.divsi v78 c1_i32_36
  let v81 : BitVec 32 := Scalar.muli v80 c1_i32_36
  let v82 : BitVec 32 := Scalar.addi c0_i32_35 v81
  let c1_i32_38 : BitVec 32 := 1#32
  let arg12 : BitVec 32 := Scf.iv v82 c1_i32_38 k0_t4
  let v136 : BitVec 32 := Scalar.muli c4_i32_63 arg12
  let v137 : BitVec 32 := Scalar.addi v59 v136
  let c1_i32_109 : BitVec 32 := 1#32
  let v220 : BitVec 32 := Scalar.addi v137 c1_i32_109
  let c512_i32_110 : BitVec 32 := 512#32
  let v221 : BitVec 32 := Scalar.muli v220 c512_i32_110
  v221
def k0_mult48 (i : grid0.Coords) (k0_t4 : Fin (k0_t4_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v78 : BitVec 32 := Scalar.subi v77 c0_i32_35
  let c1_i32_36 : BitVec 32 := 1#32
  let v80 : BitVec 32 := Scalar.divsi v78 c1_i32_36
  let v81 : BitVec 32 := Scalar.muli v80 c1_i32_36
  let v82 : BitVec 32 := Scalar.addi c0_i32_35 v81
  let c1_i32_38 : BitVec 32 := 1#32
  let arg12 : BitVec 32 := Scf.iv v82 c1_i32_38 k0_t4
  let v136 : BitVec 32 := Scalar.muli c4_i32_63 arg12
  let v137 : BitVec 32 := Scalar.addi v59 v136
  let c2_i32_113 : BitVec 32 := 2#32
  let v227 : BitVec 32 := Scalar.addi v137 c2_i32_113
  let c1_i32_114 : BitVec 32 := 1#32
  let v228 : BitVec 32 := Scalar.addi v227 c1_i32_114
  let c512_i32_115 : BitVec 32 := 512#32
  let v229 : BitVec 32 := Scalar.muli v228 c512_i32_115
  v229
def k0_mult49 (i : grid0.Coords) (k0_t4 : Fin (k0_t4_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v78 : BitVec 32 := Scalar.subi v77 c0_i32_35
  let c1_i32_36 : BitVec 32 := 1#32
  let v80 : BitVec 32 := Scalar.divsi v78 c1_i32_36
  let v81 : BitVec 32 := Scalar.muli v80 c1_i32_36
  let v82 : BitVec 32 := Scalar.addi c0_i32_35 v81
  let c1_i32_38 : BitVec 32 := 1#32
  let arg12 : BitVec 32 := Scf.iv v82 c1_i32_38 k0_t4
  let v136 : BitVec 32 := Scalar.muli c4_i32_63 arg12
  let v137 : BitVec 32 := Scalar.addi v59 v136
  let c2_i32_130 : BitVec 32 := 2#32
  let v260 : BitVec 32 := Scalar.addi v137 c2_i32_130
  let c512_i32_131 : BitVec 32 := 512#32
  let v261 : BitVec 32 := Scalar.muli v260 c512_i32_131
  v261
def k0_mult50 (i : grid0.Coords) (k0_t4 : Fin (k0_t4_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_63 : BitVec 32 := 4#32
  let c0_i32_35 : BitVec 32 := 0#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v78 : BitVec 32 := Scalar.subi v77 c0_i32_35
  let c1_i32_36 : BitVec 32 := 1#32
  let v80 : BitVec 32 := Scalar.divsi v78 c1_i32_36
  let v81 : BitVec 32 := Scalar.muli v80 c1_i32_36
  let v82 : BitVec 32 := Scalar.addi c0_i32_35 v81
  let c1_i32_38 : BitVec 32 := 1#32
  let arg12 : BitVec 32 := Scf.iv v82 c1_i32_38 k0_t4
  let v136 : BitVec 32 := Scalar.muli c4_i32_63 arg12
  let v137 : BitVec 32 := Scalar.addi v59 v136
  let c3_i32 : BitVec 32 := 3#32
  let v267 : BitVec 32 := Scalar.addi v137 c3_i32
  let c1_i32_134 : BitVec 32 := 1#32
  let v268 : BitVec 32 := Scalar.addi v267 c1_i32_134
  let c512_i32_135 : BitVec 32 := 512#32
  let v269 : BitVec 32 := Scalar.muli v268 c512_i32_135
  v269
@[reducible] def k0_t5_loop (i : grid0.Coords) : Scf.Loop 32 :=
  let c0_i32_46 : BitVec 32 := 0#32
  let arg2 : BitVec 32 := BitVec.ofNat 32 (i 2).val
  let c1_i32 : BitVec 32 := 1#32
  let v9 : BitVec 32 := Scalar.muli arg2 c1_i32
  let c0_i32_28 : BitVec 32 := 0#32
  let c8_i32_27 : BitVec 32 := 8#32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_39 : BitVec 32 := 4#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v85 : BitVec 32 := Scalar.muli c4_i32_39 v77
  let v86 : BitVec 32 := Scalar.addi v59 v85
  let v87 : BitVec 32 := Scalar.subi v9 v86
  let c0_i32_40 : BitVec 32 := 0#32
  let v89 : BitVec 1 := Scalar.cmpi .sgt v87 c0_i32_40
  let v90 : BitVec 32 := Scalar.extui v89
  let c0_i32_41 : BitVec 32 := 0#32
  let v91 : BitVec 1 := Scalar.cmpi .slt v87 c0_i32_41
  let v92 : BitVec 32 := Scalar.extui v91
  let v93 : BitVec 32 := Scalar.subi v90 v92
  let c2_i32 : BitVec 32 := 2#32
  let c0_i32_42 : BitVec 32 := 0#32
  let v94 : BitVec 1 := Scalar.cmpi .sgt c2_i32 c0_i32_42
  let v95 : BitVec 32 := Scalar.extui v94
  let c0_i32_43 : BitVec 32 := 0#32
  let v96 : BitVec 1 := Scalar.cmpi .slt c2_i32 c0_i32_43
  let v97 : BitVec 32 := Scalar.extui v96
  let v98 : BitVec 32 := Scalar.subi v95 v97
  let v99 : BitVec 1 := Scalar.cmpi .ne v93 v98
  let v100 : BitVec 32 := Scalar.remsi v87 c2_i32
  let c0_i32_44 : BitVec 32 := 0#32
  let v101 : BitVec 1 := Scalar.cmpi .ne v100 c0_i32_44
  let v102 : BitVec 1 := Scalar.andi v99 v101
  let v88 : BitVec 32 := Scalar.divsi v87 c2_i32
  let c1_i32_45 : BitVec 32 := 1#32
  let v103 : BitVec 32 := Scalar.subi v88 c1_i32_45
  let v104 : BitVec 32 := Scalar.select v102 v103 v88
  let v105 : BitVec 32 := Scalar.subi v104 c0_i32_46
  let c1_i32_47 : BitVec 32 := 1#32
  let v107 : BitVec 32 := Scalar.divsi v105 c1_i32_47
  let v108 : BitVec 32 := Scalar.muli v107 c1_i32_47
  let v109 : BitVec 32 := Scalar.addi c0_i32_46 v108
  let c1_i32_48 : BitVec 32 := 1#32
  ⟨c0_i32_46, v109, c1_i32_48⟩
def k0_mult51 (i : grid0.Coords) (k0_t5 : Fin (k0_t5_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_39 : BitVec 32 := 4#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v85 : BitVec 32 := Scalar.muli c4_i32_39 v77
  let v86 : BitVec 32 := Scalar.addi v59 v85
  let c2_i32_63 : BitVec 32 := 2#32
  let c0_i32_46 : BitVec 32 := 0#32
  let c1_i32_48 : BitVec 32 := 1#32
  let arg12 : BitVec 32 := Scf.iv c0_i32_46 c1_i32_48 k0_t5
  let v136 : BitVec 32 := Scalar.muli c2_i32_63 arg12
  let v137 : BitVec 32 := Scalar.addi v86 v136
  let c1_i32_64 : BitVec 32 := 1#32
  let v138 : BitVec 32 := Scalar.subi v137 c1_i32_64
  let c0_i32_65 : BitVec 32 := 0#32
  let v139 : BitVec 32 := Scalar.maxsi v138 c0_i32_65
  let c512_i32_68 : BitVec 32 := 512#32
  let v141 : BitVec 32 := Scalar.muli v139 c512_i32_68
  v141
def k0_off18 (i : grid0.Coords) (k0_t5 : Fin (k0_t5_loop i).trips) : Fin 2 → Nat :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_39 : BitVec 32 := 4#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v85 : BitVec 32 := Scalar.muli c4_i32_39 v77
  let v86 : BitVec 32 := Scalar.addi v59 v85
  let c2_i32_63 : BitVec 32 := 2#32
  let c0_i32_46 : BitVec 32 := 0#32
  let c1_i32_48 : BitVec 32 := 1#32
  let arg12 : BitVec 32 := Scf.iv c0_i32_46 c1_i32_48 k0_t5
  let v136 : BitVec 32 := Scalar.muli c2_i32_63 arg12
  let v137 : BitVec 32 := Scalar.addi v86 v136
  let c1_i32_64 : BitVec 32 := 1#32
  let v138 : BitVec 32 := Scalar.subi v137 c1_i32_64
  let c0_i32_65 : BitVec 32 := 0#32
  let v139 : BitVec 32 := Scalar.maxsi v138 c0_i32_65
  let c512_i32_68 : BitVec 32 := 512#32
  let v141 : BitVec 32 := Scalar.muli v139 c512_i32_68
  let v142 : BitVec 32 := v141
  let v143 : Index := Scalar.indexCast v142
  let c0_69 : Index := 0#32
  ![v143.toNat, 0]
def k0_mult52 (i : grid0.Coords) (k0_t5 : Fin (k0_t5_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_39 : BitVec 32 := 4#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v85 : BitVec 32 := Scalar.muli c4_i32_39 v77
  let v86 : BitVec 32 := Scalar.addi v59 v85
  let c2_i32_63 : BitVec 32 := 2#32
  let c0_i32_46 : BitVec 32 := 0#32
  let c1_i32_48 : BitVec 32 := 1#32
  let arg12 : BitVec 32 := Scf.iv c0_i32_46 c1_i32_48 k0_t5
  let v136 : BitVec 32 := Scalar.muli c2_i32_63 arg12
  let v137 : BitVec 32 := Scalar.addi v86 v136
  let c0_i32_71 : BitVec 32 := 0#32
  let v147 : BitVec 32 := Scalar.addi v137 c0_i32_71
  let c1_i32_72 : BitVec 32 := 1#32
  let v148 : BitVec 32 := Scalar.addi v147 c1_i32_72
  let c512_i32_73 : BitVec 32 := 512#32
  let v149 : BitVec 32 := Scalar.muli v148 c512_i32_73
  v149
def k0_off19 (i : grid0.Coords) (k0_t5 : Fin (k0_t5_loop i).trips) (c0_i32_71 : BitVec 32) : Fin 2 → Nat :=
  let c0_76 : Index := 0#32
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_39 : BitVec 32 := 4#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v85 : BitVec 32 := Scalar.muli c4_i32_39 v77
  let v86 : BitVec 32 := Scalar.addi v59 v85
  let c2_i32_63 : BitVec 32 := 2#32
  let c0_i32_46 : BitVec 32 := 0#32
  let c1_i32_48 : BitVec 32 := 1#32
  let arg12 : BitVec 32 := Scf.iv c0_i32_46 c1_i32_48 k0_t5
  let v136 : BitVec 32 := Scalar.muli c2_i32_63 arg12
  let v137 : BitVec 32 := Scalar.addi v86 v136
  let v147 : BitVec 32 := Scalar.addi v137 c0_i32_71
  let c1_i32_72 : BitVec 32 := 1#32
  let v148 : BitVec 32 := Scalar.addi v147 c1_i32_72
  let c512_i32_73 : BitVec 32 := 512#32
  let v149 : BitVec 32 := Scalar.muli v148 c512_i32_73
  let v150 : BitVec 32 := v149
  let v152 : Index := Scalar.indexCast v150
  ![0, v152.toNat]
def k0_off20 (i : grid0.Coords) (k0_t5 : Fin (k0_t5_loop i).trips) (c0_i32_71 : BitVec 32) : Fin 3 → Nat :=
  let c0_78 : Index := 0#32
  let c0_79 : Index := 0#32
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_39 : BitVec 32 := 4#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v85 : BitVec 32 := Scalar.muli c4_i32_39 v77
  let v86 : BitVec 32 := Scalar.addi v59 v85
  let c2_i32_63 : BitVec 32 := 2#32
  let c0_i32_46 : BitVec 32 := 0#32
  let c1_i32_48 : BitVec 32 := 1#32
  let arg12 : BitVec 32 := Scf.iv c0_i32_46 c1_i32_48 k0_t5
  let v136 : BitVec 32 := Scalar.muli c2_i32_63 arg12
  let v137 : BitVec 32 := Scalar.addi v86 v136
  let v147 : BitVec 32 := Scalar.addi v137 c0_i32_71
  let c1_i32_72 : BitVec 32 := 1#32
  let v148 : BitVec 32 := Scalar.addi v147 c1_i32_72
  let c512_i32_73 : BitVec 32 := 512#32
  let v149 : BitVec 32 := Scalar.muli v148 c512_i32_73
  let v150 : BitVec 32 := v149
  let v155 : Index := Scalar.indexCast v150
  ![0, 0, v155.toNat]
def k0_mult53 (i : grid0.Coords) (k0_t5 : Fin (k0_t5_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_39 : BitVec 32 := 4#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v85 : BitVec 32 := Scalar.muli c4_i32_39 v77
  let v86 : BitVec 32 := Scalar.addi v59 v85
  let c2_i32_63 : BitVec 32 := 2#32
  let c0_i32_46 : BitVec 32 := 0#32
  let c1_i32_48 : BitVec 32 := 1#32
  let arg12 : BitVec 32 := Scf.iv c0_i32_46 c1_i32_48 k0_t5
  let v136 : BitVec 32 := Scalar.muli c2_i32_63 arg12
  let v137 : BitVec 32 := Scalar.addi v86 v136
  let c0_i32_88 : BitVec 32 := 0#32
  let v180 : BitVec 32 := Scalar.addi v137 c0_i32_88
  let c512_i32_89 : BitVec 32 := 512#32
  let v181 : BitVec 32 := Scalar.muli v180 c512_i32_89
  v181
def k0_off21 (i : grid0.Coords) (k0_t5 : Fin (k0_t5_loop i).trips) : Fin 2 → Nat :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_39 : BitVec 32 := 4#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v85 : BitVec 32 := Scalar.muli c4_i32_39 v77
  let v86 : BitVec 32 := Scalar.addi v59 v85
  let c2_i32_63 : BitVec 32 := 2#32
  let c0_i32_46 : BitVec 32 := 0#32
  let c1_i32_48 : BitVec 32 := 1#32
  let arg12 : BitVec 32 := Scf.iv c0_i32_46 c1_i32_48 k0_t5
  let v136 : BitVec 32 := Scalar.muli c2_i32_63 arg12
  let v137 : BitVec 32 := Scalar.addi v86 v136
  let c0_i32_88 : BitVec 32 := 0#32
  let v180 : BitVec 32 := Scalar.addi v137 c0_i32_88
  let c512_i32_89 : BitVec 32 := 512#32
  let v181 : BitVec 32 := Scalar.muli v180 c512_i32_89
  let v182 : BitVec 32 := v181
  let v183 : Index := Scalar.indexCast v182
  let c0_90 : Index := 0#32
  ![v183.toNat, 0]
def k0_mult54 (i : grid0.Coords) (k0_t5 : Fin (k0_t5_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_39 : BitVec 32 := 4#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v85 : BitVec 32 := Scalar.muli c4_i32_39 v77
  let v86 : BitVec 32 := Scalar.addi v59 v85
  let c2_i32_63 : BitVec 32 := 2#32
  let c0_i32_46 : BitVec 32 := 0#32
  let c1_i32_48 : BitVec 32 := 1#32
  let arg12 : BitVec 32 := Scf.iv c0_i32_46 c1_i32_48 k0_t5
  let v136 : BitVec 32 := Scalar.muli c2_i32_63 arg12
  let v137 : BitVec 32 := Scalar.addi v86 v136
  let c1_i32_92 : BitVec 32 := 1#32
  let v187 : BitVec 32 := Scalar.addi v137 c1_i32_92
  let c1_i32_93 : BitVec 32 := 1#32
  let v188 : BitVec 32 := Scalar.addi v187 c1_i32_93
  let c512_i32_94 : BitVec 32 := 512#32
  let v189 : BitVec 32 := Scalar.muli v188 c512_i32_94
  v189
@[reducible] def k0_t6_loop (i : grid0.Coords) : Scf.Loop 32 :=
  let c0_i32_46 : BitVec 32 := 0#32
  let arg2 : BitVec 32 := BitVec.ofNat 32 (i 2).val
  let c1_i32 : BitVec 32 := 1#32
  let v9 : BitVec 32 := Scalar.muli arg2 c1_i32
  let c0_i32_28 : BitVec 32 := 0#32
  let c8_i32_27 : BitVec 32 := 8#32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_39 : BitVec 32 := 4#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v85 : BitVec 32 := Scalar.muli c4_i32_39 v77
  let v86 : BitVec 32 := Scalar.addi v59 v85
  let v87 : BitVec 32 := Scalar.subi v9 v86
  let c0_i32_40 : BitVec 32 := 0#32
  let v89 : BitVec 1 := Scalar.cmpi .sgt v87 c0_i32_40
  let v90 : BitVec 32 := Scalar.extui v89
  let c0_i32_41 : BitVec 32 := 0#32
  let v91 : BitVec 1 := Scalar.cmpi .slt v87 c0_i32_41
  let v92 : BitVec 32 := Scalar.extui v91
  let v93 : BitVec 32 := Scalar.subi v90 v92
  let c2_i32 : BitVec 32 := 2#32
  let c0_i32_42 : BitVec 32 := 0#32
  let v94 : BitVec 1 := Scalar.cmpi .sgt c2_i32 c0_i32_42
  let v95 : BitVec 32 := Scalar.extui v94
  let c0_i32_43 : BitVec 32 := 0#32
  let v96 : BitVec 1 := Scalar.cmpi .slt c2_i32 c0_i32_43
  let v97 : BitVec 32 := Scalar.extui v96
  let v98 : BitVec 32 := Scalar.subi v95 v97
  let v99 : BitVec 1 := Scalar.cmpi .ne v93 v98
  let v100 : BitVec 32 := Scalar.remsi v87 c2_i32
  let c0_i32_44 : BitVec 32 := 0#32
  let v101 : BitVec 1 := Scalar.cmpi .ne v100 c0_i32_44
  let v102 : BitVec 1 := Scalar.andi v99 v101
  let v88 : BitVec 32 := Scalar.divsi v87 c2_i32
  let c1_i32_45 : BitVec 32 := 1#32
  let v103 : BitVec 32 := Scalar.subi v88 c1_i32_45
  let v104 : BitVec 32 := Scalar.select v102 v103 v88
  let v105 : BitVec 32 := Scalar.subi v104 c0_i32_46
  let c1_i32_47 : BitVec 32 := 1#32
  let v107 : BitVec 32 := Scalar.divsi v105 c1_i32_47
  let v108 : BitVec 32 := Scalar.muli v107 c1_i32_47
  let v109 : BitVec 32 := Scalar.addi c0_i32_46 v108
  let v106 : BitVec 32 := Scalar.addi c0_i32_46 v105
  let c1_i32_49 : BitVec 32 := 1#32
  ⟨v109, v106, c1_i32_49⟩
def k0_mult55 (i : grid0.Coords) (k0_t6 : Fin (k0_t6_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_39 : BitVec 32 := 4#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v85 : BitVec 32 := Scalar.muli c4_i32_39 v77
  let v86 : BitVec 32 := Scalar.addi v59 v85
  let c2_i32_63 : BitVec 32 := 2#32
  let c0_i32_46 : BitVec 32 := 0#32
  let v87 : BitVec 32 := Scalar.subi v9 v86
  let c0_i32_40 : BitVec 32 := 0#32
  let v89 : BitVec 1 := Scalar.cmpi .sgt v87 c0_i32_40
  let v90 : BitVec 32 := Scalar.extui v89
  let c0_i32_41 : BitVec 32 := 0#32
  let v91 : BitVec 1 := Scalar.cmpi .slt v87 c0_i32_41
  let v92 : BitVec 32 := Scalar.extui v91
  let v93 : BitVec 32 := Scalar.subi v90 v92
  let c2_i32 : BitVec 32 := 2#32
  let c0_i32_42 : BitVec 32 := 0#32
  let v94 : BitVec 1 := Scalar.cmpi .sgt c2_i32 c0_i32_42
  let v95 : BitVec 32 := Scalar.extui v94
  let c0_i32_43 : BitVec 32 := 0#32
  let v96 : BitVec 1 := Scalar.cmpi .slt c2_i32 c0_i32_43
  let v97 : BitVec 32 := Scalar.extui v96
  let v98 : BitVec 32 := Scalar.subi v95 v97
  let v99 : BitVec 1 := Scalar.cmpi .ne v93 v98
  let v100 : BitVec 32 := Scalar.remsi v87 c2_i32
  let c0_i32_44 : BitVec 32 := 0#32
  let v101 : BitVec 1 := Scalar.cmpi .ne v100 c0_i32_44
  let v102 : BitVec 1 := Scalar.andi v99 v101
  let v88 : BitVec 32 := Scalar.divsi v87 c2_i32
  let c1_i32_45 : BitVec 32 := 1#32
  let v103 : BitVec 32 := Scalar.subi v88 c1_i32_45
  let v104 : BitVec 32 := Scalar.select v102 v103 v88
  let v105 : BitVec 32 := Scalar.subi v104 c0_i32_46
  let c1_i32_47 : BitVec 32 := 1#32
  let v107 : BitVec 32 := Scalar.divsi v105 c1_i32_47
  let v108 : BitVec 32 := Scalar.muli v107 c1_i32_47
  let v109 : BitVec 32 := Scalar.addi c0_i32_46 v108
  let c1_i32_49 : BitVec 32 := 1#32
  let arg12 : BitVec 32 := Scf.iv v109 c1_i32_49 k0_t6
  let v136 : BitVec 32 := Scalar.muli c2_i32_63 arg12
  let v137 : BitVec 32 := Scalar.addi v86 v136
  let c1_i32_64 : BitVec 32 := 1#32
  let v138 : BitVec 32 := Scalar.subi v137 c1_i32_64
  let c0_i32_65 : BitVec 32 := 0#32
  let v139 : BitVec 32 := Scalar.maxsi v138 c0_i32_65
  let c512_i32_68 : BitVec 32 := 512#32
  let v141 : BitVec 32 := Scalar.muli v139 c512_i32_68
  v141
def k0_off22 (i : grid0.Coords) (k0_t6 : Fin (k0_t6_loop i).trips) : Fin 2 → Nat :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_39 : BitVec 32 := 4#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v85 : BitVec 32 := Scalar.muli c4_i32_39 v77
  let v86 : BitVec 32 := Scalar.addi v59 v85
  let c2_i32_63 : BitVec 32 := 2#32
  let c0_i32_46 : BitVec 32 := 0#32
  let v87 : BitVec 32 := Scalar.subi v9 v86
  let c0_i32_40 : BitVec 32 := 0#32
  let v89 : BitVec 1 := Scalar.cmpi .sgt v87 c0_i32_40
  let v90 : BitVec 32 := Scalar.extui v89
  let c0_i32_41 : BitVec 32 := 0#32
  let v91 : BitVec 1 := Scalar.cmpi .slt v87 c0_i32_41
  let v92 : BitVec 32 := Scalar.extui v91
  let v93 : BitVec 32 := Scalar.subi v90 v92
  let c2_i32 : BitVec 32 := 2#32
  let c0_i32_42 : BitVec 32 := 0#32
  let v94 : BitVec 1 := Scalar.cmpi .sgt c2_i32 c0_i32_42
  let v95 : BitVec 32 := Scalar.extui v94
  let c0_i32_43 : BitVec 32 := 0#32
  let v96 : BitVec 1 := Scalar.cmpi .slt c2_i32 c0_i32_43
  let v97 : BitVec 32 := Scalar.extui v96
  let v98 : BitVec 32 := Scalar.subi v95 v97
  let v99 : BitVec 1 := Scalar.cmpi .ne v93 v98
  let v100 : BitVec 32 := Scalar.remsi v87 c2_i32
  let c0_i32_44 : BitVec 32 := 0#32
  let v101 : BitVec 1 := Scalar.cmpi .ne v100 c0_i32_44
  let v102 : BitVec 1 := Scalar.andi v99 v101
  let v88 : BitVec 32 := Scalar.divsi v87 c2_i32
  let c1_i32_45 : BitVec 32 := 1#32
  let v103 : BitVec 32 := Scalar.subi v88 c1_i32_45
  let v104 : BitVec 32 := Scalar.select v102 v103 v88
  let v105 : BitVec 32 := Scalar.subi v104 c0_i32_46
  let c1_i32_47 : BitVec 32 := 1#32
  let v107 : BitVec 32 := Scalar.divsi v105 c1_i32_47
  let v108 : BitVec 32 := Scalar.muli v107 c1_i32_47
  let v109 : BitVec 32 := Scalar.addi c0_i32_46 v108
  let c1_i32_49 : BitVec 32 := 1#32
  let arg12 : BitVec 32 := Scf.iv v109 c1_i32_49 k0_t6
  let v136 : BitVec 32 := Scalar.muli c2_i32_63 arg12
  let v137 : BitVec 32 := Scalar.addi v86 v136
  let c1_i32_64 : BitVec 32 := 1#32
  let v138 : BitVec 32 := Scalar.subi v137 c1_i32_64
  let c0_i32_65 : BitVec 32 := 0#32
  let v139 : BitVec 32 := Scalar.maxsi v138 c0_i32_65
  let c512_i32_68 : BitVec 32 := 512#32
  let v141 : BitVec 32 := Scalar.muli v139 c512_i32_68
  let v142 : BitVec 32 := v141
  let v143 : Index := Scalar.indexCast v142
  let c0_69 : Index := 0#32
  ![v143.toNat, 0]
def k0_mult56 (i : grid0.Coords) (k0_t6 : Fin (k0_t6_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_39 : BitVec 32 := 4#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v85 : BitVec 32 := Scalar.muli c4_i32_39 v77
  let v86 : BitVec 32 := Scalar.addi v59 v85
  let c2_i32_63 : BitVec 32 := 2#32
  let c0_i32_46 : BitVec 32 := 0#32
  let v87 : BitVec 32 := Scalar.subi v9 v86
  let c0_i32_40 : BitVec 32 := 0#32
  let v89 : BitVec 1 := Scalar.cmpi .sgt v87 c0_i32_40
  let v90 : BitVec 32 := Scalar.extui v89
  let c0_i32_41 : BitVec 32 := 0#32
  let v91 : BitVec 1 := Scalar.cmpi .slt v87 c0_i32_41
  let v92 : BitVec 32 := Scalar.extui v91
  let v93 : BitVec 32 := Scalar.subi v90 v92
  let c2_i32 : BitVec 32 := 2#32
  let c0_i32_42 : BitVec 32 := 0#32
  let v94 : BitVec 1 := Scalar.cmpi .sgt c2_i32 c0_i32_42
  let v95 : BitVec 32 := Scalar.extui v94
  let c0_i32_43 : BitVec 32 := 0#32
  let v96 : BitVec 1 := Scalar.cmpi .slt c2_i32 c0_i32_43
  let v97 : BitVec 32 := Scalar.extui v96
  let v98 : BitVec 32 := Scalar.subi v95 v97
  let v99 : BitVec 1 := Scalar.cmpi .ne v93 v98
  let v100 : BitVec 32 := Scalar.remsi v87 c2_i32
  let c0_i32_44 : BitVec 32 := 0#32
  let v101 : BitVec 1 := Scalar.cmpi .ne v100 c0_i32_44
  let v102 : BitVec 1 := Scalar.andi v99 v101
  let v88 : BitVec 32 := Scalar.divsi v87 c2_i32
  let c1_i32_45 : BitVec 32 := 1#32
  let v103 : BitVec 32 := Scalar.subi v88 c1_i32_45
  let v104 : BitVec 32 := Scalar.select v102 v103 v88
  let v105 : BitVec 32 := Scalar.subi v104 c0_i32_46
  let c1_i32_47 : BitVec 32 := 1#32
  let v107 : BitVec 32 := Scalar.divsi v105 c1_i32_47
  let v108 : BitVec 32 := Scalar.muli v107 c1_i32_47
  let v109 : BitVec 32 := Scalar.addi c0_i32_46 v108
  let c1_i32_49 : BitVec 32 := 1#32
  let arg12 : BitVec 32 := Scf.iv v109 c1_i32_49 k0_t6
  let v136 : BitVec 32 := Scalar.muli c2_i32_63 arg12
  let v137 : BitVec 32 := Scalar.addi v86 v136
  let c0_i32_71 : BitVec 32 := 0#32
  let v147 : BitVec 32 := Scalar.addi v137 c0_i32_71
  let c1_i32_72 : BitVec 32 := 1#32
  let v148 : BitVec 32 := Scalar.addi v147 c1_i32_72
  let c512_i32_73 : BitVec 32 := 512#32
  let v149 : BitVec 32 := Scalar.muli v148 c512_i32_73
  v149
def k0_off23 (i : grid0.Coords) (k0_t6 : Fin (k0_t6_loop i).trips) (c0_i32_71 : BitVec 32) : Fin 2 → Nat :=
  let c0_76 : Index := 0#32
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_39 : BitVec 32 := 4#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v85 : BitVec 32 := Scalar.muli c4_i32_39 v77
  let v86 : BitVec 32 := Scalar.addi v59 v85
  let c2_i32_63 : BitVec 32 := 2#32
  let c0_i32_46 : BitVec 32 := 0#32
  let v87 : BitVec 32 := Scalar.subi v9 v86
  let c0_i32_40 : BitVec 32 := 0#32
  let v89 : BitVec 1 := Scalar.cmpi .sgt v87 c0_i32_40
  let v90 : BitVec 32 := Scalar.extui v89
  let c0_i32_41 : BitVec 32 := 0#32
  let v91 : BitVec 1 := Scalar.cmpi .slt v87 c0_i32_41
  let v92 : BitVec 32 := Scalar.extui v91
  let v93 : BitVec 32 := Scalar.subi v90 v92
  let c2_i32 : BitVec 32 := 2#32
  let c0_i32_42 : BitVec 32 := 0#32
  let v94 : BitVec 1 := Scalar.cmpi .sgt c2_i32 c0_i32_42
  let v95 : BitVec 32 := Scalar.extui v94
  let c0_i32_43 : BitVec 32 := 0#32
  let v96 : BitVec 1 := Scalar.cmpi .slt c2_i32 c0_i32_43
  let v97 : BitVec 32 := Scalar.extui v96
  let v98 : BitVec 32 := Scalar.subi v95 v97
  let v99 : BitVec 1 := Scalar.cmpi .ne v93 v98
  let v100 : BitVec 32 := Scalar.remsi v87 c2_i32
  let c0_i32_44 : BitVec 32 := 0#32
  let v101 : BitVec 1 := Scalar.cmpi .ne v100 c0_i32_44
  let v102 : BitVec 1 := Scalar.andi v99 v101
  let v88 : BitVec 32 := Scalar.divsi v87 c2_i32
  let c1_i32_45 : BitVec 32 := 1#32
  let v103 : BitVec 32 := Scalar.subi v88 c1_i32_45
  let v104 : BitVec 32 := Scalar.select v102 v103 v88
  let v105 : BitVec 32 := Scalar.subi v104 c0_i32_46
  let c1_i32_47 : BitVec 32 := 1#32
  let v107 : BitVec 32 := Scalar.divsi v105 c1_i32_47
  let v108 : BitVec 32 := Scalar.muli v107 c1_i32_47
  let v109 : BitVec 32 := Scalar.addi c0_i32_46 v108
  let c1_i32_49 : BitVec 32 := 1#32
  let arg12 : BitVec 32 := Scf.iv v109 c1_i32_49 k0_t6
  let v136 : BitVec 32 := Scalar.muli c2_i32_63 arg12
  let v137 : BitVec 32 := Scalar.addi v86 v136
  let v147 : BitVec 32 := Scalar.addi v137 c0_i32_71
  let c1_i32_72 : BitVec 32 := 1#32
  let v148 : BitVec 32 := Scalar.addi v147 c1_i32_72
  let c512_i32_73 : BitVec 32 := 512#32
  let v149 : BitVec 32 := Scalar.muli v148 c512_i32_73
  let v150 : BitVec 32 := v149
  let v152 : Index := Scalar.indexCast v150
  ![0, v152.toNat]
def k0_off24 (i : grid0.Coords) (k0_t6 : Fin (k0_t6_loop i).trips) (c0_i32_71 : BitVec 32) : Fin 3 → Nat :=
  let c0_78 : Index := 0#32
  let c0_79 : Index := 0#32
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_39 : BitVec 32 := 4#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v85 : BitVec 32 := Scalar.muli c4_i32_39 v77
  let v86 : BitVec 32 := Scalar.addi v59 v85
  let c2_i32_63 : BitVec 32 := 2#32
  let c0_i32_46 : BitVec 32 := 0#32
  let v87 : BitVec 32 := Scalar.subi v9 v86
  let c0_i32_40 : BitVec 32 := 0#32
  let v89 : BitVec 1 := Scalar.cmpi .sgt v87 c0_i32_40
  let v90 : BitVec 32 := Scalar.extui v89
  let c0_i32_41 : BitVec 32 := 0#32
  let v91 : BitVec 1 := Scalar.cmpi .slt v87 c0_i32_41
  let v92 : BitVec 32 := Scalar.extui v91
  let v93 : BitVec 32 := Scalar.subi v90 v92
  let c2_i32 : BitVec 32 := 2#32
  let c0_i32_42 : BitVec 32 := 0#32
  let v94 : BitVec 1 := Scalar.cmpi .sgt c2_i32 c0_i32_42
  let v95 : BitVec 32 := Scalar.extui v94
  let c0_i32_43 : BitVec 32 := 0#32
  let v96 : BitVec 1 := Scalar.cmpi .slt c2_i32 c0_i32_43
  let v97 : BitVec 32 := Scalar.extui v96
  let v98 : BitVec 32 := Scalar.subi v95 v97
  let v99 : BitVec 1 := Scalar.cmpi .ne v93 v98
  let v100 : BitVec 32 := Scalar.remsi v87 c2_i32
  let c0_i32_44 : BitVec 32 := 0#32
  let v101 : BitVec 1 := Scalar.cmpi .ne v100 c0_i32_44
  let v102 : BitVec 1 := Scalar.andi v99 v101
  let v88 : BitVec 32 := Scalar.divsi v87 c2_i32
  let c1_i32_45 : BitVec 32 := 1#32
  let v103 : BitVec 32 := Scalar.subi v88 c1_i32_45
  let v104 : BitVec 32 := Scalar.select v102 v103 v88
  let v105 : BitVec 32 := Scalar.subi v104 c0_i32_46
  let c1_i32_47 : BitVec 32 := 1#32
  let v107 : BitVec 32 := Scalar.divsi v105 c1_i32_47
  let v108 : BitVec 32 := Scalar.muli v107 c1_i32_47
  let v109 : BitVec 32 := Scalar.addi c0_i32_46 v108
  let c1_i32_49 : BitVec 32 := 1#32
  let arg12 : BitVec 32 := Scf.iv v109 c1_i32_49 k0_t6
  let v136 : BitVec 32 := Scalar.muli c2_i32_63 arg12
  let v137 : BitVec 32 := Scalar.addi v86 v136
  let v147 : BitVec 32 := Scalar.addi v137 c0_i32_71
  let c1_i32_72 : BitVec 32 := 1#32
  let v148 : BitVec 32 := Scalar.addi v147 c1_i32_72
  let c512_i32_73 : BitVec 32 := 512#32
  let v149 : BitVec 32 := Scalar.muli v148 c512_i32_73
  let v150 : BitVec 32 := v149
  let v155 : Index := Scalar.indexCast v150
  ![0, 0, v155.toNat]
def k0_mult57 (i : grid0.Coords) (k0_t6 : Fin (k0_t6_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_39 : BitVec 32 := 4#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v85 : BitVec 32 := Scalar.muli c4_i32_39 v77
  let v86 : BitVec 32 := Scalar.addi v59 v85
  let c2_i32_63 : BitVec 32 := 2#32
  let c0_i32_46 : BitVec 32 := 0#32
  let v87 : BitVec 32 := Scalar.subi v9 v86
  let c0_i32_40 : BitVec 32 := 0#32
  let v89 : BitVec 1 := Scalar.cmpi .sgt v87 c0_i32_40
  let v90 : BitVec 32 := Scalar.extui v89
  let c0_i32_41 : BitVec 32 := 0#32
  let v91 : BitVec 1 := Scalar.cmpi .slt v87 c0_i32_41
  let v92 : BitVec 32 := Scalar.extui v91
  let v93 : BitVec 32 := Scalar.subi v90 v92
  let c2_i32 : BitVec 32 := 2#32
  let c0_i32_42 : BitVec 32 := 0#32
  let v94 : BitVec 1 := Scalar.cmpi .sgt c2_i32 c0_i32_42
  let v95 : BitVec 32 := Scalar.extui v94
  let c0_i32_43 : BitVec 32 := 0#32
  let v96 : BitVec 1 := Scalar.cmpi .slt c2_i32 c0_i32_43
  let v97 : BitVec 32 := Scalar.extui v96
  let v98 : BitVec 32 := Scalar.subi v95 v97
  let v99 : BitVec 1 := Scalar.cmpi .ne v93 v98
  let v100 : BitVec 32 := Scalar.remsi v87 c2_i32
  let c0_i32_44 : BitVec 32 := 0#32
  let v101 : BitVec 1 := Scalar.cmpi .ne v100 c0_i32_44
  let v102 : BitVec 1 := Scalar.andi v99 v101
  let v88 : BitVec 32 := Scalar.divsi v87 c2_i32
  let c1_i32_45 : BitVec 32 := 1#32
  let v103 : BitVec 32 := Scalar.subi v88 c1_i32_45
  let v104 : BitVec 32 := Scalar.select v102 v103 v88
  let v105 : BitVec 32 := Scalar.subi v104 c0_i32_46
  let c1_i32_47 : BitVec 32 := 1#32
  let v107 : BitVec 32 := Scalar.divsi v105 c1_i32_47
  let v108 : BitVec 32 := Scalar.muli v107 c1_i32_47
  let v109 : BitVec 32 := Scalar.addi c0_i32_46 v108
  let c1_i32_49 : BitVec 32 := 1#32
  let arg12 : BitVec 32 := Scf.iv v109 c1_i32_49 k0_t6
  let v136 : BitVec 32 := Scalar.muli c2_i32_63 arg12
  let v137 : BitVec 32 := Scalar.addi v86 v136
  let c0_i32_88 : BitVec 32 := 0#32
  let v180 : BitVec 32 := Scalar.addi v137 c0_i32_88
  let c512_i32_89 : BitVec 32 := 512#32
  let v181 : BitVec 32 := Scalar.muli v180 c512_i32_89
  v181
def k0_off25 (i : grid0.Coords) (k0_t6 : Fin (k0_t6_loop i).trips) : Fin 2 → Nat :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_39 : BitVec 32 := 4#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v85 : BitVec 32 := Scalar.muli c4_i32_39 v77
  let v86 : BitVec 32 := Scalar.addi v59 v85
  let c2_i32_63 : BitVec 32 := 2#32
  let c0_i32_46 : BitVec 32 := 0#32
  let v87 : BitVec 32 := Scalar.subi v9 v86
  let c0_i32_40 : BitVec 32 := 0#32
  let v89 : BitVec 1 := Scalar.cmpi .sgt v87 c0_i32_40
  let v90 : BitVec 32 := Scalar.extui v89
  let c0_i32_41 : BitVec 32 := 0#32
  let v91 : BitVec 1 := Scalar.cmpi .slt v87 c0_i32_41
  let v92 : BitVec 32 := Scalar.extui v91
  let v93 : BitVec 32 := Scalar.subi v90 v92
  let c2_i32 : BitVec 32 := 2#32
  let c0_i32_42 : BitVec 32 := 0#32
  let v94 : BitVec 1 := Scalar.cmpi .sgt c2_i32 c0_i32_42
  let v95 : BitVec 32 := Scalar.extui v94
  let c0_i32_43 : BitVec 32 := 0#32
  let v96 : BitVec 1 := Scalar.cmpi .slt c2_i32 c0_i32_43
  let v97 : BitVec 32 := Scalar.extui v96
  let v98 : BitVec 32 := Scalar.subi v95 v97
  let v99 : BitVec 1 := Scalar.cmpi .ne v93 v98
  let v100 : BitVec 32 := Scalar.remsi v87 c2_i32
  let c0_i32_44 : BitVec 32 := 0#32
  let v101 : BitVec 1 := Scalar.cmpi .ne v100 c0_i32_44
  let v102 : BitVec 1 := Scalar.andi v99 v101
  let v88 : BitVec 32 := Scalar.divsi v87 c2_i32
  let c1_i32_45 : BitVec 32 := 1#32
  let v103 : BitVec 32 := Scalar.subi v88 c1_i32_45
  let v104 : BitVec 32 := Scalar.select v102 v103 v88
  let v105 : BitVec 32 := Scalar.subi v104 c0_i32_46
  let c1_i32_47 : BitVec 32 := 1#32
  let v107 : BitVec 32 := Scalar.divsi v105 c1_i32_47
  let v108 : BitVec 32 := Scalar.muli v107 c1_i32_47
  let v109 : BitVec 32 := Scalar.addi c0_i32_46 v108
  let c1_i32_49 : BitVec 32 := 1#32
  let arg12 : BitVec 32 := Scf.iv v109 c1_i32_49 k0_t6
  let v136 : BitVec 32 := Scalar.muli c2_i32_63 arg12
  let v137 : BitVec 32 := Scalar.addi v86 v136
  let c0_i32_88 : BitVec 32 := 0#32
  let v180 : BitVec 32 := Scalar.addi v137 c0_i32_88
  let c512_i32_89 : BitVec 32 := 512#32
  let v181 : BitVec 32 := Scalar.muli v180 c512_i32_89
  let v182 : BitVec 32 := v181
  let v183 : Index := Scalar.indexCast v182
  let c0_90 : Index := 0#32
  ![v183.toNat, 0]
def k0_mult58 (i : grid0.Coords) (k0_t6 : Fin (k0_t6_loop i).trips) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_39 : BitVec 32 := 4#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v85 : BitVec 32 := Scalar.muli c4_i32_39 v77
  let v86 : BitVec 32 := Scalar.addi v59 v85
  let c2_i32_63 : BitVec 32 := 2#32
  let c0_i32_46 : BitVec 32 := 0#32
  let v87 : BitVec 32 := Scalar.subi v9 v86
  let c0_i32_40 : BitVec 32 := 0#32
  let v89 : BitVec 1 := Scalar.cmpi .sgt v87 c0_i32_40
  let v90 : BitVec 32 := Scalar.extui v89
  let c0_i32_41 : BitVec 32 := 0#32
  let v91 : BitVec 1 := Scalar.cmpi .slt v87 c0_i32_41
  let v92 : BitVec 32 := Scalar.extui v91
  let v93 : BitVec 32 := Scalar.subi v90 v92
  let c2_i32 : BitVec 32 := 2#32
  let c0_i32_42 : BitVec 32 := 0#32
  let v94 : BitVec 1 := Scalar.cmpi .sgt c2_i32 c0_i32_42
  let v95 : BitVec 32 := Scalar.extui v94
  let c0_i32_43 : BitVec 32 := 0#32
  let v96 : BitVec 1 := Scalar.cmpi .slt c2_i32 c0_i32_43
  let v97 : BitVec 32 := Scalar.extui v96
  let v98 : BitVec 32 := Scalar.subi v95 v97
  let v99 : BitVec 1 := Scalar.cmpi .ne v93 v98
  let v100 : BitVec 32 := Scalar.remsi v87 c2_i32
  let c0_i32_44 : BitVec 32 := 0#32
  let v101 : BitVec 1 := Scalar.cmpi .ne v100 c0_i32_44
  let v102 : BitVec 1 := Scalar.andi v99 v101
  let v88 : BitVec 32 := Scalar.divsi v87 c2_i32
  let c1_i32_45 : BitVec 32 := 1#32
  let v103 : BitVec 32 := Scalar.subi v88 c1_i32_45
  let v104 : BitVec 32 := Scalar.select v102 v103 v88
  let v105 : BitVec 32 := Scalar.subi v104 c0_i32_46
  let c1_i32_47 : BitVec 32 := 1#32
  let v107 : BitVec 32 := Scalar.divsi v105 c1_i32_47
  let v108 : BitVec 32 := Scalar.muli v107 c1_i32_47
  let v109 : BitVec 32 := Scalar.addi c0_i32_46 v108
  let c1_i32_49 : BitVec 32 := 1#32
  let arg12 : BitVec 32 := Scf.iv v109 c1_i32_49 k0_t6
  let v136 : BitVec 32 := Scalar.muli c2_i32_63 arg12
  let v137 : BitVec 32 := Scalar.addi v86 v136
  let c1_i32_92 : BitVec 32 := 1#32
  let v187 : BitVec 32 := Scalar.addi v137 c1_i32_92
  let c1_i32_93 : BitVec 32 := 1#32
  let v188 : BitVec 32 := Scalar.addi v187 c1_i32_93
  let c512_i32_94 : BitVec 32 := 512#32
  let v189 : BitVec 32 := Scalar.muli v188 c512_i32_94
  v189
def k0_cond2 (i : grid0.Coords) : BitVec 1 :=
  let arg2 : BitVec 32 := BitVec.ofNat 32 (i 2).val
  let c1_i32 : BitVec 32 := 1#32
  let v9 : BitVec 32 := Scalar.muli arg2 c1_i32
  let c2_i32_53 : BitVec 32 := 2#32
  let c0_i32_54 : BitVec 32 := 0#32
  let v116 : BitVec 1 := Scalar.cmpi .eq c2_i32_53 c0_i32_54
  let c1_i32_55 : BitVec 32 := 1#32
  let v117 : BitVec 32 := Scalar.select v116 c1_i32_55 c2_i32_53
  let v118 : BitVec 32 := Scalar.remsi v9 v117
  let c0_i32_57 : BitVec 32 := 0#32
  let v120 : BitVec 1 := Scalar.cmpi .slt v118 c0_i32_57
  let c0_i32_58 : BitVec 32 := 0#32
  let v121 : BitVec 1 := Scalar.cmpi .slt v117 c0_i32_58
  let v122 : BitVec 1 := Scalar.xori v120 v121
  let c0_i32_56 : BitVec 32 := 0#32
  let v119 : BitVec 1 := Scalar.cmpi .ne v118 c0_i32_56
  let v123 : BitVec 1 := Scalar.andi v122 v119
  let v124 : BitVec 32 := Scalar.addi v118 v117
  let v125 : BitVec 32 := Scalar.select v123 v124 v118
  let c1_i32_59 : BitVec 32 := 1#32
  let v126 : BitVec 1 := Scalar.cmpi .eq v125 c1_i32_59
  let v127 : BitVec 32 := Scalar.extui v126
  let c0_i32_60 : BitVec 32 := 0#32
  let v128 : BitVec 1 := Scalar.cmpi .ne v127 c0_i32_60
  v128

def k0_mult59 (i : grid0.Coords) : BitVec 32 :=
  let arg2 : BitVec 32 := BitVec.ofNat 32 (i 2).val
  let c1_i32 : BitVec 32 := 1#32
  let v9 : BitVec 32 := Scalar.muli arg2 c1_i32
  let c512_i32_63 : BitVec 32 := 512#32
  let v136 : BitVec 32 := Scalar.muli v9 c512_i32_63
  v136
def k0_off26 (i : grid0.Coords) : Fin 2 → Nat :=
  let c0_66 : Index := 0#32
  let arg2 : BitVec 32 := BitVec.ofNat 32 (i 2).val
  let c1_i32 : BitVec 32 := 1#32
  let v9 : BitVec 32 := Scalar.muli arg2 c1_i32
  let c512_i32_63 : BitVec 32 := 512#32
  let v136 : BitVec 32 := Scalar.muli v9 c512_i32_63
  let v137 : BitVec 32 := v136
  let v139 : Index := Scalar.indexCast v137
  ![0, v139.toNat]
def k0_off27 (i : grid0.Coords) : Fin 3 → Nat :=
  let c0_68 : Index := 0#32
  let c0_69 : Index := 0#32
  let arg2 : BitVec 32 := BitVec.ofNat 32 (i 2).val
  let c1_i32 : BitVec 32 := 1#32
  let v9 : BitVec 32 := Scalar.muli arg2 c1_i32
  let c512_i32_63 : BitVec 32 := 512#32
  let v136 : BitVec 32 := Scalar.muli v9 c512_i32_63
  let v137 : BitVec 32 := v136
  let v142 : Index := Scalar.indexCast v137
  ![0, 0, v142.toNat]
def k0_mult60 (i : grid0.Coords) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_39 : BitVec 32 := 4#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v85 : BitVec 32 := Scalar.muli c4_i32_39 v77
  let v86 : BitVec 32 := Scalar.addi v59 v85
  let c2_i32_50 : BitVec 32 := 2#32
  let v87 : BitVec 32 := Scalar.subi v9 v86
  let c0_i32_40 : BitVec 32 := 0#32
  let v89 : BitVec 1 := Scalar.cmpi .sgt v87 c0_i32_40
  let v90 : BitVec 32 := Scalar.extui v89
  let c0_i32_41 : BitVec 32 := 0#32
  let v91 : BitVec 1 := Scalar.cmpi .slt v87 c0_i32_41
  let v92 : BitVec 32 := Scalar.extui v91
  let v93 : BitVec 32 := Scalar.subi v90 v92
  let c2_i32 : BitVec 32 := 2#32
  let c0_i32_42 : BitVec 32 := 0#32
  let v94 : BitVec 1 := Scalar.cmpi .sgt c2_i32 c0_i32_42
  let v95 : BitVec 32 := Scalar.extui v94
  let c0_i32_43 : BitVec 32 := 0#32
  let v96 : BitVec 1 := Scalar.cmpi .slt c2_i32 c0_i32_43
  let v97 : BitVec 32 := Scalar.extui v96
  let v98 : BitVec 32 := Scalar.subi v95 v97
  let v99 : BitVec 1 := Scalar.cmpi .ne v93 v98
  let v100 : BitVec 32 := Scalar.remsi v87 c2_i32
  let c0_i32_44 : BitVec 32 := 0#32
  let v101 : BitVec 1 := Scalar.cmpi .ne v100 c0_i32_44
  let v102 : BitVec 1 := Scalar.andi v99 v101
  let v88 : BitVec 32 := Scalar.divsi v87 c2_i32
  let c1_i32_45 : BitVec 32 := 1#32
  let v103 : BitVec 32 := Scalar.subi v88 c1_i32_45
  let v104 : BitVec 32 := Scalar.select v102 v103 v88
  let v112 : BitVec 32 := Scalar.muli c2_i32_50 v104
  let v113 : BitVec 32 := Scalar.addi v86 v112
  let c1_i32_51 : BitVec 32 := 1#32
  let v114 : BitVec 32 := Scalar.subi v113 c1_i32_51
  let c0_i32_52 : BitVec 32 := 0#32
  let v115 : BitVec 32 := Scalar.maxsi v114 c0_i32_52
  let c512_i32_76 : BitVec 32 := 512#32
  let v156 : BitVec 32 := Scalar.muli v115 c512_i32_76
  v156
def k0_off28 (i : grid0.Coords) : Fin 2 → Nat :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_39 : BitVec 32 := 4#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v85 : BitVec 32 := Scalar.muli c4_i32_39 v77
  let v86 : BitVec 32 := Scalar.addi v59 v85
  let c2_i32_50 : BitVec 32 := 2#32
  let v87 : BitVec 32 := Scalar.subi v9 v86
  let c0_i32_40 : BitVec 32 := 0#32
  let v89 : BitVec 1 := Scalar.cmpi .sgt v87 c0_i32_40
  let v90 : BitVec 32 := Scalar.extui v89
  let c0_i32_41 : BitVec 32 := 0#32
  let v91 : BitVec 1 := Scalar.cmpi .slt v87 c0_i32_41
  let v92 : BitVec 32 := Scalar.extui v91
  let v93 : BitVec 32 := Scalar.subi v90 v92
  let c2_i32 : BitVec 32 := 2#32
  let c0_i32_42 : BitVec 32 := 0#32
  let v94 : BitVec 1 := Scalar.cmpi .sgt c2_i32 c0_i32_42
  let v95 : BitVec 32 := Scalar.extui v94
  let c0_i32_43 : BitVec 32 := 0#32
  let v96 : BitVec 1 := Scalar.cmpi .slt c2_i32 c0_i32_43
  let v97 : BitVec 32 := Scalar.extui v96
  let v98 : BitVec 32 := Scalar.subi v95 v97
  let v99 : BitVec 1 := Scalar.cmpi .ne v93 v98
  let v100 : BitVec 32 := Scalar.remsi v87 c2_i32
  let c0_i32_44 : BitVec 32 := 0#32
  let v101 : BitVec 1 := Scalar.cmpi .ne v100 c0_i32_44
  let v102 : BitVec 1 := Scalar.andi v99 v101
  let v88 : BitVec 32 := Scalar.divsi v87 c2_i32
  let c1_i32_45 : BitVec 32 := 1#32
  let v103 : BitVec 32 := Scalar.subi v88 c1_i32_45
  let v104 : BitVec 32 := Scalar.select v102 v103 v88
  let v112 : BitVec 32 := Scalar.muli c2_i32_50 v104
  let v113 : BitVec 32 := Scalar.addi v86 v112
  let c1_i32_51 : BitVec 32 := 1#32
  let v114 : BitVec 32 := Scalar.subi v113 c1_i32_51
  let c0_i32_52 : BitVec 32 := 0#32
  let v115 : BitVec 32 := Scalar.maxsi v114 c0_i32_52
  let c512_i32_76 : BitVec 32 := 512#32
  let v156 : BitVec 32 := Scalar.muli v115 c512_i32_76
  let v157 : BitVec 32 := v156
  let v158 : Index := Scalar.indexCast v157
  let c0_77 : Index := 0#32
  ![v158.toNat, 0]
def k0_mult61 (i : grid0.Coords) : BitVec 32 :=
  let arg2 : BitVec 32 := BitVec.ofNat 32 (i 2).val
  let c1_i32 : BitVec 32 := 1#32
  let v9 : BitVec 32 := Scalar.muli arg2 c1_i32
  let c1_i32_73 : BitVec 32 := 1#32
  let v154 : BitVec 32 := Scalar.subi v9 c1_i32_73
  let c512_i32_84 : BitVec 32 := 512#32
  let v175 : BitVec 32 := Scalar.muli v154 c512_i32_84
  v175
def k0_off29 (i : grid0.Coords) : Fin 2 → Nat :=
  let arg2 : BitVec 32 := BitVec.ofNat 32 (i 2).val
  let c1_i32 : BitVec 32 := 1#32
  let v9 : BitVec 32 := Scalar.muli arg2 c1_i32
  let c1_i32_73 : BitVec 32 := 1#32
  let v154 : BitVec 32 := Scalar.subi v9 c1_i32_73
  let c512_i32_84 : BitVec 32 := 512#32
  let v175 : BitVec 32 := Scalar.muli v154 c512_i32_84
  let v176 : BitVec 32 := v175
  let v177 : Index := Scalar.indexCast v176
  let c0_85 : Index := 0#32
  ![v177.toNat, 0]
def k0_mult62 (i : grid0.Coords) : BitVec 32 :=
  let arg2 : BitVec 32 := BitVec.ofNat 32 (i 2).val
  let c1_i32 : BitVec 32 := 1#32
  let v9 : BitVec 32 := Scalar.muli arg2 c1_i32
  let c0_i32_87 : BitVec 32 := 0#32
  let v181 : BitVec 32 := Scalar.addi v9 c0_i32_87
  let c512_i32_99 : BitVec 32 := 512#32
  let v206 : BitVec 32 := Scalar.muli v181 c512_i32_99
  v206
def k0_off30 (i : grid0.Coords) : Fin 2 → Nat :=
  let arg2 : BitVec 32 := BitVec.ofNat 32 (i 2).val
  let c1_i32 : BitVec 32 := 1#32
  let v9 : BitVec 32 := Scalar.muli arg2 c1_i32
  let c0_i32_87 : BitVec 32 := 0#32
  let v181 : BitVec 32 := Scalar.addi v9 c0_i32_87
  let c512_i32_99 : BitVec 32 := 512#32
  let v206 : BitVec 32 := Scalar.muli v181 c512_i32_99
  let v207 : BitVec 32 := v206
  let v208 : Index := Scalar.indexCast v207
  let c0_100 : Index := 0#32
  ![v208.toNat, 0]
def k0_mult63 (i : grid0.Coords) : BitVec 32 :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_39 : BitVec 32 := 4#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v85 : BitVec 32 := Scalar.muli c4_i32_39 v77
  let v86 : BitVec 32 := Scalar.addi v59 v85
  let c2_i32_50 : BitVec 32 := 2#32
  let v87 : BitVec 32 := Scalar.subi v9 v86
  let c0_i32_40 : BitVec 32 := 0#32
  let v89 : BitVec 1 := Scalar.cmpi .sgt v87 c0_i32_40
  let v90 : BitVec 32 := Scalar.extui v89
  let c0_i32_41 : BitVec 32 := 0#32
  let v91 : BitVec 1 := Scalar.cmpi .slt v87 c0_i32_41
  let v92 : BitVec 32 := Scalar.extui v91
  let v93 : BitVec 32 := Scalar.subi v90 v92
  let c2_i32 : BitVec 32 := 2#32
  let c0_i32_42 : BitVec 32 := 0#32
  let v94 : BitVec 1 := Scalar.cmpi .sgt c2_i32 c0_i32_42
  let v95 : BitVec 32 := Scalar.extui v94
  let c0_i32_43 : BitVec 32 := 0#32
  let v96 : BitVec 1 := Scalar.cmpi .slt c2_i32 c0_i32_43
  let v97 : BitVec 32 := Scalar.extui v96
  let v98 : BitVec 32 := Scalar.subi v95 v97
  let v99 : BitVec 1 := Scalar.cmpi .ne v93 v98
  let v100 : BitVec 32 := Scalar.remsi v87 c2_i32
  let c0_i32_44 : BitVec 32 := 0#32
  let v101 : BitVec 1 := Scalar.cmpi .ne v100 c0_i32_44
  let v102 : BitVec 1 := Scalar.andi v99 v101
  let v88 : BitVec 32 := Scalar.divsi v87 c2_i32
  let c1_i32_45 : BitVec 32 := 1#32
  let v103 : BitVec 32 := Scalar.subi v88 c1_i32_45
  let v104 : BitVec 32 := Scalar.select v102 v103 v88
  let v112 : BitVec 32 := Scalar.muli c2_i32_50 v104
  let v113 : BitVec 32 := Scalar.addi v86 v112
  let c1_i32_51 : BitVec 32 := 1#32
  let v114 : BitVec 32 := Scalar.subi v113 c1_i32_51
  let c0_i32_52 : BitVec 32 := 0#32
  let v115 : BitVec 32 := Scalar.maxsi v114 c0_i32_52
  let c512_i32_65 : BitVec 32 := 512#32
  let v137 : BitVec 32 := Scalar.muli v115 c512_i32_65
  v137
def k0_off31 (i : grid0.Coords) : Fin 2 → Nat :=
  let c0_i32_28 : BitVec 32 := 0#32
  let c8_i32_27 : BitVec 32 := 8#32
  let arg2 : BitVec 32 := BitVec.ofNat 32 (i 2).val
  let c1_i32 : BitVec 32 := 1#32
  let v9 : BitVec 32 := Scalar.muli arg2 c1_i32
  let c0_i32_16 : BitVec 32 := 0#32
  let v33 : BitVec 32 := Scalar.subi v9 c0_i32_16
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c8_i32 : BitVec 32 := 8#32
  let c0_i32_19 : BitVec 32 := 0#32
  let v40 : BitVec 1 := Scalar.cmpi .sgt c8_i32 c0_i32_19
  let v41 : BitVec 32 := Scalar.extui v40
  let c0_i32_20 : BitVec 32 := 0#32
  let v42 : BitVec 1 := Scalar.cmpi .slt c8_i32 c0_i32_20
  let v43 : BitVec 32 := Scalar.extui v42
  let v44 : BitVec 32 := Scalar.subi v41 v43
  let v45 : BitVec 1 := Scalar.cmpi .ne v39 v44
  let v46 : BitVec 32 := Scalar.remsi v33 c8_i32
  let c0_i32_21 : BitVec 32 := 0#32
  let v47 : BitVec 1 := Scalar.cmpi .ne v46 c0_i32_21
  let v48 : BitVec 1 := Scalar.andi v45 v47
  let v34 : BitVec 32 := Scalar.divsi v33 c8_i32
  let c1_i32_22 : BitVec 32 := 1#32
  let v49 : BitVec 32 := Scalar.subi v34 c1_i32_22
  let v50 : BitVec 32 := Scalar.select v48 v49 v34
  let v58 : BitVec 32 := Scalar.muli c8_i32_27 v50
  let v59 : BitVec 32 := Scalar.addi c0_i32_28 v58
  let c4_i32_39 : BitVec 32 := 4#32
  let v60 : BitVec 32 := Scalar.subi v9 v59
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c4_i32 : BitVec 32 := 4#32
  let c0_i32_31 : BitVec 32 := 0#32
  let v67 : BitVec 1 := Scalar.cmpi .sgt c4_i32 c0_i32_31
  let v68 : BitVec 32 := Scalar.extui v67
  let c0_i32_32 : BitVec 32 := 0#32
  let v69 : BitVec 1 := Scalar.cmpi .slt c4_i32 c0_i32_32
  let v70 : BitVec 32 := Scalar.extui v69
  let v71 : BitVec 32 := Scalar.subi v68 v70
  let v72 : BitVec 1 := Scalar.cmpi .ne v66 v71
  let v73 : BitVec 32 := Scalar.remsi v60 c4_i32
  let c0_i32_33 : BitVec 32 := 0#32
  let v74 : BitVec 1 := Scalar.cmpi .ne v73 c0_i32_33
  let v75 : BitVec 1 := Scalar.andi v72 v74
  let v61 : BitVec 32 := Scalar.divsi v60 c4_i32
  let c1_i32_34 : BitVec 32 := 1#32
  let v76 : BitVec 32 := Scalar.subi v61 c1_i32_34
  let v77 : BitVec 32 := Scalar.select v75 v76 v61
  let v85 : BitVec 32 := Scalar.muli c4_i32_39 v77
  let v86 : BitVec 32 := Scalar.addi v59 v85
  let c2_i32_50 : BitVec 32 := 2#32
  let v87 : BitVec 32 := Scalar.subi v9 v86
  let c0_i32_40 : BitVec 32 := 0#32
  let v89 : BitVec 1 := Scalar.cmpi .sgt v87 c0_i32_40
  let v90 : BitVec 32 := Scalar.extui v89
  let c0_i32_41 : BitVec 32 := 0#32
  let v91 : BitVec 1 := Scalar.cmpi .slt v87 c0_i32_41
  let v92 : BitVec 32 := Scalar.extui v91
  let v93 : BitVec 32 := Scalar.subi v90 v92
  let c2_i32 : BitVec 32 := 2#32
  let c0_i32_42 : BitVec 32 := 0#32
  let v94 : BitVec 1 := Scalar.cmpi .sgt c2_i32 c0_i32_42
  let v95 : BitVec 32 := Scalar.extui v94
  let c0_i32_43 : BitVec 32 := 0#32
  let v96 : BitVec 1 := Scalar.cmpi .slt c2_i32 c0_i32_43
  let v97 : BitVec 32 := Scalar.extui v96
  let v98 : BitVec 32 := Scalar.subi v95 v97
  let v99 : BitVec 1 := Scalar.cmpi .ne v93 v98
  let v100 : BitVec 32 := Scalar.remsi v87 c2_i32
  let c0_i32_44 : BitVec 32 := 0#32
  let v101 : BitVec 1 := Scalar.cmpi .ne v100 c0_i32_44
  let v102 : BitVec 1 := Scalar.andi v99 v101
  let v88 : BitVec 32 := Scalar.divsi v87 c2_i32
  let c1_i32_45 : BitVec 32 := 1#32
  let v103 : BitVec 32 := Scalar.subi v88 c1_i32_45
  let v104 : BitVec 32 := Scalar.select v102 v103 v88
  let v112 : BitVec 32 := Scalar.muli c2_i32_50 v104
  let v113 : BitVec 32 := Scalar.addi v86 v112
  let c1_i32_51 : BitVec 32 := 1#32
  let v114 : BitVec 32 := Scalar.subi v113 c1_i32_51
  let c0_i32_52 : BitVec 32 := 0#32
  let v115 : BitVec 32 := Scalar.maxsi v114 c0_i32_52
  let c512_i32_65 : BitVec 32 := 512#32
  let v137 : BitVec 32 := Scalar.muli v115 c512_i32_65
  let v138 : BitVec 32 := v137
  let v139 : Index := Scalar.indexCast v138
  let c0_66 : Index := 0#32
  ![v139.toNat, 0]
def k0_mult64 (i : grid0.Coords) : BitVec 32 :=
  let arg2 : BitVec 32 := BitVec.ofNat 32 (i 2).val
  let c1_i32 : BitVec 32 := 1#32
  let v9 : BitVec 32 := Scalar.muli arg2 c1_i32
  let c0_i32_68 : BitVec 32 := 0#32
  let v143 : BitVec 32 := Scalar.addi v9 c0_i32_68
  let c512_i32_80 : BitVec 32 := 512#32
  let v168 : BitVec 32 := Scalar.muli v143 c512_i32_80
  v168
def k0_off32 (i : grid0.Coords) : Fin 2 → Nat :=
  let arg2 : BitVec 32 := BitVec.ofNat 32 (i 2).val
  let c1_i32 : BitVec 32 := 1#32
  let v9 : BitVec 32 := Scalar.muli arg2 c1_i32
  let c0_i32_68 : BitVec 32 := 0#32
  let v143 : BitVec 32 := Scalar.addi v9 c0_i32_68
  let c512_i32_80 : BitVec 32 := 512#32
  let v168 : BitVec 32 := Scalar.muli v143 c512_i32_80
  let v169 : BitVec 32 := v168
  let v170 : Index := Scalar.indexCast v169
  let c0_81 : Index := 0#32
  ![v170.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16384x4096 : Shape := ⟨2, ![16384, 4096]⟩
abbrev S2048x16384 : Shape := ⟨2, ![2048, 16384]⟩
abbrev S32x1x8192 : Shape := ⟨3, ![32, 1, 8192]⟩
abbrev S16384x2048 : Shape := ⟨2, ![16384, 2048]⟩
abbrev S2x8192x16x128 : Shape := ⟨4, ![2, 8192, 16, 128]⟩
abbrev S16x128x2x8192 : Shape := ⟨4, ![16, 128, 2, 8192]⟩
abbrev S2x16x8192 : Shape := ⟨3, ![2, 16, 8192]⟩
abbrev S2x16x8192x8192 : Shape := ⟨4, ![2, 16, 8192, 8192]⟩
abbrev S_ : Shape := ⟨0, ![]⟩
abbrev S2x16x8192x1 : Shape := ⟨4, ![2, 16, 8192, 1]⟩
abbrev S2x16x1x8192 : Shape := ⟨4, ![2, 16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x16x128x8192 : Shape := ⟨4, ![2, 16, 128, 8192]⟩

abbrev nBuf : Space → Nat
  | .hbm => 52
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2048x16384, .bf16⟩
  | .hbm, ⟨2, _⟩ => ⟨S32x1x8192, .f32⟩
  | .hbm, ⟨3, _⟩ => ⟨S16384x2048, .bf16⟩
  | .hbm, ⟨4, _⟩ => ⟨S16384x2048, .f32⟩
  | .hbm, ⟨5, _⟩ => ⟨S2x8192x16x128, .f32⟩
  | .hbm, ⟨6, _⟩ => ⟨S16384x2048, .bf16⟩
  | .hbm, ⟨7, _⟩ => ⟨S16384x2048, .f32⟩
  | .hbm, ⟨8, _⟩ => ⟨S2x8192x16x128, .f32⟩
  | .hbm, ⟨9, _⟩ => ⟨S2048x16384, .f32⟩
  | .hbm, ⟨10, _⟩ => ⟨S16x128x2x8192, .f32⟩
  | .hbm, ⟨11, _⟩ => ⟨S2x16x8192, .f32⟩
  | .hbm, ⟨12, _⟩ => ⟨S2x16x8192x8192, .f32⟩
  | .hbm, ⟨13, _⟩ => ⟨S_, .f32⟩
  | .hbm, ⟨14, _⟩ => ⟨S_, .f32⟩
  | .hbm, ⟨15, _⟩ => ⟨S2x16x8192x8192, .f32⟩
  | .hbm, ⟨16, _⟩ => ⟨S2x16x8192x8192, .f32⟩
  | .hbm, ⟨17, _⟩ => ⟨S2x16x8192x1, .f32⟩
  | .hbm, ⟨18, _⟩ => ⟨S2x16x8192x8192, .f32⟩
  | .hbm, ⟨19, _⟩ => ⟨S2x16x8192x8192, .f32⟩
  | .hbm, ⟨20, _⟩ => ⟨S2x16x1x8192, .f32⟩
  | .hbm, ⟨21, _⟩ => ⟨S2x16x8192x8192, .f32⟩
  | .hbm, ⟨22, _⟩ => ⟨S2x16x8192x8192, .f32⟩
  | .hbm, ⟨23, _⟩ => ⟨S8192, .i32⟩
  | .hbm, ⟨24, _⟩ => ⟨S1x8192, .i32⟩
  | .hbm, ⟨25, _⟩ => ⟨S8192x1, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S_, .f32⟩
  | .hbm, ⟨31, _⟩ => ⟨S2x16x8192x8192, .i1⟩
  | .hbm, ⟨32, _⟩ => ⟨S2x16x8192x8192, .f32⟩
  | .hbm, ⟨33, _⟩ => ⟨S2x16x8192x8192, .f32⟩
  | .hbm, ⟨34, _⟩ => ⟨S_, .f32⟩
  | .hbm, ⟨35, _⟩ => ⟨S2x16x8192, .f32⟩
  | .hbm, ⟨36, _⟩ => ⟨S_, .f32⟩
  | .hbm, ⟨37, _⟩ => ⟨S2x16x8192, .f32⟩
  | .hbm, ⟨38, _⟩ => ⟨S2x16x8192, .f32⟩
  | .hbm, ⟨39, _⟩ => ⟨S2x16x8192x1, .f32⟩
  | .hbm, ⟨40, _⟩ => ⟨S2x16x8192x8192, .f32⟩
  | .hbm, ⟨41, _⟩ => ⟨S2x16x8192x8192, .f32⟩
  | .hbm, ⟨42, _⟩ => ⟨S2x16x8192x8192, .f32⟩
  | .hbm, ⟨43, _⟩ => ⟨S_, .f32⟩
  | .hbm, ⟨44, _⟩ => ⟨S2x16x8192, .f32⟩
  | .hbm, ⟨45, _⟩ => ⟨S2x16x8192x1, .f32⟩
  | .hbm, ⟨46, _⟩ => ⟨S2x16x8192x8192, .f32⟩
  | .hbm, ⟨47, _⟩ => ⟨S2x16x8192x8192, .f32⟩
  | .hbm, ⟨48, _⟩ => ⟨S2x16x128x8192, .f32⟩
  | .hbm, ⟨49, _⟩ => ⟨S2x8192x16x128, .f32⟩
  | .hbm, ⟨50, _⟩ => ⟨S16384x2048, .f32⟩
  | .hbm, ⟨51, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Proj.lean ====
abbrev S16384x2048 : Shape := ⟨2, ![16384, 2048]⟩
abbrev S2048x2048 : Shape := ⟨2, ![2048, 2048]⟩
abbrev S2x6x2048 : Shape := ⟨3, ![2, 6, 2048]⟩
abbrev S1x2048 : Shape := ⟨2, ![1, 2048]⟩
abbrev S512x2048 : Shape := ⟨2, ![512, 2048]⟩
abbrev S1x6x2048 : Shape := ⟨3, ![1, 6, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S2x6x2048, .f32⟩
  | .hbm, ⟨4, _⟩ => ⟨S1x2048, .f32⟩
  | .hbm, ⟨5, _⟩ => ⟨S1x2048, .f32⟩
  | .hbm, ⟨6, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x6x2048, .f32⟩
  | .local _ .vmem, ⟨6, _⟩ => ⟨S1x6x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjRefIdeal.lean ====
abbrev S16384x2048 : Shape := ⟨2, ![16384, 2048]⟩
abbrev S2048x2048 : Shape := ⟨2, ![2048, 2048]⟩
abbrev S2x6x2048 : Shape := ⟨3, ![2, 6, 2048]⟩
abbrev S1x2048 : Shape := ⟨2, ![1, 2048]⟩
abbrev S2x8192x2048 : Shape := ⟨3, ![2, 8192, 2048]⟩
abbrev S_ : Shape := ⟨0, ![]⟩
abbrev S2x1x2048 : Shape := ⟨3, ![2, 1, 2048]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S2x6x2048, .f32⟩
  | .hbm, ⟨4, _⟩ => ⟨S1x2048, .f32⟩
  | .hbm, ⟨5, _⟩ => ⟨S1x2048, .f32⟩
  | .hbm, ⟨6, _⟩ => ⟨S16384x2048, .f32⟩
  | .hbm, ⟨7, _⟩ => ⟨S2x8192x2048, .f32⟩
  | .hbm, ⟨8, _⟩ => ⟨S2048x2048, .f32⟩
  | .hbm, ⟨9, _⟩ => ⟨S2x8192x2048, .f32⟩
  | .hbm, ⟨10, _⟩ => ⟨S2x8192x2048, .f32⟩
  | .hbm, ⟨11, _⟩ => ⟨S_, .f32⟩
  | .hbm, ⟨12, _⟩ => ⟨S2x8192x2048, .f32⟩
  | .hbm, ⟨13, _⟩ => ⟨S2x8192x2048, .f32⟩
  | .hbm, ⟨14, _⟩ => ⟨S2x1x2048, .f32⟩
  | .hbm, ⟨15, _⟩ => ⟨S_, .f32⟩
  | .hbm, ⟨16, _⟩ => ⟨S2x1x2048, .f32⟩
  | .hbm, ⟨17, _⟩ => ⟨S2x1x2048, .f32⟩
  | .hbm, ⟨18, _⟩ => ⟨S2x8192x2048, .f32⟩
  | .hbm, ⟨19, _⟩ => ⟨S2x8192x2048, .f32⟩
  | .hbm, ⟨20, _⟩ => ⟨S2x8192x2048, .f32⟩
  | .hbm, ⟨21, _⟩ => ⟨S_, .f32⟩
  | .hbm, ⟨22, _⟩ => ⟨S2x8192, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S2x8192x2048, .f32⟩
  | .hbm, ⟨28, _⟩ => ⟨S2x8192x2048, .f32⟩
  | .hbm, ⟨29, _⟩ => ⟨S2x8192x2048, .f32⟩
  | .hbm, ⟨30, _⟩ => ⟨S_, .f32⟩
  | .hbm, ⟨31, _⟩ => ⟨S2x8192, .f32⟩
  | .hbm, ⟨32, _⟩ => ⟨S2x8192x1, .f32⟩
  | .hbm, ⟨33, _⟩ => ⟨S_, .f32⟩
  | .hbm, ⟨34, _⟩ => ⟨S2x8192x1, .f32⟩
  | .hbm, ⟨35, _⟩ => ⟨S2x8192x1, .f32⟩
  | .hbm, ⟨36, _⟩ => ⟨S2x8192x2048, .f32⟩
  | .hbm, ⟨37, _⟩ => ⟨S2x8192x2048, .f32⟩
  | .hbm, ⟨38, _⟩ => ⟨S_, .f32⟩
  | .hbm, ⟨39, _⟩ => ⟨S2x8192x1, .f32⟩
  | .hbm, ⟨40, _⟩ => ⟨S2x8192x1, .f32⟩
  | .hbm, ⟨41, _⟩ => ⟨S2x8192x1, .f32⟩
  | .hbm, ⟨42, _⟩ => ⟨S2x8192x2048, .f32⟩
  | .hbm, ⟨43, _⟩ => ⟨S2x8192x2048, .f32⟩
  | .hbm, ⟨44, _⟩ => ⟨S1x1x2048, .f32⟩
  | .hbm, ⟨45, _⟩ => ⟨S2x8192x2048, .f32⟩
  | .hbm, ⟨46, _⟩ => ⟨S2x8192x2048, .f32⟩
  | .hbm, ⟨47, _⟩ => ⟨S1x1x2048, .f32⟩
  | .hbm, ⟨48, _⟩ => ⟨S2x8192x2048, .f32⟩
  | .hbm, ⟨49, _⟩ => ⟨S2x8192x2048, .f32⟩
  | .hbm, ⟨50, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Even.lean ====
abbrev S16384x2048 : Shape := ⟨2, ![16384, 2048]⟩
abbrev S2x6x2048 : Shape := ⟨3, ![2, 6, 2048]⟩
abbrev S2048x3072 : Shape := ⟨2, ![2048, 3072]⟩
abbrev S16384x3072 : Shape := ⟨2, ![16384, 3072]⟩
abbrev S1024x2048 : Shape := ⟨2, ![1024, 2048]⟩
abbrev S1x6x2048 : Shape := ⟨3, ![1, 6, 2048]⟩
abbrev S2048x1536 : Shape := ⟨2, ![2048, 1536]⟩
abbrev S1024x1536 : Shape := ⟨2, ![1024, 1536]⟩
abbrev S1x1x2048 : Shape := ⟨3, ![1, 1, 2048]⟩
abbrev S1x2048 : Shape := ⟨2, ![1, 2048]⟩

abbrev nBuf : Space → Nat
  | .hbm => 4
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2x6x2048, .f32⟩
  | .hbm, ⟨2, _⟩ => ⟨S2048x3072, .bf16⟩
  | .hbm, ⟨3, _⟩ => ⟨S16384x3072, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S2048x1536, .bf16⟩
  | .local _ .vmem, ⟨5, _⟩ => ⟨S2048x1536, .bf16⟩
  | .local _ .vmem, ⟨6, _⟩ => ⟨S1024x1536, .f32⟩
  | .local _ .vmem, ⟨7, _⟩ => ⟨S1024x1536, .f32⟩
  | .local _ .vmem, ⟨8, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EvenRefIdeal.lean ====
abbrev S16384x2048 : Shape := ⟨2, ![16384, 2048]⟩
abbrev S2x6x2048 : Shape := ⟨3, ![2, 6, 2048]⟩
abbrev S2048x3072 : Shape := ⟨2, ![2048, 3072]⟩
abbrev S2x8192x2048 : Shape := ⟨3, ![2, 8192, 2048]⟩
abbrev S2x1x2048 : Shape := ⟨3, ![2, 1, 2048]⟩
abbrev S_ : Shape := ⟨0, ![]⟩
abbrev S2x8192x3072 : Shape := ⟨3, ![2, 8192, 3072]⟩
abbrev S16384x3072 : Shape := ⟨2, ![16384, 3072]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x6x2048, .f32⟩
  | .hbm, ⟨2, _⟩ => ⟨S2048x3072, .bf16⟩
  | .hbm, ⟨3, _⟩ => ⟨S2x8192x2048, .f32⟩
  | .hbm, ⟨4, _⟩ => ⟨S2x1x2048, .f32⟩
  | .hbm, ⟨5, _⟩ => ⟨S_, .f32⟩
  | .hbm, ⟨6, _⟩ => ⟨S2x1x2048, .f32⟩
  | .hbm, ⟨7, _⟩ => ⟨S2x1x2048, .f32⟩
  | .hbm, ⟨8, _⟩ => ⟨S2x8192x2048, .f32⟩
  | .hbm, ⟨9, _⟩ => ⟨S2x8192x2048, .f32⟩
  | .hbm, ⟨10, _⟩ => ⟨S2x1x2048, .f32⟩
  | .hbm, ⟨11, _⟩ => ⟨S2x8192x2048, .f32⟩
  | .hbm, ⟨12, _⟩ => ⟨S2x8192x2048, .f32⟩
  | .hbm, ⟨13, _⟩ => ⟨S2048x3072, .f32⟩
  | .hbm, ⟨14, _⟩ => ⟨S2x8192x3072, .f32⟩
  | .hbm, ⟨15, _⟩ => ⟨S16384x3072, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Quer.lean ====
abbrev S16384x2048 : Shape := ⟨2, ![16384, 2048]⟩
abbrev S2x6x2048 : Shape := ⟨3, ![2, 6, 2048]⟩
abbrev S2048x2048 : Shape := ⟨2, ![2048, 2048]⟩
abbrev S1024x2048 : Shape := ⟨2, ![1024, 2048]⟩
abbrev S1x6x2048 : Shape := ⟨3, ![1, 6, 2048]⟩
abbrev S1x1x2048 : Shape := ⟨3, ![1, 1, 2048]⟩
abbrev S1x2048 : Shape := ⟨2, ![1, 2048]⟩

abbrev nBuf : Space → Nat
  | .hbm => 5
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2x6x2048, .f32⟩
  | .hbm, ⟨2, _⟩ => ⟨S2048x2048, .bf16⟩
  | .hbm, ⟨3, _⟩ => ⟨S16384x2048, .bf16⟩
  | .hbm, ⟨4, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S2048x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== QuerRefIdeal.lean ====
abbrev S16384x2048 : Shape := ⟨2, ![16384, 2048]⟩
abbrev S2x6x2048 : Shape := ⟨3, ![2, 6, 2048]⟩
abbrev S2048x2048 : Shape := ⟨2, ![2048, 2048]⟩
abbrev S2x8192x2048 : Shape := ⟨3, ![2, 8192, 2048]⟩
abbrev S2x1x2048 : Shape := ⟨3, ![2, 1, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x6x2048, .f32⟩
  | .hbm, ⟨2, _⟩ => ⟨S2048x2048, .bf16⟩
  | .hbm, ⟨3, _⟩ => ⟨S2x8192x2048, .f32⟩
  | .hbm, ⟨4, _⟩ => ⟨S2x1x2048, .f32⟩
  | .hbm, ⟨5, _⟩ => ⟨S_, .f32⟩
  | .hbm, ⟨6, _⟩ => ⟨S2x1x2048, .f32⟩
  | .hbm, ⟨7, _⟩ => ⟨S2x1x2048, .f32⟩
  | .hbm, ⟨8, _⟩ => ⟨S2x8192x2048, .f32⟩
  | .hbm, ⟨9, _⟩ => ⟨S2x8192x2048, .f32⟩
  | .hbm, ⟨10, _⟩ => ⟨S2x1x2048, .f32⟩
  | .hbm, ⟨11, _⟩ => ⟨S2x8192x2048, .f32⟩
  | .hbm, ⟨12, _⟩ => ⟨S2x8192x2048, .f32⟩
  | .hbm, ⟨13, _⟩ => ⟨S2048x2048, .f32⟩
  | .hbm, ⟨14, _⟩ => ⟨S2x8192x2048, .f32⟩
  | .hbm, ⟨15, _⟩ => ⟨S16384x2048, .f32⟩
  | .hbm, ⟨16, _⟩ => ⟨S16384x2048, .bf16⟩
  | .hbm, ⟨17, _⟩ => ⟨S16384x2048, .f32⟩
  | .hbm, ⟨18, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Odd.lean ====
abbrev S16384x2048 : Shape := ⟨2, ![16384, 2048]⟩
abbrev S2x6x2048 : Shape := ⟨3, ![2, 6, 2048]⟩
abbrev S2048x4096 : Shape := ⟨2, ![2048, 4096]⟩
abbrev S2048x2048 : Shape := ⟨2, ![2048, 2048]⟩
abbrev S2048x128 : Shape := ⟨2, ![2048, 128]⟩
abbrev S1x128 : Shape := ⟨2, ![1, 128]⟩
abbrev S16384x4096 : Shape := ⟨2, ![16384, 4096]⟩
abbrev S2048x16384 : Shape := ⟨2, ![2048, 16384]⟩
abbrev S16384x128 : Shape := ⟨2, ![16384, 128]⟩
abbrev S1024x2048 : Shape := ⟨2, ![1024, 2048]⟩
abbrev S1x6x2048 : Shape := ⟨3, ![1, 6, 2048]⟩
abbrev S2048x1024 : Shape := ⟨2, ![2048, 1024]⟩
abbrev S1024x1024 : Shape := ⟨2, ![1024, 1024]⟩
abbrev S1024x128 : Shape := ⟨2, ![1024, 128]⟩
abbrev S8x128 : Shape := ⟨2, ![8, 128]⟩
abbrev S1x1x2048 : Shape := ⟨3, ![1, 1, 2048]⟩
abbrev S1x2048 : Shape := ⟨2, ![1, 2048]⟩

abbrev nBuf : Space → Nat
  | .hbm => 10
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S2x6x2048, .f32⟩
  | .hbm, ⟨2, _⟩ => ⟨S2048x4096, .bf16⟩
  | .hbm, ⟨3, _⟩ => ⟨S2048x2048, .bf16⟩
  | .hbm, ⟨4, _⟩ => ⟨S2048x128, .bf16⟩
  | .hbm, ⟨5, _⟩ => ⟨S2048x128, .bf16⟩
  | .hbm, ⟨6, _⟩ => ⟨S1x128, .f32⟩
  | .hbm, ⟨7, _⟩ => ⟨S16384x4096, .bf16⟩
  | .hbm, ⟨8, _⟩ => ⟨S2048x16384, .bf16⟩
  | .hbm, ⟨9, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S2048x128, .bf16⟩
  | .local _ .vmem, ⟨9, _⟩ => ⟨S2048x128, .bf16⟩
  | .local _ .vmem, ⟨10, _⟩ => ⟨S1x128, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x128, .f32⟩
  | .local _ .vmem, ⟨16, _⟩ => ⟨S1024x128, .f32⟩
  | .local _ .vmem, ⟨17, _⟩ => ⟨S1024x2048, .bf16⟩
  | .local _ .vmem, ⟨18, _⟩ => ⟨S8x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 6], ![false, false]⟩

def k0_cond3 (i : grid0.Coords) : BitVec 1 :=
  let arg1 : BitVec 32 := BitVec.ofNat 32 (i 1).val
  let c2_i32 : BitVec 32 := 2#32
  let v3 : BitVec 1 := Scalar.cmpi .sge arg1 c2_i32
  let c4_i32 : BitVec 32 := 4#32
  let v4 : BitVec 1 := Scalar.cmpi .slt arg1 c4_i32
  let v5 : BitVec 1 := Scalar.andi v3 v4
  let v_true : BitVec 1 := 1#1
  let v6 : BitVec 1 := Scalar.xori v5 v_true
  let v7 : BitVec 32 := Scalar.extui v6
  let c0_i32_1 : BitVec 32 := 0#32
  let v8 : BitVec 1 := Scalar.cmpi .ne v7 c0_i32_1
  v8

def k0_cond4 (i : grid0.Coords) : BitVec 1 :=
  let arg1 : BitVec 32 := BitVec.ofNat 32 (i 1).val
  let c2_i32 : BitVec 32 := 2#32
  let v3 : BitVec 1 := Scalar.cmpi .sge arg1 c2_i32
  let c4_i32 : BitVec 32 := 4#32
  let v4 : BitVec 1 := Scalar.cmpi .slt arg1 c4_i32
  let v5 : BitVec 1 := Scalar.andi v3 v4
  let v9 : BitVec 32 := Scalar.extui v5
  let c0_i32_2 : BitVec 32 := 0#32
  let v10 : BitVec 1 := Scalar.cmpi .ne v9 c0_i32_2
  v10

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c4_i32 : BitVec 32 := 4#32
  let v1 : BitVec 1 := Scalar.cmpi .slt arg1 c4_i32
  let c2_i32_0 : BitVec 32 := 2#32
  let v2 : BitVec 32 := Scalar.subi arg1 c2_i32_0
  let c1_i32 : BitVec 32 := 1#32
  let v3 : BitVec 32 := Scalar.select v1 c1_i32 v2
  let v4 : BitVec 32 := Scalar.select v0 arg1 v3
  let c0_i32 : BitVec 32 := 0#32
  let c0_i32_1 : BitVec 32 := 0#32
  ![c0_i32.toNat, v4.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c4_i32 : BitVec 32 := 4#32
  let v1 : BitVec 1 := Scalar.cmpi .slt arg1 c4_i32
  let c2_i32_0 : BitVec 32 := 2#32
  let v2 : BitVec 32 := Scalar.subi arg1 c2_i32_0
  let c1_i32 : BitVec 32 := 1#32
  let v3 : BitVec 32 := Scalar.select v1 c1_i32 v2
  let v4 : BitVec 32 := Scalar.select v0 arg1 v3
  let c0_i32 : BitVec 32 := 0#32
  ![arg0.toNat, v4.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![v2.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== OddIdeal.lean ====
variable {F : FTy → Type} [FloatOps F] [Named F]
def κ : String → Option EReal := fun
  | "qscale" => some ((((Real.sqrt 128) * (Real.log 2))⁻¹ : ℝ) : EReal)
  | _ => none
-- ==== OddRefIdeal.lean ====
abbrev S16384x2048 : Shape := ⟨2, ![16384, 2048]⟩
abbrev S2x6x2048 : Shape := ⟨3, ![2, 6, 2048]⟩
abbrev S2048x4096 : Shape := ⟨2, ![2048, 4096]⟩
abbrev S2048x2048 : Shape := ⟨2, ![2048, 2048]⟩
abbrev S2048x128 : Shape := ⟨2, ![2048, 128]⟩
abbrev S1x128 : Shape := ⟨2, ![1, 128]⟩
abbrev S2x8192x2048 : Shape := ⟨3, ![2, 8192, 2048]⟩
abbrev S2x1x2048 : Shape := ⟨3, ![2, 1, 2048]⟩
abbrev S_ : Shape := ⟨0, ![]⟩
abbrev S2x8192x4096 : Shape := ⟨3, ![2, 8192, 4096]⟩
abbrev S2048x2x8192 : Shape := ⟨3, ![2048, 2, 8192]⟩
abbrev S16384x4096 : Shape := ⟨2, ![16384, 4096]⟩
abbrev S2048x16384 : Shape := ⟨2, ![2048, 16384]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x6x2048, .f32⟩
  | .hbm, ⟨2, _⟩ => ⟨S2048x4096, .bf16⟩
  | .hbm, ⟨3, _⟩ => ⟨S2048x2048, .bf16⟩
  | .hbm, ⟨4, _⟩ => ⟨S2048x128, .bf16⟩
  | .hbm, ⟨5, _⟩ => ⟨S2048x128, .bf16⟩
  | .hbm, ⟨6, _⟩ => ⟨S1x128, .f32⟩
  | .hbm, ⟨7, _⟩ => ⟨S2x8192x2048, .f32⟩
  | .hbm, ⟨8, _⟩ => ⟨S2x1x2048, .f32⟩
  | .hbm, ⟨9, _⟩ => ⟨S_, .f32⟩
  | .hbm, ⟨10, _⟩ => ⟨S2x1x2048, .f32⟩
  | .hbm, ⟨11, _⟩ => ⟨S2x1x2048, .f32⟩
  | .hbm, ⟨12, _⟩ => ⟨S2x8192x2048, .f32⟩
  | .hbm, ⟨13, _⟩ => ⟨S2x8192x2048, .f32⟩
  | .hbm, ⟨14, _⟩ => ⟨S2x1x2048, .f32⟩
  | .hbm, ⟨15, _⟩ => ⟨S2x8192x2048, .f32⟩
  | .hbm, ⟨16, _⟩ => ⟨S2x8192x2048, .f32⟩
  | .hbm, ⟨17, _⟩ => ⟨S2048x4096, .f32⟩
  | .hbm, ⟨18, _⟩ => ⟨S2x8192x4096, .f32⟩
  | .hbm, ⟨19, _⟩ => ⟨S2x8192x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2x8192x2048, .f32⟩
  | .hbm, ⟨26, _⟩ => ⟨S2x8192x2048, .f32⟩
  | .hbm, ⟨27, _⟩ => ⟨S2048x2048, .f32⟩
  | .hbm, ⟨28, _⟩ => ⟨S2048x2x8192, .f32⟩
  | .hbm, ⟨29, _⟩ => ⟨S2x8192x2048, .f32⟩
  | .hbm, ⟨30, _⟩ => ⟨S2x8192x4096, .f32⟩
  | .hbm, ⟨31, _⟩ => ⟨S16384x4096, .f32⟩
  | .hbm, ⟨32, _⟩ => ⟨S16384x4096, .bf16⟩
  | .hbm, ⟨33, _⟩ => ⟨S2048x16384, .f32⟩
  | .hbm, ⟨34, _⟩ => ⟨S2048x16384, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Last.lean ====
abbrev S16384x2048 : Shape := ⟨2, ![16384, 2048]⟩
abbrev S2x6x2048 : Shape := ⟨3, ![2, 6, 2048]⟩
abbrev S1x2048 : Shape := ⟨2, ![1, 2048]⟩
abbrev S512x2048 : Shape := ⟨2, ![512, 2048]⟩
abbrev S1x6x2048 : Shape := ⟨3, ![1, 6, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2x6x2048, .f32⟩
  | .hbm, ⟨3, _⟩ => ⟨S1x2048, .f32⟩
  | .hbm, ⟨4, _⟩ => ⟨S1x2048, .f32⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x6x2048, .f32⟩
  | .local _ .vmem, ⟨5, _⟩ => ⟨S1x6x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LastRefIdeal.lean ====
abbrev S16384x2048 : Shape := ⟨2, ![16384, 2048]⟩
abbrev S2x6x2048 : Shape := ⟨3, ![2, 6, 2048]⟩
abbrev S1x2048 : Shape := ⟨2, ![1, 2048]⟩
abbrev S2x8192x2048 : Shape := ⟨3, ![2, 8192, 2048]⟩
abbrev S_ : Shape := ⟨0, ![]⟩
abbrev S2x1x2048 : Shape := ⟨3, ![2, 1, 2048]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2x6x2048, .f32⟩
  | .hbm, ⟨3, _⟩ => ⟨S1x2048, .f32⟩
  | .hbm, ⟨4, _⟩ => ⟨S1x2048, .f32⟩
  | .hbm, ⟨5, _⟩ => ⟨S2x8192x2048, .f32⟩
  | .hbm, ⟨6, _⟩ => ⟨S_, .f32⟩
  | .hbm, ⟨7, _⟩ => ⟨S2x8192x2048, .f32⟩
  | .hbm, ⟨8, _⟩ => ⟨S2x8192x2048, .f32⟩
  | .hbm, ⟨9, _⟩ => ⟨S2x1x2048, .f32⟩
  | .hbm, ⟨10, _⟩ => ⟨S_, .f32⟩
  | .hbm, ⟨11, _⟩ => ⟨S2x1x2048, .f32⟩
  | .hbm, ⟨12, _⟩ => ⟨S2x1x2048, .f32⟩
  | .hbm, ⟨13, _⟩ => ⟨S2x8192x2048, .f32⟩
  | .hbm, ⟨14, _⟩ => ⟨S2x8192x2048, .f32⟩
  | .hbm, ⟨15, _⟩ => ⟨S2x8192x2048, .f32⟩
  | .hbm, ⟨16, _⟩ => ⟨S2x8192x2048, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x2048, .f32⟩
  | .hbm, ⟨24, _⟩ => ⟨S2x8192x2048, .f32⟩
  | .hbm, ⟨25, _⟩ => ⟨S2x8192x2048, .f32⟩
  | .hbm, ⟨26, _⟩ => ⟨S_, .f32⟩
  | .hbm, ⟨27, _⟩ => ⟨S2x8192, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x2048, .f32⟩
  | .hbm, ⟨33, _⟩ => ⟨S2x8192x2048, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S2x8192x1, .f32⟩
  | .hbm, ⟨38, _⟩ => ⟨S2x8192x2048, .f32⟩
  | .hbm, ⟨39, _⟩ => ⟨S2x8192x2048, .f32⟩
  | .hbm, ⟨40, _⟩ => ⟨S1x1x2048, .f32⟩
  | .hbm, ⟨41, _⟩ => ⟨S2x8192x2048, .f32⟩
  | .hbm, ⟨42, _⟩ => ⟨S2x8192x2048, .f32⟩
  | .hbm, ⟨43, _⟩ => ⟨S1x1x2048, .f32⟩
  | .hbm, ⟨44, _⟩ => ⟨S2x8192x2048, .f32⟩
  | .hbm, ⟨45, _⟩ => ⟨S2x8192x2048, .f32⟩
  | .hbm, ⟨46, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Ada.lean ====
abbrev S8x2048 : Shape := ⟨2, ![8, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x2048 : Shape := ⟨2, ![8, 2048]⟩
abbrev S2x2048x12288 : Shape := ⟨3, ![2, 2048, 12288]⟩
abbrev S2x12288 : Shape := ⟨2, ![2, 12288]⟩
abbrev S_ : Shape := ⟨0, ![]⟩
abbrev S2x12288x8 : Shape := ⟨3, ![2, 12288, 8]⟩
abbrev S2x8x12288 : Shape := ⟨3, ![2, 8, 12288]⟩
abbrev S2x1x12288 : Shape := ⟨3, ![2, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2x12288x8, .f32⟩
  | .hbm, ⟨13, _⟩ => ⟨S2x8x12288, .f32⟩
  | .hbm, ⟨14, _⟩ => ⟨S2x1x12288, .f32⟩
  | .hbm, ⟨15, _⟩ => ⟨S2x8x12288, .f32⟩
  | .hbm, ⟨16, _⟩ => ⟨S2x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Dense.lean ====
abbrev S16384x2048 : Shape := ⟨2, ![16384, 2048]⟩
abbrev S2048x128x8x128 : Shape := ⟨4, ![2048, 128, 8, 128]⟩
abbrev S2x16384x2048 : Shape := ⟨3, ![2, 16384, 2048]⟩
abbrev S1024x2048 : Shape := ⟨2, ![1024, 2048]⟩
abbrev S128x8x8x128 : Shape := ⟨4, ![128, 8, 8, 128]⟩
abbrev S1x1024x2048 : Shape := ⟨3, ![1, 1024, 2048]⟩
abbrev S1024x1024 : Shape := ⟨2, ![1024, 1024]⟩
abbrev S1x256x2048 : Shape := ⟨3, ![1, 256, 2048]⟩
abbrev S256x2048 : Shape := ⟨2, ![256, 2048]⟩
abbrev S1024x256 : Shape := ⟨2, ![1024, 256]⟩
abbrev S128x1x8x128 : Shape := ⟨4, ![128, 1, 8, 128]⟩
abbrev S128x8x128 : Shape := ⟨3, ![128, 8, 128]⟩
abbrev S1024x128 : Shape := ⟨2, ![1024, 128]⟩
abbrev S1024x512 : Shape := ⟨2, ![1024, 512]⟩
abbrev S1x512x2048 : Shape := ⟨3, ![1, 512, 2048]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x128x8x128, .f32⟩
  | .hbm, ⟨2, _⟩ => ⟨S2x16384x2048, .bf16⟩
  | .hbm, ⟨3, _⟩ => ⟨S2x16384x2048, .bf16⟩
  | .hbm, ⟨4, _⟩ => ⟨S16384x2048, .f32⟩
  | .local _ .vmem, ⟨0, _⟩ => ⟨S1024x2048, .bf16⟩
  | .local _ .vmem, ⟨1, _⟩ => ⟨S128x8x8x128, .f32⟩
  | .local _ .vmem, ⟨2, _⟩ => ⟨S128x8x8x128, .f32⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S128x8x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DenseRefIdeal.lean ====
abbrev S16384x2048 : Shape := ⟨2, ![16384, 2048]⟩
abbrev S2048x128x8x128 : Shape := ⟨4, ![2048, 128, 8, 128]⟩
abbrev S2x16384x2048 : Shape := ⟨3, ![2, 16384, 2048]⟩
abbrev S2048x8x128x128 : Shape := ⟨4, ![2048, 8, 128, 128]⟩
abbrev S16384x16384 : Shape := ⟨2, ![16384, 16384]⟩
abbrev S1x16384x2048 : Shape := ⟨3, ![1, 16384, 2048]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x128x8x128, .f32⟩
  | .hbm, ⟨2, _⟩ => ⟨S2x16384x2048, .bf16⟩
  | .hbm, ⟨3, _⟩ => ⟨S2x16384x2048, .bf16⟩
  | .hbm, ⟨4, _⟩ => ⟨S2048x8x128x128, .f32⟩
  | .hbm, ⟨5, _⟩ => ⟨S16384x16384, .f32⟩
  | .hbm, ⟨6, _⟩ => ⟨S16384x2048, .f32⟩
  | .hbm, ⟨7, _⟩ => ⟨S1x16384x2048, .bf16⟩
  | .hbm, ⟨8, _⟩ => ⟨S16384x2048, .bf16⟩
  | .hbm, ⟨9, _⟩ => ⟨S16384x2048, .f32⟩
  | .hbm, ⟨10, _⟩ => ⟨S16384x16384, .f32⟩
  | .hbm, ⟨11, _⟩ => ⟨S16384x16384, .f32⟩
  | .hbm, ⟨12, _⟩ => ⟨S16384x16384, .f32⟩
  | .hbm, ⟨13, _⟩ => ⟨S_, .f32⟩
  | .hbm, ⟨14, _⟩ => ⟨S16384x16384, .f32⟩
  | .hbm, ⟨15, _⟩ => ⟨S16384x16384, .f32⟩
  | .hbm, ⟨16, _⟩ => ⟨S16384x16384, .f32⟩
  | .hbm, ⟨17, _⟩ => ⟨S_, .f32⟩
  | .hbm, ⟨18, _⟩ => ⟨S16384x16384, .f32⟩
  | .hbm, ⟨19, _⟩ => ⟨S16384x16384, .f32⟩
  | .hbm, ⟨20, _⟩ => ⟨S16384x16384, .f32⟩
  | .hbm, ⟨21, _⟩ => ⟨S_, .f32⟩
  | .hbm, ⟨22, _⟩ => ⟨S16384x16384, .f32⟩
  | .hbm, ⟨23, _⟩ => ⟨S16384x16384, .f32⟩
  | .hbm, ⟨24, _⟩ => ⟨S_, .f32⟩
  | .hbm, ⟨25, _⟩ => ⟨S16384x16384, .f32⟩
  | .hbm, ⟨26, _⟩ => ⟨S16384x16384, .f32⟩
  | .hbm, ⟨27, _⟩ => ⟨S16384x16384, .f32⟩
  | .hbm, ⟨28, _⟩ => ⟨S16384x16384, .f32⟩
  | .hbm, ⟨29, _⟩ => ⟨S1x16384x2048, .bf16⟩
  | .hbm, ⟨30, _⟩ => ⟨S16384x2048, .bf16⟩
  | .hbm, ⟨31, _⟩ => ⟨S16384x2048, .f32⟩
  | .hbm, ⟨32, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Proof.Plain.lean ====
/-
  The kernel with its rounding constant as printed: its run ends with the arguments as they were.
  Nothing is claimed of the output here, so every buffer the body writes is held at some contents.
-/
module

public import proofs.«01_k».proof.Proof.Gen.Kernel.Skeleton
public import proofs.«01_k».proof.Proof.Gen.Kernel.Frame
public import Idealize.ShloMosaic.Lib.Exec
public import Idealize.ShloMosaic.Lib.Tactic
public import Idealize.ShloMosaic.Lib.LoopRemainder
public import Idealize.ShloMosaic.Lib.Pipeline.Kit

@[expose] public section
set_option maxRecDepth 16384
set_option maxHeartbeats 1000000
noncomputable section
namespace Cert.Kernel.Hand
open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The remainder loops run no trip. -/
theorem none2 : ∀ i : grid0.Coords, (k0_t2_loop i).trips = 0 := fun i => Nat.le_zero.1 (k0_t2_abs i).2.1
theorem none4 : ∀ i : grid0.Coords, (k0_t4_loop i).trips = 0 := by decide +kernel
theorem none6 : ∀ i : grid0.Coords, (k0_t6_loop i).trips = 0 := by decide +kernel

section
variable (𝒱 : Variants) (c : Dev nD) (bd : Option 𝒱.V) (E : Set ℕ)

/-- A loop keeps what each trip keeps. -/
theorem loop_keep {w : ℕ} {σ : Type} (l : Scf.Loop w) (hok : l.OK) (init : σ)
    (body : Fin l.trips → σ → Prog (TpuEff nD τ sig (Elt F) Λ₀ .tc) σ) (P : sProp 𝕄)
    (h : ∀ k a, P ⊢ wp frame (wpE (defs₀ (F := F)) 𝒱 (c : Thread nD τ) bd) E (body k a) (fun _ => P)) :
    P ⊢ wp frame (wpE (defs₀ (F := F)) 𝒱 (c : Thread nD τ) bd) E (Scf.Loop.for l hok init body) (fun _ => P) := by
  refine BIBase.Entails.trans ?_ (Scf.wp_for frame (wpE (defs₀ (F := F)) 𝒱 (c : Thread nD τ) bd) E l.lb l.ub l.st hok init _ (fun _ _ => P) h)
  iintro H
  isplitl [H]
  · iexact H
  iintro %a H
  iexact H

end

section
variable (𝒱 : Variants) (c : Dev nD) (bd : Option 𝒱.V) (i : grid0.Coords)
  (arg3 : Memref sig .tc .vmem S512x128 .bf16) (harg3 : arg3.IsWhole) (arg4 : Memref sig .tc .vmem S128x8192 .bf16) (harg4 : arg4.IsWhole)
  (arg5 : Memref sig .tc .vmem S8192x128 .bf16) (harg5 : arg5.IsWhole) (arg6 : Memref sig .tc .vmem S1x1x8192 .f32) (harg6 : arg6.IsWhole)
  (arg7 : Memref sig .tc .vmem S512x128 .bf16) (harg7 : arg7.IsWhole) (arg8 : Memref sig .tc .vmem S512x512 .f32) (harg8 : arg8.IsWhole)
  (arg9 : Memref sig .tc .vmem S512x512 .f32) (harg9 : arg9.IsWhole) (arg10 : Memref sig .tc .vmem S8192x256 .bf16) (harg10 : arg10.IsWhole)
  (arg11 : Memref sig .tc .vmem S512x512 .bf16) (harg11 : arg11.IsWhole) (E : Set ℕ)
  (X3 : BufTy.Contents (Elt F) arg3.view.ty) (X4 : BufTy.Contents (Elt F) arg4.view.ty) (X5 : BufTy.Contents (Elt F) arg5.view.ty)
  (X6 : BufTy.Contents (Elt F) arg6.view.ty)

/-- The buffers during the body: the four operands at their contents, the output tile and the scratch at some. -/
abbrev Held : sProp 𝕄 :=
  iprop(∃ f7 f8 f9 f10 f11, (arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} f7) ∗ (arg8.view.loc (c : Thread nD τ) ↦[arg8.view.set]{fullShare} f8)
    ∗ (arg9.view.loc (c : Thread nD τ) ↦[arg9.view.set]{fullShare} f9) ∗ (arg10.view.loc (c : Thread nD τ) ↦[arg10.view.set]{fullShare} f10)
    ∗ (arg11.view.loc (c : Thread nD τ) ↦[arg11.view.set]{fullShare} f11))

local notation "𝔹" => Held c arg3 arg4 arg5 arg6 arg7 arg8 arg9 arg10 arg11 X3 X4 X5 X6

/-- One trip of the eight-chunk loop keeps the buffers. -/
theorem trip1_keep (v5 : FVec F S1x1 .f32) (v9 : BitVec 32) (v31 : FVec F S512x1 .f32) (v32 : FVec F S512x256 .f32) (k : Fin (k0_t1_loop i).trips)
    (acc : FVec F S512x1 .f32 × FVec F S512x256 .f32) :
    𝔹 ⊢ wp frame (wpE (defs₀ (F := F)) 𝒱 (c : Thread nD τ) bd) E
      (k0_t1_body (F := F) i arg3 harg3 arg4 harg4 arg5 harg5 arg6 harg6 arg7 harg7 arg8 harg8 arg9 harg9 arg10 harg10 arg11 harg11 v5 v9 v31 v32 k acc)
      (fun _ => 𝔹) := by
  unfold k0_t1_body
  iintro ⟨%f7, %f8, %f9, %f10, %f11, H3, H4, H5, H6, H7, H8, H9, H10, H11⟩
  sl_exec
  sl_step
  iexists _, _, _, _, _
  iframe

/-- One trip of the four-chunk loop keeps the buffers. -/
theorem trip3_keep (v5 : FVec F S1x1 .f32) (v9 : BitVec 32) (v57_0 : FVec F S512x1 .f32) (v57_1 : FVec F S512x256 .f32) (v59 v61 : BitVec 32) (v72 : BitVec 1) (v73 : BitVec 32)
    (k : Fin (k0_t3_loop i).trips) (acc : FVec F S512x1 .f32 × FVec F S512x256 .f32) :
    𝔹 ⊢ wp frame (wpE (defs₀ (F := F)) 𝒱 (c : Thread nD τ) bd) E
      (k0_t3_body (F := F) i arg3 harg3 arg4 harg4 arg5 harg5 arg6 harg6 arg7 harg7 arg8 harg8 arg9 harg9 arg10 harg10 arg11 harg11 v5 v9 v57_0 v57_1 v59 v61 v72 v73 k acc)
      (fun _ => 𝔹) := by
  unfold k0_t3_body
  iintro ⟨%f7, %f8, %f9, %f10, %f11, H3, H4, H5, H6, H7, H8, H9, H10, H11⟩
  sl_exec
  sl_step
  iexists _, _, _, _, _
  iframe

/-- One trip of the two-chunk loop keeps the buffers. -/
theorem trip5_keep (v5 : FVec F S1x1 .f32) (v9 : BitVec 32) (v57_0 : FVec F S512x1 .f32) (v57_1 : FVec F S512x256 .f32) (v59 v61 : BitVec 32) (v72 : BitVec 1) (v73 v86 : BitVec 32)
    (k : Fin (k0_t5_loop i).trips) (acc : FVec F S512x1 .f32 × FVec F S512x256 .f32) :
    𝔹 ⊢ wp frame (wpE (defs₀ (F := F)) 𝒱 (c : Thread nD τ) bd) E
      (k0_t5_body (F := F) i arg3 harg3 arg4 harg4 arg5 harg5 arg6 harg6 arg7 harg7 arg8 harg8 arg9 harg9 arg10 harg10 arg11 harg11 v5 v9 v57_0 v57_1 v59 v61 v72 v73 v86 k acc)
      (fun _ => 𝔹) := by
  unfold k0_t5_body
  iintro ⟨%f7, %f8, %f9, %f10, %f11, H3, H4, H5, H6, H7, H8, H9, H10, H11⟩
  sl_exec
  sl_step
  iexists _, _, _, _, _
  iframe

/-- The set-up keeps the buffers. -/
theorem setup_keep :
    𝔹 ⊢ wp frame (wpE (defs₀ (F := F)) 𝒱 (c : Thread nD τ) bd) E
      (k0_part30 (F := F) i arg3 harg3 arg4 harg4 arg5 harg5 arg6 harg6 arg7 harg7 arg8 harg8 arg9 harg9 arg10 harg10 arg11 harg11) (fun _ => 𝔹) := by
  rw [k0_part30_eq_skeleton]
  unfold k0_part30_skel
  iintro ⟨%f7, %f8, %f9, %f10, %f11, H3, H4, H5, H6, H7, H8, H9, H10, H11⟩
  by_cases hc : Scalar.cmpi .ne (Scalar.extui (Scalar.cmpi .eq (BitVec.ofNat 32 (i 2).val) 0#32) : BitVec 32) 0#32 = 1#1
  all_goals
    sl_exec
    sl_step
    iexists _, _, _, _, _
    iframe

/-- The eight-chunk loop and its empty remainder keep the buffers. -/
theorem first_keep (v5 : FVec F S1x1 .f32) (v9 : BitVec 32) (v31 : FVec F S512x1 .f32) (v32 : FVec F S512x256 .f32) :
    𝔹 ⊢ wp frame (wpE (defs₀ (F := F)) 𝒱 (c : Thread nD τ) bd) E (k0_part31 (F := F) i arg3 harg3 arg4 harg4 arg5 harg5 arg6 harg6 arg7 harg7 arg8 harg8 arg9 harg9 arg10 harg10 arg11 harg11 v5 v9 v31 v32) (fun _ => 𝔹) := by
  rw [k0_part31_eq_skeleton]
  unfold k0_part31_skel
  rw [wp_bind]
  refine (loop_keep 𝒱 c bd E (k0_t1_loop i) (k0_t1_ok i) _ _ _ (trip1_keep 𝒱 c bd i arg3 harg3 arg4 harg4 arg5 harg5 arg6 harg6 arg7 harg7 arg8 harg8 arg9 harg9 arg10 harg10 arg11 harg11 E X3 X4 X5 X6 v5 v9 v31 v32)).trans (wp_mono _ _ _ ?_)
  rintro ⟨a, b⟩
  dsimp only
  rw [wp_bind]
  refine (loop_keep 𝒱 c bd E (k0_t2_loop i) (k0_t2_ok i) _ _ _ (fun k => absurd k.isLt (by have := none2 i; omega))).trans (wp_mono _ _ _ ?_)
  rintro ⟨a, b⟩
  dsimp only
  rw [wp_pure]
  iintro H
  imodintro
  iexact H

/-- The four-chunk and the two-chunk loop and their empty remainders keep the buffers. -/
theorem second_keep (v5 : FVec F S1x1 .f32) (v9 : BitVec 32) (v57_0 : FVec F S512x1 .f32) (v57_1 : FVec F S512x256 .f32) (v59 v61 : BitVec 32) (v72 : BitVec 1) (v73 : BitVec 32) :
    𝔹 ⊢ wp frame (wpE (defs₀ (F := F)) 𝒱 (c : Thread nD τ) bd) E (k0_part32 (F := F) i arg3 harg3 arg4 harg4 arg5 harg5 arg6 harg6 arg7 harg7 arg8 harg8 arg9 harg9 arg10 harg10 arg11 harg11 v5 v9 v57_0 v57_1 v59 v61 v72 v73) (fun _ => 𝔹) := by
  rw [k0_part32_eq_skeleton]
  unfold k0_part32_skel
  rw [wp_bind]
  refine (loop_keep 𝒱 c bd E (k0_t3_loop i) (k0_t3_ok i) _ _ _ (trip3_keep 𝒱 c bd i arg3 harg3 arg4 harg4 arg5 harg5 arg6 harg6 arg7 harg7 arg8 harg8 arg9 harg9 arg10 harg10 arg11 harg11 E X3 X4 X5 X6 v5 v9 v57_0 v57_1 v59 v61 v72 v73)).trans (wp_mono _ _ _ ?_)
  rintro ⟨a, b⟩
  dsimp only
  rw [wp_bind]
  refine (loop_keep 𝒱 c bd E (k0_t4_loop i) (k0_t4_ok i) _ _ _ (fun k => absurd k.isLt (by have := none4 i; omega))).trans (wp_mono _ _ _ ?_)
  rintro ⟨a, b⟩
  dsimp only
  rw [wp_bind]
  refine (loop_keep 𝒱 c bd E (k0_t5_loop i) (k0_t5_ok i) _ _ _ (trip5_keep 𝒱 c bd i arg3 harg3 arg4 harg4 arg5 harg5 arg6 harg6 arg7 harg7 arg8 harg8 arg9 harg9 arg10 harg10 arg11 harg11 E X3 X4 X5 X6 v5 v9 v57_0 v57_1 v59 v61 v72 v73 _)).trans (wp_mono _ _ _ ?_)
  rintro ⟨a, b⟩
  dsimp only
  rw [wp_bind]
  refine (loop_keep 𝒱 c bd E (k0_t6_loop i) (k0_t6_ok i) _ _ _ (fun k => absurd k.isLt (by have := none6 i; omega))).trans (wp_mono _ _ _ ?_)
  rintro ⟨a, b⟩
  dsimp only
  rw [wp_pure]
  iintro H
  imodintro
  iexact H

/-- The body keeps the buffers. -/
theorem body_keep :
    𝔹 ⊢ wp frame (wpE (defs₀ (F := F)) 𝒱 (c : Thread nD τ) bd) E (cc0_attention (F := F) i arg3 harg3 arg4 harg4 arg5 harg5 arg6 harg6 arg7 harg7 arg8 harg8 arg9 harg9 arg10 harg10 arg11 harg11) (fun _ => 𝔹) := by
  rw [cc0_attention_eq_skeleton]
  unfold cc0_attention_skel
  rw [wp_bind]
  refine (setup_keep 𝒱 c bd i arg3 harg3 arg4 harg4 arg5 harg5 arg6 harg6 arg7 harg7 arg8 harg8 arg9 harg9 arg10 harg10 arg11 harg11 E X3 X4 X5 X6).trans (wp_mono _ _ _ ?_)
  rintro ⟨v5, v9, v31, v32⟩
  try dsimp -proj only
  rw [wp_bind]
  refine (first_keep 𝒱 c bd i arg3 harg3 arg4 harg4 arg5 harg5 arg6 harg6 arg7 harg7 arg8 harg8 arg9 harg9 arg10 harg10 arg11 harg11 E X3 X4 X5 X6 v5 v9 v31 v32).trans (wp_mono _ _ _ ?_)
  rintro ⟨v57_0, v57_1, v59, v61, v72, v73⟩
  rw [wp_bind]
  refine (second_keep 𝒱 c bd i arg3 harg3 arg4 harg4 arg5 harg5 arg6 harg6 arg7 harg7 arg8 harg8 arg9 harg9 arg10 harg10 arg11 harg11 E X3 X4 X5 X6 v5 v9 v57_0 v57_1 v59 v61 v72 v73).trans (wp_mono _ _ _ ?_)
  rintro ⟨m, a, v113, v114⟩
  iintro ⟨%f7, %f8, %f9, %f10, %f11, H3, H4, H5, H6, H7, H8, H9, H10, H11⟩
  by_cases hc : k0_cond2 i = 1#1
  all_goals
    sl_exec
    sl_step
    iexists _, _, _, _, _
    iframe

end

/-! ## The launch -/

variable (m : (ℓ : Loc nD τ sig) → Buf (Elt F) ℓ) (ρ : Dev nD → PrngReg)

/-- The output's window, whose contents the proof does not follow. -/
def free : Fin cfg0.W → Bool := fun w => w == 4

/-- The launch's proof data: inputs left as staged, the scratch at something. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
  Φ t := Pipeline.ΦA spec0 c
  q w := Pipeline.shareOf spec0 w
  owed _ := 0

abbrev 𝒱₀ : Variants := Variants.none

/-- The body meets the pipeline's demand at every point, the output forgotten. -/
theorem body_obligation (c : Dev nD) : BodyObligation (dats m 0 c) (defs₀ (F := F)) 𝒱₀ () Set.univ free := fun t => by
  rw [bigSep_W0, bigSep_W0]
  simp only [show free 0 = false from rfl, show free 1 = false from rfl, show free 2 = false from rfl, show free 3 = false from rfl, show free 4 = true from rfl]
  rw [show (dats m 0 c).Φ t.castSucc = Pipeline.ΦA spec0 c from rfl, show (dats m 0 c).Φ t.succ = Pipeline.ΦA spec0 c from rfl]
  unfold Pipeline.ΦA Dat.owesAt Pipeline.owesWithin owns
  rw [scopedRest0_eq]
  rw [show (dats m 0 c).owed t.castSucc = 0 from rfl, show (dats m 0 c).owed t.succ = 0 from rfl]
  iintro ⟨⟨⟨⟨%f8, H8⟩, ⟨%f9, H9⟩, ⟨%f10, H10⟩, ⟨%f11, H11⟩⟩, Hr⟩, ⟨%W, %hW, HO⟩, ⟨%d0, %f0, %hf0, H0⟩, ⟨%d1, %f1, %hf1, H1⟩, ⟨%d2, %f2, %hf2, H2⟩,
    ⟨%d3, %f3, %hf3, H3⟩, ⟨%d4, %f4, %hf4, H4⟩⟩
  rw [before0_0_of m (dats m 0 c) rfl (fun _ => rfl)] at hf0
  rw [before0_1_of m (dats m 0 c) rfl (fun _ => rfl)] at hf1
  rw [before0_2_of m (dats m 0 c) rfl (fun _ => rfl)] at hf2
  rw [before0_3_of m (dats m 0 c) rfl (fun _ => rfl)] at hf3
  have key := body_keep 𝒱₀ c none (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (Memref.whole cc0_scratch0) (Memref.isWhole_whole _) (Memref.whole cc0_scratch1) (Memref.isWhole_whole _)
    (Memref.whole cc0_scratch2) (Memref.isWhole_whole _) (Memref.whole cc0_scratch3) (Memref.isWhole_whole _) Set.univ f0 f1 f2 f3
  iapply (wp_wand_r frame (wpE (defs₀ (F := F)) 𝒱₀ (c : Thread nD τ) none) Set.univ)
  isplitl [H0 H1 H2 H3 H4 H8 H9 H10 H11]
  · iapply key
    unfold Held
    iexists f4, f8, f9, f10, f11
    simp only [Memref.view_whole, View.set_whole]
    isplitl [H0]; · iexact H0
    isplitl [H1]; · iexact H1
    isplitl [H2]; · iexact H2
    isplitl [H3]; · iexact H3
    isplitl [H4]; · iexact H4
    isplitl [H8]; · iexact H8
    isplitl [H9]; · iexact H9
    isplitl [H10]; · iexact H10
    iexact H11
  unfold Held
  simp only [Memref.view_whole, View.set_whole]
  iintro %r ⟨%g7, %g8, %g9, %g10, %g11, H0, H1, H2, H3, H4, H8, H9, H10, H11⟩
  isplitl [H8 H9 H10 H11 Hr]
  · isplitl [H8 H9 H10 H11]
    · isplitl [H8]; · iexists g8; iexact H8
      isplitl [H9]; · iexists g9; iexact H9
      isplitl [H10]; · iexists g10; iexact H10
      iexists g11; iexact H11
    iexact Hr
  isplitl [HO]
  · iexists W; isplitr; · ipureintro; exact fun _ _ => Or.inl trivial
    iexact HO
  isplitl [H0]; · iexists f0; isplitr; · ipureintro; exact hf0
                  iexact H0
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  iexists _, g7
  isplitr
  · ipureintro; rfl
  iexact H4

/-- The run: it ends, the arguments unchanged and every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame_forget_shared cfgs (dats m) 0 launch₀0 defs₀ 𝒱₀ free m ρ main (fun c => (body_obligation m c).loose)
    (fun _ _ _ => rfl) (fun _ _ => rfl) (V m) (hmain m 𝒱₀) (fun _ _ => rfl) (fun _ _ => rfl)
    (Q' := fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0)
    (fun r (h : _ ∧ _) => ⟨fun c => by
      have e (w : Fin cfg0.W) (hw : (cfg0.win w).isOut = false) :=
        cast (congrFun (Pipeline.RDat.ArrAt_in ((dats m 0 c).toRForget free) w hw cfg0.N) _) ((h.1 c).1 w)
      exact ⟨e 2 rfl, e 1 rfl, e 3 rfl⟩, h.2⟩)

end Cert.Kernel.Hand
end
-- ==== Proof.Spec.lean ====
/-
  The attention kernel's arithmetic as a recursion over chunks of 512 keys: scores of a chunk, one online-softmax step,
  and the state after `n` chunks.  Nothing here mentions memory.
-/
module

public import proofs.«01_k».proof.Proof.Gen.KernelIdeal.Skeleton
public import Idealize.ShloMosaic.Lib.VecWindow

@[expose] public section

set_option maxRecDepth 16384

noncomputable section

namespace Cert.KernelIdeal.Hand

open Cert.KernelIdeal.Gen
open Idealize.ShloMosaic

variable {F : FTy → Type} [FloatOps F] [Named F]

/-- Chunk `n` of the keys (columns `512 n` to `512 n + 511`); past the last chunk, the last one. -/
def kb (kT : Vec F S128x8192 .bf16) (n : ℕ) : Vec F S128x512 .bf16 :=
  VecWindow.window kT ![0, 512 * min n 15] S128x512.size (fun a => by
    match a with
    | ⟨0, _⟩ => exact le_of_eq rfl
    | ⟨1, _⟩ => show 512 * min n 15 + 512 ≤ 8192; omega)

/-- Chunk `n` of the cumulative log gates. -/
def fb (fk : Vec F S1x1x8192 .f32) (n : ℕ) : Vec F S1x1x512 .f32 :=
  VecWindow.window fk ![0, 0, 512 * min n 15] S1x1x512.size (fun a => by
    match a with
    | ⟨0, _⟩ => exact le_of_eq rfl
    | ⟨1, _⟩ => exact le_of_eq rfl
    | ⟨2, _⟩ => show 512 * min n 15 + 512 ≤ 8192; omega)

/-- Chunk `n` of the values with their columns of ones. -/
def vb (va : Vec F S8192x256 .bf16) (n : ℕ) : Vec F S512x256 .bf16 :=
  VecWindow.window va ![512 * min n 15, 0] S512x256.size (fun a => by
    match a with
    | ⟨0, _⟩ => show 512 * min n 15 + 512 ≤ 8192; omega
    | ⟨1, _⟩ => exact le_of_eq rfl)

variable (v5 : FVec F S1x1 .f32) (q : Vec F S512x128 .bf16) (kT : Vec F S128x8192 .bf16) (fk : Vec F S1x1x8192 .f32)
  (va : Vec F S8192x256 .bf16)

/-- The base-2 scores of the query tile against chunk `n`. -/
def sc (n : ℕ) : FVec F S512x512 .f32 := k0_pay7 v5 q (kb kT n) (fb fk n)

/-- The row maxima after a chunk of scores `s`, from the row maxima `m` before it. -/
def mx (m : FVec F S512x1 .f32) (s : FVec F S512x512 .f32) : FVec F S512x1 .f32 := k0_pay12 m s

/-- The weighted sums after a chunk of scores `s` with values `v`, from maxima `m` and sums `a` before it. -/
def up (m : FVec F S512x1 .f32) (a : FVec F S512x256 .f32) (s : FVec F S512x512 .f32) (v : Vec F S512x256 .bf16) :
    FVec F S512x256 .f32 := k0_pay13 m a s s v

/-- Row maxima and weighted sums after the first `n` chunks. -/
def st : ℕ → FVec F S512x1 .f32 × FVec F S512x256 .f32
  | 0 => (k0_pay108, k0_pay6 k0_pay109 k0_pay106 (vb va 0))
  | n + 1 => (mx (st n).1 (sc v5 q kT fk n), up (st n).1 (st n).2 (sc v5 q kT fk n) (vb va n))

/-- The output tile of query tile `n`: the chunks before the diagonal, then the masked diagonal chunk, then the
    division by the column that summed the ones. -/
def outTile (n : ℕ) : FVec F S512x128 .bf16 :=
  k0_pay5 (up (st v5 q kT fk va n).1 (st v5 q kT fk va n).2 (k0_pay3 (sc v5 q kT fk n)) (vb va n))

/-- What holds between chunks: the maxima are those of the recursion, the sums become those of the recursion once the
    pending probabilities `p` are multiplied in, and `s` holds the scores of chunk `n`. -/
def Good (n : ℕ) (acc : FVec F S512x1 .f32 × FVec F S512x256 .f32) (s : Vec F S512x512 .f32) (p : Vec F S512x512 .bf16) : Prop :=
  acc.1 = (st v5 q kT fk va n).1 ∧ k0_pay6 acc.2 p (vb va (n - 1)) = (st v5 q kT fk va n).2 ∧ s = sc v5 q kT fk n

end Cert.KernelIdeal.Hand
end
-- ==== Proof.Offsets.lean ====
/-
  Where the attention kernel's chunk loads land: how many trips each loop makes and which chunk each load reads, as functions
  of the query tile's number.
-/
module

public import proofs.«01_k».proof.Proof.Spec

@[expose] public section

set_option maxRecDepth 65536

noncomputable section

namespace Cert.KernelIdeal.Hand

open Cert.KernelIdeal.Gen Idealize.ShloMosaic

/-- The number of the query tile at a grid point. -/
abbrev qi (i : grid0.Coords) : ℕ := (i 2).val

theorem qi_lt (i : grid0.Coords) : qi i < 16 := (i 2).isLt

theorem trips1 : ∀ i : grid0.Coords, (k0_t1_loop i).trips = qi i / 8 := by decide +kernel
theorem trips2 : ∀ i : grid0.Coords, (k0_t2_loop i).trips = 0 := fun i => Nat.le_zero.1 (k0_t2_abs i).2.1
theorem trips3 : ∀ i : grid0.Coords, (k0_t3_loop i).trips = qi i / 4 % 2 := by decide +kernel
theorem trips4 : ∀ i : grid0.Coords, (k0_t4_loop i).trips = 0 := by decide +kernel
theorem trips5 : ∀ i : grid0.Coords, (k0_t5_loop i).trips = qi i / 2 % 2 := by decide +kernel
theorem trips6 : ∀ i : grid0.Coords, (k0_t6_loop i).trips = 0 := by decide +kernel

/-- The first chunk of the three loops' (only) trips. -/
def b3 (i : grid0.Coords) : ℕ := 8 * (qi i / 8)
def b5 (i : grid0.Coords) : ℕ := 8 * (qi i / 8) + 4 * (qi i / 4 % 2)

theorem off2_eq : ∀ (i : grid0.Coords) (k : Fin (k0_t1_loop i).trips), k0_off2 i k = ![512 * (0 - 1), 0] := by decide +kernel
theorem off10_eq : ∀ (i : grid0.Coords) (k : Fin (k0_t3_loop i).trips), k0_off10 i k = ![512 * (b3 i - 1), 0] := by decide +kernel
theorem off18_eq : ∀ (i : grid0.Coords) (k : Fin (k0_t5_loop i).trips), k0_off18 i k = ![512 * (b5 i - 1), 0] := by decide +kernel
theorem off21_eq : ∀ (i : grid0.Coords) (k : Fin (k0_t5_loop i).trips), k0_off21 i k = ![512 * (b5 i), 0] := by decide +kernel
theorem off3_eq : ∀ (i : grid0.Coords) (k : Fin (k0_t1_loop i).trips) (r : Fin 8), k0_off3 i k (BitVec.ofNat 32 r.val) = ![0, 512 * (0 + (r.val + 1))] := by decide +kernel
theorem off4_eq : ∀ (i : grid0.Coords) (k : Fin (k0_t1_loop i).trips) (r : Fin 8), k0_off4 i k (BitVec.ofNat 32 r.val) = ![0, 0, 512 * (0 + (r.val + 1))] := by decide +kernel
theorem off5_eq : ∀ (i : grid0.Coords) (k : Fin (k0_t1_loop i).trips) (r : Fin 7), k0_off5 i k (BitVec.ofNat 32 r.val) = ![512 * (0 + r.val), 0] := by decide +kernel
theorem off11_eq : ∀ (i : grid0.Coords) (k : Fin (k0_t3_loop i).trips) (r : Fin 4), k0_off11 i k (BitVec.ofNat 32 r.val) = ![0, 512 * (b3 i + (r.val + 1))] := by decide +kernel
theorem off12_eq : ∀ (i : grid0.Coords) (k : Fin (k0_t3_loop i).trips) (r : Fin 4), k0_off12 i k (BitVec.ofNat 32 r.val) = ![0, 0, 512 * (b3 i + (r.val + 1))] := by decide +kernel
theorem off13_eq : ∀ (i : grid0.Coords) (k : Fin (k0_t3_loop i).trips) (r : Fin 3), k0_off13 i k (BitVec.ofNat 32 r.val) = ![512 * (b3 i + r.val), 0] := by decide +kernel
theorem off19_eq : ∀ (i : grid0.Coords) (k : Fin (k0_t5_loop i).trips) (r : Fin 2), k0_off19 i k (BitVec.ofNat 32 r.val) = ![0, 512 * (b5 i + (r.val + 1))] := by decide +kernel
theorem off20_eq : ∀ (i : grid0.Coords) (k : Fin (k0_t5_loop i).trips) (r : Fin 2), k0_off20 i k (BitVec.ofNat 32 r.val) = ![0, 0, 512 * (b5 i + (r.val + 1))] := by decide +kernel
theorem off1_eq : ∀ (i : grid0.Coords), k0_off1 i = ![0, 0, 512 * qi i] := by decide +kernel
/-- The odd tail runs at the odd query tiles. -/
theorem cond2_iff : ∀ (i : grid0.Coords), k0_cond2 i = 1#1 ↔ qi i % 2 = 1 := by decide +kernel
theorem off26_eq : ∀ (i : grid0.Coords), k0_off26 i = ![0, 512 * qi i] := by decide +kernel
theorem off27_eq : ∀ (i : grid0.Coords), k0_off27 i = ![0, 0, 512 * qi i] := by decide +kernel
theorem off28_eq : ∀ (i : grid0.Coords), k0_off28 i = ![512 * (2 * (qi i / 2) - 1), 0] := by decide +kernel
theorem off29_eq : ∀ (i : grid0.Coords), k0_cond2 i = 1#1 → k0_off29 i = ![512 * (qi i - 1), 0] := by decide +kernel
theorem off30_eq : ∀ (i : grid0.Coords), k0_off30 i = ![512 * (qi i), 0] := by decide +kernel
theorem off31_eq : ∀ (i : grid0.Coords), k0_off31 i = ![512 * (2 * (qi i / 2) - 1), 0] := by decide +kernel
theorem off32_eq : ∀ (i : grid0.Coords), k0_off32 i = ![512 * (qi i), 0] := by decide +kernel

end Cert.KernelIdeal.Hand
end
-- ==== Proof.Reads.lean ====
/-
  What the attention kernel's chunk loads read: chunk `n` of the keys, the gates or the values.
-/
module

public import proofs.«01_k».proof.Proof.Offsets

@[expose] public section

set_option maxRecDepth 16384

noncomputable section

namespace Cert.KernelIdeal.Hand

open Cert.KernelIdeal.Gen Idealize.ShloMosaic

/-! ## What the loads read -/

variable {F : FTy → Type} [FloatOps F] [Named F]

theorem kb_read {κ : Kind} {sp : Space} (v : View sig κ sp S128x8192 .bf16) (X : v.ty.Contents (Elt F)) (n : ℕ) (hn : n ≤ 15)
    {off : Fin 2 → ℕ} (h : off = ![0, 512 * n]) (inb : ∀ a, off a + S128x512.size a ≤ S128x8192.size a) :
    v.readAt (Elt F) (Rect.unit (s := S128x8192) off S128x512.size inb).toLoadRect X = kb (v.read (Elt F) X) n :=
  View.readAt_unit v X inb (h.trans (by rw [min_eq_left hn])) _

theorem fb_read {κ : Kind} {sp : Space} (v : View sig κ sp S1x1x8192 .f32) (X : v.ty.Contents (Elt F)) (n : ℕ) (hn : n ≤ 15)
    {off : Fin 3 → ℕ} (h : off = ![0, 0, 512 * n]) (inb : ∀ a, off a + S1x1x512.size a ≤ S1x1x8192.size a) :
    v.readAt (Elt F) (Rect.unit (s := S1x1x8192) off S1x1x512.size inb).toLoadRect X = fb (v.read (Elt F) X) n :=
  View.readAt_unit v X inb (h.trans (by rw [min_eq_left hn])) _

theorem vb_read {κ : Kind} {sp : Space} (v : View sig κ sp S8192x256 .bf16) (X : v.ty.Contents (Elt F)) (n : ℕ) (hn : n ≤ 15)
    {off : Fin 2 → ℕ} (h : off = ![512 * n, 0]) (inb : ∀ a, off a + S512x256.size a ≤ S8192x256.size a) :
    v.readAt (Elt F) (Rect.unit (s := S8192x256) off S512x256.size inb).toLoadRect X = vb (v.read (Elt F) X) n :=
  View.readAt_unit v X inb (h.trans (by rw [min_eq_left hn])) _

theorem ofNat_toNat_fin {m : ℕ} {w : BitVec 32} (h : w.toNat < m) : w = BitVec.ofNat 32 (⟨w.toNat, h⟩ : Fin m).val := by simp

theorem lt1 (i : grid0.Coords) (k : Fin (k0_t1_loop i).trips) : 8 ≤ qi i := by
  have := Nat.lt_of_lt_of_eq k.isLt (trips1 i); omega
theorem lt3 (i : grid0.Coords) (k : Fin (k0_t3_loop i).trips) : b3 i + 4 ≤ qi i := by
  have := Nat.lt_of_lt_of_eq k.isLt (trips3 i); unfold b3; omega
theorem lt5 (i : grid0.Coords) (k : Fin (k0_t5_loop i).trips) : b5 i + 2 ≤ qi i := by
  have := Nat.lt_of_lt_of_eq k.isLt (trips5 i); unfold b5; omega

variable {κ : Kind} {sp : Space} (v4 : View sig κ sp S128x8192 .bf16) (X4 : v4.ty.Contents (Elt F))
  (v6 : View sig κ sp S1x1x8192 .f32) (X6 : v6.ty.Contents (Elt F)) (v10 : View sig κ sp S8192x256 .bf16) (X10 : v10.ty.Contents (Elt F))
  (i : grid0.Coords)

theorem read_off3 (k : Fin (k0_t1_loop i).trips) (w : BitVec 32) (hw : w.toNat < 8)
    (inb : ∀ a, k0_off3 i k w a + S128x512.size a ≤ S128x8192.size a) :
    v4.readAt (Elt F) (Rect.unit (s := S128x8192) (k0_off3 i k w) S128x512.size inb).toLoadRect X4 = kb (v4.read (Elt F) X4) (0 + (w.toNat + 1)) :=
  kb_read v4 X4 _ (by have := lt1 i k; have := qi_lt i; omega) ((congrArg (k0_off3 i k) (ofNat_toNat_fin hw)).trans (off3_eq i k ⟨_, hw⟩)) inb

theorem read_off4 (k : Fin (k0_t1_loop i).trips) (w : BitVec 32) (hw : w.toNat < 8)
    (inb : ∀ a, k0_off4 i k w a + S1x1x512.size a ≤ S1x1x8192.size a) :
    v6.readAt (Elt F) (Rect.unit (s := S1x1x8192) (k0_off4 i k w) S1x1x512.size inb).toLoadRect X6 = fb (v6.read (Elt F) X6) (0 + (w.toNat + 1)) :=
  fb_read v6 X6 _ (by have := lt1 i k; have := qi_lt i; omega) ((congrArg (k0_off4 i k) (ofNat_toNat_fin hw)).trans (off4_eq i k ⟨_, hw⟩)) inb

theorem read_off5 (k : Fin (k0_t1_loop i).trips) (w : BitVec 32) (hw : w.toNat < 7)
    (inb : ∀ a, k0_off5 i k w a + S512x256.size a ≤ S8192x256.size a) :
    v10.readAt (Elt F) (Rect.unit (s := S8192x256) (k0_off5 i k w) S512x256.size inb).toLoadRect X10 = vb (v10.read (Elt F) X10) (0 + w.toNat) :=
  vb_read v10 X10 _ (by have := lt1 i k; have := qi_lt i; omega) ((congrArg (k0_off5 i k) (ofNat_toNat_fin hw)).trans (off5_eq i k ⟨_, hw⟩)) inb

theorem read_off11 (k : Fin (k0_t3_loop i).trips) (w : BitVec 32) (hw : w.toNat < 4)
    (inb : ∀ a, k0_off11 i k w a + S128x512.size a ≤ S128x8192.size a) :
    v4.readAt (Elt F) (Rect.unit (s := S128x8192) (k0_off11 i k w) S128x512.size inb).toLoadRect X4 = kb (v4.read (Elt F) X4) (b3 i + (w.toNat + 1)) :=
  kb_read v4 X4 _ (by have := lt3 i k; have := qi_lt i; omega) ((congrArg (k0_off11 i k) (ofNat_toNat_fin hw)).trans (off11_eq i k ⟨_, hw⟩)) inb

theorem read_off12 (k : Fin (k0_t3_loop i).trips) (w : BitVec 32) (hw : w.toNat < 4)
    (inb : ∀ a, k0_off12 i k w a + S1x1x512.size a ≤ S1x1x8192.size a) :
    v6.readAt (Elt F) (Rect.unit (s := S1x1x8192) (k0_off12 i k w) S1x1x512.size inb).toLoadRect X6 = fb (v6.read (Elt F) X6) (b3 i + (w.toNat + 1)) :=
  fb_read v6 X6 _ (by have := lt3 i k; have := qi_lt i; omega) ((congrArg (k0_off12 i k) (ofNat_toNat_fin hw)).trans (off12_eq i k ⟨_, hw⟩)) inb

theorem read_off13 (k : Fin (k0_t3_loop i).trips) (w : BitVec 32) (hw : w.toNat < 3)
    (inb : ∀ a, k0_off13 i k w a + S512x256.size a ≤ S8192x256.size a) :
    v10.readAt (Elt F) (Rect.unit (s := S8192x256) (k0_off13 i k w) S512x256.size inb).toLoadRect X10 = vb (v10.read (Elt F) X10) (b3 i + w.toNat) :=
  vb_read v10 X10 _ (by have := lt3 i k; have := qi_lt i; omega) ((congrArg (k0_off13 i k) (ofNat_toNat_fin hw)).trans (off13_eq i k ⟨_, hw⟩)) inb

theorem read_off19 (k : Fin (k0_t5_loop i).trips) (w : BitVec 32) (hw : w.toNat < 2)
    (inb : ∀ a, k0_off19 i k w a + S128x512.size a ≤ S128x8192.size a) :
    v4.readAt (Elt F) (Rect.unit (s := S128x8192) (k0_off19 i k w) S128x512.size inb).toLoadRect X4 = kb (v4.read (Elt F) X4) (b5 i + (w.toNat + 1)) :=
  kb_read v4 X4 _ (by have := lt5 i k; have := qi_lt i; omega) ((congrArg (k0_off19 i k) (ofNat_toNat_fin hw)).trans (off19_eq i k ⟨_, hw⟩)) inb

theorem read_off20 (k : Fin (k0_t5_loop i).trips) (w : BitVec 32) (hw : w.toNat < 2)
    (inb : ∀ a, k0_off20 i k w a + S1x1x512.size a ≤ S1x1x8192.size a) :
    v6.readAt (Elt F) (Rect.unit (s := S1x1x8192) (k0_off20 i k w) S1x1x512.size inb).toLoadRect X6 = fb (v6.read (Elt F) X6) (b5 i + (w.toNat + 1)) :=
  fb_read v6 X6 _ (by have := lt5 i k; have := qi_lt i; omega) ((congrArg (k0_off20 i k) (ofNat_toNat_fin hw)).trans (off20_eq i k ⟨_, hw⟩)) inb

theorem read_off2 (k : Fin (k0_t1_loop i).trips) (inb : ∀ a, k0_off2 i k a + S512x256.size a ≤ S8192x256.size a) :
    v10.readAt (Elt F) (Rect.unit (s := S8192x256) (k0_off2 i k) S512x256.size inb).toLoadRect X10 = vb (v10.read (Elt F) X10) (0 - 1) :=
  vb_read v10 X10 _ (by have := lt1 i k; have := qi_lt i; omega) (off2_eq i k) inb

theorem read_off10 (k : Fin (k0_t3_loop i).trips) (inb : ∀ a, k0_off10 i k a + S512x256.size a ≤ S8192x256.size a) :
    v10.readAt (Elt F) (Rect.unit (s := S8192x256) (k0_off10 i k) S512x256.size inb).toLoadRect X10 = vb (v10.read (Elt F) X10) (b3 i - 1) :=
  vb_read v10 X10 _ (by have := lt3 i k; have := qi_lt i; omega) (off10_eq i k) inb

theorem read_off18 (k : Fin (k0_t5_loop i).trips) (inb : ∀ a, k0_off18 i k a + S512x256.size a ≤ S8192x256.size a) :
    v10.readAt (Elt F) (Rect.unit (s := S8192x256) (k0_off18 i k) S512x256.size inb).toLoadRect X10 = vb (v10.read (Elt F) X10) (b5 i - 1) :=
  vb_read v10 X10 _ (by have := lt5 i k; have := qi_lt i; omega) (off18_eq i k) inb

theorem read_off21 (k : Fin (k0_t5_loop i).trips) (inb : ∀ a, k0_off21 i k a + S512x256.size a ≤ S8192x256.size a) :
    v10.readAt (Elt F) (Rect.unit (s := S8192x256) (k0_off21 i k) S512x256.size inb).toLoadRect X10 = vb (v10.read (Elt F) X10) (b5 i) :=
  vb_read v10 X10 _ (by have := lt5 i k; have := qi_lt i; omega) (off21_eq i k) inb

end Cert.KernelIdeal.Hand
end
-- ==== Proof.Pays.lean ====
/-
  The kernel's body repeats a handful of pure steps under many names.  These equations bring every name to the step of
  the recursion it computes: scores `k0_pay7`, row maxima `mx`, weighted sums `up`.
-/
module

public import proofs.«01_k».proof.Proof.Spec
public import Idealize.ShloMosaic.Lib.Pipeline.Value

@[expose] public section

set_option maxRecDepth 16384

noncomputable section

namespace Cert.KernelIdeal.Hand

open Cert.KernelIdeal.Gen
open Idealize.ShloMosaic Idealize.ShloMosaic.Pipeline

variable {F : FTy → Type} [FloatOps F] [Named F]

/-- Every name of "add the pending product" is the same step. -/
theorem flush_names : k0_pay34 (F := F) = k0_pay6 ∧ k0_pay62 (F := F) = k0_pay6 ∧ k0_pay86 (F := F) = k0_pay6
    ∧ k0_pay99 (F := F) = k0_pay6 := ⟨rfl, rfl, rfl, rfl⟩

/-- Every name of "scores of a chunk" is the same step. -/
theorem score_names : k0_pay11 (F := F) = k0_pay7 ∧ k0_pay14 (F := F) = k0_pay7 ∧ k0_pay17 (F := F) = k0_pay7
    ∧ k0_pay63 (F := F) = k0_pay7 ∧ k0_pay66 (F := F) = k0_pay7 ∧ k0_pay70 (F := F) = k0_pay7 ∧ k0_pay73 (F := F) = k0_pay7
    ∧ k0_pay87 (F := F) = k0_pay7 ∧ k0_pay90 (F := F) = k0_pay7 ∧ k0_pay98 (F := F) = k0_pay7 :=
  ⟨rfl, rfl, rfl, rfl, rfl, rfl, rfl, rfl, rfl, rfl⟩

/-- Every name of "row maxima after a chunk" is the same step. -/
theorem max_names : k0_pay12 (F := F) = mx ∧ k0_pay15 (F := F) = mx ∧ k0_pay18 (F := F) = mx ∧ k0_pay22 (F := F) = mx
    ∧ k0_pay26 (F := F) = mx ∧ k0_pay30 (F := F) = mx ∧ k0_pay64 (F := F) = mx ∧ k0_pay71 (F := F) = mx
    ∧ k0_pay88 (F := F) = mx ∧ k0_pay100 (F := F) = mx ∧ k0_pay111 (F := F) = mx ∧ k0_pay118 (F := F) = mx :=
  ⟨rfl, rfl, rfl, rfl, rfl, rfl, rfl, rfl, rfl, rfl, rfl, rfl⟩

/-- Every name of "weighted sums after a chunk" is the same step. -/
theorem sum_names : k0_pay16 (F := F) = k0_pay13 ∧ k0_pay19 (F := F) = k0_pay13 ∧ k0_pay23 (F := F) = k0_pay13
    ∧ k0_pay27 (F := F) = k0_pay13 ∧ k0_pay31 (F := F) = k0_pay13 ∧ k0_pay72 (F := F) = k0_pay13 :=
  ⟨rfl, rfl, rfl, rfl, rfl, rfl⟩

/-- The values with their columns of ones: what the kernel keeps for all the query tiles of a head. -/
def aug (v : Vec F S8192x128 .bf16) : Vec F S8192x256 .bf16 :=
  VecWindow.put (VecWindow.put (fun _ => FloatOps.ofBits .bf16 0#16) ![0, 0] S8192x128.size (k0_pay104 v)) ![0, 128] S8192x128.size k0_pay105

/-- The two stores cover the whole buffer, so what it held before does not matter. -/
theorem aug_eq (x : Vec F S8192x256 .bf16) (v : Vec F S8192x128 .bf16) :
    VecWindow.put (VecWindow.put x ![0, 0] S8192x128.size (k0_pay104 v)) ![0, 128] S8192x128.size k0_pay105 = aug v := by
  funext y
  unfold aug VecWindow.put
  split_ifs with h h'
  · rfl
  · rfl
  · exfalso
    have h0 : (y 0).val < 8192 := (y 0).isLt
    have h1 : (y 1).val < 256 := (y 1).isLt
    by_cases hy : (y 1).val < 128
    · apply h'
      intro b
      match b with
      | ⟨0, _⟩ => exact ⟨Nat.zero_le _, by show (y 0).val < 0 + 8192; omega⟩
      | ⟨1, _⟩ => exact ⟨Nat.zero_le _, by show (y 1).val < 0 + 128; omega⟩
    · apply h
      intro b
      match b with
      | ⟨0, _⟩ => exact ⟨Nat.zero_le _, by show (y 0).val < 0 + 8192; omega⟩
      | ⟨1, _⟩ => exact ⟨by show 128 ≤ (y 1).val; omega, by show (y 1).val < 128 + 128; omega⟩

variable (v5 : FVec F S1x1 .f32) (q : Vec F S512x128 .bf16) (kc : Vec F S128x512 .bf16) (fc : Vec F S1x1x512 .f32)
  (m : FVec F S512x1 .f32) (a : FVec F S512x256 .f32) (s : Vec F S512x512 .f32) (v : Vec F S512x256 .bf16)

/-- The weighted sums after a chunk, by the recursion's name. -/
theorem up_fold : k0_pay13 m a s s v = up m a s v := rfl

/-- Row maxima written with the chunk's own maxima computed first. -/
theorem split_max : k0_pay9 m (k0_pay8 s) = mx m s ∧ k0_pay68 m (k0_pay67 s) = mx m s ∧ k0_pay124 m (k0_pay91 s) = mx m s :=
  ⟨rfl, rfl, rfl⟩

/-- Weighted sums written with the chunk's own maxima computed first. -/
theorem split_names : k0_pay10 m a (k0_pay8 s) s v = up m a s v ∧ k0_pay69 m a (k0_pay67 s) s v = up m a s v
    ∧ k0_pay65 m a (mx m s) s v = up m a s v ∧ k0_pay89 m a (mx m s) s v = up m a s v :=
  ⟨rfl, rfl, rfl, rfl⟩

/-- Scores written in two pieces, the product or the sum first and the rest at the store. -/
theorem score_split : k0_pay21 (k0_pay20 v5 q kc fc) = k0_pay7 v5 q kc fc ∧ k0_pay25 (k0_pay24 v5 q kc fc) = k0_pay7 v5 q kc fc
    ∧ k0_pay29 (k0_pay28 v5 q kc fc) = k0_pay7 v5 q kc fc ∧ k0_pay110 (k0_pay32 q kc) (k0_pay33 v5 fc) = k0_pay7 v5 q kc fc :=
  ⟨rfl, rfl, rfl, rfl⟩

/-- The chunk whose product is left pending: scaling first and adding the product later is one step of the recursion. -/
theorem pend : k0_pay6 (k0_pay113 m a s) (k0_pay112 m s s) v = up m a s v
    ∧ k0_pay6 (k0_pay120 m a s) (k0_pay119 m s s) v = up m a s v
    ∧ k0_pay6 (k0_pay126 m a (k0_pay91 s)) (k0_pay125 m (k0_pay91 s) s) v = up m a s v := by
  unfold k0_pay112 k0_pay119 k0_pay125
  refine ⟨?_, ?_, ?_⟩ <;> simp only [shapeCast_self] <;> rfl

/-- The even tail: flush the pending product, then one step over the diagonal chunk. -/
theorem even_tail (p : Vec F S512x512 .bf16) (v' : Vec F S512x256 .bf16) : k0_pay4 m a p v s s v' = up m (k0_pay6 a p v) s v' := rfl

/-- The odd tail: one plain step, then one step over the diagonal chunk. -/
theorem odd_tail (s' : Vec F S512x512 .f32) (v' : Vec F S512x256 .bf16) :
    k0_pay2 a (mx m s) (k0_pay101 m s s) (k0_pay102 m s) v s' s' v' = up (mx m s) (up m a s v) s' v' := rfl

/-- Both names of the causal mask. -/
theorem mask_names : k0_pay1 (F := F) = k0_pay3 := rfl

/-- The scores of the first chunk, from the gates' own chunk. -/
theorem score_first (f : Vec F S1x1x512 .f32) : k0_pay107 f q kc fc = k0_pay7 (k0_pay103 f) q kc fc := rfl

variable (kT : Vec F S128x8192 .bf16) (fk : Vec F S1x1x8192 .f32) (va : Vec F S8192x256 .bf16) (n : ℕ)

/-- The scores of chunk `n`, by the recursion's name. -/
theorem sc_fold : k0_pay7 v5 q (kb kT n) (fb fk n) = sc v5 q kT fk n := rfl

/-- One step of the recursion: the maxima. -/
theorem st_succ1 : (st v5 q kT fk va (n + 1)).1 = mx (st v5 q kT fk va n).1 (sc v5 q kT fk n) := rfl
/-- One step of the recursion: the sums. -/
theorem st_succ2 : (st v5 q kT fk va (n + 1)).2
    = up (st v5 q kT fk va n).1 (st v5 q kT fk va n).2 (sc v5 q kT fk n) (vb va n) := rfl

end Cert.KernelIdeal.Hand
end
-- ==== Proof.Trips.lean ====
module

public import proofs.«01_k».proof.Proof.Gen.KernelIdeal.Skeleton
public import proofs.«01_k».proof.Proof.Gen.KernelIdeal.Frame
public import proofs.«01_k».proof.Proof.Reads
public import proofs.«01_k».proof.Proof.Pays
public import Idealize.ShloMosaic.Lib.Exec
public import Idealize.ShloMosaic.Lib.Tactic
public import Idealize.ShloMosaic.Lib.Pipeline.Kit

@[expose] public section
set_option maxRecDepth 16384
set_option maxHeartbeats 4000000
noncomputable section
namespace Cert.KernelIdeal.Hand
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [Named F]
local notation "𝕄" => MT nD τ sig Unit (Elt F) ℕ (UR sig nD τ) ℕ

section
variable (𝒱 : Variants) (c : Dev nD) (bd : Option 𝒱.V) (i : grid0.Coords)
  (arg3 : Memref sig .tc .vmem S512x128 .bf16) (harg3 : arg3.IsWhole) (arg4 : Memref sig .tc .vmem S128x8192 .bf16) (harg4 : arg4.IsWhole)
  (arg5 : Memref sig .tc .vmem S8192x128 .bf16) (harg5 : arg5.IsWhole) (arg6 : Memref sig .tc .vmem S1x1x8192 .f32) (harg6 : arg6.IsWhole)
  (arg7 : Memref sig .tc .vmem S512x128 .bf16) (harg7 : arg7.IsWhole) (arg8 : Memref sig .tc .vmem S512x512 .f32) (harg8 : arg8.IsWhole)
  (arg9 : Memref sig .tc .vmem S512x512 .f32) (harg9 : arg9.IsWhole) (arg10 : Memref sig .tc .vmem S8192x256 .bf16) (harg10 : arg10.IsWhole)
  (arg11 : Memref sig .tc .vmem S512x512 .bf16) (harg11 : arg11.IsWhole)
  (v5 : FVec F S1x1 .f32) (v9 : BitVec 32)
  (X3 : BufTy.Contents (Elt F) arg3.view.ty) (X4 : BufTy.Contents (Elt F) arg4.view.ty) (X6 : BufTy.Contents (Elt F) arg6.view.ty)
  (X10 : BufTy.Contents (Elt F) arg10.view.ty)

abbrev Res (f8 : BufTy.Contents (Elt F) arg8.view.ty) (f9 : BufTy.Contents (Elt F) arg9.view.ty) (f11 : BufTy.Contents (Elt F) arg11.view.ty) : sProp 𝕄 :=
  iprop((arg3.view.loc (c : Thread nD τ) ↦[arg3.view.set]{fullShare} X3) ∗ (arg4.view.loc (c : Thread nD τ) ↦[arg4.view.set]{fullShare} X4)
    ∗ (arg6.view.loc (c : Thread nD τ) ↦[arg6.view.set]{fullShare} X6) ∗ (arg10.view.loc (c : Thread nD τ) ↦[arg10.view.set]{fullShare} X10)
    ∗ (arg8.view.loc (c : Thread nD τ) ↦[arg8.view.set]{fullShare} f8) ∗ (arg9.view.loc (c : Thread nD τ) ↦[arg9.view.set]{fullShare} f9)
    ∗ (arg11.view.loc (c : Thread nD τ) ↦[arg11.view.set]{fullShare} f11))

/-- Between chunks: the read buffers at their contents, the written ones at contents that are `Good` at `n`. -/
abbrev InvAt (n : ℕ) (acc : FVec F S512x1 .f32 × FVec F S512x256 .f32) : sProp 𝕄 :=
  iprop(∃ f8 f9 f11, Res c arg3 arg4 arg6 arg8 arg9 arg10 arg11 X3 X4 X6 X10 f8 f9 f11
    ∗ ⌜Good v5 (arg3.view.read (Elt F) X3) (arg4.view.read (Elt F) X4) (arg6.view.read (Elt F) X6) (arg10.view.read (Elt F) X10) n acc
        (arg8.view.read (Elt F) f8) (arg11.view.read (Elt F) f11)⌝)

/-- One trip of the eight-chunk loop carries the invariant over eight chunks. -/
theorem trip1 (v31 : FVec F S512x1 .f32) (v32 : FVec F S512x256 .f32) (k : Fin (k0_t1_loop i).trips)
    (E : Set ℕ) (acc : FVec F S512x1 .f32 × FVec F S512x256 .f32) :
    InvAt c arg3 arg4 arg6 arg8 arg9 arg10 arg11 v5 X3 X4 X6 X10 0 acc
    ⊢ wp frame (wpE (defs₀ (F := F)) 𝒱 (c : Thread nD τ) bd) E
      (k0_t1_body (F := F) i arg3 harg3 arg4 harg4 arg5 harg5 arg6 harg6 arg7 harg7 arg8 harg8 arg9 harg9 arg10 harg10 arg11 harg11 v5 v9 v31 v32 k acc)
      (fun y => InvAt c arg3 arg4 arg6 arg8 arg9 arg10 arg11 v5 X3 X4 X6 X10 (0 + 8) y) := by
  unfold k0_t1_body
  iintro ⟨%f8, %f9, %f11, ⟨H3, H4, H6, H10, H8, H9, H11⟩, %hg⟩
  sl_exec
  sl_step
  iexists _, _, _
  isplitl [H3 H4 H6 H10 H8 H9 H11]
  · isplitl [H3]; · iexact H3
    isplitl [H4]; · iexact H4
    isplitl [H6]; · iexact H6
    isplitl [H10]; · iexact H10
    isplitl [H8]; · iexact H8
    isplitl [H9]; · iexact H9
    iexact H11
  ipureintro
  obtain ⟨h1, h2, h3⟩ := hg
  refine ⟨?_, ?_, ?_⟩ <;> sl_unfold_run_names <;>
    simp (config := {proj := false}) (discharger := decide) only [View.readAt_full, View.readCov_full, View.read_writes_full, read_off2, read_off3, read_off4, read_off5, h1, h3,
      flush_names, score_names, max_names, sum_names, split_max, split_names, score_split, pend, up_fold, sc_fold, h2, st_succ1, st_succ2,
      BitVec.toNat_ofNat, Nat.reduceMod, Nat.reduceAdd, Nat.reduceSub, Nat.reducePow, Nat.zero_add, Nat.add_zero, Nat.add_sub_cancel, Nat.add_succ_sub_one]
  all_goals simp only [split_max, split_names, pend]

/-- One trip of the four-chunk loop carries the invariant over four chunks. -/
theorem trip3 (v57_0 : FVec F S512x1 .f32) (v57_1 : FVec F S512x256 .f32) (v59 v61 : BitVec 32) (v72 : BitVec 1) (v73 : BitVec 32) (k : Fin (k0_t3_loop i).trips)
    (E : Set ℕ) (acc : FVec F S512x1 .f32 × FVec F S512x256 .f32) :
    InvAt c arg3 arg4 arg6 arg8 arg9 arg10 arg11 v5 X3 X4 X6 X10 (b3 i) acc
    ⊢ wp frame (wpE (defs₀ (F := F)) 𝒱 (c : Thread nD τ) bd) E
      (k0_t3_body (F := F) i arg3 harg3 arg4 harg4 arg5 harg5 arg6 harg6 arg7 harg7 arg8 harg8 arg9 harg9 arg10 harg10 arg11 harg11 v5 v9 v57_0 v57_1 v59 v61 v72 v73 k acc)
      (fun y => InvAt c arg3 arg4 arg6 arg8 arg9 arg10 arg11 v5 X3 X4 X6 X10 ((b3 i) + 4) y) := by
  unfold k0_t3_body
  iintro ⟨%f8, %f9, %f11, ⟨H3, H4, H6, H10, H8, H9, H11⟩, %hg⟩
  sl_exec
  sl_step
  iexists _, _, _
  isplitl [H3 H4 H6 H10 H8 H9 H11]
  · isplitl [H3]; · iexact H3
    isplitl [H4]; · iexact H4
    isplitl [H6]; · iexact H6
    isplitl [H10]; · iexact H10
    isplitl [H8]; · iexact H8
    isplitl [H9]; · iexact H9
    iexact H11
  ipureintro
  obtain ⟨h1, h2, h3⟩ := hg
  refine ⟨?_, ?_, ?_⟩ <;> sl_unfold_run_names <;>
    simp (config := {proj := false}) (discharger := decide) only [View.readAt_full, View.readCov_full, View.read_writes_full, read_off10, read_off11, read_off12, read_off13, h1, h3,
      flush_names, score_names, max_names, sum_names, split_max, split_names, score_split, pend, up_fold, sc_fold, h2, st_succ1, st_succ2,
      BitVec.toNat_ofNat, Nat.reduceMod, Nat.reduceAdd, Nat.reduceSub, Nat.reducePow, Nat.zero_add, Nat.add_zero, Nat.add_sub_cancel, Nat.add_succ_sub_one]
  all_goals simp only [split_max, split_names, pend]

/-- One trip of the two-chunk loop carries the invariant over two chunks. -/
theorem trip5 (v57_0 : FVec F S512x1 .f32) (v57_1 : FVec F S512x256 .f32) (v59 v61 : BitVec 32) (v72 : BitVec 1) (v73 v86 : BitVec 32) (k : Fin (k0_t5_loop i).trips)
    (E : Set ℕ) (acc : FVec F S512x1 .f32 × FVec F S512x256 .f32) :
    InvAt c arg3 arg4 arg6 arg8 arg9 arg10 arg11 v5 X3 X4 X6 X10 (b5 i) acc
    ⊢ wp frame (wpE (defs₀ (F := F)) 𝒱 (c : Thread nD τ) bd) E
      (k0_t5_body (F := F) i arg3 harg3 arg4 harg4 arg5 harg5 arg6 harg6 arg7 harg7 arg8 harg8 arg9 harg9 arg10 harg10 arg11 harg11 v5 v9 v57_0 v57_1 v59 v61 v72 v73 v86 k acc)
      (fun y => InvAt c arg3 arg4 arg6 arg8 arg9 arg10 arg11 v5 X3 X4 X6 X10 ((b5 i) + 2) y) := by
  unfold k0_t5_body
  iintro ⟨%f8, %f9, %f11, ⟨H3, H4, H6, H10, H8, H9, H11⟩, %hg⟩
  sl_exec
  sl_step
  iexists _, _, _
  isplitl [H3 H4 H6 H10 H8 H9 H11]
  · isplitl [H3]; · iexact H3
    isplitl [H4]; · iexact H4
    isplitl [H6]; · iexact H6
    isplitl [H10]; · iexact H10
    isplitl [H8]; · iexact H8
    isplitl [H9]; · iexact H9
    iexact H11
  ipureintro
  obtain ⟨h1, h2, h3⟩ := hg
  refine ⟨?_, ?_, ?_⟩ <;> sl_unfold_run_names <;>
    simp (config := {proj := false}) (discharger := decide) only [View.readAt_full, View.readCov_full, View.read_writes_full, read_off18, read_off19, read_off20, read_off21, h1, h3,
      flush_names, score_names, max_names, sum_names, split_max, split_names, score_split, pend, up_fold, sc_fold, h2, st_succ1, st_succ2,
      BitVec.toNat_ofNat, Nat.reduceMod, Nat.reduceAdd, Nat.reduceSub, Nat.reducePow, Nat.zero_add, Nat.add_zero, Nat.add_sub_cancel, Nat.add_succ_sub_one]
  all_goals simp only [split_max, split_names, pend]

end
end Cert.KernelIdeal.Hand
-- ==== Proof.Parts.lean ====
/-
  The kernel's body, part by part: the set-up, the three counted loops with their empty remainders, and the two tails.
-/
module

public import proofs.«01_k».proof.Proof.Trips
public import Idealize.ShloMosaic.Lib.LoopRemainder

@[expose] public section

set_option maxRecDepth 16384
noncomputable section

namespace Cert.KernelIdeal.Hand
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [Named F]
local notation "𝕄" => MT nD τ sig Unit (Elt F) ℕ (UR sig nD τ) ℕ

/-- The set-up of the values runs at the first query tile. -/
theorem cond1_iff : ∀ i : grid0.Coords,
    Iff (Scalar.cmpi .ne (Scalar.extui (Scalar.cmpi .eq (BitVec.ofNat 32 (i 2).val) 0#32) : BitVec 32) 0#32 = 1#1) (qi i = 0) := by decide +kernel

section
variable (𝒱 : Variants) (c : Dev nD) (bd : Option 𝒱.V) (i : grid0.Coords)
  (arg3 : Memref sig .tc .vmem S512x128 .bf16) (harg3 : arg3.IsWhole) (arg4 : Memref sig .tc .vmem S128x8192 .bf16) (harg4 : arg4.IsWhole)
  (arg5 : Memref sig .tc .vmem S8192x128 .bf16) (harg5 : arg5.IsWhole) (arg6 : Memref sig .tc .vmem S1x1x8192 .f32) (harg6 : arg6.IsWhole)
  (arg7 : Memref sig .tc .vmem S512x128 .bf16) (harg7 : arg7.IsWhole) (arg8 : Memref sig .tc .vmem S512x512 .f32) (harg8 : arg8.IsWhole)
  (arg9 : Memref sig .tc .vmem S512x512 .f32) (harg9 : arg9.IsWhole) (arg10 : Memref sig .tc .vmem S8192x256 .bf16) (harg10 : arg10.IsWhole)
  (arg11 : Memref sig .tc .vmem S512x512 .bf16) (harg11 : arg11.IsWhole)
  (v5 : FVec F S1x1 .f32) (v9 : BitVec 32)
  (X3 : BufTy.Contents (Elt F) arg3.view.ty) (X4 : BufTy.Contents (Elt F) arg4.view.ty) (X6 : BufTy.Contents (Elt F) arg6.view.ty)
  (X10 : BufTy.Contents (Elt F) arg10.view.ty) (E : Set ℕ)

/-- A counted loop without a trip returns its initial values. -/
theorem loop_none {w : ℕ} {σ : Type} (l : Scf.Loop w) (hok : l.OK) (init : σ)
    (body : Fin l.trips → σ → Prog (TpuEff nD τ sig (Elt F) Λ₀ .tc) σ) (h : l.trips = 0) (Q : σ → sProp 𝕄) :
    Q init ⊢ wp frame (wpE (defs₀ (F := F)) 𝒱 (c : Thread nD τ) bd) E (Scf.Loop.for l hok init body) Q := by
  show _ ⊢ wp _ _ _ (Scf.for _ _ _ _ _ _) Q
  rw [Scf.for_eq_ret (htr := h), wp_ret]
  iintro H
  imodintro
  iexact H

theorem loop1 (v31 : FVec F S512x1 .f32) (v32 : FVec F S512x256 .f32) (acc : FVec F S512x1 .f32 × FVec F S512x256 .f32) :
    InvAt c arg3 arg4 arg6 arg8 arg9 arg10 arg11 v5 X3 X4 X6 X10 0 acc
    ⊢ wp frame (wpE (defs₀ (F := F)) 𝒱 (c : Thread nD τ) bd) E
      (Scf.Loop.for (k0_t1_loop i) (k0_t1_ok i) acc (k0_t1_body (F := F) i arg3 harg3 arg4 harg4 arg5 harg5 arg6 harg6 arg7 harg7 arg8 harg8 arg9 harg9 arg10 harg10 arg11 harg11 v5 v9 v31 v32))
      (fun r => InvAt c arg3 arg4 arg6 arg8 arg9 arg10 arg11 v5 X3 X4 X6 X10 (b3 i) r) := by
  have ht := trips1 i
  refine BIBase.Entails.trans ?_ (Scf.wp_for frame (wpE (defs₀ (F := F)) 𝒱 (c : Thread nD τ) bd) E (k0_t1_loop i).lb (k0_t1_loop i).ub (k0_t1_loop i).st (k0_t1_ok i) acc _
    (fun k a => InvAt c arg3 arg4 arg6 arg8 arg9 arg10 arg11 v5 X3 X4 X6 X10 (8 * k) a) ?_)
  · iintro H
    isplitl [H]
    · iexact H
    · iintro %a H
      have e : 8 * Scf.trips (k0_t1_loop i).lb (k0_t1_loop i).ub (k0_t1_loop i).st = b3 i := congrArg (8 * ·) ht
      rw [e]
      iexact H
  · intro k a
    have hk : k.val = 0 := by have := Nat.lt_of_lt_of_eq k.isLt ht; have := qi_lt i; omega
    have := trip1 𝒱 c bd i arg3 harg3 arg4 harg4 arg5 harg5 arg6 harg6 arg7 harg7 arg8 harg8 arg9 harg9 arg10 harg10 arg11 harg11 v5 v9 X3 X4 X6 X10 v31 v32 k E a
    simp only [hk]
    exact this

theorem loop3 (v57_0 : FVec F S512x1 .f32) (v57_1 : FVec F S512x256 .f32) (v59 v61 : BitVec 32) (v72 : BitVec 1) (v73 : BitVec 32) (acc : FVec F S512x1 .f32 × FVec F S512x256 .f32) :
    InvAt c arg3 arg4 arg6 arg8 arg9 arg10 arg11 v5 X3 X4 X6 X10 (b3 i) acc
    ⊢ wp frame (wpE (defs₀ (F := F)) 𝒱 (c : Thread nD τ) bd) E
      (Scf.Loop.for (k0_t3_loop i) (k0_t3_ok i) acc (k0_t3_body (F := F) i arg3 harg3 arg4 harg4 arg5 harg5 arg6 harg6 arg7 harg7 arg8 harg8 arg9 harg9 arg10 harg10 arg11 harg11 v5 v9 v57_0 v57_1 v59 v61 v72 v73))
      (fun r => InvAt c arg3 arg4 arg6 arg8 arg9 arg10 arg11 v5 X3 X4 X6 X10 (b5 i) r) := by
  have ht := trips3 i
  refine BIBase.Entails.trans ?_ (Scf.wp_for frame (wpE (defs₀ (F := F)) 𝒱 (c : Thread nD τ) bd) E (k0_t3_loop i).lb (k0_t3_loop i).ub (k0_t3_loop i).st (k0_t3_ok i) acc _
    (fun k a => InvAt c arg3 arg4 arg6 arg8 arg9 arg10 arg11 v5 X3 X4 X6 X10 (b3 i + 4 * k) a) ?_)
  · iintro H
    isplitl [H]
    · iexact H
    · iintro %a H
      have e : b3 i + 4 * Scf.trips (k0_t3_loop i).lb (k0_t3_loop i).ub (k0_t3_loop i).st = b5 i := congrArg (b3 i + 4 * ·) ht
      rw [e]
      iexact H
  · intro k a
    have hk : k.val = 0 := by have := Nat.lt_of_lt_of_eq k.isLt ht; have := qi_lt i; omega
    have := trip3 𝒱 c bd i arg3 harg3 arg4 harg4 arg5 harg5 arg6 harg6 arg7 harg7 arg8 harg8 arg9 harg9 arg10 harg10 arg11 harg11 v5 v9 X3 X4 X6 X10 v57_0 v57_1 v59 v61 v72 v73 k E a
    simp only [hk]
    exact this

theorem loop5 (v57_0 : FVec F S512x1 .f32) (v57_1 : FVec F S512x256 .f32) (v59 v61 : BitVec 32) (v72 : BitVec 1) (v73 v86 : BitVec 32) (acc : FVec F S512x1 .f32 × FVec F S512x256 .f32) :
    InvAt c arg3 arg4 arg6 arg8 arg9 arg10 arg11 v5 X3 X4 X6 X10 (b5 i) acc
    ⊢ wp frame (wpE (defs₀ (F := F)) 𝒱 (c : Thread nD τ) bd) E
      (Scf.Loop.for (k0_t5_loop i) (k0_t5_ok i) acc (k0_t5_body (F := F) i arg3 harg3 arg4 harg4 arg5 harg5 arg6 harg6 arg7 harg7 arg8 harg8 arg9 harg9 arg10 harg10 arg11 harg11 v5 v9 v57_0 v57_1 v59 v61 v72 v73 v86))
      (fun r => InvAt c arg3 arg4 arg6 arg8 arg9 arg10 arg11 v5 X3 X4 X6 X10 (2 * (qi i / 2)) r) := by
  have ht := trips5 i
  refine BIBase.Entails.trans ?_ (Scf.wp_for frame (wpE (defs₀ (F := F)) 𝒱 (c : Thread nD τ) bd) E (k0_t5_loop i).lb (k0_t5_loop i).ub (k0_t5_loop i).st (k0_t5_ok i) acc _
    (fun k a => InvAt c arg3 arg4 arg6 arg8 arg9 arg10 arg11 v5 X3 X4 X6 X10 (b5 i + 2 * k) a) ?_)
  · iintro H
    isplitl [H]
    · iexact H
    · iintro %a H
      have e : b5 i + 2 * Scf.trips (k0_t5_loop i).lb (k0_t5_loop i).ub (k0_t5_loop i).st = 2 * (qi i / 2) := by
        have e' : b5 i + 2 * Scf.trips (k0_t5_loop i).lb (k0_t5_loop i).ub (k0_t5_loop i).st = b5 i + 2 * (qi i / 2 % 2) := congrArg (b5 i + 2 * ·) ht
        rw [e']; unfold b5; omega
      rw [e]
      iexact H
  · intro k a
    have hk : k.val = 0 := by have := Nat.lt_of_lt_of_eq k.isLt ht; have := qi_lt i; omega
    have := trip5 𝒱 c bd i arg3 harg3 arg4 harg4 arg5 harg5 arg6 harg6 arg7 harg7 arg8 harg8 arg9 harg9 arg10 harg10 arg11 harg11 v5 v9 X3 X4 X6 X10 v57_0 v57_1 v59 v61 v72 v73 v86 k E a
    simp only [hk]
    exact this

/-- The first part of the loops: eight chunks at a time. -/
theorem part31_run (v31 : FVec F S512x1 .f32) (v32 : FVec F S512x256 .f32) :
    InvAt c arg3 arg4 arg6 arg8 arg9 arg10 arg11 v5 X3 X4 X6 X10 0 (v31, v32)
    ⊢ wp frame (wpE (defs₀ (F := F)) 𝒱 (c : Thread nD τ) bd) E
      (k0_part31 (F := F) i arg3 harg3 arg4 harg4 arg5 harg5 arg6 harg6 arg7 harg7 arg8 harg8 arg9 harg9 arg10 harg10 arg11 harg11 v5 v9 v31 v32)
      (fun r => InvAt c arg3 arg4 arg6 arg8 arg9 arg10 arg11 v5 X3 X4 X6 X10 (b3 i) (r.1, r.2.1)) := by
  rw [k0_part31_eq_skeleton]
  unfold k0_part31_skel
  rw [wp_bind]
  refine (loop1 𝒱 c bd i arg3 harg3 arg4 harg4 arg5 harg5 arg6 harg6 arg7 harg7 arg8 harg8 arg9 harg9 arg10 harg10 arg11 harg11 v5 v9 X3 X4 X6 X10 E v31 v32 (v31, v32)).trans (wp_mono _ _ _ ?_)
  rintro ⟨a, b⟩
  dsimp only
  rw [wp_bind]
  refine BIBase.Entails.trans ?_ (loop_none 𝒱 c bd E (k0_t2_loop i) (k0_t2_ok i) (a, b) _ (trips2 i) _)
  dsimp only
  rw [wp_pure]
  iintro H
  imodintro
  iexact H

/-- The second part of the loops: four chunks at a time, then two. -/
theorem part32_run (v57_0 : FVec F S512x1 .f32) (v57_1 : FVec F S512x256 .f32) (v59 v61 : BitVec 32) (v72 : BitVec 1) (v73 : BitVec 32) :
    InvAt c arg3 arg4 arg6 arg8 arg9 arg10 arg11 v5 X3 X4 X6 X10 (b3 i) (v57_0, v57_1)
    ⊢ wp frame (wpE (defs₀ (F := F)) 𝒱 (c : Thread nD τ) bd) E
      (k0_part32 (F := F) i arg3 harg3 arg4 harg4 arg5 harg5 arg6 harg6 arg7 harg7 arg8 harg8 arg9 harg9 arg10 harg10 arg11 harg11 v5 v9 v57_0 v57_1 v59 v61 v72 v73)
      (fun r => InvAt c arg3 arg4 arg6 arg8 arg9 arg10 arg11 v5 X3 X4 X6 X10 (2 * (qi i / 2)) (r.1, r.2.1)) := by
  rw [k0_part32_eq_skeleton]
  unfold k0_part32_skel
  rw [wp_bind]
  refine (loop3 𝒱 c bd i arg3 harg3 arg4 harg4 arg5 harg5 arg6 harg6 arg7 harg7 arg8 harg8 arg9 harg9 arg10 harg10 arg11 harg11 v5 v9 X3 X4 X6 X10 E v57_0 v57_1 v59 v61 v72 v73 (v57_0, v57_1)).trans (wp_mono _ _ _ ?_)
  rintro ⟨a, b⟩
  dsimp only
  rw [wp_bind]
  refine BIBase.Entails.trans ?_ (loop_none 𝒱 c bd E (k0_t4_loop i) (k0_t4_ok i) (a, b) _ (trips4 i) _)
  dsimp only
  rw [wp_bind]
  refine (loop5 𝒱 c bd i arg3 harg3 arg4 harg4 arg5 harg5 arg6 harg6 arg7 harg7 arg8 harg8 arg9 harg9 arg10 harg10 arg11 harg11 v5 v9 X3 X4 X6 X10 E v57_0 v57_1 v59 v61 v72 v73 _ (a, b)).trans (wp_mono _ _ _ ?_)
  rintro ⟨a', b'⟩
  dsimp only
  rw [wp_bind]
  refine BIBase.Entails.trans ?_ (loop_none 𝒱 c bd E (k0_t6_loop i) (k0_t6_ok i) (a', b') _ (trips6 i) _)
  dsimp only
  rw [wp_pure]
  iintro H
  imodintro
  iexact H

end
end Cert.KernelIdeal.Hand
end
-- ==== Proof.Body.lean ====
/-
  The kernel's whole body: from the staged operands to the output tile of the recursion.
-/
module

public import proofs.«01_k».proof.Proof.Parts

@[expose] public section

set_option maxRecDepth 16384
noncomputable section

namespace Cert.KernelIdeal.Hand
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [Named F]
local notation "𝕄" => MT nD τ sig Unit (Elt F) ℕ (UR sig nD τ) ℕ

/-- The gate at the query tile's first row. -/
def gate (fk : Vec F S1x1x8192 .f32) (n : ℕ) : FVec F S1x1 .f32 := k0_pay103 (fb fk n)

section
variable (𝒱 : Variants) (c : Dev nD) (bd : Option 𝒱.V) (i : grid0.Coords)
  (arg3 : Memref sig .tc .vmem S512x128 .bf16) (harg3 : arg3.IsWhole) (arg4 : Memref sig .tc .vmem S128x8192 .bf16) (harg4 : arg4.IsWhole)
  (arg5 : Memref sig .tc .vmem S8192x128 .bf16) (harg5 : arg5.IsWhole) (arg6 : Memref sig .tc .vmem S1x1x8192 .f32) (harg6 : arg6.IsWhole)
  (arg7 : Memref sig .tc .vmem S512x128 .bf16) (harg7 : arg7.IsWhole) (arg8 : Memref sig .tc .vmem S512x512 .f32) (harg8 : arg8.IsWhole)
  (arg9 : Memref sig .tc .vmem S512x512 .f32) (harg9 : arg9.IsWhole) (arg10 : Memref sig .tc .vmem S8192x256 .bf16) (harg10 : arg10.IsWhole)
  (arg11 : Memref sig .tc .vmem S512x512 .bf16) (harg11 : arg11.IsWhole)

  (X3 : BufTy.Contents (Elt F) arg3.view.ty) (X4 : BufTy.Contents (Elt F) arg4.view.ty) (X6 : BufTy.Contents (Elt F) arg6.view.ty)
  (X5 : BufTy.Contents (Elt F) arg5.view.ty) (E : Set ℕ)

/-- The set-up: the values with their ones (stored at the first query tile, found at the others), the first chunk's
    scores, and the empty state. -/
theorem part30_run (f8 : BufTy.Contents (Elt F) arg8.view.ty) (f9 : BufTy.Contents (Elt F) arg9.view.ty)
    (f10 : BufTy.Contents (Elt F) arg10.view.ty) (f11 : BufTy.Contents (Elt F) arg11.view.ty)
    (h10 : qi i ≠ 0 → arg10.view.read (Elt F) f10 = aug (arg5.view.read (Elt F) X5)) :
    iprop((arg5.view.loc (c : Thread nD τ) ↦[arg5.view.set]{fullShare} X5) ∗ Res c arg3 arg4 arg6 arg8 arg9 arg10 arg11 X3 X4 X6 f10 f8 f9 f11)
    ⊢ wp frame (wpE (defs₀ (F := F)) 𝒱 (c : Thread nD τ) bd) E (k0_part30 (F := F) i arg3 harg3 arg4 harg4 arg5 harg5 arg6 harg6 arg7 harg7 arg8 harg8 arg9 harg9 arg10 harg10 arg11 harg11)
      (fun r => iprop(∃ f10', (arg5.view.loc (c : Thread nD τ) ↦[arg5.view.set]{fullShare} X5) ∗ InvAt c arg3 arg4 arg6 arg8 arg9 arg10 arg11 (gate (arg6.view.read (Elt F) X6) (qi i)) X3 X4 X6 f10' 0 (r.2.2.1, r.2.2.2)
        ∗ ⌜r.1 = gate (arg6.view.read (Elt F) X6) (qi i) ∧ arg10.view.read (Elt F) f10' = aug (arg5.view.read (Elt F) X5)⌝)) := by
  rw [k0_part30_eq_skeleton]
  unfold k0_part30_skel
  have hq := qi_lt i
  by_cases h0 : qi i = 0
  · have hc := (cond1_iff i).2 h0
    iintro ⟨H5, H3, H4, H6, H10, H8, H9, H11⟩
    sl_exec
    sl_step
    iexists _
    isplitl [H5]; · iexact H5
    isplitl [H3 H4 H6 H10 H8 H9 H11]
    · iexists _, _, _
      isplitl [H3 H4 H6 H10 H8 H9 H11]
      · isplitl [H3]; · iexact H3
        isplitl [H4]; · iexact H4
        isplitl [H6]; · iexact H6
        isplitl [H10]; · iexact H10
        isplitl [H8]; · iexact H8
        isplitl [H9]; · iexact H9
        iexact H11
      ipureintro
      refine ⟨rfl, ?_, ?_⟩
      · rw [View.read_writes_full]; rfl
      · rw [View.read_writes_full, View.readAt_full, fb_read _ _ (qi i) (by omega) (off1_eq i), kb_read _ _ 0 (by omega) rfl,
          fb_read _ _ 0 (by omega) rfl, score_first]
        rfl
    ipureintro
    refine ⟨?_, ?_⟩
    · rw [fb_read _ _ (qi i) (by omega) (off1_eq i)]; rfl
    · rw [View.read_writes_cons_put (h := rfl), View.read_writes_cons_put (h := rfl), View.readAt_full]
      exact aug_eq _ _
  · have hc := mt (cond1_iff i).1 h0
    iintro ⟨H5, H3, H4, H6, H10, H8, H9, H11⟩
    sl_exec
    sl_step
    iexists _
    isplitl [H5]; · iexact H5
    isplitl [H3 H4 H6 H10 H8 H9 H11]
    · iexists _, _, _
      isplitl [H3 H4 H6 H10 H8 H9 H11]
      · isplitl [H3]; · iexact H3
        isplitl [H4]; · iexact H4
        isplitl [H6]; · iexact H6
        isplitl [H10]; · iexact H10
        isplitl [H8]; · iexact H8
        isplitl [H9]; · iexact H9
        iexact H11
      ipureintro
      refine ⟨rfl, ?_, ?_⟩
      · rw [View.read_writes_full]; rfl
      · rw [View.read_writes_full, View.readAt_full, fb_read _ _ (qi i) (by omega) (off1_eq i), kb_read _ _ 0 (by omega) rfl,
          fb_read _ _ 0 (by omega) rfl, score_first]
        rfl
    ipureintro
    refine ⟨?_, ?_⟩
    · rw [fb_read _ _ (qi i) (by omega) (off1_eq i)]; rfl
    · exact h10 h0

/-- The whole body at one grid point: the output tile is the recursion's, and the values with their ones stay in place. -/
theorem body_run (f7 : BufTy.Contents (Elt F) arg7.view.ty) (f8 : BufTy.Contents (Elt F) arg8.view.ty) (f9 : BufTy.Contents (Elt F) arg9.view.ty)
    (f10 : BufTy.Contents (Elt F) arg10.view.ty) (f11 : BufTy.Contents (Elt F) arg11.view.ty)
    (h10 : qi i ≠ 0 → arg10.view.read (Elt F) f10 = aug (arg5.view.read (Elt F) X5)) :
    iprop((arg7.view.loc (c : Thread nD τ) ↦[arg7.view.set]{fullShare} f7) ∗ (arg5.view.loc (c : Thread nD τ) ↦[arg5.view.set]{fullShare} X5) ∗ Res c arg3 arg4 arg6 arg8 arg9 arg10 arg11 X3 X4 X6 f10 f8 f9 f11)
    ⊢ wp frame (wpE (defs₀ (F := F)) 𝒱 (c : Thread nD τ) bd) E (cc0_attention (F := F) i arg3 harg3 arg4 harg4 arg5 harg5 arg6 harg6 arg7 harg7 arg8 harg8 arg9 harg9 arg10 harg10 arg11 harg11)
      (fun _ => iprop(∃ f7' f8' f9' f10' f11', (arg7.view.loc (c : Thread nD τ) ↦[arg7.view.set]{fullShare} f7') ∗ (arg5.view.loc (c : Thread nD τ) ↦[arg5.view.set]{fullShare} X5) ∗ Res c arg3 arg4 arg6 arg8 arg9 arg10 arg11 X3 X4 X6 f10' f8' f9' f11'
        ∗ ⌜arg7.view.read (Elt F) f7' = outTile (gate (arg6.view.read (Elt F) X6) (qi i)) (arg3.view.read (Elt F) X3) (arg4.view.read (Elt F) X4)
              (arg6.view.read (Elt F) X6) (aug (arg5.view.read (Elt F) X5)) (qi i)
            ∧ arg10.view.read (Elt F) f10' = aug (arg5.view.read (Elt F) X5)⌝)) := by
  rw [cc0_attention_eq_skeleton]
  unfold cc0_attention_skel
  have hq := qi_lt i
  rw [wp_bind]
  iintro ⟨H7, HR⟩
  iapply (wp_wand_r frame (wpE (defs₀ (F := F)) 𝒱 (c : Thread nD τ) bd) E)
  isplitl [HR]
  · iapply (part30_run 𝒱 c bd i arg3 harg3 arg4 harg4 arg5 harg5 arg6 harg6 arg7 harg7 arg8 harg8 arg9 harg9 arg10 harg10 arg11 harg11 X3 X4 X6 X5 E f8 f9 f10 f11 h10)
    iexact HR
  iintro %r ⟨%f10', H5, HI, %hr, %hx⟩
  obtain ⟨v5, v9, v31, v32⟩ := r
  try dsimp -proj only at hr ⊢
  subst hr
  rw [wp_bind]
  iapply (wp_wand_r frame (wpE (defs₀ (F := F)) 𝒱 (c : Thread nD τ) bd) E)
  isplitl [HI]
  · iapply (part31_run 𝒱 c bd i arg3 harg3 arg4 harg4 arg5 harg5 arg6 harg6 arg7 harg7 arg8 harg8 arg9 harg9 arg10 harg10 arg11 harg11 _ v9 X3 X4 X6 f10' E v31 v32)
    iexact HI
  iintro %r HI
  obtain ⟨v57_0, v57_1, v59, v61, v72, v73⟩ := r
  try dsimp -proj only
  rw [wp_bind]
  iapply (wp_wand_r frame (wpE (defs₀ (F := F)) 𝒱 (c : Thread nD τ) bd) E)
  isplitl [HI]
  · iapply (part32_run 𝒱 c bd i arg3 harg3 arg4 harg4 arg5 harg5 arg6 harg6 arg7 harg7 arg8 harg8 arg9 harg9 arg10 harg10 arg11 harg11 _ v9 X3 X4 X6 f10' E v57_0 v57_1 v59 v61 v72 v73)
    iexact HI
  iintro %r ⟨%g8, %g9, %g11, ⟨H3, H4, H6, H10, H8, H9, H11⟩, %hg⟩
  obtain ⟨m, a, v113, c1_i32_51⟩ := r
  try dsimp -proj only at hg ⊢
  obtain ⟨h1, h2, h3⟩ := hg
  by_cases hc : k0_cond2 i = 1#1
  · have hodd := (cond2_iff i).1 hc
    sl_exec
    sl_step
    iexists _, _, _, _, _
    isplitl [H7]; · iexact H7
    isplitl [H5]; · iexact H5
    isplitl [H3 H4 H6 H10 H8 H9 H11]
    · isplitl [H3]; · iexact H3
      isplitl [H4]; · iexact H4
      isplitl [H6]; · iexact H6
      isplitl [H10]; · iexact H10
      isplitl [H8]; · iexact H8
      isplitl [H9]; · iexact H9
      iexact H11
    ipureintro
    refine ⟨?_, hx⟩
    obtain ⟨n, hn⟩ : ∃ n, qi i = n + 1 := ⟨qi i - 1, by omega⟩
    have e : 2 * (qi i / 2) = n := by omega
    have r26 := kb_read arg4.view X4 (qi i) (by omega) (off26_eq i) (k0_off26_inb i hc)
    have r27 := fb_read arg6.view X6 (qi i) (by omega) (off27_eq i) (k0_off27_inb i hc)
    have r28 := vb_read arg10.view f10' (2 * (qi i / 2) - 1) (by omega) (off28_eq i) (k0_off28_inb i hc)
    have r29 := vb_read arg10.view f10' n (by omega) ((off29_eq i hc).trans (by rw [hn]; rfl)) (k0_off29_inb i hc)
    have r30 := vb_read arg10.view f10' (qi i) (by omega) (off30_eq i) (k0_off30_inb i hc)
    sl_unfold_run_names
    simp (config := {proj := false}) only [View.readAt_full, View.readCov_full, View.read_writes_full, r26, r27, r28, r29, r30, h3,
      flush_names, score_names, max_names, mask_names, sc_fold, ← hx]
    have h1' : m = _ := h1
    have h2' : k0_pay6 a _ _ = _ := h2
    rw [odd_tail, h2', h1', e, hn]
    rfl
  · have heven : qi i % 2 = 0 := by have := mt (cond2_iff i).2 hc; omega
    sl_exec
    sl_step
    iexists _, _, _, _, _
    isplitl [H7]; · iexact H7
    isplitl [H5]; · iexact H5
    isplitl [H3 H4 H6 H10 H8 H9 H11]
    · isplitl [H3]; · iexact H3
      isplitl [H4]; · iexact H4
      isplitl [H6]; · iexact H6
      isplitl [H10]; · iexact H10
      isplitl [H8]; · iexact H8
      isplitl [H9]; · iexact H9
      iexact H11
    ipureintro
    refine ⟨?_, hx⟩
    have e : 2 * (qi i / 2) = qi i := by omega
    have r31 := vb_read arg10.view f10' (2 * (qi i / 2) - 1) (by omega) (off31_eq i) (k0_off31_inb i hc)
    have r32 := vb_read arg10.view f10' (qi i) (by omega) (off32_eq i) (k0_off32_inb i hc)
    sl_unfold_run_names
    simp (config := {proj := false}) only [View.readAt_full, View.readCov_full, View.read_writes_full, r31, r32, h3, ← hx]
    have h1' : m = _ := h1
    have h2' : k0_pay6 a _ _ = _ := h2
    rw [even_tail, h2', h1', e]
    rfl

end
end Cert.KernelIdeal.Hand
end
-- ==== Proof.Run.lean ====
/-
  The kernel's run: the launch's proof data, the body obligation, and what the output array holds at the end.
-/
module

public import proofs.«01_k».proof.Proof.Body
public import proofs.«01_k».proof.Proof.Gen.KernelIdeal.Frame

@[expose] public section

set_option maxRecDepth 16384
noncomputable section

namespace Cert.KernelIdeal.Hand
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

/-- The query block at a grid point. -/
def qB (c : Dev nD) (t : Fin cfg0.N) : Vec F S512x128 .bf16 := iblk m c 0 t
/-- The key block at a grid point. -/
def kB (c : Dev nD) (t : Fin cfg0.N) : Vec F S128x8192 .bf16 := iblk m c 1 t
/-- The value block at a grid point. -/
def vB (c : Dev nD) (t : Fin cfg0.N) : Vec F S8192x128 .bf16 := iblk m c 2 t
/-- The gate block at a grid point. -/
def fB (c : Dev nD) (t : Fin cfg0.N) : Vec F S1x1x8192 .f32 := iblk m c 3 t

/-- The tile the body writes at a grid point. -/
def tile (c : Dev nD) (t : Fin cfg0.N) : Vec F S512x128 .bf16 :=
  outTile (gate (fB m c t) (qi (grid0.coords t))) (qB m c t) (kB m c t) (fB m c t) (aug (vB m c t)) (qi (grid0.coords t))

/-- The values' window stays put while the query tile moves within one head. -/
theorem index2 : ∀ t t' : Fin cfg0.N, t'.val = t.val + 1 → qi (grid0.coords t') ≠ 0 →
    cc0_transform_2 (grid0.coords t') = cc0_transform_2 (grid0.coords t) := by
  have key : ∀ t : Fin cfg0.N, ∀ h : t.val + 1 < cfg0.N, qi (grid0.coords ⟨t.val + 1, h⟩) ≠ 0 →
      cc0_transform_2 (grid0.coords ⟨t.val + 1, h⟩) = cc0_transform_2 (grid0.coords t) := by decide +kernel
  intro t t' h
  have h' : t.val + 1 < cfg0.N := h ▸ t'.isLt
  obtain rfl : t' = ⟨t.val + 1, h'⟩ := Fin.ext h
  exact key t h'

/-- So the value block is the same at both points. -/
theorem vB_next (c : Dev nD) (t t' : Fin cfg0.N) (h : t'.val = t.val + 1) (hq : qi (grid0.coords t') ≠ 0) :
    vB m c t' = vB m c t := by
  have e := index2 t t' h hq
  funext x
  unfold vB iblk
  rw [View.read_apply, View.read_apply]
  show m _ _ = m _ _
  congr 1
  funext a
  apply Fin.ext
  show cc0_transform_2 (grid0.coords t') a * _ + _ = cc0_transform_2 (grid0.coords t) a * _ + _
  rw [e]; rfl

/-- What the scratch holding the values with their ones must read as before a point. -/
def Keep (c : Dev nD) (n : ℕ) (f : BufTy.Contents (Elt F) (Memref.whole cc0_scratch2).view.ty) : Prop :=
  ∀ t : Fin cfg0.N, t.val = n → qi (grid0.coords t) ≠ 0 → (Memref.whole cc0_scratch2).view.read (Elt F) f = aug (vB m c t)

/-- What holds between points: the scratch buffers at something, the third as `Keep` says, and the generator's register. -/
def Between (c : Dev nD) (n : ℕ) : sProp 𝕄 :=
  iprop((∃ f8 f9 f10 f11, (((c : Thread nD τ).loc cc0_scratch0) ↦{fullShare} f8) ∗ (((c : Thread nD τ).loc cc0_scratch1) ↦{fullShare} f9)
    ∗ (((c : Thread nD τ).loc cc0_scratch2) ↦{fullShare} f10) ∗ (((c : Thread nD τ).loc cc0_scratch3) ↦{fullShare} f11) ∗ ⌜Keep m c n f10⌝)
    ∗ ∃ r, prngReg c r)

/-- The launch's proof data: inputs left as staged, the output's block the point's tile. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => tile m c t
  Φ t := Between m c t.val
  q w := Pipeline.shareOf spec0 w
  owed _ := 0

abbrev 𝒱₀ : Variants := Variants.none

/-- The body meets the pipeline's demand at every point. -/
theorem body_obligation (c : Dev nD) : BodyObligation (dats m 0 c) (defs₀ (F := F)) 𝒱₀ () Set.univ := fun t => by
  rw [bigSep_W0, bigSep_W0]
  rw [show (dats m 0 c).Φ t.castSucc = Between m c t.val from rfl, show (dats m 0 c).Φ t.succ = Between m c (t.val + 1) from rfl]
  unfold Between Dat.owesAt Pipeline.owesWithin owns
  rw [show (dats m 0 c).owed t.castSucc = 0 from rfl, show (dats m 0 c).owed t.succ = 0 from rfl]
  iintro ⟨⟨⟨%f8, %f9, %f10, %f11, H8, H9, H10, H11, %hk⟩, Hr⟩, ⟨%W, %hW, HO⟩, ⟨%d0, %f0, %hf0, H0⟩, ⟨%d1, %f1, %hf1, H1⟩, ⟨%d2, %f2, %hf2, H2⟩,
    ⟨%d3, %f3, %hf3, H3⟩, ⟨%d4, %f4, %hf4, H4⟩⟩
  rw [before0_0_of m (dats m 0 c) rfl (fun _ => rfl)] at hf0
  rw [before0_1_of m (dats m 0 c) rfl (fun _ => rfl)] at hf1
  rw [before0_2_of m (dats m 0 c) rfl (fun _ => rfl)] at hf2
  rw [before0_3_of m (dats m 0 c) rfl (fun _ => rfl)] at hf3
  have hk' := hk t rfl
  have key := body_run 𝒱₀ c none (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    f0 f1 f3 f2 Set.univ f4 f8 f9 f10 f11 (fun h => (hk' h).trans (congrArg aug hf2.symm))
  iapply (wp_wand_r frame (wpE (defs₀ (F := F)) 𝒱₀ (c : Thread nD τ) none) Set.univ)
  isplitl [H0 H1 H2 H3 H4 H8 H9 H10 H11]
  · iapply key
    unfold Res
    simp only [Memref.view_whole, View.set_whole]
    isplitl [H4]; · iexact H4
    isplitl [H2]; · iexact H2
    isplitl [H0]; · iexact H0
    isplitl [H1]; · iexact H1
    isplitl [H3]; · iexact H3
    isplitl [H10]; · iexact H10
    isplitl [H8]; · iexact H8
    isplitl [H9]; · iexact H9
    iexact H11
  unfold Res
  simp only [Memref.view_whole, View.set_whole]
  iintro %r ⟨%g7, %g8, %g9, %g10, %g11, H4, H2, ⟨H0, H1, H3, H10, H8, H9, H11⟩, %hg⟩
  isplitl [H8 H9 H10 H11 Hr]
  · isplitl [H8 H9 H10 H11]
    · iexists g8, g9, g10, g11
      isplitl [H8]; · iexact H8
      isplitl [H9]; · iexact H9
      isplitl [H10]; · iexact H10
      isplitl [H11]; · iexact H11
      ipureintro
      intro t' h' hq
      rw [vB_next m c t t' h' hq]
      exact hg.2.trans (congrArg aug hf2)
    iexact Hr
  isplitl [HO]
  · iexists W; isplitr; · ipureintro; exact fun _ _ => Or.inl trivial
    iexact HO
  isplitl [H0]; · iexists f0; isplitr; · ipureintro; exact hf0
                  iexact H0
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  iexists g7
  isplitr
  · ipureintro
    refine hg.1.trans ?_
    rw [hf0, hf1, hf2, hf3]
    rfl
  iexact H4

/-- The run: it ends, the arrays as the pipeline's account says, every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared cfgs (dats m) 0 launch₀0 defs₀ 𝒱₀ m ρ main (fun c => (body_obligation m c).loose)
    (fun _ _ _ => rfl) (fun _ _ => rfl) (V m) (hmain m 𝒱₀) (fun _ _ => rfl)
    (fun c => by
      rw [show (dats m 0 c).Φ 0 = Between m c 0 from rfl]
      unfold Pipeline.ΦA Between
      rw [show (cfgs 0).spec = spec0 from rfl, scopedRest0_eq]
      iintro ⟨⟨⟨%f8, H8⟩, ⟨%f9, H9⟩, ⟨%f10, H10⟩, ⟨%f11, H11⟩⟩, Hr⟩
      isplitl [H8 H9 H10 H11]
      · iexists f8, f9, f10, f11
        isplitl [H8]; · iexact H8
        isplitl [H9]; · iexact H9
        isplitl [H10]; · iexact H10
        isplitl [H11]; · iexact H11
        ipureintro
        intro t ht hq
        exact absurd (by rw [show t = ⟨0, by decide⟩ from Fin.ext ht]; decide +kernel) hq
      iexact Hr)
    (fun c => by
      rw [show (dats m 0 c).Φ (Fin.last (cfgs 0).N) = Between m c (cfgs 0).N from rfl]
      unfold Pipeline.ΦA Between
      rw [show (cfgs 0).spec = spec0 from rfl, scopedRest0_eq]
      iintro ⟨⟨%f8, %f9, %f10, %f11, H8, H9, H10, H11, -⟩, Hr⟩
      isplitl [H8 H9 H10 H11]
      · isplitl [H8]; · iexists f8; iexact H8
        isplitl [H9]; · iexists f9; iexact H9
        isplitl [H10]; · iexists f10; iexact H10
        iexists f11; iexact H11
      iexact Hr)
    (Q' := fun r => Pipeline.FramePost cfgs (dats m) 0 (V m) r ∧ r.2.sem = fun _ => 0) (fun r (h : _ ∧ _) => h)

end Cert.KernelIdeal.Hand

end
-- ==== Proof.Consts.lean ====
/-
  The constants the programs spell, as the extended reals they denote, and the comparison of two positions.
-/
module

public import Idealize.ShloMosaic.PureOps.Ideal
public import Idealize.ShloMosaic.Lib.WordCmp

@[expose] public section

noncomputable section

namespace Cert.Consts

open Idealize.ShloMosaic

/-- Minus infinity. -/
theorem ofBits_bot : Ideal.ofBits .f32 0xFF800000#32 = ⊥ := by simp [Ideal.ofBits, Ideal.ieee]

/-- Plus infinity. -/
theorem ofBits_top : Ideal.ofBits .f32 0x7F800000#32 = ⊤ := by simp [Ideal.ofBits, Ideal.ieee]

/-- Plus infinity in the short format. -/
theorem ofBits_top_short : Ideal.ofBits .bf16 0x7F80#16 = ⊤ := by simp [Ideal.ofBits, Ideal.ieee]

/-- The real 2. -/
theorem ofBits_two : Ideal.ofBits .f32 0x40000000#32 = ((2 : ℝ) : EReal) := by
  simp [Ideal.ofBits, Ideal.ieee, -EReal.coe_mul]; norm_num

/-- The logarithm of 2. -/
theorem log_two : Ideal.log ((2 : ℝ) : EReal) = ((Real.log 2 : ℝ) : EReal) := by
  rw [Ideal.log_coe, if_neg (by norm_num)]

/-- Adding the word 0. -/
theorem addi_zero (x : BitVec 32) : IntOp.addi x 0#32 = x := by
  show x + 0#32 = x
  simp

/-- The comparison of two small positions is that of the naturals. -/
theorem sle_at {a b : ℕ} (ha : a < 2 ^ 31) (hb : b < 2 ^ 31) :
    IntOp.cmpi .sle (BitVec.ofNat 32 a) (BitVec.ofNat 32 b) = if a ≤ b then 1#1 else 0#1 := by
  rw [WordCmp.cmpi_sle_ofNat (by simpa using ha) (by simpa using hb)]
  by_cases h : a ≤ b
  · rw [if_pos h, decide_eq_true h]; rfl
  · rw [if_neg h, decide_eq_false h]; rfl

end Cert.Consts
end
-- ==== Proof.Steps.lean ====
/-
  The kernel's arithmetic at the ideal values, element by element: a score, a row maximum, a weighted sum, the mask, the
  closing division.
-/
module

public import proofs.«01_k».proof.Proof.Pays
public import proofs.«01_k».proof.Proof.Consts
public import Idealize.ShloMosaic.Lib.Pointwise

@[expose] public section

set_option maxRecDepth 16384

noncomputable section

namespace Cert.KernelIdeal.Hand

open Cert.KernelIdeal.Gen
open Idealize.ShloMosaic Cert.Consts

/-- The kernel's named constant is the reciprocal of the logarithm of 2. -/
theorem log2e : Named.named (F := Ideal) κ "log2e" (φ := .f32) 0x3FB8AA3B#32 = (((Real.log 2)⁻¹ : ℝ) : EReal) :=
  IdealRules.named_const.ideal_named_scalar _ _ _ _ rfl

/-- A score of a chunk: the product of a query and a key, and the difference of two gates in base 2. -/
theorem pay7_at (v5 : FVec Ideal S1x1 .f32) (q : Vec Ideal S512x128 .bf16) (k : Vec Ideal S128x512 .bf16)
    (f : Vec Ideal S1x1x512 .f32) (r j : Fin 512) : k0_pay7 v5 q k f (ix2 r j)
      = (∑ d : Fin 128, q (ix2 r d) * k (ix2 d j)) + (v5 (ix2 0 0) - f (ix3 0 0 j)) * (((Real.log 2)⁻¹ : ℝ) : EReal) := by
  pointwise [k0_pay7]
  rw [log2e]

/-- Row maxima: the old one against the largest score of the chunk. -/
theorem pay12_at (m : FVec Ideal S512x1 .f32) (s : Vec Ideal S512x512 .f32) (r : Fin 512) : k0_pay12 m s (ix2 r 0)
      = max (m (ix2 r 0)) (Finset.univ.fold max ⊥ (fun j : Fin 512 => s (ix2 r j))) := by
  pointwise [k0_pay12]
  rw [ofBits_bot]

/-- Weighted sums: the old one rescaled, and the chunk's values weighted by exponentials. -/
theorem pay13_at (m : FVec Ideal S512x1 .f32) (a : FVec Ideal S512x256 .f32) (s : Vec Ideal S512x512 .f32)
    (v : Vec Ideal S512x256 .bf16) (r : Fin 512) (d : Fin 256) : k0_pay13 m a s s v (ix2 r d)
      = Ideal.exp2 (m (ix2 r 0) - k0_pay12 m s (ix2 r 0)) * a (ix2 r d)
        + ∑ j : Fin 512, Ideal.exp2 (s (ix2 r j) - k0_pay12 m s (ix2 r 0)) * v (ix2 j d) := by
  pointwise [k0_pay13]
  rfl

/-- Adding a pending product. -/
theorem pay6_at (a : FVec Ideal S512x256 .f32) (p : Vec Ideal S512x512 .bf16)
    (v : Vec Ideal S512x256 .bf16) (r : Fin 512) (d : Fin 256) : k0_pay6 a p v (ix2 r d)
      = a (ix2 r d) + ∑ j : Fin 512, p (ix2 r j) * v (ix2 j d) := by
  pointwise [k0_pay6]

/-- The mask of the diagonal chunk. -/
theorem pay3_at (s : Vec Ideal S512x512 .f32) (r j : Fin 512) : k0_pay3 s (ix2 r j)
      = if j.val ≤ r.val then s (ix2 r j) else ⊥ := by
  pointwise [k0_pay3]
  rw [ofBits_bot, addi_zero, sle_at (by omega) (by omega)]
  split_ifs <;> rfl

/-- The closing division by column 128. -/
theorem pay5_at (a : FVec Ideal S512x256 .f32) (r : Fin 512) (d : Fin 128) : k0_pay5 a (ix2 r d)
      = Ideal.div (a (ix2 r ⟨d.val, by omega⟩)) (a (ix2 r ⟨128, by omega⟩)) := by
  pointwise [k0_pay5]

/-- Maxima start at minus infinity. -/
theorem pay108_at (r : Fin 512) : k0_pay108 (F := Ideal) (ix2 r 0) = ⊥ := by
  pointwise [k0_pay108]
  rw [ofBits_bot]

/-- Sums start at 0. -/
theorem pay109_at (r : Fin 512) (d : Fin 256) : k0_pay109 (F := Ideal) (ix2 r d) = 0 := by
  pointwise [k0_pay109]

/-- The first pending weights are 0. -/
theorem pay106_at (r : Fin 512) (d : Fin 512) : k0_pay106 (F := Ideal) (ix2 r d) = 0 := by
  pointwise [k0_pay106]

/-- The reference gate of a query tile is the first of its chunk. -/
theorem pay103_at (f : FVec Ideal S1x1x512 .f32) : k0_pay103 f (ix2 0 0) = f (ix3 0 0 0) := by
  pointwise [k0_pay103]

/-- The values are kept as they are. -/
theorem pay104_at (v : Vec Ideal S8192x128 .bf16) (s : Fin 8192) (d : Fin 128) : k0_pay104 v (ix2 s d) = v (ix2 s d) := by
  pointwise [k0_pay104]

/-- The columns beside the values hold ones. -/
theorem pay105_at (s : Fin 8192) (d : Fin 128) : k0_pay105 (F := Ideal) (ix2 s d) = 1 := by
  pointwise [k0_pay105]

end Cert.KernelIdeal.Hand
end
-- ==== Proof.Softmax.lean ====
/-
  Softmax on the extended reals.  Scores are reals or minus infinity, values are any extended reals.  The running form
  (a maximum and a weighted sum, rescaled at every chunk of 512 keys, in base 2) keeps the weighted sum relative to the
  maximum; the closing quotient does not depend on that maximum, and is the plain form (exponentials of the scores less
  their maximum, divided by their sum, times the values).
-/
module

public import Idealize.ShloMosaic.PureOps.Ideal.Laws
public import Mathlib.Analysis.SpecialFunctions.Pow.Real

@[expose] public section

noncomputable section

namespace Cert.Softmax

open Idealize.ShloMosaic

/-- A nonnegative real distributes over a finite sum of extended reals. -/
theorem coe_mul_sum {ι : Type} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- A finite sum of reals, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real exponential in base 2 at a real. -/
theorem exp2_real (r : ℝ) : Ideal.exp2 (r : EReal) = ((Real.rpow 2 r : ℝ) : EReal) := rfl

/-- The exponential at a real. -/
theorem exp_real (r : ℝ) : Ideal.exp (r : EReal) = ((Real.exp r : ℝ) : EReal) := rfl

/-- Minus infinity less a real has exponential 0. -/
theorem exp2_bot (M : ℝ) : Ideal.exp2 (⊥ - (M : EReal)) = 0 := by
  rw [EReal.bot_sub]; rfl

/-- Minus infinity less a real has exponential 0. -/
theorem exp_bot (M : ℝ) : Ideal.exp (⊥ - (M : EReal)) = 0 := by
  rw [EReal.bot_sub]; rfl

/-- Changing the maximum that exponentials are taken relative to. -/
theorem exp2_shift (x : EReal) (hx : x ≠ ⊤) (M M' : ℝ) :
    Ideal.exp2 ((M : EReal) - M') * Ideal.exp2 (x - M) = Ideal.exp2 (x - M') := by
  induction x with
  | bot => rw [exp2_bot, exp2_bot, mul_zero]
  | top => exact absurd rfl hx
  | coe r =>
    rw [← EReal.coe_sub, ← EReal.coe_sub, ← EReal.coe_sub, exp2_real, exp2_real, exp2_real, ← EReal.coe_mul]
    congr 1
    show (2 : ℝ) ^ (M - M') * (2 : ℝ) ^ (r - M) = (2 : ℝ) ^ (r - M')
    rw [← Real.rpow_add (by norm_num)]
    congr 1; ring

/-- `m` and `a` are a maximum and a sum over the first `L` keys: nothing yet, or `a` is the sum of the values weighted by
    exponentials of the scores less the real `m`. -/
def Upto (X v : ℕ → EReal) (L : ℕ) (m a : EReal) : Prop :=
  (L = 0 ∧ m = ⊥ ∧ a = 0) ∨ ∃ M : ℝ, m = M ∧ a = ∑ s ∈ Finset.range L, Ideal.exp2 (X s - M) * v s

/-- One chunk of 512 keys takes the running maximum and sum from `L` keys to `L + 512`. -/
theorem Upto.step {X v : ℕ → EReal} {L : ℕ} {m a : EReal} (h : Upto X v L m a) (x w : Fin 512 → EReal)
    (hx : ∀ j, x j = X (L + j)) (hw : ∀ j, w j = v (L + j)) (top : ∀ s, X s ≠ ⊤) (bot : X 0 ≠ ⊥) (m' : EReal)
    (hm' : m' = max m (Finset.univ.fold max ⊥ x)) :
    Upto X v (L + 512) m' (Ideal.exp2 (m - m') * a + ∑ j, Ideal.exp2 (x j - m') * w j) := by
  have mtop : m ≠ ⊤ := by
    rcases h with ⟨_, rfl, _⟩ | ⟨M, rfl, _⟩
    · exact bot_ne_top
    · exact EReal.coe_ne_top M
  have ht : m' ≠ ⊤ := by
    rw [hm']
    refine (max_lt (lt_top_iff_ne_top.2 mtop) ((Finset.fold_max_lt _).2 ⟨bot_lt_top, fun j _ => ?_⟩)).ne
    rw [hx]; exact lt_top_iff_ne_top.2 (top _)
  have hb : m' ≠ ⊥ := by
    rw [hm']
    rcases h with ⟨rfl, _, _⟩ | ⟨M, rfl, _⟩
    · refine (lt_of_lt_of_le (bot_lt_iff_ne_bot.2 bot) (le_max_of_le_right ((Finset.le_fold_max _).2 (.inr ⟨0, Finset.mem_univ _, ?_⟩)))).ne'
      rw [hx]; exact le_of_eq rfl
    · exact (lt_of_lt_of_le (EReal.bot_lt_coe M) (le_max_left _ _)).ne'
  clear hm'
  lift m' to ℝ using ⟨ht, hb⟩
  refine .inr ⟨m', rfl, ?_⟩
  have chunk : ∑ j, Ideal.exp2 (x j - m') * w j = ∑ j ∈ Finset.range 512, Ideal.exp2 (X (L + j) - m') * v (L + j) := by
    rw [Finset.sum_range]
    exact Finset.sum_congr rfl fun j _ => by rw [hx, hw]
  rw [chunk, Finset.sum_range_add (fun s => Ideal.exp2 (X s - m') * v s) L 512]
  congr 1
  rcases h with ⟨rfl, _, rfl⟩ | ⟨M, rfl, rfl⟩
  · simp
  · have e : Ideal.exp2 ((M : EReal) - m') = ((Real.rpow 2 (M - m') : ℝ) : EReal) := by
      rw [← EReal.coe_sub, exp2_real]
    rw [e, coe_mul_sum (Real.rpow 2 (M - m')) (Real.rpow_nonneg (by norm_num) _), ← e]
    exact Finset.sum_congr rfl fun s _ => by rw [← mul_assoc, exp2_shift _ (top s)]

/-- The maximum of scores that are real up to `t` and minus infinity after it is a real. -/
theorem max_real {N t : ℕ} (ht : t < N) (y : ℕ → ℝ) (Y : Fin N → EReal)
    (hY : ∀ s, Y s = if s.val ≤ t then (y s.val : EReal) else ⊥) : ∃ M : ℝ, Finset.univ.fold max ⊥ Y = (M : EReal) := by
  have a : Finset.univ.fold max ⊥ Y ≠ ⊤ := by
    refine ((Finset.fold_max_lt _).2 ⟨bot_lt_top, fun j _ => ?_⟩).ne
    rw [hY]
    split_ifs
    · exact EReal.coe_lt_top _
    · exact bot_lt_top
  have b : Finset.univ.fold max ⊥ Y ≠ ⊥ := by
    refine (lt_of_lt_of_le (EReal.bot_lt_coe (y t)) ((Finset.le_fold_max _).2 (.inr ⟨⟨t, ht⟩, Finset.mem_univ _, ?_⟩))).ne'
    rw [hY, if_pos (le_refl t)]
  exact ⟨_, (EReal.coe_toReal a b).symm⟩

/-- The quotient of the running sums is plain softmax times the values.  The base-2 scores `x` of the running form are
    the scores `y` of the plain one, shifted by a row constant `c` and divided by the logarithm of 2. -/
theorem row_eq {N : ℕ} (t L : ℕ) (hL : t < L) (hN : L ≤ N) (x y : ℕ → ℝ) (c : ℝ)
    (hxy : ∀ s, s ≤ t → x s = (Real.log 2)⁻¹ * (y s + c)) (v : ℕ → EReal) (M : ℝ) (Y : Fin N → EReal)
    (hY : ∀ s, Y s = if s.val ≤ t then (y s.val : EReal) else ⊥) :
    Ideal.div (∑ s ∈ Finset.range L, Ideal.exp2 ((if s ≤ t then (x s : EReal) else ⊥) - M) * v s)
        (∑ s ∈ Finset.range L, Ideal.exp2 ((if s ≤ t then (x s : EReal) else ⊥) - M) * 1)
      = ∑ s : Fin N, v s.val * Ideal.div (Ideal.exp (Y s - Finset.univ.fold max ⊥ Y))
          (∑ s' : Fin N, Ideal.exp (Y s' - Finset.univ.fold max ⊥ Y)) := by
  obtain ⟨M', hM'⟩ := max_real (lt_of_lt_of_le hL hN) y Y hY
  rw [hM']
  set e : ℕ → ℝ := fun s => if s ≤ t then Real.exp (y s - M') else 0 with he
  set C : ℝ := Real.exp (c - Real.log 2 * M + M') with hC
  have Cpos : 0 < C := Real.exp_pos _
  have log2 : Real.log 2 ≠ 0 := (Real.log_pos (by norm_num)).ne'
  have enn : ∀ s, 0 ≤ e s := fun s => by
    simp only [he]; split_ifs
    · exact (Real.exp_pos _).le
    · exact le_refl _
  have hk : ∀ s, Ideal.exp2 ((if s ≤ t then (x s : EReal) else ⊥) - M) = ((C * e s : ℝ) : EReal) := fun s => by
    by_cases hs : s ≤ t
    · simp only [he, if_pos hs]
      rw [← EReal.coe_sub, exp2_real]
      congr 1
      show (2 : ℝ) ^ (x s - M) = _
      rw [Real.rpow_def_of_pos (by norm_num), hC, ← Real.exp_add, hxy s hs]
      congr 1
      field_simp
      ring
    · simp only [he, if_neg hs]
      rw [exp2_bot, mul_zero]; rfl
  have hr : ∀ s : Fin N, Ideal.exp (Y s - M') = ((e s.val : ℝ) : EReal) := fun s => by
    rw [hY]
    by_cases hs : s.val ≤ t
    · simp only [he, if_pos hs]
      rw [← EReal.coe_sub, exp_real]
    · simp only [he, if_neg hs]
      rw [exp_bot]; rfl
  have ext : ∀ w : ℕ → EReal, ∑ s ∈ Finset.range L, ((C * e s : ℝ) : EReal) * w s = ∑ s : Fin N, ((C * e s.val : ℝ) : EReal) * w s.val :=
    fun w => by
      rw [← Finset.sum_range (fun s => ((C * e s : ℝ) : EReal) * w s)]
      refine Finset.sum_subset (Finset.range_mono hN) fun s _ hs => ?_
      have : ¬ s ≤ t := fun h => hs (Finset.mem_range.2 (by omega))
      simp only [he, if_neg this, mul_zero, EReal.coe_zero, zero_mul]
  set E : ℝ := ∑ s : Fin N, e s.val with hE
  have Epos : 0 < E := Finset.sum_pos' (fun s _ => enn s.val) ⟨⟨t, lt_of_lt_of_le hL hN⟩, Finset.mem_univ _, by
    simp only [he, if_pos (le_refl t)]; exact Real.exp_pos _⟩
  have den : ∑ s : Fin N, ((e s.val : ℝ) : EReal) = (E : EReal) := by
    rw [hE, coe_sum]
  have den' : ∑ s : Fin N, ((C * e s.val : ℝ) : EReal) * 1 = ((C * E : ℝ) : EReal) := by
    simp only [mul_one]
    rw [hE, Finset.mul_sum, coe_sum]
  simp only [hk, hr]
  rw [ext v, ext fun _ => 1, den, den', Ideal.div_coe (mul_pos Cpos Epos).ne', mul_comm,
    coe_mul_sum _ (by positivity)]
  refine Finset.sum_congr rfl fun s _ => ?_
  rw [Ideal.div_coe Epos.ne', ← EReal.coe_mul, ← mul_assoc, ← EReal.coe_mul, mul_comm]
  congr 2
  field_simp

end Cert.Softmax
end
-- ==== Proof.Tile.lean ====
/-
  A tile of the kernel's result at the ideal values, element by element: a quotient of two weighted sums over the keys up
  to the end of the tile's diagonal chunk, when the scores are reals.
-/
module

public import proofs.«01_k».proof.Proof.Steps
public import proofs.«01_k».proof.Proof.Softmax

@[expose] public section

set_option maxRecDepth 16384

noncomputable section

namespace Cert.KernelIdeal.Hand

open Cert.KernelIdeal.Gen
open Idealize.ShloMosaic Cert.Consts Cert.Softmax

/-- A key of a chunk. -/
theorem kb_at (kT : Vec Ideal S128x8192 .bf16) (n : ℕ) (hn : n ≤ 15) (d : Fin 128) (j : Fin 512) :
    kb kT n (ix2 d j) = kT (ix2 d ⟨512 * n + j.val, by omega⟩) := by
  unfold kb VecWindow.window
  refine congrArg kT (funext fun a => Fin.ext ?_)
  match a with
  | ⟨0, _⟩ => show 0 + 1 * d.val = d.val; omega
  | ⟨1, _⟩ => show 512 * min n 15 + 1 * j.val = 512 * n + j.val; rw [Nat.min_eq_left hn]; omega

/-- A gate of a chunk. -/
theorem fb_at (fk : Vec Ideal S1x1x8192 .f32) (n : ℕ) (hn : n ≤ 15) (j : Fin 512) :
    fb fk n (ix3 0 0 j) = fk (ix3 0 0 ⟨512 * n + j.val, by omega⟩) := by
  unfold fb VecWindow.window
  refine congrArg fk (funext fun a => Fin.ext ?_)
  match a with
  | ⟨0, _⟩ => rfl
  | ⟨1, _⟩ => rfl
  | ⟨2, _⟩ => show 512 * min n 15 + 1 * j.val = 512 * n + j.val; rw [Nat.min_eq_left hn]; omega

/-- A value of a chunk. -/
theorem vb_at (va : Vec Ideal S8192x256 .bf16) (n : ℕ) (hn : n ≤ 15) (j : Fin 512) (d : Fin 256) :
    vb va n (ix2 j d) = va (ix2 ⟨512 * n + j.val, by omega⟩ d) := by
  unfold vb VecWindow.window
  refine congrArg va (funext fun a => Fin.ext ?_)
  match a with
  | ⟨0, _⟩ => show 512 * min n 15 + 1 * j.val = 512 * n + j.val; rw [Nat.min_eq_left hn]; omega
  | ⟨1, _⟩ => show 0 + 1 * d.val = d.val; omega

/-- The first 128 columns kept for a head are its values. -/
theorem aug_value (v : Vec Ideal S8192x128 .bf16) (s : Fin 8192) (d : Fin 128) :
    aug v (ix2 s ⟨d.val, by omega⟩) = v (ix2 s d) := by
  unfold aug VecWindow.put
  rw [dif_neg (fun h => by have := (h 1).1; have e : (128 : ℕ) ≤ d.val := this; omega),
    dif_pos (fun a => by
      match a with
      | ⟨0, _⟩ => exact ⟨Nat.zero_le _, by show s.val < 0 + 8192; omega⟩
      | ⟨1, _⟩ => exact ⟨Nat.zero_le _, by show d.val < 0 + 128; omega⟩)]
  refine Eq.trans (congrArg (k0_pay104 v) (funext fun a => Fin.ext ?_)) (pay104_at v s d)
  match a with
  | ⟨0, _⟩ => rfl
  | ⟨1, _⟩ => rfl

/-- Column 128 kept for a head holds ones. -/
theorem aug_one (v : Vec Ideal S8192x128 .bf16) (s : Fin 8192) : aug v (ix2 s ⟨128, by omega⟩) = 1 := by
  unfold aug VecWindow.put
  rw [dif_pos (fun a => by
      match a with
      | ⟨0, _⟩ => exact ⟨Nat.zero_le _, by show s.val < 0 + 8192; omega⟩
      | ⟨1, _⟩ => exact ⟨le_refl _, by show 128 < 128 + 128; omega⟩)]
  refine Eq.trans (congrArg (k0_pay105 (F := Ideal)) (funext fun a => Fin.ext ?_)) (pay105_at s 0)
  match a with
  | ⟨0, _⟩ => rfl
  | ⟨1, _⟩ => rfl

section Row

variable (v5 : FVec Ideal S1x1 .f32) (q : Vec Ideal S512x128 .bf16) (kT : Vec Ideal S128x8192 .bf16)
  (fk : Vec Ideal S1x1x8192 .f32) (va : Vec Ideal S8192x256 .bf16) (r : Fin 512) (x : ℕ → ℝ)

/-- Row `r`'s score against key `s` is the real `x s`. -/
def Scores : Prop := ∀ s : Fin 8192,
  (∑ d : Fin 128, q (ix2 r d) * kT (ix2 d s)) + (v5 (ix2 0 0) - fk (ix3 0 0 s)) * (((Real.log 2)⁻¹ : ℝ) : EReal) = (x s.val : EReal)

variable {v5 q kT fk r x}

/-- A chunk's scores are the reals at its keys. -/
theorem sc_at (hx : Scores v5 q kT fk r x) (n : ℕ) (hn : n ≤ 15) (j : Fin 512) :
    sc v5 q kT fk n (ix2 r j) = (x (512 * n + j.val) : EReal) := by
  unfold sc
  rw [pay7_at, fb_at fk n hn, ← hx ⟨512 * n + j.val, by omega⟩]
  refine congrArg (· + _) (Finset.sum_congr rfl fun d _ => ?_)
  rw [kb_at kT n hn]

/-- Row `r`'s scores with those after position `t` at minus infinity. -/
def masked (x : ℕ → ℝ) (t : ℕ) (s : ℕ) : EReal := if s ≤ t then (x s : EReal) else ⊥

/-- No such score is plus infinity. -/
theorem masked_top (x : ℕ → ℝ) (t s : ℕ) : masked x t s ≠ ⊤ := by
  unfold masked
  split_ifs
  · exact EReal.coe_ne_top _
  · exact bot_ne_top

/-- The first such score is not minus infinity. -/
theorem masked_bot (x : ℕ → ℝ) (t : ℕ) : masked x t 0 ≠ ⊥ := by
  unfold masked
  rw [if_pos (Nat.zero_le t)]
  exact EReal.coe_ne_bot _

/-- The state after `n` chunks, in a row and a column, for chunks that lie before position `t`. -/
theorem st_at (hx : Scores v5 q kT fk r x) (t : ℕ) (d : Fin 256) (v : ℕ → EReal) (hv : ∀ s : Fin 8192, va (ix2 s d) = v s.val) :
    ∀ n : ℕ, n ≤ 15 → 512 * n ≤ t →
      Upto (masked x t) v (512 * n) ((st v5 q kT fk va n).1 (ix2 r 0)) ((st v5 q kT fk va n).2 (ix2 r d))
  | 0, _, _ => by
    refine .inl ⟨rfl, pay108_at r, ?_⟩
    show k0_pay6 k0_pay109 k0_pay106 (vb va 0) (ix2 r d) = 0
    rw [pay6_at, pay109_at, zero_add]
    exact Finset.sum_eq_zero fun j _ => by rw [pay106_at, zero_mul]
  | n + 1, hn, ht => by
    have h := (st_at hx t d v hv n (by omega) (by omega)).step (fun j => sc v5 q kT fk n (ix2 r j)) (fun j => vb va n (ix2 j d))
      (fun j => by
        rw [sc_at hx n (by omega)]
        unfold masked
        rw [if_pos (by have := j.isLt; omega)])
      (fun j => by rw [vb_at va n (by omega), hv]) (masked_top x t) (masked_bot x t) _ (pay12_at _ _ r)
    rw [show 512 * (n + 1) = 512 * n + 512 by omega]
    show Upto _ _ _ (k0_pay12 (st v5 q kT fk va n).1 (sc v5 q kT fk n) (ix2 r 0))
      (k0_pay13 (st v5 q kT fk va n).1 (st v5 q kT fk va n).2 (sc v5 q kT fk n) (sc v5 q kT fk n) (vb va n) (ix2 r d))
    rw [pay13_at]
    exact h

/-- The sums of tile `n` after its masked diagonal chunk, in a row and a column. -/
theorem last_at (hx : Scores v5 q kT fk r x) (n : ℕ) (hn : n ≤ 15) (d : Fin 256) (v : ℕ → EReal)
    (hv : ∀ s : Fin 8192, va (ix2 s d) = v s.val) :
    Upto (masked x (512 * n + r.val)) v (512 * n + 512)
      (mx (st v5 q kT fk va n).1 (k0_pay3 (sc v5 q kT fk n)) (ix2 r 0))
      (up (st v5 q kT fk va n).1 (st v5 q kT fk va n).2 (k0_pay3 (sc v5 q kT fk n)) (vb va n) (ix2 r d)) := by
  have h := (st_at (va := va) hx (512 * n + r.val) d v hv n hn (by omega)).step (fun j => k0_pay3 (sc v5 q kT fk n) (ix2 r j))
    (fun j => vb va n (ix2 j d))
    (fun j => by
      rw [pay3_at, sc_at hx n hn]
      unfold masked
      by_cases hj : j.val ≤ r.val
      · rw [if_pos hj, if_pos (by omega)]
      · rw [if_neg hj, if_neg (by omega)])
    (fun j => by rw [vb_at va n hn, hv]) (masked_top x _) (masked_bot x _) _ (pay12_at _ _ r)
  show Upto _ _ _ (k0_pay12 (st v5 q kT fk va n).1 (k0_pay3 (sc v5 q kT fk n)) (ix2 r 0))
    (k0_pay13 (st v5 q kT fk va n).1 (st v5 q kT fk va n).2 (k0_pay3 (sc v5 q kT fk n)) (k0_pay3 (sc v5 q kT fk n)) (vb va n) (ix2 r d))
  rw [pay13_at]
  exact h

/-- An element of tile `n`: the weighted sum of the values over the sum of the weights. -/
theorem outTile_at (hx : Scores v5 q kT fk r x) (n : ℕ) (hn : n ≤ 15) (d : Fin 128) (v : ℕ → EReal)
    (hv : ∀ s : Fin 8192, va (ix2 s ⟨d.val, by omega⟩) = v s.val) (one : ∀ s : Fin 8192, va (ix2 s ⟨128, by omega⟩) = 1) :
    ∃ M : ℝ, outTile v5 q kT fk va n (ix2 r d)
      = Ideal.div (∑ s ∈ Finset.range (512 * n + 512), Ideal.exp2 (masked x (512 * n + r.val) s - M) * v s)
          (∑ s ∈ Finset.range (512 * n + 512), Ideal.exp2 (masked x (512 * n + r.val) s - M) * 1) := by
  unfold outTile
  rw [pay5_at]
  rcases last_at (va := va) hx n hn ⟨d.val, by omega⟩ v hv with ⟨h, _⟩ | ⟨M, hM, ha⟩
  · omega
  rcases last_at (va := va) hx n hn ⟨128, by omega⟩ (fun _ => 1) one with ⟨h, _⟩ | ⟨M', hM', hb⟩
  · omega
  have : M' = M := by rw [hM] at hM'; exact_mod_cast hM'.symm
  subst this
  exact ⟨M', by rw [ha, hb]⟩

end Row

end Cert.KernelIdeal.Hand
end
-- ==== Proof.RefValue.lean ====
/-
  The reference's result at the ideal values, element by element.
-/
module

public import proofs.«01_k».proof.Proof.Gen.ReferenceIdeal.Run
public import proofs.«01_k».proof.Proof.Consts
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Cert.Consts

variable (x : FVec Ideal S16384x4096 .bf16) (k : FVec Ideal S2048x16384 .bf16) (f : FVec Ideal S32x1x8192 .f32)

/-- The queries by sequence, position, head and feature. -/
def qR : FVec Ideal S2x8192x16x128 .f32 := shapeCast _ (extf .f32 (extractStridedSlice S16384x2048 ![0, 0] x slices_S16384x4096_S16384x2048_0_0) bitsLt_bf16_f32) shapeCasts_S16384x2048_S2x8192x16x128

/-- The values by sequence, position, head and feature. -/
def vR : FVec Ideal S2x8192x16x128 .f32 := shapeCast _ (extf .f32 (extractStridedSlice S16384x2048 ![0, 2048] x slices_S16384x4096_S16384x2048_0_2048) bitsLt_bf16_f32) shapeCasts_S16384x2048_S2x8192x16x128

/-- The keys by head, feature, sequence and position. -/
def kR : FVec Ideal S16x128x2x8192 .f32 := shapeCast _ (extf .f32 k bitsLt_bf16_f32) shapeCasts_S2048x16384_S16x128x2x8192

/-- The cumulative log gates by sequence, head and position. -/
def fR : FVec Ideal S2x16x8192 .f32 := shapeCast _ f shapeCasts_S32x1x8192_S2x16x8192

/-- The scores, before the mask. -/
def sR : FVec Ideal S2x16x8192x8192 .f32 :=
  subf (addf (mulf (Host.dotGeneral dot_S2x8192x16x128_S16x128x2x8192_S2x16x8192x8192_3_1_1_3_02_20 none (qR x) (kR k)) (broadcastInDim S2x16x8192x8192 ![] bcast_S_S2x16x8192x8192 (Host.log (constant S_ .f32 0x40000000#32)))) (broadcastInDim S2x16x8192x8192 ![0, 1, 2, 3] bcast_S2x16x8192x1_S2x16x8192x8192_0_1_2_3 (broadcastInDim S2x16x8192x1 ![0, 1, 2] bcast_S2x16x8192_S2x16x8192x1_0_1_2 (fR f)))) (broadcastInDim S2x16x8192x8192 ![0, 1, 2, 3] bcast_S2x16x1x8192_S2x16x8192x8192_0_1_2_3 (broadcastInDim S2x16x1x8192 ![0, 1, 3] bcast_S2x16x8192_S2x16x1x8192_0_1_3 (fR f)))

/-- Scores with those of later keys put at minus infinity. -/
def maskR (s : FVec Ideal S2x16x8192x8192 .f32) : FVec Ideal S2x16x8192x8192 .f32 :=
  select (broadcastInDim S2x16x8192x8192 ![2, 3] bcast_S8192x8192_S2x16x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) s (broadcastInDim S2x16x8192x8192 ![] bcast_S_S2x16x8192x8192 (id (constant S_ .f32 0xFF800000#32)))

/-- Row maxima. -/
def maxR (s : FVec Ideal S2x16x8192x8192 .f32) : FVec Ideal S2x16x8192 .f32 :=
  maximumf (broadcastInDim S2x16x8192 ![] bcast_S_S2x16x8192 (constant S_ .f32 0xFF800000#32)) (Host.reduce FloatOps.maximumf s (constant S_ .f32 0xFF800000#32) reducesTo_S2x16x8192x8192_S2x16x8192_d3 h_S_)

/-- Exponentials of scores less given row values. -/
def expR (s : FVec Ideal S2x16x8192x8192 .f32) (m : FVec Ideal S2x16x8192 .f32) : FVec Ideal S2x16x8192x8192 .f32 :=
  Host.exp (subf s (broadcastInDim S2x16x8192x8192 ![0, 1, 2, 3] bcast_S2x16x8192x1_S2x16x8192x8192_0_1_2_3 (broadcastInDim S2x16x8192x1 ![0, 1, 2] bcast_S2x16x8192_S2x16x8192x1_0_1_2 m)))

/-- Rows divided by their sums. -/
def normR (e : FVec Ideal S2x16x8192x8192 .f32) : FVec Ideal S2x16x8192x8192 .f32 :=
  Host.divf e (broadcastInDim S2x16x8192x8192 ![0, 1, 2, 3] bcast_S2x16x8192x1_S2x16x8192x8192_0_1_2_3 (broadcastInDim S2x16x8192x1 ![0, 1, 2] bcast_S2x16x8192_S2x16x8192x1_0_1_2 (Host.reduceAdd e (constant S_ .f32 0x00000000#32) reducesTo_S2x16x8192x8192_S2x16x8192_d3 h_S_)))

/-- The values weighted by `p`, as the result's rows and columns. -/
def outR (v : FVec Ideal S2x8192x16x128 .f32) (p : FVec Ideal S2x16x8192x8192 .f32) : FVec Ideal S16384x2048 .bf16 :=
  truncf .bf16 (shapeCast S16384x2048 (transpose S2x8192x16x128 [0, 3, 1, 2] (Host.dotGeneral dot_S2x8192x16x128_S2x16x8192x8192_S2x16x128x8192_1_3_3_2_02_01 none v p) transposes_S2x16x128x8192_S2x8192x16x128_0_3_1_2) shapeCasts_S2x8192x16x128_S16384x2048) bitsLt_bf16_f32

/-- The reference's result, in these steps. -/
theorem res_eq (m : (ℓ : Loc nD τ sig) → Buf (Elt Ideal) ℓ) (c : Dev nD) :
    Value.res_out0 m c = outR (vR (m ((c.tc : Thread nD τ).loc main_arg0)))
      (normR (expR (maskR (sR (m ((c.tc : Thread nD τ).loc main_arg0)) (m ((c.tc : Thread nD τ).loc main_arg1)) (m ((c.tc : Thread nD τ).loc main_arg2))))
        (maxR (maskR (sR (m ((c.tc : Thread nD τ).loc main_arg0)) (m ((c.tc : Thread nD τ).loc main_arg1)) (m ((c.tc : Thread nD τ).loc main_arg2))))))) := rfl

/-- The result at a row and a column: the values of the column's feature, weighted by the row's weights. -/
theorem outR_at (v : FVec Ideal S2x8192x16x128 .f32) (p : FVec Ideal S2x16x8192x8192 .f32) (i : Fin 16384) (c : Fin 2048) :
    outR v p (ix2 i c) = ∑ s : Fin 8192, v (ix4 ⟨i.val / 8192, by omega⟩ s ⟨c.val / 128, by omega⟩ ⟨c.val % 128, by omega⟩)
      * p (ix4 ⟨i.val / 8192, by omega⟩ ⟨c.val / 128, by omega⟩ ⟨i.val % 8192, by omega⟩ s) := by
  pointwise [outR]

/-- A row's entry divided by the row's sum. -/
theorem normR_at (e : FVec Ideal S2x16x8192x8192 .f32) (b : Fin 2) (h : Fin 16) (t s : Fin 8192) :
    normR e (ix4 b h t s) = Ideal.div (e (ix4 b h t s)) (∑ j : Fin 8192, e (ix4 b h t j)) := by
  pointwise [normR]

/-- The exponential of a score less its row's value. -/
theorem expR_at (s : FVec Ideal S2x16x8192x8192 .f32) (m : FVec Ideal S2x16x8192 .f32) (b : Fin 2) (h : Fin 16) (t j : Fin 8192) :
    expR s m (ix4 b h t j) = Ideal.exp (s (ix4 b h t j) - m (ix3 b h t)) := by
  pointwise [expR]

/-- The mask. -/
theorem maskR_at (s : FVec Ideal S2x16x8192x8192 .f32) (b : Fin 2) (h : Fin 16) (t j : Fin 8192) :
    maskR s (ix4 b h t j) = if j.val ≤ t.val then s (ix4 b h t j) else ⊥ := by
  pointwise [maskR, id]
  rw [ofBits_bot, sle_at (by omega) (by omega)]
  split_ifs <;> rfl

/-- A largest entry over the last of four axes. -/
theorem reduceMax_at {A B C D : ℕ} {u : Shape} (s : FVec Ideal ⟨4, ![A, B, C, D]⟩ .f32) (init : FVec Ideal u .f32)
    (h' : Shape.ReducesTo ⟨4, ![A, B, C, D]⟩ [3] ⟨3, ![A, B, C]⟩) (hu : 0 < u.numel) (b : Fin A) (h : Fin B) (t : Fin C) :
    Host.reduce (FloatOps.maximumf (F := Ideal) (φ := .f32)) s init h' hu (ix3 b h t)
      = Finset.univ.fold max (init (Shape.Idx.first hu)) fun j : Fin D => s (ix4 b h t j) := by
  have hr : Shape.Reduces ⟨4, ![A, B, C, D]⟩ [3] ⟨3, ![A, B, C]⟩ := ⟨h'.1, by show 0 < 3; decide, h'.2⟩
  rw [Host.reduce_eq_fold, h'.drop_eq_drop hr, hr.fold_filter_drop_single]
  refine congrArg (fun g => Finset.fold max (init (Shape.Idx.first hu)) g Finset.univ) (funext fun j => congrArg s (funext fun a => Fin.ext ?_))
  rw [hr.lift_val]
  match a with
  | ⟨0, _⟩ => rfl
  | ⟨1, _⟩ => rfl
  | ⟨2, _⟩ => rfl
  | ⟨3, _⟩ => rfl

/-- The row maximum. -/
theorem maxR_at (s : FVec Ideal S2x16x8192x8192 .f32) (b : Fin 2) (h : Fin 16) (t : Fin 8192) :
    maxR s (ix3 b h t) = Finset.univ.fold max ⊥ fun j : Fin 8192 => s (ix4 b h t j) := by
  unfold maxR
  rw [maximumf_apply, reduceMax_at]
  show max (Ideal.ofBits .f32 0xFF800000#32) (Finset.univ.fold max (Ideal.ofBits .f32 0xFF800000#32) _) = _
  rw [ofBits_bot, max_eq_right bot_le]

/-- A score: the product of a query and a key times the logarithm of 2, and the difference of two gates. -/
theorem sR_at (b : Fin 2) (h : Fin 16) (t j : Fin 8192) : sR x k f (ix4 b h t j)
    = (∑ d : Fin 128, x (ix2 ⟨b.val * 8192 + t.val, by omega⟩ ⟨h.val * 128 + d.val, by omega⟩)
          * k (ix2 ⟨h.val * 128 + d.val, by omega⟩ ⟨b.val * 8192 + j.val, by omega⟩)) * ((Real.log 2 : ℝ) : EReal)
      + f (ix3 ⟨b.val * 16 + h.val, by omega⟩ 0 t) - f (ix3 ⟨b.val * 16 + h.val, by omega⟩ 0 j) := by
  pointwise [sR, qR, kR, fR]
  rw [ofBits_two, log_two]

/-- A value. -/
theorem vR_at (b : Fin 2) (h : Fin 16) (t : Fin 8192) (d : Fin 128) : vR x (ix4 b t h d)
    = x (ix2 ⟨b.val * 8192 + t.val, by omega⟩ ⟨2048 + (h.val * 128 + d.val), by omega⟩) := by
  pointwise [vR]

/-- The reference's result as a function of the arguments. -/
def result : FVec Ideal S16384x2048 .bf16 :=
  outR (vR x) (normR (expR (maskR (sR x k f)) (maxR (maskR (sR x k f)))))

/-- The masked scores of a row. -/
def scores (b : Fin 2) (h : Fin 16) (t : Fin 8192) : Fin 8192 → EReal := fun s => maskR (sR x k f) (ix4 b h t s)

/-- The result for a position, a head and a feature: the softmax of the row's masked scores, against the values. -/
theorem result_at (b : Fin 2) (h : Fin 16) (t : Fin 8192) (d : Fin 128) (i : Fin 16384) (c : Fin 2048)
    (hi : i.val = b.val * 8192 + t.val) (hc : c.val = h.val * 128 + d.val) :
    result x k f (ix2 i c) = ∑ s : Fin 8192, x (ix2 ⟨b.val * 8192 + s.val, by omega⟩ ⟨2048 + (h.val * 128 + d.val), by omega⟩)
      * Ideal.div (Ideal.exp (scores x k f b h t s - Finset.univ.fold max ⊥ (scores x k f b h t)))
          (∑ j : Fin 8192, Ideal.exp (scores x k f b h t j - Finset.univ.fold max ⊥ (scores x k f b h t))) := by
  have e1 : (⟨i.val / 8192, by omega⟩ : Fin 2) = b := Fin.ext (by show i.val / 8192 = b.val; omega)
  have e2 : (⟨c.val / 128, by omega⟩ : Fin 16) = h := Fin.ext (by show c.val / 128 = h.val; omega)
  have e3 : (⟨c.val % 128, by omega⟩ : Fin 128) = d := Fin.ext (by show c.val % 128 = d.val; omega)
  have e4 : (⟨i.val % 8192, by omega⟩ : Fin 8192) = t := Fin.ext (by show i.val % 8192 = t.val; omega)
  unfold result
  rw [outR_at]
  refine Finset.sum_congr rfl fun s _ => ?_
  rw [e1, e2, e3, e4, vR_at, normR_at]
  simp only [expR_at, maxR_at]
  rfl

end Cert.ReferenceIdeal.Hand
end
-- ==== Proof.Finite.lean ====
/-
  The precondition read: queries, keys and gates are reals.
-/
module

public import proofs.«01_k».proof.Pre_finite
public import proofs.«01_k».proof.Proof.Consts
public import Idealize.ShloMosaic.Lib.ReduceAll
public import Idealize.ShloMosaic.Lib.Pointwise

@[expose] public section

set_option maxRecDepth 16384

noncomputable section

namespace Cert.Finite

open Idealize.ShloMosaic Cert.Consts

/-- The side conditions of the precondition's operations. -/
theorem facts : Cert.Pre_finite.Facts where
  slices_S16384x4096_S16384x2048_0_0 := by decide
  bitsLt_bf16_f32 := by decide
  bcast_S_S16384x2048 := by decide
  reducesTo_S16384x2048_S_d0_1 := by decide
  h_S_ := by decide
  bcast_S_S2048x16384 := by decide
  reducesTo_S2048x16384_S_d0_1 := by decide
  bcast_S_S32x1x8192 := by decide
  reducesTo_S32x1x8192_S_d0_1_2 := by decide

/-- A bit that is the conjunction of two bits. -/
theorem both : ∀ a b : BitVec 1, IntOp.andi a b = 1#1 → a = 1#1 ∧ b = 1#1 := by decide

/-- An extended real whose absolute value is below plus infinity is a real. -/
theorem real_of {x : EReal} (h : Ideal.cmp .olt (max x (-x)) ⊤ = 1#1) : ∃ r : ℝ, x = r := by
  have lt : max x (-x) < ⊤ := by
    by_contra hn
    rw [show Ideal.cmp .olt (max x (-x)) ⊤ = BitVec.ofBool (decide (max x (-x) < ⊤)) from rfl, decide_eq_false hn] at h
    exact absurd h (by decide)
  induction x with
  | bot => exact absurd lt (by simp)
  | top => exact absurd lt (by simp)
  | coe r => exact ⟨r, rfl⟩

/-- Queries (the first 2048 columns of the first argument), keys and gates are reals. -/
def Reals (x : FVec Ideal ⟨2, ![16384, 4096]⟩ .bf16) (k : FVec Ideal ⟨2, ![2048, 16384]⟩ .bf16) (f : FVec Ideal ⟨3, ![32, 1, 8192]⟩ .f32) : Prop :=
  (∀ (i : Fin 16384) (c : Fin 2048), ∃ r : ℝ, x (ix2 i ⟨c.val, by omega⟩) = (r : EReal))
    ∧ (∀ (i : Fin 2048) (c : Fin 16384), ∃ r : ℝ, k (ix2 i c) = (r : EReal))
    ∧ ∀ (i : Fin 32) (c : Fin 8192), ∃ r : ℝ, f (ix3 i 0 c) = (r : EReal)

/-- There is one index of a scalar. -/
instance : Subsingleton Cert.Pre_finite.S_.Idx := ⟨fun a b => funext fun i => i.elim0⟩

/-- The precondition says so. -/
theorem reals_of [hF : Cert.Pre_finite.Facts] (x : FVec Ideal ⟨2, ![16384, 4096]⟩ .bf16) (k : FVec Ideal ⟨2, ![2048, 16384]⟩ .bf16) (f : FVec Ideal ⟨3, ![32, 1, 8192]⟩ .f32)
    (h : Cert.Pre_finite.fn (F := Ideal) x k f = fun _ => 1#1) : Reals x k f := by
  have h0 := congrFun h ix0
  unfold Cert.Pre_finite.fn at h0
  obtain ⟨h1, hf⟩ := both _ _ h0
  obtain ⟨hx, hk⟩ := both _ _ h1
  refine ⟨fun i c => real_of ?_, fun i c => real_of ?_, fun i c => real_of ?_⟩
  · have e := Host.reduce_andi_all _ _ _ _ _ hx (ix2 i c)
    pointwise at e
    rw [ofBits_top] at e
    exact e
  · have e := Host.reduce_andi_all _ _ _ _ _ hk (ix2 i c)
    pointwise at e
    rw [ofBits_top] at e
    exact e
  · have e := Host.reduce_andi_all _ _ _ _ _ hf (ix3 i 0 c)
    pointwise at e
    rw [ofBits_top] at e
    exact e

end Cert.Finite
end
-- ==== Proof.Attend.lean ====
/-
  A tile of the kernel, computed from blocks that read the arguments at their places, is the reference's result there.
-/
module

public import proofs.«01_k».proof.Proof.Tile
public import proofs.«01_k».proof.Proof.Body
public import proofs.«01_k».proof.Proof.RefValue
public import proofs.«01_k».proof.Proof.Finite

@[expose] public section

set_option maxRecDepth 16384

noncomputable section

namespace Cert.Attend

open Idealize.ShloMosaic Cert.Consts Cert.Softmax Cert.Finite Cert.KernelIdeal.Hand Cert.ReferenceIdeal.Hand

/-- A function on the positions, continued by zero. -/
def onNat {α : Type} [Zero α] (g : Fin 8192 → α) (s : ℕ) : α := if h : s < 8192 then g ⟨s, h⟩ else 0

/-- It is the function at a position. -/
theorem onNat_val {α : Type} [Zero α] (g : Fin 8192 → α) (s : Fin 8192) : onNat g s.val = g s := dif_pos s.isLt

/-- An element of a tile is the reference's element at its sequence, position, head and feature, for real queries, keys
    and gates. -/
theorem tile_eq (x : FVec Ideal ⟨2, ![16384, 4096]⟩ .bf16) (k : FVec Ideal ⟨2, ![2048, 16384]⟩ .bf16)
    (f : FVec Ideal ⟨3, ![32, 1, 8192]⟩ .f32) (fin : Reals x k f) (b : Fin 2) (h n : Fin 16)
    (q : Vec Ideal Cert.KernelIdeal.S512x128 .bf16) (kT : Vec Ideal Cert.KernelIdeal.S128x8192 .bf16)
    (v : Vec Ideal Cert.KernelIdeal.S8192x128 .bf16) (fk : Vec Ideal Cert.KernelIdeal.S1x1x8192 .f32)
    (hq : ∀ (r : Fin 512) (d : Fin 128), q (ix2 r d) = x (ix2 ⟨b.val * 8192 + (512 * n.val + r.val), by omega⟩ ⟨h.val * 128 + d.val, by omega⟩))
    (hk : ∀ (d : Fin 128) (s : Fin 8192), kT (ix2 d s) = k (ix2 ⟨h.val * 128 + d.val, by omega⟩ ⟨b.val * 8192 + s.val, by omega⟩))
    (hv : ∀ (s : Fin 8192) (d : Fin 128), v (ix2 s d) = x (ix2 ⟨b.val * 8192 + s.val, by omega⟩ ⟨2048 + (h.val * 128 + d.val), by omega⟩))
    (hf : ∀ s : Fin 8192, fk (ix3 0 0 s) = f (ix3 ⟨b.val * 16 + h.val, by omega⟩ 0 s)) (r : Fin 512) (d : Fin 128) :
    outTile (gate fk n.val) q kT fk (aug v) n.val (ix2 r d)
      = result x k f (ix2 ⟨b.val * 8192 + (512 * n.val + r.val), by omega⟩ ⟨h.val * 128 + d.val, by omega⟩) := by
  obtain ⟨finq, fink, finf⟩ := fin
  choose qr hqr using fun e : Fin 128 => finq ⟨b.val * 8192 + (512 * n.val + r.val), by omega⟩ ⟨h.val * 128 + e.val, by omega⟩
  choose kr hkr using fun (e : Fin 128) (s : Fin 8192) => fink ⟨h.val * 128 + e.val, by omega⟩ ⟨b.val * 8192 + s.val, by omega⟩
  choose fr hfr using fun s : Fin 8192 => finf ⟨b.val * 16 + h.val, by omega⟩ s
  have log2 : Real.log 2 ≠ 0 := (Real.log_pos (by norm_num)).ne'
  let qk : Fin 8192 → ℝ := fun s => ∑ e : Fin 128, qr e * kr e s
  have hqk : ∀ s : Fin 8192, (∑ e : Fin 128, x (ix2 ⟨b.val * 8192 + (512 * n.val + r.val), by omega⟩ ⟨h.val * 128 + e.val, by omega⟩)
      * k (ix2 ⟨h.val * 128 + e.val, by omega⟩ ⟨b.val * 8192 + s.val, by omega⟩)) = ((qk s : ℝ) : EReal) := fun s => by
    show _ = ((∑ e : Fin 128, qr e * kr e s : ℝ) : EReal)
    rw [coe_sum]
    refine Finset.sum_congr rfl fun e _ => ?_
    rw [EReal.coe_mul, hqr, hkr]
  let t : Fin 8192 := ⟨512 * n.val + r.val, by omega⟩
  let t0 : Fin 8192 := ⟨512 * n.val, by omega⟩
  let X : ℕ → ℝ := onNat fun s => qk s + (fr t0 - fr s) * (Real.log 2)⁻¹
  let Y : ℕ → ℝ := onNat fun s => qk s * Real.log 2 + fr t - fr s
  have hX : ∀ s : Fin 8192, X s.val = qk s + (fr t0 - fr s) * (Real.log 2)⁻¹ := fun s => onNat_val _ s
  have hY' : ∀ s : Fin 8192, Y s.val = qk s * Real.log 2 + fr t - fr s := fun s => onNat_val _ s
  have hg : gate fk n.val (ix2 0 0) = ((fr t0 : ℝ) : EReal) := by
    unfold gate
    rw [pay103_at, fb_at fk n.val (by omega), hf]
    exact hfr _
  have hx : Scores (gate fk n.val) q kT fk r X := fun s => by
    rw [hg, hf, hfr, hX, EReal.coe_add, EReal.coe_mul, EReal.coe_sub, ← hqk]
    refine congrArg (· + _) (Finset.sum_congr rfl fun e _ => ?_)
    rw [hq, hk]
  have hxy : ∀ s, s ≤ 512 * n.val + r.val → X s = (Real.log 2)⁻¹ * (Y s + (fr t0 - fr t)) := fun s hs => by
    have e1 := hX ⟨s, by omega⟩
    have e2 := hY' ⟨s, by omega⟩
    dsimp only at e1 e2
    rw [e1, e2]
    field_simp
    ring
  have hY : ∀ s : Fin 8192, scores x k f b h t s = if s.val ≤ 512 * n.val + r.val then ((Y s.val : ℝ) : EReal) else ⊥ := fun s => by
    unfold scores
    rw [maskR_at, sR_at, hY', hqk, hfr, hfr, EReal.coe_sub, EReal.coe_add, EReal.coe_mul]
  let w : ℕ → EReal := onNat fun s => x (ix2 ⟨b.val * 8192 + s.val, by omega⟩ ⟨2048 + (h.val * 128 + d.val), by omega⟩)
  have hw : ∀ s : Fin 8192, w s.val = x (ix2 ⟨b.val * 8192 + s.val, by omega⟩ ⟨2048 + (h.val * 128 + d.val), by omega⟩) :=
    fun s => onNat_val _ s
  obtain ⟨M, hM⟩ := outTile_at (va := aug v) hx n.val (by omega) d w
    (fun s => by rw [aug_value, hv, hw]) (fun s => aug_one v s)
  rw [hM, result_at x k f b h t d _ _ rfl rfl]
  refine (row_eq (512 * n.val + r.val) (512 * n.val + 512) (by omega) (by omega : _ ≤ 8192) X Y _ hxy w M (scores x k f b h t) hY).trans ?_
  exact Finset.sum_congr rfl fun s _ => congrArg (· * _) (hw s)

end Cert.Attend
end
-- ==== Proof.Array.lean ====
/-
  The kernel's result array: the reference's result of the arguments, when queries, keys and gates are reals.
-/
module

public import proofs.«01_k».proof.Proof.Attend
public import proofs.«01_k».proof.Proof.Run
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe
open Cert.Finite Cert.Attend Cert.ReferenceIdeal.Hand

/-- Which block of its array each window is on, by the point's sequence, head and query tile. -/
theorem index0 : ∀ i : grid0.Coords, cc0_transform_0 i 0 = 16 * (i 0).val + (i 2).val ∧ cc0_transform_0 i 1 = (i 1).val := by decide +kernel
theorem index1 : ∀ i : grid0.Coords, cc0_transform_1 i 0 = (i 1).val ∧ cc0_transform_1 i 1 = (i 0).val := by decide +kernel
theorem index2' : ∀ i : grid0.Coords, cc0_transform_2 i 0 = (i 0).val ∧ cc0_transform_2 i 1 = 16 + (i 1).val := by decide +kernel
theorem index3 : ∀ i : grid0.Coords, cc0_transform_3 i 0 = 16 * (i 0).val + (i 1).val ∧ cc0_transform_3 i 1 = 0 ∧ cc0_transform_3 i 2 = 0 := by decide +kernel
theorem index4 : ∀ i : grid0.Coords, cc0_transform_4 i 0 = 16 * (i 0).val + (i 2).val ∧ cc0_transform_4 i 1 = (i 1).val := by decide +kernel

/-- A point's sequence, head and query tile, by its number. -/
theorem coords_at : ∀ t : Fin cfg0.N, (grid0.coords t 0).val = t.val / 256 ∧ (grid0.coords t 1).val = t.val / 16 % 16
    ∧ (grid0.coords t 2).val = t.val % 16 := by decide +kernel

variable (m : (ℓ : Loc nD τ sig) → Buf (Elt Ideal) ℓ) (c : Dev nD) (t : Fin cfg0.N)

/-- The sequence of a point. -/
def seqOf : Fin 2 := ⟨(grid0.coords t 0).val, (grid0.coords t 0).isLt⟩
/-- The head of a point. -/
def headOf : Fin 16 := ⟨(grid0.coords t 1).val, (grid0.coords t 1).isLt⟩
/-- The query tile of a point. -/
def tileOf : Fin 16 := ⟨(grid0.coords t 2).val, (grid0.coords t 2).isLt⟩

/-- The first argument, as the run starts. -/
def argX : FVec Ideal ⟨2, ![16384, 4096]⟩ .bf16 := m ((c.tc : Thread nD τ).loc main_arg0)
/-- The second argument, as the run starts. -/
def argK : FVec Ideal ⟨2, ![2048, 16384]⟩ .bf16 := m ((c.tc : Thread nD τ).loc main_arg1)
/-- The third argument, as the run starts. -/
def argF : FVec Ideal ⟨3, ![32, 1, 8192]⟩ .f32 := m ((c.tc : Thread nD τ).loc main_arg2)

/-- A query of the point's block. -/
theorem qB_at (r : Fin 512) (d : Fin 128) : qB m c t (ix2 r d)
    = argX m c (ix2 ⟨(seqOf t).val * 8192 + (512 * (tileOf t).val + r.val), by have := (seqOf t).isLt; have := (tileOf t).isLt; omega⟩
        ⟨(headOf t).val * 128 + d.val, by have := (headOf t).isLt; omega⟩) := by
  obtain ⟨e0, e1⟩ := index0 (grid0.coords t)
  unfold qB iblk
  rw [View.read_apply]
  show m _ _ = m _ _
  congr 1
  funext a
  apply Fin.ext
  match a with
  | ⟨0, _⟩ =>
    show cc0_transform_0 (grid0.coords t) 0 * 512 + 1 * r.val = (grid0.coords t 0).val * 8192 + (512 * (grid0.coords t 2).val + r.val)
    rw [e0]; omega
  | ⟨1, _⟩ =>
    show cc0_transform_0 (grid0.coords t) 1 * 128 + 1 * d.val = (grid0.coords t 1).val * 128 + d.val
    rw [e1]; omega

/-- A key of the point's block. -/
theorem kB_at (d : Fin 128) (s : Fin 8192) : kB m c t (ix2 d s)
    = argK m c (ix2 ⟨(headOf t).val * 128 + d.val, by have := (headOf t).isLt; omega⟩
        ⟨(seqOf t).val * 8192 + s.val, by have := (seqOf t).isLt; omega⟩) := by
  obtain ⟨e0, e1⟩ := index1 (grid0.coords t)
  unfold kB iblk
  rw [View.read_apply]
  show m _ _ = m _ _
  congr 1
  funext a
  apply Fin.ext
  match a with
  | ⟨0, _⟩ =>
    show cc0_transform_1 (grid0.coords t) 0 * 128 + 1 * d.val = (grid0.coords t 1).val * 128 + d.val
    rw [e0]; omega
  | ⟨1, _⟩ =>
    show cc0_transform_1 (grid0.coords t) 1 * 8192 + 1 * s.val = (grid0.coords t 0).val * 8192 + s.val
    rw [e1]; omega

/-- A value of the point's block. -/
theorem vB_at (s : Fin 8192) (d : Fin 128) : vB m c t (ix2 s d)
    = argX m c (ix2 ⟨(seqOf t).val * 8192 + s.val, by have := (seqOf t).isLt; omega⟩
        ⟨2048 + ((headOf t).val * 128 + d.val), by have := (headOf t).isLt; omega⟩) := by
  obtain ⟨e0, e1⟩ := index2' (grid0.coords t)
  unfold vB iblk
  rw [View.read_apply]
  show m _ _ = m _ _
  congr 1
  funext a
  apply Fin.ext
  match a with
  | ⟨0, _⟩ =>
    show cc0_transform_2 (grid0.coords t) 0 * 8192 + 1 * s.val = (grid0.coords t 0).val * 8192 + s.val
    rw [e0]; omega
  | ⟨1, _⟩ =>
    show cc0_transform_2 (grid0.coords t) 1 * 128 + 1 * d.val = 2048 + ((grid0.coords t 1).val * 128 + d.val)
    rw [e1]; omega

/-- A gate of the point's block. -/
theorem fB_at (s : Fin 8192) : fB m c t (ix3 0 0 s)
    = argF m c (ix3 ⟨(seqOf t).val * 16 + (headOf t).val, by have := (seqOf t).isLt; have := (headOf t).isLt; omega⟩ 0 s) := by
  obtain ⟨e0, e1, e2⟩ := index3 (grid0.coords t)
  unfold fB iblk
  rw [View.read_apply]
  show m _ _ = m _ _
  congr 1
  funext a
  apply Fin.ext
  match a with
  | ⟨0, _⟩ =>
    show cc0_transform_3 (grid0.coords t) 0 * 1 + 1 * 0 = (grid0.coords t 0).val * 16 + (grid0.coords t 1).val
    rw [e0]; omega
  | ⟨1, _⟩ =>
    show cc0_transform_3 (grid0.coords t) 1 * 1 + 1 * 0 = 0
    rw [e1]
  | ⟨2, _⟩ =>
    show cc0_transform_3 (grid0.coords t) 2 * 8192 + 1 * s.val = s.val
    rw [e2]; omega

/-- Where an element of the point's output block lies in the result. -/
theorem emb4 (r : Fin 512) (d : Fin 128) : ((cfg0.win 4).blk t).view.emb (ix2 r d)
    = (ix2 ⟨(seqOf t).val * 8192 + (512 * (tileOf t).val + r.val), by have := (seqOf t).isLt; have := (tileOf t).isLt; omega⟩
        ⟨(headOf t).val * 128 + d.val, by have := (headOf t).isLt; omega⟩ : S16384x2048.Idx) := by
  obtain ⟨e0, e1⟩ := index4 (grid0.coords t)
  funext a
  apply Fin.ext
  match a with
  | ⟨0, _⟩ =>
    show cc0_transform_4 (grid0.coords t) 0 * 512 + 1 * r.val = (grid0.coords t 0).val * 8192 + (512 * (grid0.coords t 2).val + r.val)
    rw [e0]; omega
  | ⟨1, _⟩ =>
    show cc0_transform_4 (grid0.coords t) 1 * 128 + 1 * d.val = (grid0.coords t 1).val * 128 + d.val
    rw [e1]; omega

/-- The reference's result of the kernel's arguments. -/
def want : Vec Ideal S16384x2048 .bf16 := result (argX m c) (argK m c) (argF m c)

/-- What a point writes back is its block of the reference's result. -/
theorem flushed_eq (fin : Reals (argX m c) (argK m c) (argF m c)) :
    (dats m 0 c).flushed 4 t = ((cfg0.win 4).blk t).view.read (Elt Ideal) (want m c) := by
  funext j
  obtain ⟨r, d, rfl⟩ : ∃ (r : Fin 512) (d : Fin 128), j = ix2 r d := ⟨_, _, eq_ix2 j⟩
  rw [View.read_apply, emb4]
  exact tile_eq (argX m c) (argK m c) (argF m c) fin (seqOf t) (headOf t) (tileOf t) (qB m c t) (kB m c t) (vB m c t) (fB m c t)
    (qB_at m c t) (kB_at m c t) (vB_at m c t) (fB_at m c t) r d

/-- Every element of the result is in some point's block. -/
theorem cover (i : S16384x2048.Idx) : ∃ t : Fin cfg0.N, (cfg0.win 4).flush t = true ∧ i ∈ ((cfg0.win 4).blk t).view.set := by
  obtain ⟨r, d, rfl⟩ : ∃ (r : Fin 16384) (d : Fin 2048), i = ix2 r d := ⟨_, _, eq_ix2 i⟩
  have hN : cfg0.N = 512 := by decide +kernel
  let t : Fin cfg0.N := ⟨r.val / 8192 * 256 + d.val / 128 * 16 + r.val / 512 % 16, by omega⟩
  obtain ⟨c0, c1, c2⟩ := coords_at t
  have tv : t.val = r.val / 8192 * 256 + d.val / 128 * 16 + r.val / 512 % 16 := rfl
  have h := ((cfg0.win 4).blk t).view.emb_mem_set (ix2 ⟨r.val % 512, by omega⟩ ⟨d.val % 128, by omega⟩)
  have er : (⟨(seqOf t).val * 8192 + (512 * (tileOf t).val + r.val % 512), by have := (seqOf t).isLt; have := (tileOf t).isLt; omega⟩ : Fin 16384) = r := by
    apply Fin.ext
    show (grid0.coords t 0).val * 8192 + (512 * (grid0.coords t 2).val + r.val % 512) = r.val
    rw [c0, c2]; omega
  have ed : (⟨(headOf t).val * 128 + d.val % 128, by have := (headOf t).isLt; omega⟩ : Fin 2048) = d := by
    apply Fin.ext
    show (grid0.coords t 1).val * 128 + d.val % 128 = d.val
    rw [c1]; omega
  rw [emb4, er, ed] at h
  exact ⟨t, flush0_4 t, h⟩

/-- The result array at the end of the run. -/
theorem final (fin : Reals (argX m c) (argK m c) (argF m c)) : (dats m 0 c).arrAt 4 cfg0.N = want m c :=
  (dats m 0 c).arrAt_eq_of_cover 4 (want m c) (fun t _ => flushed_eq m c t fin) cover

end Cert.KernelIdeal.Hand
end
-- ==== Proof.Frames.lean ====
/-
  The three programs leave their arguments as they were and every counter at zero; the named constant is the printed one;
  kernel and reference compute the same result.
-/
module

public import proofs.«01_k».proof.Defs
public import proofs.«01_k».proof.Proof.Plain
public import proofs.«01_k».proof.Proof.Run
public import proofs.«01_k».proof.Proof.Array
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem

/-- The kernel as printed ends with its arguments unchanged. -/
theorem frame_p : Cert.quiescent_Kernel := fun m ρ _ => Cert.Kernel.Hand.run_main m ρ

/-- The kernel over the extended reals ends with its arguments unchanged. -/
theorem frame_pi : Cert.quiescent_KernelIdeal := fun m ρ _ =>
  (θ_run Cert.KernelIdeal.defs _ _).mono (fun r (h : _ ∧ _) => ⟨fun c => by
    have e (w : Fin Cert.KernelIdeal.cfg0.W) (hw : (Cert.KernelIdeal.cfg0.win w).isOut = false) :=
      ((h.1 c).1 w).trans ((Cert.KernelIdeal.Hand.dats m 0 c).arrAt_in w hw Cert.KernelIdeal.cfg0.N)
    exact ⟨e 2 rfl, e 1 rfl, e 3 rfl⟩, h.2⟩) (Cert.KernelIdeal.Hand.run_main (F := Ideal) m ρ)

/-- The reference ends with its arguments unchanged. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same, of inputs that meet the precondition. -/
theorem frame_pi_finite [Cert.Pre_finite.Facts] : Cert.quiescent_KernelIdeal_pre_finite := fun m ρ _ => frame_pi m ρ trivial

/-- The same, of inputs that meet the precondition. -/
theorem frame_ri_finite [Cert.Pre_finite.Facts] : Cert.quiescent_ReferenceIdeal_pre_finite := fun m ρ _ => frame_ri m ρ trivial

/-- The kernel over the extended reals ends with the reference's result of its arguments. -/
theorem kernel_value [Cert.Pre_finite.Facts] (m : (ℓ : Loc Cert.KernelIdeal.nD Cert.KernelIdeal.τ Cert.KernelIdeal.sig) → Buf (Elt Ideal) ℓ)
    (ρ : Dev Cert.KernelIdeal.nD → PrngReg) (hp : Cert.Pre_KernelIdeal_finite m) :
    θ_run Cert.KernelIdeal.defs (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v0) = Cert.KernelIdeal.Hand.want m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) :=
  (θ_run Cert.KernelIdeal.defs _ _).mono (fun r (h : _ ∧ _) c => by
    have e (w : Fin Cert.KernelIdeal.cfg0.W) (hw : (Cert.KernelIdeal.cfg0.win w).isOut = false) :=
      ((h.1 c).1 w).trans ((Cert.KernelIdeal.Hand.dats m 0 c).arrAt_in w hw Cert.KernelIdeal.cfg0.N)
    exact ⟨((h.1 c).1 4).trans (Cert.KernelIdeal.Hand.final m c (Cert.Finite.reals_of _ _ _ (hp c))), e 2 rfl, e 1 rfl, e 3 rfl⟩)
    (Cert.KernelIdeal.Hand.run_main (F := Ideal) m ρ)

/-- From the same arguments, with real queries, keys and gates, kernel and reference end with the same result. -/
theorem algebraic [Cert.Pre_finite.Facts] : Cert.algebraic_KernelIdeal_ReferenceIdeal_pre_finite := fun m ρ m' ρ' hp hargs =>
  ⟨Cert.KernelIdeal.Hand.want m, kernel_value m ρ hp,
    (θ_run Cert.ReferenceIdeal.defs _ _).mono (fun r h c => ⟨(h c).1.trans (by
        refine (Cert.ReferenceIdeal.Hand.res_eq m' c).trans ?_
        obtain ⟨e0, e1, e2⟩ := hargs c
        rw [e0, e1, e2]
        rfl), (h c).2⟩)
      (Cert.ReferenceIdeal.Value.run (F := Ideal) m' ρ')⟩

/-- The named constant has the value the table gives it. -/
theorem preserves : Cert.preserves_Kernel_KernelIdeal :=
  IdealRules.named_const.statement Cert.KernelIdeal.κ "log2e" .f32 0x3FB8AA3B#32 (((Real.log 2)⁻¹ : ℝ) : EReal) rfl

end Cert.Proof

end
-- ==== Proof.ProjRef.lean ====
/-
  The last product with its residual and norm: the reference's result at the ideal values, element by element.
-/
module

public import proofs.«01_k».proof.Proof.Gen.ProjRefIdeal.Run
public import Idealize.ShloMosaic.Lib.Pointwise

@[expose] public section

set_option maxRecDepth 16384

noncomputable section

namespace Cert.ProjRefIdeal.Hand

open Cert.ProjRefIdeal Cert.ProjRefIdeal.Gen
open Idealize.ShloMosaic Idealize.ShloMosaic.TcCoe

variable (a : FVec Ideal S16384x2048 .bf16) (w : FVec Ideal S2048x2048 .bf16) (x : FVec Ideal S16384x2048 .f32)
  (mod : FVec Ideal S2x6x2048 .f32) (g b : FVec Ideal S1x2048 .f32)

/-- The scaled residual and the gated product. -/
def uR : FVec Ideal S2x8192x2048 .f32 :=
  addf (mulf (broadcastInDim S2x8192x2048 ![] bcast_S_S2x8192x2048 (constant S_ .f32 0x3FB504F3#32)) (shapeCast _ x shapeCasts_S16384x2048_S2x8192x2048)) (mulf (broadcastInDim S2x8192x2048 ![0, 1, 2] bcast_S2x1x2048_S2x8192x2048_0_1_2 (addf (broadcastInDim S2x1x2048 ![] bcast_S_S2x1x2048 (constant S_ .f32 0x3F800000#32)) (extractStridedSlice S2x1x2048 ![0, 2, 0] mod slices_S2x6x2048_S2x1x2048_0_2_0))) (Host.dotGeneral dot_S2x8192x2048_S2048x2048_S2x8192x2048_2_0_01_1_n_n none (shapeCast _ (extf .f32 a bitsLt_bf16_f32) shapeCasts_S16384x2048_S2x8192x2048) (extf .f32 w bitsLt_bf16_f32)))

/-- Rows less their means. -/
def cenR (u : FVec Ideal S2x8192x2048 .f32) : FVec Ideal S2x8192x2048 .f32 :=
  subf u (broadcastInDim S2x8192x2048 ![0, 1, 2] bcast_S2x8192x1_S2x8192x2048_0_1_2 (Host.divf (broadcastInDim S2x8192x1 ![0, 1] bcast_S2x8192_S2x8192x1_0_1 (Host.reduceAdd u (constant S_ .f32 0x00000000#32) reducesTo_S2x8192x2048_S2x8192_d2 h_S_)) (broadcastInDim S2x8192x1 ![] bcast_S_S2x8192x1 (constant S_ .f32 0x45000000#32))))

/-- Rows over their root mean squares, scaled and shifted, as the result's rows. -/
def lnR (d : FVec Ideal S2x8192x2048 .f32) : FVec Ideal S16384x2048 .f32 :=
  shapeCast _ (addf (mulf (mulf d (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf d d) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x3727C5AC#32)))))) (broadcastInDim S2x8192x2048 ![0, 1, 2] bcast_S1x1x2048_S2x8192x2048_0_1_2 (broadcastInDim S1x1x2048 ![1, 2] bcast_S1x2048_S1x1x2048_1_2 g))) (broadcastInDim S2x8192x2048 ![0, 1, 2] bcast_S1x1x2048_S2x8192x2048_0_1_2 (broadcastInDim S1x1x2048 ![1, 2] bcast_S1x2048_S1x1x2048_1_2 b))) shapeCasts_S2x8192x2048_S16384x2048

/-- The reference's result of its arguments. -/
def result : FVec Ideal S16384x2048 .f32 := lnR g b (cenR (uR a w x mod))

/-- The reference's result, in these steps. -/
theorem res_eq (m : (ℓ : Loc nD τ sig) → Buf (Elt Ideal) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

/-- One entry of the residual and product, of a row of `a` and `x`, a column of `w` and a gate. -/
def mix (a : Fin 2048 → EReal) (w : Fin 2048 → Fin 2048 → EReal) (x : Fin 2048 → EReal) (gate : Fin 2048 → EReal) (j : Fin 2048) : EReal :=
  Ideal.ofBits .f32 0x3FB504F3#32 * x j + (1 + gate j) * ∑ d : Fin 2048, a d * w d j

/-- An entry of a row less the row's mean. -/
def cen (u : Fin 2048 → EReal) (j : Fin 2048) : EReal :=
  u j - Ideal.div (∑ k : Fin 2048, u k) (Ideal.ofBits .f32 0x45000000#32)

/-- An entry of a row over the row's root mean square, scaled and shifted. -/
def ln (d : Fin 2048 → EReal) (g b : Fin 2048 → EReal) (j : Fin 2048) : EReal :=
  d j * Ideal.rsqrt (Ideal.div (∑ k : Fin 2048, d k * d k) (Ideal.ofBits .f32 0x45000000#32) + Ideal.ofBits .f32 0x3727C5AC#32) * g j + b j

/-- The residual and product at an element. -/
theorem uR_at (s : Fin 2) (r : Fin 8192) (j : Fin 2048) : uR a w x mod (ix3 s r j)
    = mix (fun d => a (ix2 ⟨s.val * 8192 + r.val, by omega⟩ d)) (fun d j => w (ix2 d j)) (fun j => x (ix2 ⟨s.val * 8192 + r.val, by omega⟩ j))
        (fun j => mod (ix3 s 2 j)) j := by
  pointwise [uR, mix]

/-- Less its mean. -/
theorem cenR_at (u : FVec Ideal S2x8192x2048 .f32) (s : Fin 2) (r : Fin 8192) (j : Fin 2048) :
    cenR u (ix3 s r j) = cen (fun k => u (ix3 s r k)) j := by
  pointwise [cenR, cen]

/-- Over the root mean square, scaled and shifted. -/
theorem lnR_at (d : FVec Ideal S2x8192x2048 .f32) (i : Fin 16384) (j : Fin 2048) :
    lnR g b d (ix2 i j) = ln (fun k => d (ix3 ⟨i.val / 8192, by omega⟩ ⟨i.val % 8192, by omega⟩ k)) (fun k => g (ix2 0 k)) (fun k => b (ix2 0 k)) j := by
  pointwise [lnR, ln]

/-- The result at an element. -/
theorem result_at (i : Fin 16384) (j : Fin 2048) : result a w x mod g b (ix2 i j)
    = ln (cen (mix (fun d => a (ix2 i d)) (fun d j => w (ix2 d j)) (fun j => x (ix2 i j)) (fun j => mod (ix3 ⟨i.val / 8192, by omega⟩ 2 j))))
        (fun k => g (ix2 0 k)) (fun k => b (ix2 0 k)) j := by
  have e : (⟨i.val / 8192 * 8192 + i.val % 8192, by omega⟩ : Fin 16384) = i := Fin.ext (by show i.val / 8192 * 8192 + i.val % 8192 = i.val; omega)
  rw [result, lnR_at]
  refine congrArg (fun d => ln d _ _ j) (funext fun k => ?_)
  rw [cenR_at]
  refine congrArg (fun u => cen u k) (funext fun l => ?_)
  rw [uR_at]
  simp only [e]

end Cert.ProjRefIdeal.Hand
end
-- ==== Proof.ProjValue.lean ====
/-
  The last product with its residual and norm: the kernel's result array is the reference's result of the arguments.
-/
module

public import proofs.«01_k».proof.Proof.ProjRef
public import proofs.«01_k».proof.Proof.Gen.ProjIdeal.Value
public import Idealize.ShloMosaic.Lib.Pipeline.Value
public import Idealize.ShloMosaic.Lib.Pipeline.ValueKit.Tiles

@[expose] public section

set_option maxRecDepth 16384

noncomputable section

namespace Cert.ProjIdeal.Hand

open Cert.ProjIdeal.Gen
open Idealize.ShloMosaic Idealize.ShloMosaic.TcCoe
open Cert.ProjRefIdeal.Hand (result result_at mix cen ln)

/-- What the body stores, at an element. -/
theorem pay_at (v0 : Vec Ideal S512x2048 .bf16) (v1 : Vec Ideal S2048x2048 .bf16) (v3 : Vec Ideal S1x1x2048 .f32) (v5 : Vec Ideal S512x2048 .f32)
    (v13 v14 : Vec Ideal S1x2048 .f32) (r : Fin 512) (j : Fin 2048) : k0_pay1 v0 v1 v3 v5 v13 v14 (ix2 r j)
      = ln (cen (mix (fun d => v0 (ix2 r d)) (fun d j => v1 (ix2 d j)) (fun j => v5 (ix2 r j)) (fun j => v3 (ix3 0 0 j))))
          (fun k => v13 (ix2 0 k)) (fun k => v14 (ix2 0 k)) j := by
  pointwise [k0_pay1, ln, cen, mix]

theorem hz : (![0, 0] : Fin 2 → Nat) = fun _ => 0 := funext fun a => by fin_cases a <;> rfl

/-- What the body leaves in the output's block, at an element. -/
theorem out_at (x0 : Vec Ideal S512x2048 .bf16) (x1 : Vec Ideal S2048x2048 .bf16) (x2 : Vec Ideal S512x2048 .f32) (x3 : Vec Ideal S1x6x2048 .f32)
    (x4 x5 : Vec Ideal S1x2048 .f32) (r : Fin 512) (j : Fin 2048) : out0_6 x0 x1 x2 x3 x4 x5 (ix2 r j)
      = ln (cen (mix (fun d => x0 (ix2 r d)) (fun d j => x1 (ix2 d j)) (fun j => x2 (ix2 r j)) (fun j => x3 (ix3 0 2 j))))
          (fun k => x4 (ix2 0 k)) (fun k => x5 (ix2 0 k)) j := by
  unfold out0_6
  rw [View.canon_unit_zero hz, View.ld_unit_zero (S := S512x2048) hz, View.ld_unit_zero (S := S2048x2048) hz, View.ld_unit_zero (S := S512x2048) hz,
    View.ld_unit_zero (S := S1x2048) hz, View.ld_unit_zero (S := S1x2048) hz, pay_at]
  have e (k : Fin 2048) : View.ld x3 r0_2 (ix3 0 0 k) = x3 (ix3 0 2 k) :=
    View.ld_unit_apply_of x3 _ _ _ _ _ fun a => match a with
      | ⟨0, _⟩ => rfl
      | ⟨1, _⟩ => rfl
      | ⟨2, _⟩ => (Nat.zero_add _).symm
  simp only [e]

/-- Which block of its array each window is on. -/
theorem index0 : ∀ i : grid0.Coords, cc0_transform_0 i 0 = (i 0).val ∧ cc0_transform_0 i 1 = 0 := by decide +kernel
theorem index1 : ∀ i : grid0.Coords, cc0_transform_1 i 0 = 0 ∧ cc0_transform_1 i 1 = 0 := by decide +kernel
theorem index2' : ∀ i : grid0.Coords, cc0_transform_2 i 0 = (i 0).val ∧ cc0_transform_2 i 1 = 0 := by decide +kernel
theorem index3 : ∀ i : grid0.Coords, cc0_transform_3 i 0 = (i 0).val / 16 ∧ cc0_transform_3 i 1 = 0 ∧ cc0_transform_3 i 2 = 0 := by decide +kernel
theorem index4 : ∀ i : grid0.Coords, cc0_transform_4 i 0 = 0 ∧ cc0_transform_4 i 1 = 0 := by decide +kernel
theorem index5 : ∀ i : grid0.Coords, cc0_transform_5 i 0 = 0 ∧ cc0_transform_5 i 1 = 0 := by decide +kernel
theorem index6 : ∀ i : grid0.Coords, cc0_transform_6 i 0 = (i 0).val ∧ cc0_transform_6 i 1 = 0 := by decide +kernel

/-- A point's tile, by its number. -/
theorem coords_at : ∀ t : Fin cfg0.N, (grid0.coords t 0).val = t.val := by decide +kernel

variable (m : (ℓ : Loc nD τ sig) → Buf (Elt Ideal) ℓ) (c : Dev nD) (t : Fin cfg0.N)

/-- The tile of a point. -/
def tileOf : Fin 32 := ⟨(grid0.coords t 0).val, (grid0.coords t 0).isLt⟩

/-- The row of the arrays that a row of the point's block is. -/
def rowOf (r : Fin 512) : Fin 16384 := ⟨512 * (tileOf t).val + r.val, by have := (tileOf t).isLt; omega⟩

/-- The arguments, as the run starts. -/
def argA : FVec Ideal ⟨2, ![16384, 2048]⟩ .bf16 := m ((c.tc : Thread nD τ).loc main_arg0)
def argW : FVec Ideal ⟨2, ![2048, 2048]⟩ .bf16 := m ((c.tc : Thread nD τ).loc main_arg1)
def argX : FVec Ideal ⟨2, ![16384, 2048]⟩ .f32 := m ((c.tc : Thread nD τ).loc main_arg2)
def argM : FVec Ideal ⟨3, ![2, 6, 2048]⟩ .f32 := m ((c.tc : Thread nD τ).loc main_arg3)
def argG : FVec Ideal ⟨2, ![1, 2048]⟩ .f32 := m ((c.tc : Thread nD τ).loc main_arg4)
def argB : FVec Ideal ⟨2, ![1, 2048]⟩ .f32 := m ((c.tc : Thread nD τ).loc main_arg5)

theorem a_at (r : Fin 512) (d : Fin 2048) : (iblk m c 0 t : Vec Ideal S512x2048 .bf16) (ix2 r d) = argA m c (ix2 (rowOf t r) d) := by
  obtain ⟨e0, e1⟩ := index0 (grid0.coords t)
  unfold iblk
  rw [View.read_apply]
  show m _ _ = m _ _
  congr 1
  funext a
  apply Fin.ext
  match a with
  | ⟨0, _⟩ =>
    show cc0_transform_0 (grid0.coords t) 0 * 512 + 1 * r.val = 512 * (grid0.coords t 0).val + r.val
    rw [e0]; omega
  | ⟨1, _⟩ =>
    show cc0_transform_0 (grid0.coords t) 1 * 2048 + 1 * d.val = d.val
    rw [e1]; omega

theorem w_at (d j : Fin 2048) : (iblk m c 1 t : Vec Ideal S2048x2048 .bf16) (ix2 d j) = argW m c (ix2 d j) := by
  obtain ⟨e0, e1⟩ := index1 (grid0.coords t)
  unfold iblk
  rw [View.read_apply]
  show m _ _ = m _ _
  congr 1
  funext a
  apply Fin.ext
  match a with
  | ⟨0, _⟩ =>
    show cc0_transform_1 (grid0.coords t) 0 * 2048 + 1 * d.val = d.val
    rw [e0]; omega
  | ⟨1, _⟩ =>
    show cc0_transform_1 (grid0.coords t) 1 * 2048 + 1 * j.val = j.val
    rw [e1]; omega

theorem x_at (r : Fin 512) (j : Fin 2048) : (iblk m c 2 t : Vec Ideal S512x2048 .f32) (ix2 r j) = argX m c (ix2 (rowOf t r) j) := by
  obtain ⟨e0, e1⟩ := index2' (grid0.coords t)
  unfold iblk
  rw [View.read_apply]
  show m _ _ = m _ _
  congr 1
  funext a
  apply Fin.ext
  match a with
  | ⟨0, _⟩ =>
    show cc0_transform_2 (grid0.coords t) 0 * 512 + 1 * r.val = 512 * (grid0.coords t 0).val + r.val
    rw [e0]; omega
  | ⟨1, _⟩ =>
    show cc0_transform_2 (grid0.coords t) 1 * 2048 + 1 * j.val = j.val
    rw [e1]; omega

theorem mod_at (r : Fin 512) (k : Fin 6) (j : Fin 2048) : (iblk m c 3 t : Vec Ideal S1x6x2048 .f32) (ix3 0 k j)
    = argM m c (ix3 ⟨(rowOf t r).val / 8192, by have := (rowOf t r).isLt; omega⟩ k j) := by
  obtain ⟨e0, e1, e2⟩ := index3 (grid0.coords t)
  unfold iblk
  rw [View.read_apply]
  show m _ _ = m _ _
  congr 1
  funext a
  apply Fin.ext
  match a with
  | ⟨0, _⟩ =>
    show cc0_transform_3 (grid0.coords t) 0 * 1 + 1 * 0 = (512 * (grid0.coords t 0).val + r.val) / 8192
    rw [e0]; omega
  | ⟨1, _⟩ =>
    show cc0_transform_3 (grid0.coords t) 1 * 6 + 1 * k.val = k.val
    rw [e1]; omega
  | ⟨2, _⟩ =>
    show cc0_transform_3 (grid0.coords t) 2 * 2048 + 1 * j.val = j.val
    rw [e2]; omega

theorem g_at (j : Fin 2048) : (iblk m c 4 t : Vec Ideal S1x2048 .f32) (ix2 0 j) = argG m c (ix2 0 j) := by
  obtain ⟨e0, e1⟩ := index4 (grid0.coords t)
  unfold iblk
  rw [View.read_apply]
  show m _ _ = m _ _
  congr 1
  funext a
  apply Fin.ext
  match a with
  | ⟨0, _⟩ =>
    show cc0_transform_4 (grid0.coords t) 0 * 1 + 1 * 0 = 0
    rw [e0]
  | ⟨1, _⟩ =>
    show cc0_transform_4 (grid0.coords t) 1 * 2048 + 1 * j.val = j.val
    rw [e1]; omega

theorem b_at (j : Fin 2048) : (iblk m c 5 t : Vec Ideal S1x2048 .f32) (ix2 0 j) = argB m c (ix2 0 j) := by
  obtain ⟨e0, e1⟩ := index5 (grid0.coords t)
  unfold iblk
  rw [View.read_apply]
  show m _ _ = m _ _
  congr 1
  funext a
  apply Fin.ext
  match a with
  | ⟨0, _⟩ =>
    show cc0_transform_5 (grid0.coords t) 0 * 1 + 1 * 0 = 0
    rw [e0]
  | ⟨1, _⟩ =>
    show cc0_transform_5 (grid0.coords t) 1 * 2048 + 1 * j.val = j.val
    rw [e1]; omega

/-- Where an element of the point's output block lies in the result. -/
theorem emb6 (r : Fin 512) (j : Fin 2048) : ((cfg0.win 6).blk t).view.emb (ix2 r j) = (ix2 (rowOf t r) j : S16384x2048.Idx) := by
  obtain ⟨e0, e1⟩ := index6 (grid0.coords t)
  funext a
  apply Fin.ext
  match a with
  | ⟨0, _⟩ =>
    show cc0_transform_6 (grid0.coords t) 0 * 512 + 1 * r.val = 512 * (grid0.coords t 0).val + r.val
    rw [e0]; omega
  | ⟨1, _⟩ =>
    show cc0_transform_6 (grid0.coords t) 1 * 2048 + 1 * j.val = j.val
    rw [e1]; omega

/-- The reference's result of the kernel's arguments. -/
def want : Vec Ideal S16384x2048 .f32 := result (argA m c) (argW m c) (argX m c) (argM m c) (argG m c) (argB m c)

/-- What a point writes back is its block of the reference's result. -/
theorem flushed_eq : (dats m 0 c).flushed 6 t = ((cfg0.win 6).blk t).view.read (Elt Ideal) (want m c) := by
  rw [Value.flushed6]
  funext y
  obtain ⟨r, j, rfl⟩ : ∃ (r : Fin 512) (j : Fin 2048), y = ix2 r j := ⟨_, _, eq_ix2 y⟩
  rw [View.read_apply, emb6, want, result_at]
  show out0_6 (iblk m c 0 t) (iblk m c 1 t) (iblk m c 2 t) (iblk m c 3 t) (iblk m c 4 t) (iblk m c 5 t) (ix2 r j) = _
  rw [out_at]
  simp only [a_at, w_at, x_at, mod_at m c t r, g_at, b_at]
  rfl

/-- Every element of the result is in some point's block. -/
theorem cover (i : S16384x2048.Idx) : ∃ t : Fin cfg0.N, (cfg0.win 6).flush t = true ∧ i ∈ ((cfg0.win 6).blk t).view.set := by
  obtain ⟨r, d, rfl⟩ : ∃ (r : Fin 16384) (d : Fin 2048), i = ix2 r d := ⟨_, _, eq_ix2 i⟩
  have hN : cfg0.N = 32 := by decide +kernel
  let t : Fin cfg0.N := ⟨r.val / 512, by omega⟩
  have c0 := coords_at t
  have tv : t.val = r.val / 512 := rfl
  have h := ((cfg0.win 6).blk t).view.emb_mem_set (ix2 ⟨r.val % 512, by omega⟩ d)
  have er : rowOf t ⟨r.val % 512, by omega⟩ = r := by
    apply Fin.ext
    show 512 * (grid0.coords t 0).val + r.val % 512 = r.val
    rw [c0]; omega
  rw [emb6, er] at h
  exact ⟨t, flush0_6 t, h⟩

/-- The result array at the end of the run. -/
theorem final : (dats m 0 c).arrAt 6 cfg0.N = want m c :=
  (dats m 0 c).arrAt_eq_of_cover 6 (want m c) (fun t _ => flushed_eq m c t) cover

end Cert.ProjIdeal.Hand
end
-- ==== Proof.EvenRef.lean ====
/-
  The even mixer's first product: the reference's result at the ideal values, element by element.
-/
module

public import proofs.«01_k».proof.Proof.Gen.EvenRefIdeal.Run
public import Idealize.ShloMosaic.Lib.Pointwise

@[expose] public section

set_option maxRecDepth 16384

noncomputable section

namespace Cert.EvenRefIdeal.Hand

open Cert.EvenRefIdeal Cert.EvenRefIdeal.Gen
open Idealize.ShloMosaic Idealize.ShloMosaic.TcCoe

variable (x : FVec Ideal S16384x2048 .f32) (mod : FVec Ideal S2x6x2048 .f32) (w : FVec Ideal S2048x3072 .bf16)

/-- The scaled and shifted rows. -/
def hR : FVec Ideal S2x8192x2048 .f32 :=
  addf (mulf (shapeCast _ x shapeCasts_S16384x2048_S2x8192x2048) (broadcastInDim S2x8192x2048 ![0, 1, 2] bcast_S2x1x2048_S2x8192x2048_0_1_2 (addf (broadcastInDim S2x1x2048 ![] bcast_S_S2x1x2048 (constant S_ .f32 0x3F800000#32)) (extractStridedSlice S2x1x2048 ![0, 1, 0] mod slices_S2x6x2048_S2x1x2048_0_1_0)))) (broadcastInDim S2x8192x2048 ![0, 1, 2] bcast_S2x1x2048_S2x8192x2048_0_1_2 (extractStridedSlice S2x1x2048 ![0, 0, 0] mod slices_S2x6x2048_S2x1x2048_0_0_0))

/-- The product, as the result's rows. -/
def result : FVec Ideal S16384x3072 .f32 :=
  shapeCast _ (Host.dotGeneral dot_S2x8192x2048_S2048x3072_S2x8192x3072_2_0_01_1_n_n none (hR x mod) (extf .f32 w bitsLt_bf16_f32)) shapeCasts_S2x8192x3072_S16384x3072

/-- An entry of a row, scaled and shifted. -/
def modu (x sh sc : Fin 2048 → EReal) (d : Fin 2048) : EReal := x d * (1 + sc d) + sh d

/-- The scaled and shifted rows at an element. -/
theorem hR_at (s : Fin 2) (r : Fin 8192) (d : Fin 2048) : hR x mod (ix3 s r d)
    = modu (fun d => x (ix2 ⟨s.val * 8192 + r.val, by omega⟩ d)) (fun d => mod (ix3 s 0 d)) (fun d => mod (ix3 s 1 d)) d := by
  pointwise [hR, modu]

/-- The same, by the row's number. -/
theorem hR_row (i : Fin 16384) (d : Fin 2048) : hR x mod (ix3 ⟨i.val / 8192, by omega⟩ ⟨i.val % 8192, by omega⟩ d)
    = modu (fun d => x (ix2 i d)) (fun d => mod (ix3 ⟨i.val / 8192, by omega⟩ 0 d)) (fun d => mod (ix3 ⟨i.val / 8192, by omega⟩ 1 d)) d := by
  have e : (⟨i.val / 8192 * 8192 + i.val % 8192, by omega⟩ : Fin 16384) = i := Fin.ext (by show i.val / 8192 * 8192 + i.val % 8192 = i.val; omega)
  rw [hR_at]
  simp only [e]

/-- The product of any rows, at an element. -/
theorem prod_at (h : FVec Ideal S2x8192x2048 .f32) (i : Fin 16384) (j : Fin 3072) :
    (shapeCast S16384x3072 (Host.dotGeneral dot_S2x8192x2048_S2048x3072_S2x8192x3072_2_0_01_1_n_n none h (extf .f32 w bitsLt_bf16_f32)) shapeCasts_S2x8192x3072_S16384x3072 : FVec Ideal S16384x3072 .f32) (ix2 i j)
      = ∑ d : Fin 2048, h (ix3 ⟨i.val / 8192, by omega⟩ ⟨i.val % 8192, by omega⟩ d) * w (ix2 d j) := by
  pointwise

/-- The result at an element. -/
theorem result_at (i : Fin 16384) (j : Fin 3072) : result x mod w (ix2 i j)
    = ∑ d : Fin 2048, modu (fun d => x (ix2 i d)) (fun d => mod (ix3 ⟨i.val / 8192, by omega⟩ 0 d)) (fun d => mod (ix3 ⟨i.val / 8192, by omega⟩ 1 d)) d * w (ix2 d j) := by
  rw [result, prod_at]
  exact Finset.sum_congr rfl fun d _ => congrArg (· * _) (hR_row x mod i d)

end Cert.EvenRefIdeal.Hand
end
-- ==== Proof.EvenValue.lean ====
/-
  The even mixer's first product: the kernel's result arrays are the reference's results of the arguments.
-/
module

public import proofs.«01_k».proof.Proof.EvenRef
public import proofs.«01_k».proof.Proof.Gen.EvenIdeal.Value
public import Idealize.ShloMosaic.Lib.Pipeline.Value
public import Idealize.ShloMosaic.Lib.Pipeline.ValueKit.Tiles

@[expose] public section

set_option maxRecDepth 16384

noncomputable section

namespace Cert.EvenIdeal.Hand

open Cert.EvenIdeal.Gen
open Idealize.ShloMosaic Idealize.ShloMosaic.TcCoe
open Cert.EvenRefIdeal.Hand (result result_at modu)

theorem hz : (![0, 0] : Fin 2 → Nat) = fun _ => 0 := funext fun a => by fin_cases a <;> rfl

/-- The scaled and shifted rows of a block, as the body stores them. -/
def rows (x0 : Vec Ideal S1024x2048 .f32) (x1 : Vec Ideal S1x6x2048 .f32) : Vec Ideal S1024x2048 .bf16 :=
  k0_pay1 (View.ld x1 (Rect.unit (s := S1x6x2048) ![0, 0, 0] S1x1x2048.size inb_S1x6x2048_S1x1x2048_0_0_0))
    (View.ld x1 (Rect.unit (s := S1x6x2048) ![0, 1, 0] S1x1x2048.size inb_S1x6x2048_S1x1x2048_0_1_0)) x0

/-- The body's rows from the two rows it loads, at an element. -/
theorem pay1_at (v7 v9 : Vec Ideal S1x1x2048 .f32) (v11 : Vec Ideal S1024x2048 .f32) (r : Fin 1024) (d : Fin 2048) :
    k0_pay1 v7 v9 v11 (ix2 r d) = modu (fun d => v11 (ix2 r d)) (fun d => v7 (ix3 0 0 d)) (fun d => v9 (ix3 0 0 d)) d := by
  pointwise [k0_pay1, modu]

/-- The scaled and shifted rows at an element. -/
theorem rows_at (x0 : Vec Ideal S1024x2048 .f32) (x1 : Vec Ideal S1x6x2048 .f32) (r : Fin 1024) (d : Fin 2048) :
    rows x0 x1 (ix2 r d) = modu (fun d => x0 (ix2 r d)) (fun d => x1 (ix3 0 0 d)) (fun d => x1 (ix3 0 1 d)) d := by
  have e1 (k : Fin 2048) : View.ld x1 (Rect.unit (s := S1x6x2048) ![0, 0, 0] S1x1x2048.size inb_S1x6x2048_S1x1x2048_0_0_0) (ix3 0 0 k) = x1 (ix3 0 0 k) :=
    View.ld_unit_apply_of x1 _ _ _ _ _ fun a => match a with
      | ⟨0, _⟩ => rfl
      | ⟨1, _⟩ => rfl
      | ⟨2, _⟩ => (Nat.zero_add _).symm
  have e2 (k : Fin 2048) : View.ld x1 (Rect.unit (s := S1x6x2048) ![0, 1, 0] S1x1x2048.size inb_S1x6x2048_S1x1x2048_0_1_0) (ix3 0 0 k) = x1 (ix3 0 1 k) :=
    View.ld_unit_apply_of x1 _ _ _ _ _ fun a => match a with
      | ⟨0, _⟩ => rfl
      | ⟨1, _⟩ => rfl
      | ⟨2, _⟩ => (Nat.zero_add _).symm
  rw [rows, pay1_at]
  simp only [e1, e2]

/-- The body's product at an element. -/
theorem pay2_at (h : Vec Ideal S1024x2048 .bf16) (w : Vec Ideal S2048x1536 .bf16) (r : Fin 1024) (j : Fin 1536) :
    k0_pay2 h w (ix2 r j) = ∑ d : Fin 2048, h (ix2 r d) * w (ix2 d j) := by
  pointwise [k0_pay2]

/-- What the body leaves in the product's block where it makes the rows. -/
theorem out_A (c : Dev nD) (i : grid0.Coords) (a2 : Memref sig .tc .vmem S1024x2048 .f32) (h2 : a2.IsWhole) (a3 : Memref sig .tc .vmem S1x6x2048 .f32) (h3 : a3.IsWhole)
    (a4 : Memref sig .tc .vmem S2048x1536 .bf16) (h4 : a4.IsWhole) (a5 : Memref sig .tc .vmem S1024x1536 .f32) (h5 : a5.IsWhole) (a6 : Memref sig .tc .vmem S1024x2048 .bf16) (h6 : a6.IsWhole) (hc : cond0_0 i) (x0 : Vec Ideal S1024x2048 .f32) (x1 : Vec Ideal S1x6x2048 .f32) (x2 : Vec Ideal S2048x1536 .bf16) :
    out0_A_3 c i a2 h2 a3 h3 a4 h4 a5 h5 a6 h6 hc x0 x1 x2 = k0_pay2 (rows x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S1024x1536) hz, View.readCov_unit_zero (S := S1024x2048) _ hz]
  simp only [View.readAt_eq_ld, h2.read_unread, h3.read_unread, h4.read_unread, View.ld_unit_zero (S := S1024x2048) hz, View.ld_unit_zero (S := S2048x1536) hz]
  rfl

/-- What it leaves in the block it keeps. -/
theorem keep_A (c : Dev nD) (i : grid0.Coords) (a2 : Memref sig .tc .vmem S1024x2048 .f32) (h2 : a2.IsWhole) (a3 : Memref sig .tc .vmem S1x6x2048 .f32) (h3 : a3.IsWhole)
    (a4 : Memref sig .tc .vmem S2048x1536 .bf16) (h4 : a4.IsWhole) (a5 : Memref sig .tc .vmem S1024x1536 .f32) (h5 : a5.IsWhole) (a6 : Memref sig .tc .vmem S1024x2048 .bf16) (h6 : a6.IsWhole) (hc : cond0_0 i) (x0 : Vec Ideal S1024x2048 .f32) (x1 : Vec Ideal S1x6x2048 .f32) (x2 : Vec Ideal S2048x1536 .bf16) :
    sout0_A_0 c i a2 h2 a3 h3 a4 h4 a5 h5 a6 h6 hc x0 x1 x2 = rows x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_cons_unit_zero (S := S1024x2048) hz]
  simp only [View.readAt_eq_ld, h2.read_unread, h3.read_unread, h4.read_unread, View.ld_unit_zero (S := S1024x2048) hz]
  rfl

/-- What the body leaves in the product's block where it finds the rows kept. -/
theorem out_B (c : Dev nD) (i : grid0.Coords) (a2 : Memref sig .tc .vmem S1024x2048 .f32) (h2 : a2.IsWhole) (a3 : Memref sig .tc .vmem S1x6x2048 .f32) (h3 : a3.IsWhole)
    (a4 : Memref sig .tc .vmem S2048x1536 .bf16) (h4 : a4.IsWhole) (a5 : Memref sig .tc .vmem S1024x1536 .f32) (h5 : a5.IsWhole) (a6 : Memref sig .tc .vmem S1024x2048 .bf16) (h6 : a6.IsWhole) (hc : ¬cond0_0 i) (x0 : Vec Ideal S1024x2048 .f32) (x1 : Vec Ideal S1x6x2048 .f32) (x2 : Vec Ideal S2048x1536 .bf16) (xs : Vec Ideal S1024x2048 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero (S := S1024x1536) hz]
  simp only [View.readAt_eq_ld, h6.read_unread, h4.read_unread, View.ld_unit_zero (S := S1024x2048) hz, View.ld_unit_zero (S := S2048x1536) hz]

/-- Which block of its array each window is on. -/
theorem index0 : ∀ i : grid0.Coords, cc0_transform_0 i 0 = (i 0).val ∧ cc0_transform_0 i 1 = 0 := by decide +kernel
theorem index1 : ∀ i : grid0.Coords, cc0_transform_1 i 0 = (i 0).val / 8 ∧ cc0_transform_1 i 1 = 0 ∧ cc0_transform_1 i 2 = 0 := by decide +kernel
theorem index2' : ∀ i : grid0.Coords, cc0_transform_2 i 0 = 0 ∧ cc0_transform_2 i 1 = (i 1).val := by decide +kernel
theorem index3 : ∀ i : grid0.Coords, cc0_transform_3 i 0 = (i 0).val ∧ cc0_transform_3 i 1 = (i 1).val := by decide +kernel

/-- A point's tile of rows and half of the columns, by its number. -/
theorem coords_at : ∀ t : Fin cfg0.N, (grid0.coords t 0).val = t.val / 2 ∧ (grid0.coords t 1).val = t.val % 2 := by decide +kernel

variable (m : (ℓ : Loc nD τ sig) → Buf (Elt Ideal) ℓ) (c : Dev nD) (t : Fin cfg0.N)

/-- The tile of a point. -/
def tileOf : Fin 16 := ⟨(grid0.coords t 0).val, (grid0.coords t 0).isLt⟩

/-- The row of the arrays that a row of the point's block is. -/
def rowOf (r : Fin 1024) : Fin 16384 := ⟨1024 * (tileOf t).val + r.val, by have := (tileOf t).isLt; omega⟩

/-- The half of the columns that a point makes. -/
def halfOf : Fin 2 := ⟨(grid0.coords t 1).val, (grid0.coords t 1).isLt⟩

/-- The column of the arrays that a column of the point's block is. -/
def colOf (j : Fin 1536) : Fin 3072 := ⟨1536 * (halfOf t).val + j.val, by have := (halfOf t).isLt; omega⟩

/-- The arguments, as the run starts. -/
def argX : FVec Ideal ⟨2, ![16384, 2048]⟩ .f32 := m ((c.tc : Thread nD τ).loc main_arg0)
def argM : FVec Ideal ⟨3, ![2, 6, 2048]⟩ .f32 := m ((c.tc : Thread nD τ).loc main_arg1)
def argW : FVec Ideal ⟨2, ![2048, 3072]⟩ .bf16 := m ((c.tc : Thread nD τ).loc main_arg2)

theorem x_at (r : Fin 1024) (d : Fin 2048) : (iblk m c 0 t : Vec Ideal S1024x2048 .f32) (ix2 r d) = argX m c (ix2 (rowOf t r) d) := by
  obtain ⟨e0, e1⟩ := index0 (grid0.coords t)
  unfold iblk
  rw [View.read_apply]
  show m _ _ = m _ _
  congr 1
  funext a
  apply Fin.ext
  match a with
  | ⟨0, _⟩ =>
    show cc0_transform_0 (grid0.coords t) 0 * 1024 + 1 * r.val = 1024 * (grid0.coords t 0).val + r.val
    rw [e0]; omega
  | ⟨1, _⟩ =>
    show cc0_transform_0 (grid0.coords t) 1 * 2048 + 1 * d.val = d.val
    rw [e1]; omega

theorem mod_at (r : Fin 1024) (k : Fin 6) (j : Fin 2048) : (iblk m c 1 t : Vec Ideal S1x6x2048 .f32) (ix3 0 k j)
    = argM m c (ix3 ⟨(rowOf t r).val / 8192, by have := (rowOf t r).isLt; omega⟩ k j) := by
  obtain ⟨e0, e1, e2⟩ := index1 (grid0.coords t)
  unfold iblk
  rw [View.read_apply]
  show m _ _ = m _ _
  congr 1
  funext a
  apply Fin.ext
  match a with
  | ⟨0, _⟩ =>
    show cc0_transform_1 (grid0.coords t) 0 * 1 + 1 * 0 = (1024 * (grid0.coords t 0).val + r.val) / 8192
    rw [e0]; omega
  | ⟨1, _⟩ =>
    show cc0_transform_1 (grid0.coords t) 1 * 6 + 1 * k.val = k.val
    rw [e1]; omega
  | ⟨2, _⟩ =>
    show cc0_transform_1 (grid0.coords t) 2 * 2048 + 1 * j.val = j.val
    rw [e2]; omega

theorem w_at (d : Fin 2048) (j : Fin 1536) : (iblk m c 2 t : Vec Ideal S2048x1536 .bf16) (ix2 d j) = argW m c (ix2 d (colOf t j)) := by
  obtain ⟨e0, e1⟩ := index2' (grid0.coords t)
  unfold iblk
  rw [View.read_apply]
  show m _ _ = m _ _
  congr 1
  funext a
  apply Fin.ext
  match a with
  | ⟨0, _⟩ =>
    show cc0_transform_2 (grid0.coords t) 0 * 2048 + 1 * d.val = d.val
    rw [e0]; omega
  | ⟨1, _⟩ =>
    show cc0_transform_2 (grid0.coords t) 1 * 1536 + 1 * j.val = 1536 * (grid0.coords t 1).val + j.val
    rw [e1]; omega

/-- The rows of a point's block, from the arguments. -/
theorem rows_blk (r : Fin 1024) (d : Fin 2048) : rows (iblk m c 0 t) (iblk m c 1 t) (ix2 r d)
    = modu (fun d => argX m c (ix2 (rowOf t r) d)) (fun d => argM m c (ix3 ⟨(rowOf t r).val / 8192, by have := (rowOf t r).isLt; omega⟩ 0 d))
        (fun d => argM m c (ix3 ⟨(rowOf t r).val / 8192, by have := (rowOf t r).isLt; omega⟩ 1 d)) d := by
  rw [rows_at]
  simp only [x_at, mod_at m c t r]

/-- Where an element of the point's block lies in the result. -/
theorem emb3 (r : Fin 1024) (j : Fin 1536) : ((cfg0.win 3).blk t).view.emb (ix2 r j) = (ix2 (rowOf t r) (colOf t j) : S16384x3072.Idx) := by
  obtain ⟨e0, e1⟩ := index3 (grid0.coords t)
  funext a
  apply Fin.ext
  match a with
  | ⟨0, _⟩ =>
    show cc0_transform_3 (grid0.coords t) 0 * 1024 + 1 * r.val = 1024 * (grid0.coords t 0).val + r.val
    rw [e0]; omega
  | ⟨1, _⟩ =>
    show cc0_transform_3 (grid0.coords t) 1 * 1536 + 1 * j.val = 1536 * (grid0.coords t 1).val + j.val
    rw [e1]; omega

/-- The reference's result of the kernel's arguments. -/
def want : Vec Ideal S16384x3072 .f32 := result (argX m c) (argM m c) (argW m c)

/-- A point of the first half leaves its tile's rows. -/
theorem made (h : t.val % 2 = 0) : (outsAt0 m c t.val t.isLt).2 = rows (iblk m c 0 t) (iblk m c 1 t) := by
  rw [outsAt0_A m c t h]
  dsimp only
  rw [keep_A]

/-- Two points of one tile have the same rows. -/
theorem rows_eq (t' : Fin cfg0.N) (h : t.val = t'.val + 1) (h' : t'.val % 2 = 0) (r : Fin 1024) (d : Fin 2048) :
    rows (iblk m c 0 t') (iblk m c 1 t') (ix2 r d) = rows (iblk m c 0 t) (iblk m c 1 t) (ix2 r d) := by
  have er : rowOf t' r = rowOf t r := by
    apply Fin.ext
    show 1024 * (grid0.coords t' 0).val + r.val = 1024 * (grid0.coords t 0).val + r.val
    rw [(coords_at t').1, (coords_at t).1]
    omega
  rw [rows_blk, rows_blk]
  simp only [er]

/-- A point of the second half finds kept the rows of the point before, which are its own tile's. -/
theorem kept (h : ¬t.val % 2 = 0) (r : Fin 1024) (d : Fin 2048) :
    (outsAt0 m c (t.val - 1) (Nat.lt_of_le_of_lt (Nat.sub_le _ _) t.isLt)).2 (ix2 r d) = rows (iblk m c 0 t) (iblk m c 1 t) (ix2 r d) :=
  (congrFun (made m c ⟨t.val - 1, Nat.lt_of_le_of_lt (Nat.sub_le _ _) t.isLt⟩ (by show (t.val - 1) % 2 = 0; omega)) (ix2 r d)).trans
    (rows_eq m c t ⟨t.val - 1, Nat.lt_of_le_of_lt (Nat.sub_le _ _) t.isLt⟩ (by show t.val = t.val - 1 + 1; omega) (by show (t.val - 1) % 2 = 0; omega) r d)

/-- What a point writes back is its block of the reference's result. -/
theorem flushed_eq : (dats m 0 c).flushed 3 t = ((cfg0.win 3).blk t).view.read (Elt Ideal) (want m c) := by
  funext y
  obtain ⟨r, j, rfl⟩ : ∃ (r : Fin 1024) (j : Fin 1536), y = ix2 r j := ⟨_, _, eq_ix2 y⟩
  rw [View.read_apply, emb3, want, result_at]
  by_cases h : t.val % 2 = 0
  · rw [Value.flushed3_A m c t h, out_A]
    show k0_pay2 (rows (iblk m c 0 t) (iblk m c 1 t)) (iblk m c 2 t) (ix2 r j) = _
    rw [pay2_at]
    simp only [rows_blk, w_at]
    rfl
  · rw [Value.flushed3_B m c t h, out_B]
    show k0_pay2 (outsAt0 m c (t.val - 1) (Nat.lt_of_le_of_lt (Nat.sub_le _ _) t.isLt)).2 (iblk m c 2 t) (ix2 r j) = _
    rw [pay2_at]
    simp only [kept m c t h, rows_blk, w_at]
    rfl

/-- Every element of the result is in some point's block. -/
theorem cover3 (i : S16384x3072.Idx) : ∃ t : Fin cfg0.N, (cfg0.win 3).flush t = true ∧ i ∈ ((cfg0.win 3).blk t).view.set := by
  obtain ⟨r, d, rfl⟩ : ∃ (r : Fin 16384) (d : Fin 3072), i = ix2 r d := ⟨_, _, eq_ix2 i⟩
  have hN : cfg0.N = 32 := by decide +kernel
  let t : Fin cfg0.N := ⟨r.val / 1024 * 2 + d.val / 1536, by omega⟩
  obtain ⟨c0, c1⟩ := coords_at t
  have tv : t.val = r.val / 1024 * 2 + d.val / 1536 := rfl
  have h := ((cfg0.win 3).blk t).view.emb_mem_set (ix2 ⟨r.val % 1024, by omega⟩ ⟨d.val % 1536, by omega⟩)
  have er : rowOf t ⟨r.val % 1024, by omega⟩ = r := by
    apply Fin.ext
    show 1024 * (grid0.coords t 0).val + r.val % 1024 = r.val
    rw [c0]; omega
  have ed : colOf t ⟨d.val % 1536, by omega⟩ = d := by
    apply Fin.ext
    show 1536 * (grid0.coords t 1).val + d.val % 1536 = d.val
    rw [c1]; omega
  rw [emb3, er, ed] at h
  exact ⟨t, flush0_3 t, h⟩

/-- The result array at the end of the run. -/
theorem final : (dats m 0 c).arrAt 3 cfg0.N = want m c :=
  (dats m 0 c).arrAt_eq_of_cover 3 (want m c) (fun t _ => flushed_eq m c t) cover3

end Cert.EvenIdeal.Hand
end
-- ==== Proof.QuerRef.lean ====
/-
  The experts' queries: the reference's result at the ideal values, element by element.
-/
module

public import proofs.«01_k».proof.Proof.Gen.QuerRefIdeal.Run
public import Idealize.ShloMosaic.Lib.Pointwise

@[expose] public section

set_option maxRecDepth 16384

noncomputable section

namespace Cert.QuerRefIdeal.Hand

open Cert.QuerRefIdeal Cert.QuerRefIdeal.Gen
open Idealize.ShloMosaic Idealize.ShloMosaic.TcCoe

variable (x : FVec Ideal S16384x2048 .f32) (mod : FVec Ideal S2x6x2048 .f32) (w : FVec Ideal S2048x2048 .bf16)

/-- The scaled and shifted rows. -/
def hR : FVec Ideal S2x8192x2048 .f32 :=
  addf (mulf (shapeCast _ x shapeCasts_S16384x2048_S2x8192x2048) (broadcastInDim S2x8192x2048 ![0, 1, 2] bcast_S2x1x2048_S2x8192x2048_0_1_2 (addf (broadcastInDim S2x1x2048 ![] bcast_S_S2x1x2048 (constant S_ .f32 0x3F800000#32)) (extractStridedSlice S2x1x2048 ![0, 4, 0] mod slices_S2x6x2048_S2x1x2048_0_4_0)))) (broadcastInDim S2x8192x2048 ![0, 1, 2] bcast_S2x1x2048_S2x8192x2048_0_1_2 (extractStridedSlice S2x1x2048 ![0, 3, 0] mod slices_S2x6x2048_S2x1x2048_0_3_0))

/-- The product, as the result's rows. -/
def result : FVec Ideal S16384x2048 .bf16 :=
  truncf .bf16 (shapeCast _ (Host.dotGeneral dot_S2x8192x2048_S2048x2048_S2x8192x2048_2_0_01_1_n_n none (hR x mod) (extf .f32 w bitsLt_bf16_f32)) shapeCasts_S2x8192x2048_S16384x2048) bitsLt_bf16_f32

/-- The scaled and shifted rows, as the second result's rows. -/
def result2 : FVec Ideal S16384x2048 .bf16 :=
  truncf .bf16 (shapeCast _ (hR x mod) shapeCasts_S2x8192x2048_S16384x2048) bitsLt_bf16_f32

/-- An entry of a row, scaled and shifted. -/
def modu (x sh sc : Fin 2048 → EReal) (d : Fin 2048) : EReal := x d * (1 + sc d) + sh d

/-- The scaled and shifted rows at an element. -/
theorem hR_at (s : Fin 2) (r : Fin 8192) (d : Fin 2048) : hR x mod (ix3 s r d)
    = modu (fun d => x (ix2 ⟨s.val * 8192 + r.val, by omega⟩ d)) (fun d => mod (ix3 s 3 d)) (fun d => mod (ix3 s 4 d)) d := by
  pointwise [hR, modu]

/-- The same, by the row's number. -/
theorem hR_row (i : Fin 16384) (d : Fin 2048) : hR x mod (ix3 ⟨i.val / 8192, by omega⟩ ⟨i.val % 8192, by omega⟩ d)
    = modu (fun d => x (ix2 i d)) (fun d => mod (ix3 ⟨i.val / 8192, by omega⟩ 3 d)) (fun d => mod (ix3 ⟨i.val / 8192, by omega⟩ 4 d)) d := by
  have e : (⟨i.val / 8192 * 8192 + i.val % 8192, by omega⟩ : Fin 16384) = i := Fin.ext (by show i.val / 8192 * 8192 + i.val % 8192 = i.val; omega)
  rw [hR_at]
  simp only [e]

/-- The product of any rows, at an element. -/
theorem prod_at (h : FVec Ideal S2x8192x2048 .f32) (i : Fin 16384) (j : Fin 2048) :
    (truncf .bf16 (shapeCast S16384x2048 (Host.dotGeneral dot_S2x8192x2048_S2048x2048_S2x8192x2048_2_0_01_1_n_n none h (extf .f32 w bitsLt_bf16_f32)) shapeCasts_S2x8192x2048_S16384x2048) bitsLt_bf16_f32 : FVec Ideal S16384x2048 .bf16) (ix2 i j)
      = ∑ d : Fin 2048, h (ix3 ⟨i.val / 8192, by omega⟩ ⟨i.val % 8192, by omega⟩ d) * w (ix2 d j) := by
  pointwise

/-- The result at an element. -/
theorem result_at (i : Fin 16384) (j : Fin 2048) : result x mod w (ix2 i j)
    = ∑ d : Fin 2048, modu (fun d => x (ix2 i d)) (fun d => mod (ix3 ⟨i.val / 8192, by omega⟩ 3 d)) (fun d => mod (ix3 ⟨i.val / 8192, by omega⟩ 4 d)) d * w (ix2 d j) := by
  rw [result, prod_at]
  exact Finset.sum_congr rfl fun d _ => congrArg (· * _) (hR_row x mod i d)

/-- The second result at an element. -/
theorem result2_at (i : Fin 16384) (j : Fin 2048) : result2 x mod (ix2 i j)
    = modu (fun d => x (ix2 i d)) (fun d => mod (ix3 ⟨i.val / 8192, by omega⟩ 3 d)) (fun d => mod (ix3 ⟨i.val / 8192, by omega⟩ 4 d)) j := by
  rw [← hR_row]
  pointwise [result2]

end Cert.QuerRefIdeal.Hand
end
-- ==== Proof.QuerValue.lean ====
/-
  The experts' queries: the kernel's result arrays are the reference's results of the arguments.
-/
module

public import proofs.«01_k».proof.Proof.QuerRef
public import proofs.«01_k».proof.Proof.Gen.QuerIdeal.Value
public import Idealize.ShloMosaic.Lib.Pipeline.Value
public import Idealize.ShloMosaic.Lib.Pipeline.ValueKit.Tiles

@[expose] public section

set_option maxRecDepth 16384

noncomputable section

namespace Cert.QuerIdeal.Hand

open Cert.QuerIdeal.Gen
open Idealize.ShloMosaic Idealize.ShloMosaic.TcCoe
open Cert.QuerRefIdeal.Hand (result result_at modu result2 result2_at)

theorem hz : (![0, 0] : Fin 2 → Nat) = fun _ => 0 := funext fun a => by fin_cases a <;> rfl

/-- The scaled and shifted rows of a block, as the body stores them. -/
def rows (x0 : Vec Ideal S1024x2048 .f32) (x1 : Vec Ideal S1x6x2048 .f32) : Vec Ideal S1024x2048 .bf16 :=
  k0_pay1 (View.ld x1 (Rect.unit (s := S1x6x2048) ![0, 3, 0] S1x1x2048.size inb_S1x6x2048_S1x1x2048_0_3_0))
    (View.ld x1 (Rect.unit (s := S1x6x2048) ![0, 4, 0] S1x1x2048.size inb_S1x6x2048_S1x1x2048_0_4_0)) x0

/-- The body's rows from the two rows it loads, at an element. -/
theorem pay1_at (v7 v9 : Vec Ideal S1x1x2048 .f32) (v11 : Vec Ideal S1024x2048 .f32) (r : Fin 1024) (d : Fin 2048) :
    k0_pay1 v7 v9 v11 (ix2 r d) = modu (fun d => v11 (ix2 r d)) (fun d => v7 (ix3 0 0 d)) (fun d => v9 (ix3 0 0 d)) d := by
  pointwise [k0_pay1, modu]

/-- The scaled and shifted rows at an element. -/
theorem rows_at (x0 : Vec Ideal S1024x2048 .f32) (x1 : Vec Ideal S1x6x2048 .f32) (r : Fin 1024) (d : Fin 2048) :
    rows x0 x1 (ix2 r d) = modu (fun d => x0 (ix2 r d)) (fun d => x1 (ix3 0 3 d)) (fun d => x1 (ix3 0 4 d)) d := by
  have e1 (k : Fin 2048) : View.ld x1 (Rect.unit (s := S1x6x2048) ![0, 3, 0] S1x1x2048.size inb_S1x6x2048_S1x1x2048_0_3_0) (ix3 0 0 k) = x1 (ix3 0 3 k) :=
    View.ld_unit_apply_of x1 _ _ _ _ _ fun a => match a with
      | ⟨0, _⟩ => rfl
      | ⟨1, _⟩ => rfl
      | ⟨2, _⟩ => (Nat.zero_add _).symm
  have e2 (k : Fin 2048) : View.ld x1 (Rect.unit (s := S1x6x2048) ![0, 4, 0] S1x1x2048.size inb_S1x6x2048_S1x1x2048_0_4_0) (ix3 0 0 k) = x1 (ix3 0 4 k) :=
    View.ld_unit_apply_of x1 _ _ _ _ _ fun a => match a with
      | ⟨0, _⟩ => rfl
      | ⟨1, _⟩ => rfl
      | ⟨2, _⟩ => (Nat.zero_add _).symm
  rw [rows, pay1_at]
  simp only [e1, e2]

/-- The body's product at an element. -/
theorem pay2_at (h : Vec Ideal S1024x2048 .bf16) (w : Vec Ideal S2048x2048 .bf16) (r : Fin 1024) (j : Fin 2048) :
    k0_pay2 h w (ix2 r j) = ∑ d : Fin 2048, h (ix2 r d) * w (ix2 d j) := by
  pointwise [k0_pay2]

/-- What the body leaves in the product's block. -/
theorem out_A (c : Dev nD) (i : grid0.Coords) (a2 : Memref sig .tc .vmem S1024x2048 .f32) (h2 : a2.IsWhole) (a3 : Memref sig .tc .vmem S1x6x2048 .f32) (h3 : a3.IsWhole)
    (a4 : Memref sig .tc .vmem S2048x2048 .bf16) (h4 : a4.IsWhole) (a5 : Memref sig .tc .vmem S1024x2048 .bf16) (h5 : a5.IsWhole) (a6 : Memref sig .tc .vmem S1024x2048 .bf16) (h6 : a6.IsWhole) (hc : cond0_0 i) (x0 : Vec Ideal S1024x2048 .f32) (x1 : Vec Ideal S1x6x2048 .f32) (x2 : Vec Ideal S2048x2048 .bf16) :
    out0_A_3 c i a2 h2 a3 h3 a4 h4 a5 h5 a6 h6 hc x0 x1 x2 = k0_pay2 (rows x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S1024x2048) hz, View.readCov_unit_zero (S := S1024x2048) _ hz]
  simp only [View.readAt_eq_ld, h2.read_unread, h3.read_unread, h4.read_unread, View.ld_unit_zero (S := S1024x2048) hz, View.ld_unit_zero (S := S2048x2048) hz]
  rfl

/-- What the body leaves in the rows' block. -/
theorem rows_A (c : Dev nD) (i : grid0.Coords) (a2 : Memref sig .tc .vmem S1024x2048 .f32) (h2 : a2.IsWhole) (a3 : Memref sig .tc .vmem S1x6x2048 .f32) (h3 : a3.IsWhole)
    (a4 : Memref sig .tc .vmem S2048x2048 .bf16) (h4 : a4.IsWhole) (a5 : Memref sig .tc .vmem S1024x2048 .bf16) (h5 : a5.IsWhole) (a6 : Memref sig .tc .vmem S1024x2048 .bf16) (h6 : a6.IsWhole) (hc : cond0_0 i) (x0 : Vec Ideal S1024x2048 .f32) (x1 : Vec Ideal S1x6x2048 .f32) (x2 : Vec Ideal S2048x2048 .bf16) :
    out0_A_4 c i a2 h2 a3 h3 a4 h4 a5 h5 a6 h6 hc x0 x1 x2 = rows x0 x1 := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1024x2048) hz]
  simp only [View.readAt_eq_ld, h2.read_unread, h3.read_unread, h4.read_unread, View.ld_unit_zero (S := S1024x2048) hz]
  rfl

/-- Which block of its array each window is on. -/
theorem index0 : ∀ i : grid0.Coords, cc0_transform_0 i 0 = (i 0).val ∧ cc0_transform_0 i 1 = 0 := by decide +kernel
theorem index1 : ∀ i : grid0.Coords, cc0_transform_1 i 0 = (i 0).val / 8 ∧ cc0_transform_1 i 1 = 0 ∧ cc0_transform_1 i 2 = 0 := by decide +kernel
theorem index2' : ∀ i : grid0.Coords, cc0_transform_2 i 0 = 0 ∧ cc0_transform_2 i 1 = 0 := by decide +kernel
theorem index3 : ∀ i : grid0.Coords, cc0_transform_3 i 0 = (i 0).val ∧ cc0_transform_3 i 1 = 0 := by decide +kernel
theorem index4 : ∀ i : grid0.Coords, cc0_transform_4 i 0 = (i 0).val ∧ cc0_transform_4 i 1 = 0 := by decide +kernel

/-- A point's tile, by its number. -/
theorem coords_at : ∀ t : Fin cfg0.N, (grid0.coords t 0).val = t.val := by decide +kernel

variable (m : (ℓ : Loc nD τ sig) → Buf (Elt Ideal) ℓ) (c : Dev nD) (t : Fin cfg0.N)

/-- The tile of a point. -/
def tileOf : Fin 16 := ⟨(grid0.coords t 0).val, (grid0.coords t 0).isLt⟩

/-- The row of the arrays that a row of the point's block is. -/
def rowOf (r : Fin 1024) : Fin 16384 := ⟨1024 * (tileOf t).val + r.val, by have := (tileOf t).isLt; omega⟩

/-- The arguments, as the run starts. -/
def argX : FVec Ideal ⟨2, ![16384, 2048]⟩ .f32 := m ((c.tc : Thread nD τ).loc main_arg0)
def argM : FVec Ideal ⟨3, ![2, 6, 2048]⟩ .f32 := m ((c.tc : Thread nD τ).loc main_arg1)
def argW : FVec Ideal ⟨2, ![2048, 2048]⟩ .bf16 := m ((c.tc : Thread nD τ).loc main_arg2)

theorem x_at (r : Fin 1024) (d : Fin 2048) : (iblk m c 0 t : Vec Ideal S1024x2048 .f32) (ix2 r d) = argX m c (ix2 (rowOf t r) d) := by
  obtain ⟨e0, e1⟩ := index0 (grid0.coords t)
  unfold iblk
  rw [View.read_apply]
  show m _ _ = m _ _
  congr 1
  funext a
  apply Fin.ext
  match a with
  | ⟨0, _⟩ =>
    show cc0_transform_0 (grid0.coords t) 0 * 1024 + 1 * r.val = 1024 * (grid0.coords t 0).val + r.val
    rw [e0]; omega
  | ⟨1, _⟩ =>
    show cc0_transform_0 (grid0.coords t) 1 * 2048 + 1 * d.val = d.val
    rw [e1]; omega

theorem mod_at (r : Fin 1024) (k : Fin 6) (j : Fin 2048) : (iblk m c 1 t : Vec Ideal S1x6x2048 .f32) (ix3 0 k j)
    = argM m c (ix3 ⟨(rowOf t r).val / 8192, by have := (rowOf t r).isLt; omega⟩ k j) := by
  obtain ⟨e0, e1, e2⟩ := index1 (grid0.coords t)
  unfold iblk
  rw [View.read_apply]
  show m _ _ = m _ _
  congr 1
  funext a
  apply Fin.ext
  match a with
  | ⟨0, _⟩ =>
    show cc0_transform_1 (grid0.coords t) 0 * 1 + 1 * 0 = (1024 * (grid0.coords t 0).val + r.val) / 8192
    rw [e0]; omega
  | ⟨1, _⟩ =>
    show cc0_transform_1 (grid0.coords t) 1 * 6 + 1 * k.val = k.val
    rw [e1]; omega
  | ⟨2, _⟩ =>
    show cc0_transform_1 (grid0.coords t) 2 * 2048 + 1 * j.val = j.val
    rw [e2]; omega

theorem w_at (d : Fin 2048) (j : Fin 2048) : (iblk m c 2 t : Vec Ideal S2048x2048 .bf16) (ix2 d j) = argW m c (ix2 d j) := by
  obtain ⟨e0, e1⟩ := index2' (grid0.coords t)
  unfold iblk
  rw [View.read_apply]
  show m _ _ = m _ _
  congr 1
  funext a
  apply Fin.ext
  match a with
  | ⟨0, _⟩ =>
    show cc0_transform_2 (grid0.coords t) 0 * 2048 + 1 * d.val = d.val
    rw [e0]; omega
  | ⟨1, _⟩ =>
    show cc0_transform_2 (grid0.coords t) 1 * 2048 + 1 * j.val = j.val
    rw [e1]; omega

/-- The rows of a point's block, from the arguments. -/
theorem rows_blk (r : Fin 1024) (d : Fin 2048) : rows (iblk m c 0 t) (iblk m c 1 t) (ix2 r d)
    = modu (fun d => argX m c (ix2 (rowOf t r) d)) (fun d => argM m c (ix3 ⟨(rowOf t r).val / 8192, by have := (rowOf t r).isLt; omega⟩ 3 d))
        (fun d => argM m c (ix3 ⟨(rowOf t r).val / 8192, by have := (rowOf t r).isLt; omega⟩ 4 d)) d := by
  rw [rows_at]
  simp only [x_at, mod_at m c t r]

/-- Where an element of the point's block lies in the result. -/
theorem emb3 (r : Fin 1024) (j : Fin 2048) : ((cfg0.win 3).blk t).view.emb (ix2 r j) = (ix2 (rowOf t r) j : S16384x2048.Idx) := by
  obtain ⟨e0, e1⟩ := index3 (grid0.coords t)
  funext a
  apply Fin.ext
  match a with
  | ⟨0, _⟩ =>
    show cc0_transform_3 (grid0.coords t) 0 * 1024 + 1 * r.val = 1024 * (grid0.coords t 0).val + r.val
    rw [e0]; omega
  | ⟨1, _⟩ =>
    show cc0_transform_3 (grid0.coords t) 1 * 2048 + 1 * j.val = j.val
    rw [e1]; omega

/-- The reference's result of the kernel's arguments. -/
def want : Vec Ideal S16384x2048 .bf16 := result (argX m c) (argM m c) (argW m c)

/-- What a point writes back is its block of the reference's result. -/
theorem flushed_eq : (dats m 0 c).flushed 3 t = ((cfg0.win 3).blk t).view.read (Elt Ideal) (want m c) := by
  rw [Value.flushed3_A, out_A]
  funext y
  obtain ⟨r, j, rfl⟩ : ∃ (r : Fin 1024) (j : Fin 2048), y = ix2 r j := ⟨_, _, eq_ix2 y⟩
  rw [View.read_apply, emb3, want, result_at]
  show k0_pay2 (rows (iblk m c 0 t) (iblk m c 1 t)) (iblk m c 2 t) (ix2 r j) = _
  rw [pay2_at]
  simp only [rows_blk, w_at]
  rfl

/-- Every element of the result is in some point's block. -/
theorem cover3 (i : S16384x2048.Idx) : ∃ t : Fin cfg0.N, (cfg0.win 3).flush t = true ∧ i ∈ ((cfg0.win 3).blk t).view.set := by
  obtain ⟨r, d, rfl⟩ : ∃ (r : Fin 16384) (d : Fin 2048), i = ix2 r d := ⟨_, _, eq_ix2 i⟩
  have hN : cfg0.N = 16 := by decide +kernel
  let t : Fin cfg0.N := ⟨r.val / 1024, by omega⟩
  have c0 := coords_at t
  have tv : t.val = r.val / 1024 := rfl
  have h := ((cfg0.win 3).blk t).view.emb_mem_set (ix2 ⟨r.val % 1024, by omega⟩ d)
  have er : rowOf t ⟨r.val % 1024, by omega⟩ = r := by
    apply Fin.ext
    show 1024 * (grid0.coords t 0).val + r.val % 1024 = r.val
    rw [c0]; omega
  rw [emb3, er] at h
  exact ⟨t, flush0_3 t, h⟩

/-- The result array at the end of the run. -/
theorem final : (dats m 0 c).arrAt 3 cfg0.N = want m c :=
  (dats m 0 c).arrAt_eq_of_cover 3 (want m c) (fun t _ => flushed_eq m c t) cover3

/-- Where an element of the point's block lies in the second result. -/
theorem emb4 (r : Fin 1024) (j : Fin 2048) : ((cfg0.win 4).blk t).view.emb (ix2 r j) = (ix2 (rowOf t r) j : S16384x2048.Idx) := by
  obtain ⟨e0, e1⟩ := index4 (grid0.coords t)
  funext a
  apply Fin.ext
  match a with
  | ⟨0, _⟩ =>
    show cc0_transform_4 (grid0.coords t) 0 * 1024 + 1 * r.val = 1024 * (grid0.coords t 0).val + r.val
    rw [e0]; omega
  | ⟨1, _⟩ =>
    show cc0_transform_4 (grid0.coords t) 1 * 2048 + 1 * j.val = j.val
    rw [e1]; omega

/-- The reference's second result of the kernel's arguments. -/
def want2 : Vec Ideal S16384x2048 .bf16 := result2 (argX m c) (argM m c)

/-- What a point writes back is its block of the reference's second result. -/
theorem flushed2_eq : (dats m 0 c).flushed 4 t = ((cfg0.win 4).blk t).view.read (Elt Ideal) (want2 m c) := by
  rw [Value.flushed4_A, rows_A]
  funext y
  obtain ⟨r, j, rfl⟩ : ∃ (r : Fin 1024) (j : Fin 2048), y = ix2 r j := ⟨_, _, eq_ix2 y⟩
  rw [View.read_apply, emb4, want2, result2_at]
  show rows (iblk m c 0 t) (iblk m c 1 t) (ix2 r j) = _
  rw [rows_blk]
  rfl

/-- Every element of the second result is in some point's block. -/
theorem cover4 (i : S16384x2048.Idx) : ∃ t : Fin cfg0.N, (cfg0.win 4).flush t = true ∧ i ∈ ((cfg0.win 4).blk t).view.set := by
  obtain ⟨r, d, rfl⟩ : ∃ (r : Fin 16384) (d : Fin 2048), i = ix2 r d := ⟨_, _, eq_ix2 i⟩
  have hN : cfg0.N = 16 := by decide +kernel
  let t : Fin cfg0.N := ⟨r.val / 1024, by omega⟩
  have c0 := coords_at t
  have tv : t.val = r.val / 1024 := rfl
  have h := ((cfg0.win 4).blk t).view.emb_mem_set (ix2 ⟨r.val % 1024, by omega⟩ d)
  have er : rowOf t ⟨r.val % 1024, by omega⟩ = r := by
    apply Fin.ext
    show 1024 * (grid0.coords t 0).val + r.val % 1024 = r.val
    rw [c0]; omega
  rw [emb4, er] at h
  exact ⟨t, flush0_4 t, h⟩

/-- The second result array at the end of the run. -/
theorem final2 : (dats m 0 c).arrAt 4 cfg0.N = want2 m c :=
  (dats m 0 c).arrAt_eq_of_cover 4 (want2 m c) (fun t _ => flushed2_eq m c t) cover4

end Cert.QuerIdeal.Hand
end
-- ==== Proof.Calls.lean ====
/-
  The three further calls: their programs leave their arguments as they were and every counter at zero, and kernel and
  reference compute the same results.
-/
module

public import proofs.«01_k».proof.Defs
public import proofs.«01_k».proof.Proof.ProjValue
public import proofs.«01_k».proof.Proof.Gen.Proj.Frame
public import proofs.«01_k».proof.Proof.EvenValue
public import proofs.«01_k».proof.Proof.Gen.Even.Frame
public import proofs.«01_k».proof.Proof.QuerValue
public import proofs.«01_k».proof.Proof.Gen.Quer.Frame
public import Idealize.ShloMosaic.Adequacy
public import Idealize.ShloMosaic.Init

@[expose] public section

noncomputable section

namespace Cert.Proof

open Idealize.ShloMosaic Idealize.ShloMosaic.TcCoe Idealize.SL.Sem

/-! ## The last product with its residual and norm -/

/-- The kernel as printed ends with its arguments unchanged. -/
theorem proj_frame_p : Cert.quiescent_Proj := fun m ρ _ => Cert.Proj.Gen.frame m ρ

/-- The kernel over the extended reals ends with its arguments unchanged. -/
theorem proj_frame_pi : Cert.quiescent_ProjIdeal := fun m ρ _ => Cert.ProjIdeal.Gen.frame m ρ

/-- The reference ends with its arguments unchanged. -/
theorem proj_frame_ri : Cert.quiescent_ProjRefIdeal := fun m ρ _ =>
  (θ_run Cert.ProjRefIdeal.defs _ _).mono (fun r h => ⟨fun c => (h c).2,
      Idealize.ShloMosaic.sem_eq_zero_of_no_sems (by decide) r.2⟩)
    (Cert.ProjRefIdeal.Value.run (F := Ideal) m ρ)

/-- Nothing was rewritten between the kernel as printed and over the extended reals. -/
theorem proj_preserves : Cert.preserves_Proj_ProjIdeal := trivial

/-- From the same arguments, kernel and reference end with the same result. -/
theorem proj_algebraic : Cert.algebraic_ProjIdeal_ProjRefIdeal := fun m ρ m' ρ' _ hargs =>
  ⟨Cert.ProjIdeal.Hand.want m,
    (θ_run Cert.ProjIdeal.defs _ _).mono (fun r h c => ⟨(h c).1.trans (Cert.ProjIdeal.Hand.final m c), (h c).2⟩)
      (Cert.ProjIdeal.Value.run_blocks (F := Ideal) m ρ),
    (θ_run Cert.ProjRefIdeal.defs _ _).mono (fun r h c => ⟨(h c).1.trans (by
        refine (Cert.ProjRefIdeal.Hand.res_eq m' c).trans ?_
        obtain ⟨e0, e1, e2, e3, e4, e5⟩ := hargs c
        rw [e0, e1, e2, e3, e4, e5]
        rfl), (h c).2⟩)
      (Cert.ProjRefIdeal.Value.run (F := Ideal) m' ρ')⟩

/-! ## The even mixer's first product -/

/-- The kernel as printed ends with its arguments unchanged. -/
theorem even_frame_p : Cert.quiescent_Even := fun m ρ _ => Cert.Even.Gen.frame m ρ

/-- The kernel over the extended reals ends with its arguments unchanged. -/
theorem even_frame_pi : Cert.quiescent_EvenIdeal := fun m ρ _ => Cert.EvenIdeal.Gen.frame m ρ

/-- The reference ends with its arguments unchanged. -/
theorem even_frame_ri : Cert.quiescent_EvenRefIdeal := fun m ρ _ =>
  (θ_run Cert.EvenRefIdeal.defs _ _).mono (fun r h => ⟨fun c => (h c).2,
      Idealize.ShloMosaic.sem_eq_zero_of_no_sems (by decide) r.2⟩)
    (Cert.EvenRefIdeal.Value.run (F := Ideal) m ρ)

/-- Nothing was rewritten between the kernel as printed and over the extended reals. -/
theorem even_preserves : Cert.preserves_Even_EvenIdeal := trivial

/-- From the same arguments, kernel and reference end with the same result. -/
theorem even_algebraic : Cert.algebraic_EvenIdeal_EvenRefIdeal := fun m ρ m' ρ' _ hargs =>
  ⟨Cert.EvenIdeal.Hand.want m,
    (θ_run Cert.EvenIdeal.defs _ _).mono (fun r h c => ⟨(h c).1.trans (Cert.EvenIdeal.Hand.final m c), (h c).2⟩)
      (Cert.EvenIdeal.Value.run_blocks (F := Ideal) m ρ),
    (θ_run Cert.EvenRefIdeal.defs _ _).mono (fun r h c => ⟨(h c).1.trans (by
        obtain ⟨e0, e1, e2⟩ := hargs c
        rw [e0, e1, e2]
        rfl), (h c).2⟩)
      (Cert.EvenRefIdeal.Value.run (F := Ideal) m' ρ')⟩

/-! ## The experts' queries -/

/-- The kernel as printed ends with its arguments unchanged. -/
theorem quer_frame_p : Cert.quiescent_Quer := fun m ρ _ => Cert.Quer.Gen.frame m ρ

/-- The kernel over the extended reals ends with its arguments unchanged. -/
theorem quer_frame_pi : Cert.quiescent_QuerIdeal := fun m ρ _ => Cert.QuerIdeal.Gen.frame m ρ

/-- The reference ends with its arguments unchanged. -/
theorem quer_frame_ri : Cert.quiescent_QuerRefIdeal := fun m ρ _ =>
  (θ_run Cert.QuerRefIdeal.defs _ _).mono (fun r h => ⟨fun c => (h c).2.2,
      Idealize.ShloMosaic.sem_eq_zero_of_no_sems (by decide) r.2⟩)
    (Cert.QuerRefIdeal.Value.run (F := Ideal) m ρ)

/-- Nothing was rewritten between the kernel as printed and over the extended reals. -/
theorem quer_preserves : Cert.preserves_Quer_QuerIdeal := trivial

/-- From the same arguments, kernel and reference end with the same results. -/
theorem quer_algebraic : Cert.algebraic_QuerIdeal_QuerRefIdeal := fun m ρ m' ρ' _ hargs =>
  ⟨Cert.QuerIdeal.Hand.want m, Cert.QuerIdeal.Hand.want2 m,
    (θ_run Cert.QuerIdeal.defs _ _).mono (fun r h c => ⟨(h c).1.trans (Cert.QuerIdeal.Hand.final m c),
        (h c).2.1.trans (Cert.QuerIdeal.Hand.final2 m c), (h c).2.2⟩)
      (Cert.QuerIdeal.Value.run_blocks (F := Ideal) m ρ),
    (θ_run Cert.QuerRefIdeal.defs _ _).mono (fun r h c => ⟨(h c).1.trans (by
        obtain ⟨e0, e1, e2⟩ := hargs c
        rw [e0, e1, e2]
        rfl), (h c).2.1.trans (by
        obtain ⟨e0, e1, e2⟩ := hargs c
        rw [e0, e1]
        rfl), (h c).2.2⟩)
      (Cert.QuerRefIdeal.Value.run (F := Ideal) m' ρ')⟩

end Cert.Proof

end
-- ==== Proof.OddPlain.lean ====
/-
  The odd mixer's first product as printed: its run ends with the arguments as they were.
  Nothing is claimed of the outputs here, so every buffer the body writes is held at some contents.
-/
module

public import proofs.«01_k».proof.Proof.Gen.Odd.Skeleton
public import proofs.«01_k».proof.Proof.Gen.Odd.Frame
public import Idealize.ShloMosaic.Lib.Exec
public import Idealize.ShloMosaic.Lib.Tactic
public import Idealize.ShloMosaic.Lib.Pipeline.Kit

@[expose] public section
set_option maxRecDepth 16384
set_option maxHeartbeats 1000000
noncomputable section
namespace Cert.Odd.Hand
open Cert.Odd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

section
variable (𝒱 : Variants) (c : Dev nD) (bd : Option 𝒱.V) (i : grid0.Coords)
  (arg2 : Memref sig .tc .vmem S1024x2048 .f32) (harg2 : arg2.IsWhole)
  (arg3 : Memref sig .tc .vmem S1x6x2048 .f32) (harg3 : arg3.IsWhole)
  (arg4 : Memref sig .tc .vmem S2048x1024 .bf16) (harg4 : arg4.IsWhole)
  (arg5 : Memref sig .tc .vmem S1024x2048 .bf16) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S1x128 .f32) (harg8 : arg8.IsWhole)
  (arg9 : Memref sig .tc .vmem S1024x1024 .bf16) (harg9 : arg9.IsWhole)
  (arg10 : Memref sig .tc .vmem S1024x1024 .bf16) (harg10 : arg10.IsWhole)
  (arg11 : Memref sig .tc .vmem S1024x128 .f32) (harg11 : arg11.IsWhole)
  (arg12 : Memref sig .tc .vmem S1024x2048 .bf16) (harg12 : arg12.IsWhole)
  (arg13 : Memref sig .tc .vmem S8x128 .f32) (harg13 : arg13.IsWhole) (E : Set ℕ)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)

/-- The buffers during the body: the operands at their contents, the outputs and the scratch at some. -/
abbrev Held : sProp 𝕄 :=
  iprop(∃ f9 f10 f11 f12 f13, (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} f9)
    ∗ (arg10.view.loc (c : Thread nD τ) ↦[arg10.view.set]{fullShare} f10)
    ∗ (arg11.view.loc (c : Thread nD τ) ↦[arg11.view.set]{fullShare} f11)
    ∗ (arg12.view.loc (c : Thread nD τ) ↦[arg12.view.set]{fullShare} f12)
    ∗ (arg13.view.loc (c : Thread nD τ) ↦[arg13.view.set]{fullShare} f13))

local notation "𝔹" => Held c arg2 arg3 arg4 arg5 arg6 arg7 arg8 arg9 arg10 arg11 arg12 arg13 X2 X3 X4 X5 X6 X7 X8

/-- The modulated rows and the gates' products keep the buffers. -/
theorem part1_keep : 𝔹 ⊢ wp frame (wpE (defs₀ (F := F)) 𝒱 (c : Thread nD τ) bd) E (k0_part1 (F := F) i arg2 harg2 arg3 harg3 arg4 harg4 arg5 harg5 arg6 harg6 arg7 harg7 arg8 harg8 arg9 harg9 arg10 harg10 arg11 harg11 arg12 harg12 arg13 harg13) (fun _ => 𝔹) := by
  rw [k0_part1_eq_skeleton]
  unfold k0_part1_skel
  iintro ⟨%f9, %f10, %f11, %f12, %f13, H2, H3, H4, H5, H6, H7, H8, H9, H10, H11, H12, H13⟩
  sl_exec
  sl_step
  iexists _, _, _, _, _
  iframe

/-- The restart of the running sums keeps the buffers. -/
theorem part2_keep (arg0 : BitVec 32) (v41 v45 : FVec F S1024x128 .f32) :
    𝔹 ⊢ wp frame (wpE (defs₀ (F := F)) 𝒱 (c : Thread nD τ) bd) E (k0_part2 (F := F) i arg2 harg2 arg3 harg3 arg4 harg4 arg5 harg5 arg6 harg6 arg7 harg7 arg8 harg8 arg9 harg9 arg10 harg10 arg11 harg11 arg12 harg12 arg13 harg13 arg0 v41 v45) (fun _ => 𝔹) := by
  rw [k0_part2_eq_skeleton]
  unfold k0_part2_skel
  iintro ⟨%f9, %f10, %f11, %f12, %f13, H2, H3, H4, H5, H6, H7, H8, H9, H10, H11, H12, H13⟩
  dsimp -proj only
  split
  all_goals
    sl_exec
    sl_step
    iexists _, _, _, _, _
    iframe

/-- The running sums keep the buffers. -/
theorem part3_keep (v61 : IVec S1024x128 32) (v79 v84 : FVec F S1024x128 .f32) :
    𝔹 ⊢ wp frame (wpE (defs₀ (F := F)) 𝒱 (c : Thread nD τ) bd) E (k0_part3 (F := F) i arg2 harg2 arg3 harg3 arg4 harg4 arg5 harg5 arg6 harg6 arg7 harg7 arg8 harg8 arg9 harg9 arg10 harg10 arg11 harg11 arg12 harg12 arg13 harg13 v61 v79 v84) (fun _ => 𝔹) := by
  rw [k0_part3_eq_skeleton]
  unfold k0_part3_skel
  iintro ⟨%f9, %f10, %f11, %f12, %f13, H2, H3, H4, H5, H6, H7, H8, H9, H10, H11, H12, H13⟩
  sl_exec
  sl_step
  iexists _, _, _, _, _
  iframe

/-- The body keeps the buffers. -/
theorem body_keep : 𝔹 ⊢ wp frame (wpE (defs₀ (F := F)) 𝒱 (c : Thread nD τ) bd) E (cc0_odd_in (F := F) i arg2 harg2 arg3 harg3 arg4 harg4 arg5 harg5 arg6 harg6 arg7 harg7 arg8 harg8 arg9 harg9 arg10 harg10 arg11 harg11 arg12 harg12 arg13 harg13) (fun _ => 𝔹) := by
  rw [cc0_odd_in_eq_skeleton]
  unfold cc0_odd_in_skel
  dsimp -proj only
  by_cases h1 : k0_cond1 i = 1#1
  · rw [dif_pos h1]
    rw [wp_bind]
    refine (part1_keep 𝒱 c bd i arg2 harg2 arg3 harg3 arg4 harg4 arg5 harg5 arg6 harg6 arg7 harg7 arg8 harg8 arg9 harg9 arg10 harg10 arg11 harg11 arg12 harg12 arg13 harg13 E X2 X3 X4 X5 X6 X7 X8).trans (wp_mono _ _ _ ?_)
    rintro ⟨v41, v45⟩
    try dsimp -proj only
    rw [wp_bind]
    refine (part2_keep 𝒱 c bd i arg2 harg2 arg3 harg3 arg4 harg4 arg5 harg5 arg6 harg6 arg7 harg7 arg8 harg8 arg9 harg9 arg10 harg10 arg11 harg11 arg12 harg12 arg13 harg13 E X2 X3 X4 X5 X6 X7 X8 _ v41 v45).trans (wp_mono _ _ _ ?_)
    rintro ⟨v61, v79, v84⟩
    try dsimp -proj only
    rw [wp_bind]
    refine (part3_keep 𝒱 c bd i arg2 harg2 arg3 harg3 arg4 harg4 arg5 harg5 arg6 harg6 arg7 harg7 arg8 harg8 arg9 harg9 arg10 harg10 arg11 harg11 arg12 harg12 arg13 harg13 E X2 X3 X4 X5 X6 X7 X8 v61 v79 v84).trans (wp_mono _ _ _ ?_)
    intro v124
    iintro ⟨%f9, %f10, %f11, %f12, %f13, H2, H3, H4, H5, H6, H7, H8, H9, H10, H11, H12, H13⟩
    by_cases h3 : k0_cond3 i = 1#1 <;> by_cases h4 : k0_cond4 i = 1#1
    all_goals
      sl_exec
      sl_step
      iexists _, _, _, _, _
      iframe
  · rw [dif_neg h1]
    iintro ⟨%f9, %f10, %f11, %f12, %f13, H2, H3, H4, H5, H6, H7, H8, H9, H10, H11, H12, H13⟩
    by_cases h3 : k0_cond3 i = 1#1 <;> by_cases h4 : k0_cond4 i = 1#1
    all_goals
      sl_exec
      sl_step
      iexists _, _, _, _, _
      iframe

end

/-! ## The launch -/

variable (m : (ℓ : Loc nD τ sig) → Buf (Elt F) ℓ) (ρ : Dev nD → PrngReg)

/-- The outputs' windows, whose contents the proof does not follow. -/
def free : Fin cfg0.W → Bool := fun | 0 => false | 1 => false | 2 => false | 3 => false | 4 => false | 5 => false | 6 => false | 7 => true | 8 => true | 9 => true

/-- The launch's proof data: inputs left as staged, the scratch at something. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
  Φ t := Pipeline.ΦA spec0 c
  q w := fullShare
  owed _ := 0

abbrev 𝒱₀ : Variants := Variants.none

/-- The body meets the pipeline's demand at every point, the outputs forgotten. -/
theorem body_obligation (c : Dev nD) : BodyObligation (dats m 0 c) (defs₀ (F := F)) 𝒱₀ () Set.univ free := fun t => by
  rw [bigSep_W0, bigSep_W0]
  simp only [show free 0 = false from rfl, show free 1 = false from rfl, show free 2 = false from rfl, show free 3 = false from rfl, show free 4 = false from rfl, show free 5 = false from rfl, show free 6 = false from rfl, show free 7 = true from rfl, show free 8 = true from rfl, show free 9 = true from rfl]
  rw [show (dats m 0 c).Φ t.castSucc = Pipeline.ΦA spec0 c from rfl, show (dats m 0 c).Φ t.succ = Pipeline.ΦA spec0 c from rfl]
  unfold Pipeline.ΦA Dat.owesAt Pipeline.owesWithin owns
  rw [scopedRest0_eq]
  rw [show (dats m 0 c).owed t.castSucc = 0 from rfl, show (dats m 0 c).owed t.succ = 0 from rfl]
  iintro ⟨⟨⟨⟨%s12, S12⟩, ⟨%s13, S13⟩⟩, Hr⟩, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩⟩
  rw [before0_0_of m (dats m 0 c) rfl (fun _ => rfl)] at hf0
  rw [before0_1_of m (dats m 0 c) rfl (fun _ => rfl)] at hf1
  rw [before0_2_of m (dats m 0 c) rfl (fun _ => rfl)] at hf2
  rw [before0_3_of m (dats m 0 c) rfl (fun _ => rfl)] at hf3
  rw [before0_4_of m (dats m 0 c) rfl (fun _ => rfl)] at hf4
  rw [before0_5_of m (dats m 0 c) rfl (fun _ => rfl)] at hf5
  rw [before0_6_of m (dats m 0 c) rfl (fun _ => rfl)] at hf6
  have key := body_keep 𝒱₀ c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9))
    (Memref.whole cc0_scratch0) (Memref.isWhole_whole _) (Memref.whole cc0_scratch1) (Memref.isWhole_whole _) Set.univ f0 f1 f2 f3 f4 f5 f6
  iapply (wp_wand_r frame (wpE (defs₀ (F := F)) 𝒱₀ (c : Thread nD τ) none) Set.univ)
  isplitl [H0 H1 H2 H3 H4 H5 H6 H7 H8 H9 S12 S13]
  · iapply key
    unfold Held
    iexists f7, f8, f9, s12, s13
    simp only [Memref.view_whole, View.set_whole]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S12]; · iexact S12
    iexact S13
  unfold Held
  simp only [Memref.view_whole, View.set_whole]
  iintro %r ⟨%g7, %g8, %g9, %g12, %g13, H0, H1, H2, H3, H4, H5, H6, H7, H8, H9, S12, S13⟩
  isplitl [S12 S13 Hr]
  · isplitl [S12 S13]
    · isplitl [S12]; · iexists g12; iexact S12
      iexists g13; iexact S13
    iexact Hr
  isplitl [HO]
  · iexists W; isplitr; · ipureintro; exact fun _ _ => Or.inl trivial
    iexact HO
  isplitl [H0]; · iexists f0; isplitr; · ipureintro; exact hf0
                  iexact H0
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  isplitl [H4]; · iexists f4; isplitr; · ipureintro; exact hf4
                  iexact H4
  isplitl [H5]; · iexists f5; isplitr; · ipureintro; exact hf5
                  iexact H5
  isplitl [H6]; · iexists f6; isplitr; · ipureintro; exact hf6
                  iexact H6
  isplitl [H7]; · iexists _, g7; isplitr; · ipureintro; rfl
                  iexact H7
  isplitl [H8]; · iexists _, g8; isplitr; · ipureintro; rfl
                  iexact H8
  iexists _, g9
  isplitr
  · ipureintro; rfl
  iexact H9

/-- The run: it ends, the arguments unchanged and every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  Pipeline.θ_run_frame_forget cfgs (dats m) 0 launch0 defs₀ 𝒱₀ free m ρ main (fun c => (body_obligation m c).loose)
    (fun _ w => by unfold Dat.share; split <;> rfl) (fun _ _ => rfl) (V m) (hmain m 𝒱₀) (fun _ _ => rfl) (fun _ _ => rfl)
    (Q' := fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0)
    (fun r (h : _ ∧ _) => ⟨fun c => by
      have e (w : Fin cfg0.W) (hw : (cfg0.win w).isOut = false) :=
        cast (congrFun (Pipeline.RDat.ArrAt_in ((dats m 0 c).toRForget free) w hw cfg0.N) _) ((h.1 c).1 w)
      exact ⟨e 0 rfl, e 1 rfl, e 2 rfl, e 3 rfl, e 4 rfl, e 5 rfl, e 6 rfl⟩, h.2⟩)

end Cert.Odd.Hand
end
-- ==== Proof.OddRef.lean ====
/-
  The odd mixer's first product: the reference's results at the ideal values, element by element.
-/
module

public import proofs.«01_k».proof.Proof.Gen.OddRefIdeal.Run
public import proofs.«01_k».proof.Proof.EvenRef
public import proofs.«01_k».proof.Proof.Consts
public import Idealize.ShloMosaic.Lib.Pointwise

@[expose] public section

set_option maxRecDepth 16384

noncomputable section

namespace Cert.OddRefIdeal.Hand

open Cert.OddRefIdeal Cert.OddRefIdeal.Gen
open Idealize.ShloMosaic Idealize.ShloMosaic.TcCoe
open Cert.EvenRefIdeal.Hand (modu)

variable (x : FVec Ideal S16384x2048 .f32) (mod : FVec Ideal S2x6x2048 .f32) (w : FVec Ideal S2048x4096 .bf16) (wk : FVec Ideal S2048x2048 .bf16)

/-- The scaled and shifted rows. -/
def hR : FVec Ideal S2x8192x2048 .f32 :=
  addf (mulf (shapeCast _ x shapeCasts_S16384x2048_S2x8192x2048) (broadcastInDim S2x8192x2048 ![0, 1, 2] bcast_S2x1x2048_S2x8192x2048_0_1_2 (addf (broadcastInDim S2x1x2048 ![] bcast_S_S2x1x2048 (constant S_ .f32 0x3F800000#32)) (extractStridedSlice S2x1x2048 ![0, 1, 0] mod slices_S2x6x2048_S2x1x2048_0_1_0)))) (broadcastInDim S2x8192x2048 ![0, 1, 2] bcast_S2x1x2048_S2x8192x2048_0_1_2 (extractStridedSlice S2x1x2048 ![0, 0, 0] mod slices_S2x6x2048_S2x1x2048_0_0_0))

/-- The queries beside the values, before the queries are scaled. -/
def prod (h : FVec Ideal S2x8192x2048 .f32) : FVec Ideal S2x8192x4096 .f32 :=
  Host.dotGeneral dot_S2x8192x2048_S2048x4096_S2x8192x4096_2_0_01_1_n_n none h (extf .f32 w bitsLt_bf16_f32)

/-- The divisor of the queries. -/
def divisor : FVec Ideal S_ .f32 := mulf (Host.sqrt (constant S_ .f32 0x43000000#32)) (Host.log (constant S_ .f32 0x40000000#32))

/-- The queries scaled, beside the values, as the result's rows. -/
def joined (p : FVec Ideal S2x8192x4096 .f32) (v : FVec Ideal S_ .f32) : FVec Ideal S16384x4096 .bf16 :=
  truncf .bf16 (shapeCast _ (concatenate S2x8192x4096 2 [⟨S2x8192x2048, (Host.divf (extractStridedSlice S2x8192x2048 ![0, 0, 0] p slices_S2x8192x4096_S2x8192x2048_0_0_0) (broadcastInDim S2x8192x2048 ![] bcast_S_S2x8192x2048 v))⟩, ⟨S2x8192x2048, (extractStridedSlice S2x8192x2048 ![0, 0, 2048] p slices_S2x8192x4096_S2x8192x2048_0_0_2048)⟩] concatenates_S2x8192x2048_S2x8192x2048_S2x8192x4096_d2) shapeCasts_S2x8192x4096_S16384x4096) bitsLt_bf16_f32

/-- The first result. -/
def result : FVec Ideal S16384x4096 .bf16 := joined (prod w (hR x mod)) divisor

/-- The keys of any rows, transposed. -/
def keys (h : FVec Ideal S2x8192x2048 .f32) : FVec Ideal S2048x16384 .bf16 :=
  truncf .bf16 (shapeCast _ (Host.dotGeneral dot_S2048x2048_S2x8192x2048_S2048x2x8192_1_2_0_01_n_n none (extf .f32 wk bitsLt_bf16_f32) h) shapeCasts_S2048x2x8192_S2048x16384) bitsLt_bf16_f32

/-- The second result. -/
def result2 : FVec Ideal S2048x16384 .bf16 := keys wk (hR x mod)

/-- The scaled and shifted rows at an element. -/
theorem hR_at (s : Fin 2) (r : Fin 8192) (d : Fin 2048) : hR x mod (ix3 s r d)
    = modu (fun d => x (ix2 ⟨s.val * 8192 + r.val, by omega⟩ d)) (fun d => mod (ix3 s 0 d)) (fun d => mod (ix3 s 1 d)) d := by
  pointwise [hR, modu]

/-- The same, by the row's number. -/
theorem hR_row (i : Fin 16384) (d : Fin 2048) : hR x mod (ix3 ⟨i.val / 8192, by omega⟩ ⟨i.val % 8192, by omega⟩ d)
    = modu (fun d => x (ix2 i d)) (fun d => mod (ix3 ⟨i.val / 8192, by omega⟩ 0 d)) (fun d => mod (ix3 ⟨i.val / 8192, by omega⟩ 1 d)) d := by
  have e : (⟨i.val / 8192 * 8192 + i.val % 8192, by omega⟩ : Fin 16384) = i := Fin.ext (by show i.val / 8192 * 8192 + i.val % 8192 = i.val; omega)
  rw [hR_at]
  simp only [e]

/-- The product of any rows, at an element. -/
theorem prod_at (h : FVec Ideal S2x8192x2048 .f32) (s : Fin 2) (r : Fin 8192) (j : Fin 4096) :
    prod w h (ix3 s r j) = ∑ d : Fin 2048, h (ix3 s r d) * w (ix2 d j) := by
  pointwise [prod]

/-- The keys of any rows, at an element. -/
theorem keys_at (h : FVec Ideal S2x8192x2048 .f32) (e : Fin 2048) (i : Fin 16384) :
    keys wk h (ix2 e i) = ∑ d : Fin 2048, wk (ix2 e d) * h (ix3 ⟨i.val / 8192, by omega⟩ ⟨i.val % 8192, by omega⟩ d) := by
  pointwise [keys]

/-- The joined rows at a column of the queries. -/
theorem joined_left (p : FVec Ideal S2x8192x4096 .f32) (v : FVec Ideal S_ .f32) (i : Fin 16384) (j : Fin 4096) (hj : j.val < 2048) :
    joined p v (ix2 i j) = Ideal.div (p (ix3 ⟨i.val / 8192, by omega⟩ ⟨i.val % 8192, by omega⟩ j)) (v ix0) := by
  pointwise [joined]
  rw [dif_pos hj]

/-- The joined rows at a column of the values. -/
theorem joined_right (p : FVec Ideal S2x8192x4096 .f32) (v : FVec Ideal S_ .f32) (i : Fin 16384) (j : Fin 4096) (hj : ¬j.val < 2048) :
    joined p v (ix2 i j) = p (ix3 ⟨i.val / 8192, by omega⟩ ⟨i.val % 8192, by omega⟩ j) := by
  pointwise [joined]
  rw [dif_neg hj]
  congr 2
  exact Fin.ext (by show 2048 + (j.val - 2048) = j.val; omega)

/-- The real 128. -/
theorem ofBits_128 : Ideal.ofBits .f32 0x43000000#32 = ((128 : ℝ) : EReal) := by
  simp [Ideal.ofBits, Ideal.ieee, -EReal.coe_mul]; norm_num

/-- The divisor is the root of 128 times the logarithm of 2. -/
theorem divisor_at (k : S_.Idx) : divisor k = ((Real.sqrt 128 * Real.log 2 : ℝ) : EReal) := by
  show Ideal.sqrt (Ideal.ofBits .f32 0x43000000#32) * Ideal.log (Ideal.ofBits .f32 0x40000000#32) = _
  rw [ofBits_128, Cert.Consts.ofBits_two, Cert.Consts.log_two, Ideal.sqrt_coe, if_neg (by norm_num), EReal.coe_mul]

theorem divisor_ne : Real.sqrt 128 * Real.log 2 ≠ 0 :=
  mul_ne_zero (Real.sqrt_pos.mpr (by norm_num)).ne' (Real.log_pos (by norm_num)).ne'

/-- An entry of the product. -/
def entry (i : Fin 16384) (j : Fin 4096) : EReal :=
  ∑ d : Fin 2048, modu (fun d => x (ix2 i d)) (fun d => mod (ix3 ⟨i.val / 8192, by omega⟩ 0 d)) (fun d => mod (ix3 ⟨i.val / 8192, by omega⟩ 1 d)) d * w (ix2 d j)

theorem prod_row (i : Fin 16384) (j : Fin 4096) : prod w (hR x mod) (ix3 ⟨i.val / 8192, by omega⟩ ⟨i.val % 8192, by omega⟩ j) = entry x mod w i j := by
  rw [prod_at]
  exact Finset.sum_congr rfl fun d _ => congrArg (· * _) (hR_row x mod i d)

/-- The first result at an element. -/
theorem result_at (i : Fin 16384) (j : Fin 4096) : result x mod w (ix2 i j)
    = entry x mod w i j * (if j.val < 2048 then (((Real.sqrt 128 * Real.log 2)⁻¹ : ℝ) : EReal) else 1) := by
  by_cases h : j.val < 2048
  · rw [result, joined_left _ _ _ _ h, prod_row, divisor_at, Ideal.div_coe divisor_ne, if_pos h, one_div]
  · rw [result, joined_right _ _ _ _ h, prod_row, if_neg h, mul_one]

/-- The second result at an element. -/
theorem result2_at (e : Fin 2048) (i : Fin 16384) : result2 x mod wk (ix2 e i)
    = ∑ d : Fin 2048, wk (ix2 e d) * modu (fun d => x (ix2 i d)) (fun d => mod (ix3 ⟨i.val / 8192, by omega⟩ 0 d)) (fun d => mod (ix3 ⟨i.val / 8192, by omega⟩ 1 d)) d := by
  rw [result2, keys_at]
  exact Finset.sum_congr rfl fun d _ => congrArg (_ * ·) (hR_row x mod i d)

end Cert.OddRefIdeal.Hand
end
-- ==== Proof.OddBody.lean ====
/-
  The odd mixer's first product over the extended reals: what one point's body leaves in each buffer.
-/
module

public import proofs.«01_k».proof.Proof.Gen.OddIdeal.Skeleton
public import proofs.«01_k».proof.Proof.Gen.OddIdeal.Frame
public import Idealize.ShloMosaic.Lib.VecWindow
public import Idealize.ShloMosaic.Lib.Exec
public import Idealize.ShloMosaic.Lib.Tactic
public import Idealize.ShloMosaic.Lib.Pipeline.Kit

@[expose] public section
set_option maxRecDepth 16384
set_option maxHeartbeats 1000000
noncomputable section
namespace Cert.OddIdeal.Hand
open Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [Named F]
local notation "𝕄" => MT nD τ sig Unit (Elt F) ℕ (UR sig nD τ) ℕ

theorem hz : (![0, 0] : Fin 2 → Nat) = fun _ => 0 := funext fun a => by fin_cases a <;> rfl

/-- The scaled and shifted rows of a block, as the body keeps them. -/
def rows (x0 : Vec F S1024x2048 .f32) (x1 : Vec F S1x6x2048 .f32) : Vec F S1024x2048 .bf16 :=
  k0_pay6 (View.ld x1 (Rect.unit (s := S1x6x2048) ![0, 0, 0] S1x1x2048.size inb_S1x6x2048_S1x1x2048_0_0_0))
    (View.ld x1 (Rect.unit (s := S1x6x2048) ![0, 1, 0] S1x1x2048.size inb_S1x6x2048_S1x1x2048_0_1_0)) x0

section
variable (𝒱 : Variants) (c : Dev nD) (bd : Option 𝒱.V) (i : grid0.Coords)
  (arg2 : Memref sig .tc .vmem S1024x2048 .f32) (harg2 : arg2.IsWhole)
  (arg3 : Memref sig .tc .vmem S1x6x2048 .f32) (harg3 : arg3.IsWhole)
  (arg4 : Memref sig .tc .vmem S2048x1024 .bf16) (harg4 : arg4.IsWhole)
  (arg5 : Memref sig .tc .vmem S1024x2048 .bf16) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S1x128 .f32) (harg8 : arg8.IsWhole)
  (arg9 : Memref sig .tc .vmem S1024x1024 .bf16) (harg9 : arg9.IsWhole)
  (arg10 : Memref sig .tc .vmem S1024x1024 .bf16) (harg10 : arg10.IsWhole)
  (arg11 : Memref sig .tc .vmem S1024x128 .f32) (harg11 : arg11.IsWhole)
  (arg12 : Memref sig .tc .vmem S1024x2048 .bf16) (harg12 : arg12.IsWhole)
  (arg13 : Memref sig .tc .vmem S8x128 .f32) (harg13 : arg13.IsWhole) (E : Set ℕ)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)

/-- The buffers during the body, those of the gates at some contents. -/
abbrev Res (f9 : BufTy.Contents (Elt F) arg9.view.ty) (f10 : BufTy.Contents (Elt F) arg10.view.ty) (f12 : BufTy.Contents (Elt F) arg12.view.ty) : sProp 𝕄 :=
  iprop(∃ f11 f13, (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} f9)
    ∗ (arg10.view.loc (c : Thread nD τ) ↦[arg10.view.set]{fullShare} f10)
    ∗ (arg12.view.loc (c : Thread nD τ) ↦[arg12.view.set]{fullShare} f12)
    ∗ (arg11.view.loc (c : Thread nD τ) ↦[arg11.view.set]{fullShare} f11)
    ∗ (arg13.view.loc (c : Thread nD τ) ↦[arg13.view.set]{fullShare} f13))

local notation "ℝ₀" => Res c arg2 arg3 arg4 arg5 arg6 arg7 arg8 arg9 arg10 arg11 arg12 arg13 X2 X3 X4 X5 X6 X7 X8

variable (f9 : BufTy.Contents (Elt F) arg9.view.ty) (f10 : BufTy.Contents (Elt F) arg10.view.ty) (f12 : BufTy.Contents (Elt F) arg12.view.ty)

/-- The modulated rows are stored. -/
theorem part1_run : ℝ₀ f9 f10 f12 ⊢ wp frame (wpE (defs₀ (F := F)) 𝒱 (c : Thread nD τ) bd) E (k0_part1 (F := F) i arg2 harg2 arg3 harg3 arg4 harg4 arg5 harg5 arg6 harg6 arg7 harg7 arg8 harg8 arg9 harg9 arg10 harg10 arg11 harg11 arg12 harg12 arg13 harg13)
    (fun _ => iprop(∃ g12, ℝ₀ f9 f10 g12 ∗ ⌜arg12.view.read (Elt F) g12 = rows (arg2.view.read (Elt F) X2) (arg3.view.read (Elt F) X3)⌝)) := by
  rw [k0_part1_eq_skeleton]
  unfold k0_part1_skel
  iintro ⟨%f11, %f13, H2, H3, H4, H5, H6, H7, H8, H9, H10, H12, H11, H13⟩
  sl_exec
  sl_step
  iexists _
  isplitl [H2 H3 H4 H5 H6 H7 H8 H9 H10 H12 H11 H13]
  · iexists _, _
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H12]; · iexact H12
    isplitl [H11]; · iexact H11
    iexact H13
  ipureintro
  rw [View.read_writes_full, View.readAt_eq_ld, View.readAt_eq_ld, View.readAt_full]
  rfl

/-- The restart of the running sums touches the gates' buffers alone. -/
theorem part2_run (arg0 : BitVec 32) (v41 v45 : FVec F S1024x128 .f32) :
    ℝ₀ f9 f10 f12 ⊢ wp frame (wpE (defs₀ (F := F)) 𝒱 (c : Thread nD τ) bd) E (k0_part2 (F := F) i arg2 harg2 arg3 harg3 arg4 harg4 arg5 harg5 arg6 harg6 arg7 harg7 arg8 harg8 arg9 harg9 arg10 harg10 arg11 harg11 arg12 harg12 arg13 harg13 arg0 v41 v45) (fun _ => ℝ₀ f9 f10 f12) := by
  rw [k0_part2_eq_skeleton]
  unfold k0_part2_skel
  iintro ⟨%f11, %f13, H2, H3, H4, H5, H6, H7, H8, H9, H10, H12, H11, H13⟩
  try dsimp -proj only
  split
  all_goals
    sl_exec
    sl_step
    iexists _, _
    iframe

/-- So do the running sums. -/
theorem part3_run (v61 : IVec S1024x128 32) (v79 v84 : FVec F S1024x128 .f32) :
    ℝ₀ f9 f10 f12 ⊢ wp frame (wpE (defs₀ (F := F)) 𝒱 (c : Thread nD τ) bd) E (k0_part3 (F := F) i arg2 harg2 arg3 harg3 arg4 harg4 arg5 harg5 arg6 harg6 arg7 harg7 arg8 harg8 arg9 harg9 arg10 harg10 arg11 harg11 arg12 harg12 arg13 harg13 v61 v79 v84) (fun _ => ℝ₀ f9 f10 f12) := by
  rw [k0_part3_eq_skeleton]
  unfold k0_part3_skel
  iintro ⟨%f11, %f13, H2, H3, H4, H5, H6, H7, H8, H9, H10, H12, H11, H13⟩
  sl_exec
  sl_step
  iexists _, _
  iframe

/-- What the body leaves: the rows where it makes them, the product's block or the keys' block, the rest as found. -/
def Left (g9 : BufTy.Contents (Elt F) arg9.view.ty) (g10 : BufTy.Contents (Elt F) arg10.view.ty) (g12 : BufTy.Contents (Elt F) arg12.view.ty) : Prop :=
  (k0_cond1 i = 1#1 → arg12.view.read (Elt F) g12 = rows (arg2.view.read (Elt F) X2) (arg3.view.read (Elt F) X3))
  ∧ (¬k0_cond1 i = 1#1 → g12 = f12)
  ∧ (k0_cond3 i = 1#1 → arg9.view.read (Elt F) g9 = k0_pay2 i (arg12.view.read (Elt F) g12) (arg4.view.read (Elt F) X4))
  ∧ (¬k0_cond3 i = 1#1 → g9 = f9)
  ∧ (k0_cond4 i = 1#1 → arg10.view.read (Elt F) g10 = k0_pay3 (arg5.view.read (Elt F) X5) (arg12.view.read (Elt F) g12))
  ∧ (¬k0_cond4 i = 1#1 → g10 = f10)

/-- The whole body. -/
theorem body_run : ℝ₀ f9 f10 f12 ⊢ wp frame (wpE (defs₀ (F := F)) 𝒱 (c : Thread nD τ) bd) E (cc0_odd_in (F := F) i arg2 harg2 arg3 harg3 arg4 harg4 arg5 harg5 arg6 harg6 arg7 harg7 arg8 harg8 arg9 harg9 arg10 harg10 arg11 harg11 arg12 harg12 arg13 harg13)
    (fun _ => iprop(∃ g9 g10 g12, ℝ₀ g9 g10 g12
      ∗ ⌜Left i arg2 arg3 arg4 arg5 arg9 arg10 arg12 X2 X3 X4 X5 f9 f10 f12 g9 g10 g12⌝)) := by
  rw [cc0_odd_in_eq_skeleton]
  unfold cc0_odd_in_skel
  dsimp -proj only
  by_cases h1 : k0_cond1 i = 1#1
  · rw [dif_pos h1]
    rw [wp_bind]
    refine (part1_run 𝒱 c bd i arg2 harg2 arg3 harg3 arg4 harg4 arg5 harg5 arg6 harg6 arg7 harg7 arg8 harg8 arg9 harg9 arg10 harg10 arg11 harg11 arg12 harg12 arg13 harg13 E X2 X3 X4 X5 X6 X7 X8 f9 f10 f12).trans (wp_mono _ _ _ ?_)
    rintro ⟨v41, v45⟩
    iintro ⟨%g12, HR, %hg⟩
    try dsimp -proj only
    rw [wp_bind]
    iapply (wp_wand_r frame (wpE (defs₀ (F := F)) 𝒱 (c : Thread nD τ) bd) E)
    isplitl [HR]
    · iapply (part2_run 𝒱 c bd i arg2 harg2 arg3 harg3 arg4 harg4 arg5 harg5 arg6 harg6 arg7 harg7 arg8 harg8 arg9 harg9 arg10 harg10 arg11 harg11 arg12 harg12 arg13 harg13 E X2 X3 X4 X5 X6 X7 X8 f9 f10 g12 _ v41 v45)
      iexact HR
    iintro %r HR
    obtain ⟨v61, v79, v84⟩ := r
    try dsimp -proj only
    rw [wp_bind]
    iapply (wp_wand_r frame (wpE (defs₀ (F := F)) 𝒱 (c : Thread nD τ) bd) E)
    isplitl [HR]
    · iapply (part3_run 𝒱 c bd i arg2 harg2 arg3 harg3 arg4 harg4 arg5 harg5 arg6 harg6 arg7 harg7 arg8 harg8 arg9 harg9 arg10 harg10 arg11 harg11 arg12 harg12 arg13 harg13 E X2 X3 X4 X5 X6 X7 X8 f9 f10 g12 v61 v79 v84)
      iexact HR
    iintro %v124 ⟨%f11, %f13, H2, H3, H4, H5, H6, H7, H8, H9, H10, H12, H11, H13⟩
    by_cases h3 : k0_cond3 i = 1#1 <;> by_cases h4 : k0_cond4 i = 1#1
    all_goals
      sl_exec
      sl_step
      iexists _, _, _
      isplitl [H2 H3 H4 H5 H6 H7 H8 H9 H10 H12 H11 H13]
      · iexists _, _
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H12]; · iexact H12
        isplitl [H11]; · iexact H11
        iexact H13
      ipureintro
      refine ⟨fun _ => hg, fun h => absurd h1 h, ?_, ?_, ?_, ?_⟩
      all_goals first
        | exact fun h => absurd h ‹_›
        | exact fun h => absurd ‹_› h
        | exact fun _ => rfl
        | (intro _; rw [View.read_writes_full, View.readAt_full, View.readAt_full]; try rfl)
  · rw [dif_neg h1]
    iintro ⟨%f11, %f13, H2, H3, H4, H5, H6, H7, H8, H9, H10, H12, H11, H13⟩
    by_cases h3 : k0_cond3 i = 1#1 <;> by_cases h4 : k0_cond4 i = 1#1
    all_goals
      sl_exec
      sl_step
      iexists _, _, _
      isplitl [H2 H3 H4 H5 H6 H7 H8 H9 H10 H12 H11 H13]
      · iexists _, _
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H12]; · iexact H12
        isplitl [H11]; · iexact H11
        iexact H13
      ipureintro
      refine ⟨fun h => absurd h h1, fun _ => rfl, ?_, ?_, ?_, ?_⟩
      all_goals first
        | exact fun h => absurd h ‹_›
        | exact fun h => absurd ‹_› h
        | exact fun _ => rfl
        | (intro _; rw [View.read_writes_full, View.readAt_full, View.readAt_full]; try rfl)

end

end Cert.OddIdeal.Hand
end
-- ==== Proof.OddRun.lean ====
/-
  The odd mixer's first product over the extended reals: the launch's proof data, the body obligation, and the run.
-/
module

public import proofs.«01_k».proof.Proof.OddBody

@[expose] public section
set_option maxRecDepth 16384
set_option maxHeartbeats 1000000
noncomputable section
namespace Cert.OddIdeal.Hand
open Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ

/-! ## The grid's six columns -/

theorem size : cfg0.N = 96 := by decide +kernel

/-- The rows are made in the first column, the keys in the third and the fourth, the product in the others. -/
theorem cond1_iff : ∀ t : Fin cfg0.N, Iff (k0_cond1 (grid0.coords t) = 1#1) (t.val % 6 = 0) := by decide +kernel
theorem cond3_iff : ∀ t : Fin cfg0.N, Iff (k0_cond3 (grid0.coords t) = 1#1) (t.val % 6 ≠ 2 ∧ t.val % 6 ≠ 3) := by decide +kernel
theorem cond4_iff : ∀ t : Fin cfg0.N, Iff (k0_cond4 (grid0.coords t) = 1#1) (t.val % 6 = 2 ∨ t.val % 6 = 3) := by decide +kernel
theorem idle7 : ∀ t : Fin cfg0.N, cfg0.idle 7 (cfg0.grid.coords t) = decide (t.val % 6 = 2 ∨ t.val % 6 = 3) := by decide +kernel
theorem idle8 : ∀ t : Fin cfg0.N, cfg0.idle 8 (cfg0.grid.coords t) = decide (t.val % 6 ≠ 2 ∧ t.val % 6 ≠ 3) := by decide +kernel
theorem flush7 : ∀ t : Fin cfg0.N, (cfg0.win 7).flush t = decide (t.val % 6 ≠ 1 ∧ t.val % 6 ≠ 2) := by decide +kernel
theorem flush8 : ∀ t : Fin cfg0.N, (cfg0.win 8).flush t = decide (t.val % 3 = 2) := by decide +kernel

/-- The point whose block of the product the staging buffer holds. -/
def hold7 (t : Fin cfg0.N) : Fin cfg0.N := ⟨if t.val % 6 = 2 then t.val - 1 else if t.val % 6 = 3 then t.val - 2 else t.val, by have := t.isLt; split <;> [omega; split <;> omega]⟩
/-- The point whose block of the keys the staging buffer holds. -/
def hold8 (t : Fin cfg0.N) : Fin cfg0.N := ⟨if t.val % 6 = 4 then t.val - 1 else if t.val % 6 = 5 then t.val - 2 else t.val, by have := t.isLt; split <;> [omega; split <;> omega]⟩

theorem hold7_live (t : Fin cfg0.N) (h : t.val % 6 ≠ 2 ∧ t.val % 6 ≠ 3) : hold7 t = t := Fin.ext (by show (if _ then _ else if _ then _ else _) = _; rw [if_neg h.1, if_neg h.2])
theorem hold8_live (t : Fin cfg0.N) (h : t.val % 6 ≠ 4 ∧ t.val % 6 ≠ 5) : hold8 t = t := Fin.ext (by show (if _ then _ else if _ then _ else _) = _; rw [if_neg h.1, if_neg h.2])

variable (m : (ℓ : Loc nD τ sig) → Buf (Elt F) ℓ) (ρ : Dev nD → PrngReg)

/-- The modulated rows of a point's tile. -/
def rowsB (c : Dev nD) (t : Fin cfg0.N) : Vec F S1024x2048 .bf16 := rows (iblk m c 0 t) (iblk m c 1 t)
/-- The product's block made at a point. -/
def oT (c : Dev nD) (t : Fin cfg0.N) : Vec F S1024x1024 .bf16 := k0_pay2 (grid0.coords t) (rowsB m c t) (iblk m c 2 t)
/-- The keys' block made at a point. -/
def kT (c : Dev nD) (t : Fin cfg0.N) : Vec F S1024x1024 .bf16 := k0_pay3 (iblk m c 3 t) (rowsB m c t)

/-- The rows' two windows stay put within one tile. -/
theorem same : ∀ t : Fin cfg0.N, ∀ h : t.val + 1 < cfg0.N, (t.val + 1) % 6 ≠ 0 →
    cc0_transform_0 (grid0.coords ⟨t.val + 1, h⟩) = cc0_transform_0 (grid0.coords t)
    ∧ cc0_transform_1 (grid0.coords ⟨t.val + 1, h⟩) = cc0_transform_1 (grid0.coords t) := by decide +kernel

/-- So the rows are the same at both points. -/
theorem rowsB_next (c : Dev nD) (t t' : Fin cfg0.N) (h : t'.val = t.val + 1) (h6 : t'.val % 6 ≠ 0) : rowsB m c t' = rowsB m c t := by
  have h' : t.val + 1 < cfg0.N := h ▸ t'.isLt
  obtain rfl : t' = ⟨t.val + 1, h'⟩ := Fin.ext h
  obtain ⟨e0, e1⟩ := same t h' h6
  have b0 : (iblk m c 0 ⟨t.val + 1, h'⟩ : Vec F S1024x2048 .f32) = iblk m c 0 t := by
    funext x
    unfold iblk
    rw [View.read_apply, View.read_apply]
    show m _ _ = m _ _
    congr 1
    funext a
    apply Fin.ext
    show cc0_transform_0 _ a * _ + _ = cc0_transform_0 _ a * _ + _
    rw [e0]; rfl
  have b1 : (iblk m c 1 ⟨t.val + 1, h'⟩ : Vec F S1x6x2048 .f32) = iblk m c 1 t := by
    funext x
    unfold iblk
    rw [View.read_apply, View.read_apply]
    show m _ _ = m _ _
    congr 1
    funext a
    apply Fin.ext
    show cc0_transform_1 _ a * _ + _ = cc0_transform_1 _ a * _ + _
    rw [e1]; rfl
  exact congrArg₂ rows b0 b1

/-- The gates' window, whose contents the proof does not follow. -/
def free : Fin cfg0.W → Bool := fun | 0 => false | 1 => false | 2 => false | 3 => false | 4 => false | 5 => false | 6 => false | 7 => false | 8 => false | 9 => true

/-- What the kept rows must read as before a point. -/
def Keep (c : Dev nD) (n : ℕ) (f : BufTy.Contents (Elt F) (Memref.whole cc0_scratch0).view.ty) : Prop :=
  ∀ t : Fin cfg0.N, t.val = n → t.val % 6 ≠ 0 → (Memref.whole cc0_scratch0).view.read (Elt F) f = rowsB m c t

/-- What holds between points: the kept rows as `Keep` says, the running sums at something, and the generator's register. -/
def Between (c : Dev nD) (n : ℕ) : sProp 𝕄 :=
  iprop((∃ f12 f13, (((c : Thread nD τ).loc cc0_scratch0) ↦{fullShare} f12) ∗ (((c : Thread nD τ).loc cc0_scratch1) ↦{fullShare} f13) ∗ ⌜Keep m c n f12⌝)
    ∗ ∃ r, prngReg c r)

/-- The launch's proof data: inputs left as staged, the two followed outputs' blocks those of the points they hold. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => oT m c (hold7 t)
    | 8 => kT m c (hold8 t)
    | 9 => iblk m c 9 t
  Φ t := Between m c t.val
  q w := fullShare
  owed _ := 0

abbrev 𝒱₀ : Variants := Variants.none

/-- A window never fetched, at a point after one that stored into its buffer and kept it. -/
theorem before_kept7 (c : Dev nD) (t : Fin cfg0.N) (d) (h : t.val % 6 = 2) : (dats m 0 c).before 7 t d = oT m c (hold7 t) := by
  have ht : t.val ≠ 0 := by omega
  have hi := idle7 ⟨t.val - 1, Nat.lt_of_le_of_lt (Nat.sub_le _ _) t.isLt⟩
  rw [show decide (_ ∨ _) = false from decide_eq_false (by show ¬((t.val - 1) % 6 = 2 ∨ (t.val - 1) % 6 = 3); omega)] at hi
  rw [(dats m 0 c).before_of_pos 7 t ht rfl d, flush7, decide_eq_false (by show ¬((t.val - 1) % 6 ≠ 1 ∧ (t.val - 1) % 6 ≠ 2); omega), if_neg Bool.false_ne_true]
  unfold Dat.left
  rw [hi]
  show oT m c (hold7 _) = _
  congr 1
  rw [hold7_live _ ⟨by show (t.val - 1) % 6 ≠ 2; omega, by show (t.val - 1) % 6 ≠ 3; omega⟩]
  exact Fin.ext (by show t.val - 1 = if _ then _ else _; rw [if_pos h])

theorem before_idle7 (c : Dev nD) (t : Fin cfg0.N) (d) (h : t.val % 6 = 3) : (dats m 0 c).before 7 t d = oT m c (hold7 t) := by
  have ht : t.val ≠ 0 := by omega
  have hi := idle7 ⟨t.val - 1, Nat.lt_of_le_of_lt (Nat.sub_le _ _) t.isLt⟩
  rw [show decide (_ ∨ _) = true from decide_eq_true (by show (t.val - 1) % 6 = 2 ∨ (t.val - 1) % 6 = 3; omega)] at hi
  rw [(dats m 0 c).before_of_pos 7 t ht rfl d, flush7, decide_eq_false (by show ¬((t.val - 1) % 6 ≠ 1 ∧ (t.val - 1) % 6 ≠ 2); omega), if_neg Bool.false_ne_true]
  unfold Dat.left
  rw [hi]
  show (dats m 0 c).before 7 _ d = _
  rw [before_kept7 m c _ d (by show (t.val - 1) % 6 = 2; omega)]
  congr 1
  exact Fin.ext (by
    show (if _ then _ else _) = if _ then _ else if _ then _ else _
    rw [if_pos (show (t.val - 1) % 6 = 2 by omega), if_neg (by omega), if_pos h]
    show t.val - 1 - 1 = t.val - 2
    omega)

theorem before_kept8 (c : Dev nD) (t : Fin cfg0.N) (d) (h : t.val % 6 = 4) : (dats m 0 c).before 8 t d = kT m c (hold8 t) := by
  have ht : t.val ≠ 0 := by omega
  have hi := idle8 ⟨t.val - 1, Nat.lt_of_le_of_lt (Nat.sub_le _ _) t.isLt⟩
  rw [show decide (_ ∧ _) = false from decide_eq_false (by show ¬((t.val - 1) % 6 ≠ 2 ∧ (t.val - 1) % 6 ≠ 3); omega)] at hi
  rw [(dats m 0 c).before_of_pos 8 t ht rfl d, flush8, decide_eq_false (by show ¬((t.val - 1) % 3 = 2); omega), if_neg Bool.false_ne_true]
  unfold Dat.left
  rw [hi]
  show kT m c (hold8 _) = _
  congr 1
  rw [hold8_live _ ⟨by show (t.val - 1) % 6 ≠ 4; omega, by show (t.val - 1) % 6 ≠ 5; omega⟩]
  exact Fin.ext (by show t.val - 1 = if _ then _ else _; rw [if_pos h])

theorem before_idle8 (c : Dev nD) (t : Fin cfg0.N) (d) (h : t.val % 6 = 5) : (dats m 0 c).before 8 t d = kT m c (hold8 t) := by
  have ht : t.val ≠ 0 := by omega
  have hi := idle8 ⟨t.val - 1, Nat.lt_of_le_of_lt (Nat.sub_le _ _) t.isLt⟩
  rw [show decide (_ ∧ _) = true from decide_eq_true (by show (t.val - 1) % 6 ≠ 2 ∧ (t.val - 1) % 6 ≠ 3; omega)] at hi
  rw [(dats m 0 c).before_of_pos 8 t ht rfl d, flush8, decide_eq_false (by show ¬((t.val - 1) % 3 = 2); omega), if_neg Bool.false_ne_true]
  unfold Dat.left
  rw [hi]
  show (dats m 0 c).before 8 _ d = _
  rw [before_kept8 m c _ d (by show (t.val - 1) % 6 = 4; omega)]
  congr 1
  exact Fin.ext (by
    show (if _ then _ else _) = if _ then _ else if _ then _ else _
    rw [if_pos (show (t.val - 1) % 6 = 4 by omega), if_neg (by omega), if_pos h]
    show t.val - 1 - 1 = t.val - 2
    omega)

/-- A followed output's buffer after the body, by what the body did to it. -/
theorem leave (w : Fin cfg0.W) (c : Dev nD) (t : Fin cfg0.N) (X : (cfg0.win w).block.Idx → Elt F (cfg0.win w).elt)
    (hl : cfg0.idle w (cfg0.grid.coords t) = false → X = (dats m 0 c).after w t)
    (hf : cfg0.idle w (cfg0.grid.coords t) = true → (cfg0.win w).flush t = true → X = (dats m 0 c).after w t)
    (hi : cfg0.idle w (cfg0.grid.coords t) = true → (cfg0.win w).flush t = false → ∃ d, X = (dats m 0 c).before w t d) :
    (owns c ((cfg0.win w).stage (cfg0.slots t w)) fullShare X : sProp 𝕄) ⊢
      match cfg0.idle w (cfg0.grid.coords t) with
      | true =>
        match (cfg0.win w).flush t with
        | false => iprop(∃ d, owns c ((cfg0.win w).stage (cfg0.slots t w)) fullShare ((dats m 0 c).before w t d))
        | true => owns c ((cfg0.win w).stage (cfg0.slots t w)) fullShare ((dats m 0 c).after w t)
      | false => owns c ((cfg0.win w).stage (cfg0.slots t w)) fullShare ((dats m 0 c).after w t) := by
  cases h : cfg0.idle w (cfg0.grid.coords t) with
  | false =>
    dsimp only
    rw [hl h]
  | true =>
    cases h' : (cfg0.win w).flush t with
    | false =>
      dsimp only
      obtain ⟨d, rfl⟩ := hi h h'
      iintro H
      iexists d
      iexact H
    | true =>
      dsimp only
      rw [hf h h']

/-- The body meets the pipeline's demand at every point, the gates' output forgotten. -/
theorem body_obligation (c : Dev nD) : BodyObligation (dats m 0 c) (defs₀ (F := F)) 𝒱₀ () Set.univ free := fun t => by
  rw [bigSep_W0, bigSep_W0]
  simp only [show free 0 = false from rfl, show free 1 = false from rfl, show free 2 = false from rfl, show free 3 = false from rfl, show free 4 = false from rfl, show free 5 = false from rfl, show free 6 = false from rfl, show free 7 = false from rfl, show free 8 = false from rfl, show free 9 = true from rfl]
  rw [show (dats m 0 c).Φ t.castSucc = Between m c t.val from rfl, show (dats m 0 c).Φ t.succ = Between m c (t.val + 1) from rfl]
  unfold Between Dat.owesAt Pipeline.owesWithin owns
  rw [show (dats m 0 c).owed t.castSucc = 0 from rfl, show (dats m 0 c).owed t.succ = 0 from rfl]
  iintro ⟨⟨⟨%s12, %s13, S12, S13, %hk⟩, Hr⟩, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩⟩
  rw [before0_0_of m (dats m 0 c) rfl (fun _ => rfl)] at hf0
  rw [before0_1_of m (dats m 0 c) rfl (fun _ => rfl)] at hf1
  rw [before0_2_of m (dats m 0 c) rfl (fun _ => rfl)] at hf2
  rw [before0_3_of m (dats m 0 c) rfl (fun _ => rfl)] at hf3
  rw [before0_4_of m (dats m 0 c) rfl (fun _ => rfl)] at hf4
  rw [before0_5_of m (dats m 0 c) rfl (fun _ => rfl)] at hf5
  rw [before0_6_of m (dats m 0 c) rfl (fun _ => rfl)] at hf6
  have hk' := hk t rfl
  have key := body_run 𝒱₀ c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9))
    (Memref.whole cc0_scratch0) (Memref.isWhole_whole _) (Memref.whole cc0_scratch1) (Memref.isWhole_whole _) Set.univ f0 f1 f2 f3 f4 f5 f6 f7 f8 s12
  iapply (wp_wand_r frame (wpE (defs₀ (F := F)) 𝒱₀ (c : Thread nD τ) none) Set.univ)
  isplitl [H0 H1 H2 H3 H4 H5 H6 H7 H8 H9 S12 S13]
  · iapply key
    unfold Res
    iexists f9, s13
    simp only [Memref.view_whole, View.set_whole]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S12]; · iexact S12
    isplitl [H9]; · iexact H9
    iexact S13
  unfold Res
  simp only [Memref.view_whole, View.set_whole]
  iintro %r ⟨%g7, %g8, %g12, ⟨%g9, %g13, H0, H1, H2, H3, H4, H5, H6, H7, H8, S12, H9, S13⟩, %hg⟩
  obtain ⟨a1, a2, a3, a4, a5, a6⟩ := hg
  have hrow : (Memref.whole cc0_scratch0).view.read (Elt F) g12 = rowsB m c t := by
    by_cases h : t.val % 6 = 0
    · refine (a1 ((cond1_iff t).2 h)).trans ?_
      rw [hf0, hf1]
      rfl
    · rw [a2 (mt (cond1_iff t).1 h)]
      exact hk' h
  isplitl [S12 S13 Hr]
  · isplitl [S12 S13]
    · iexists g12, g13
      isplitl [S12]; · iexact S12
      isplitl [S13]; · iexact S13
      ipureintro
      intro t' h' h6
      rw [rowsB_next m c t t' h' h6]
      exact hrow
    iexact Hr
  isplitl [HO]
  · iexists W; isplitr; · ipureintro; exact fun _ _ => Or.inl trivial
    iexact HO
  isplitl [H0]; · iexists f0; isplitr; · ipureintro; exact hf0
                  iexact H0
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  isplitl [H4]; · iexists f4; isplitr; · ipureintro; exact hf4
                  iexact H4
  isplitl [H5]; · iexists f5; isplitr; · ipureintro; exact hf5
                  iexact H5
  isplitl [H6]; · iexists f6; isplitr; · ipureintro; exact hf6
                  iexact H6
  isplitl [H7]
  · have key7 := leave m 7 c t (((cfg0.win 7).stage (cfg0.slots t 7)).view.read (Elt F) g7) ?_ ?_ ?_
    · unfold owns at key7
      iapply key7
      iexists g7; isplitr; · ipureintro; rfl
      iexact H7
    · intro h
      rw [idle7] at h
      have h' := of_decide_eq_false h
      have h'' : t.val % 6 ≠ 2 ∧ t.val % 6 ≠ 3 := by omega
      refine (a3 ((cond3_iff t).2 h'')).trans ?_
      rw [hrow, hf2]
      show oT m c t = oT m c (hold7 t)
      rw [hold7_live t h'']
    · intro h h'
      rw [idle7] at h
      rw [flush7] at h'
      have e := of_decide_eq_true h
      have e' := of_decide_eq_true h'
      rw [a4 (mt (cond3_iff t).1 (by omega))]
      exact hf7.trans (before_idle7 m c t d7 (by omega))
    · intro h h'
      rw [idle7] at h
      have e := of_decide_eq_true h
      rw [a4 (mt (cond3_iff t).1 (by omega))]
      exact ⟨d7, hf7⟩
  isplitl [H8]
  · have key8 := leave m 8 c t (((cfg0.win 8).stage (cfg0.slots t 8)).view.read (Elt F) g8) ?_ ?_ ?_
    · unfold owns at key8
      iapply key8
      iexists g8; isplitr; · ipureintro; rfl
      iexact H8
    · intro h
      rw [idle8] at h
      have h' := of_decide_eq_false h
      refine (a5 ((cond4_iff t).2 (by omega))).trans ?_
      rw [hrow, hf3]
      show kT m c t = kT m c (hold8 t)
      rw [hold8_live t (by omega)]
    · intro h h'
      rw [idle8] at h
      rw [flush8] at h'
      have e := of_decide_eq_true h
      have e' := of_decide_eq_true h'
      rw [a6 (mt (cond4_iff t).1 (by omega))]
      exact hf8.trans (before_idle8 m c t d8 (by omega))
    · intro h h'
      rw [idle8] at h
      have e := of_decide_eq_true h
      rw [a6 (mt (cond4_iff t).1 (by omega))]
      exact ⟨d8, hf8⟩
  iexists _, g9
  isplitr
  · ipureintro; rfl
  iexact H9

/-- The run: it ends, the followed arrays as the pipeline's account says, the arguments unchanged, every counter at zero. -/
theorem run_main : θ_run defs (onTc (τ := τ) (main (F := F))) ⟨m, fun _ => 0, ρ⟩ (fun r => (∀ c : Dev nD,
      r.2.mem ((c.tc : Thread nD τ).loc main_v0_0) = (dats m 0 c).arrAt 7 cfg0.N
      ∧ r.2.mem ((c.tc : Thread nD τ).loc main_v0_1) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  Pipeline.θ_run_frame_track_forget cfgs (dats m) 0 launch0 defs₀ 𝒱₀ free m ρ main (fun c => (body_obligation m c).loose)
    (fun _ w => by unfold Dat.share; split <;> rfl) (fun _ _ => rfl) (V m) (hmain m 𝒱₀) (fun _ _ => rfl)
    (fun c => by
      rw [show (dats m 0 c).Φ 0 = Between m c 0 from rfl]
      unfold Pipeline.ΦA Between
      rw [show (cfgs 0).spec = spec0 from rfl, scopedRest0_eq]
      iintro ⟨⟨⟨%f12, H12⟩, ⟨%f13, H13⟩⟩, Hr⟩
      isplitl [H12 H13]
      · iexists f12, f13
        isplitl [H12]; · iexact H12
        isplitl [H13]; · iexact H13
        ipureintro
        intro t ht h6
        exact absurd (by rw [ht]) h6
      iexact Hr)
    (fun c => by
      rw [show (dats m 0 c).Φ (Fin.last (cfgs 0).N) = Between m c (cfgs 0).N from rfl]
      unfold Pipeline.ΦA Between
      rw [show (cfgs 0).spec = spec0 from rfl, scopedRest0_eq]
      iintro ⟨⟨%f12, %f13, H12, H13, -⟩, Hr⟩
      isplitl [H12 H13]
      · isplitl [H12]; · iexists f12; iexact H12
        iexists f13; iexact H13
      iexact Hr)
    (Q' := fun r => (∀ c : Dev nD,
      r.2.mem ((c.tc : Thread nD τ).loc main_v0_0) = (dats m 0 c).arrAt 7 cfg0.N
      ∧ r.2.mem ((c.tc : Thread nD τ).loc main_v0_1) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0)
    (fun r (h : _ ∧ _) => ⟨fun c => by
      have e (w : Fin cfg0.W) (hw : (cfg0.win w).isOut = false) :=
        cast (congrFun (Pipeline.RDat.ArrAt_in ((dats m 0 c).toRForget free) w hw cfg0.N) _) ((h.1 c).1 w)
      have o (w : Fin cfg0.W) (hw : free w = false) :=
        (Dat.toRForget_arrAt_iff (dat := dats m 0 c) hw cfg0.N _).1 ((h.1 c).1 w)
      exact ⟨o 7 rfl, o 8 rfl, e 0 rfl, e 1 rfl, e 2 rfl, e 3 rfl, e 4 rfl, e 5 rfl, e 6 rfl⟩, h.2⟩)

end Cert.OddIdeal.Hand
end
-- ==== Proof.OddValue.lean ====
/-
  The odd mixer's first product: the kernel's two followed result arrays are the reference's results of the arguments.
-/
module

public import proofs.«01_k».proof.Proof.OddRef
public import proofs.«01_k».proof.Proof.OddRun
public import Idealize.ShloMosaic.Lib.Pipeline.Value
public import Idealize.ShloMosaic.Lib.Pipeline.ValueKit.Tiles

@[expose] public section

set_option maxRecDepth 16384

noncomputable section

namespace Cert.OddIdeal.Hand

open Cert.OddIdeal.Gen
open Idealize.ShloMosaic Idealize.ShloMosaic.TcCoe
open Cert.EvenRefIdeal.Hand (modu)
open Cert.OddRefIdeal.Hand (result result_at result2 result2_at entry)

/-! ## The stored values, element by element -/

/-- The body's rows from the two rows it loads, at an element. -/
theorem pay6_at (v11 v13 : Vec Ideal S1x1x2048 .f32) (v15 : Vec Ideal S1024x2048 .f32) (r : Fin 1024) (d : Fin 2048) :
    k0_pay6 v11 v13 v15 (ix2 r d) = modu (fun d => v15 (ix2 r d)) (fun d => v11 (ix3 0 0 d)) (fun d => v13 (ix3 0 0 d)) d := by
  pointwise [k0_pay6, k0_pay5, k0_pay4, modu]

/-- The scaled and shifted rows at an element. -/
theorem rows_at (x0 : Vec Ideal S1024x2048 .f32) (x1 : Vec Ideal S1x6x2048 .f32) (r : Fin 1024) (d : Fin 2048) :
    rows x0 x1 (ix2 r d) = modu (fun d => x0 (ix2 r d)) (fun d => x1 (ix3 0 0 d)) (fun d => x1 (ix3 0 1 d)) d := by
  have e1 (k : Fin 2048) : View.ld x1 (Rect.unit (s := S1x6x2048) ![0, 0, 0] S1x1x2048.size inb_S1x6x2048_S1x1x2048_0_0_0) (ix3 0 0 k) = x1 (ix3 0 0 k) :=
    View.ld_unit_apply_of x1 _ _ _ _ _ fun a => match a with
      | ⟨0, _⟩ => rfl
      | ⟨1, _⟩ => rfl
      | ⟨2, _⟩ => (Nat.zero_add _).symm
  have e2 (k : Fin 2048) : View.ld x1 (Rect.unit (s := S1x6x2048) ![0, 1, 0] S1x1x2048.size inb_S1x6x2048_S1x1x2048_0_1_0) (ix3 0 0 k) = x1 (ix3 0 1 k) :=
    View.ld_unit_apply_of x1 _ _ _ _ _ fun a => match a with
      | ⟨0, _⟩ => rfl
      | ⟨1, _⟩ => rfl
      | ⟨2, _⟩ => (Nat.zero_add _).symm
  rw [rows, pay6_at]
  simp only [e1, e2]

/-- The factor of a column of blocks, as the body selects it. -/
def factor (i : grid0.Coords) : EReal :=
  Scalar.select (Scalar.cmpi .slt (BitVec.ofNat 32 (i 1).val) 2#32) (Named.named (F := Ideal) κ "qscale" (φ := .f32) 0x3E0293EE#32) (Scalar.ofBits (F := Ideal) .f32 0x3F800000#32)

/-- The body's product at an element. -/
theorem pay2_at (i : grid0.Coords) (h : Vec Ideal S1024x2048 .bf16) (w : Vec Ideal S2048x1024 .bf16) (r : Fin 1024) (j : Fin 1024) :
    k0_pay2 i h w (ix2 r j) = (∑ d : Fin 2048, h (ix2 r d) * w (ix2 d j)) * factor i := by
  have e (s : EReal) : (truncf (φ := .f32) .bf16 (mulf (φ := .f32) (matmul (φ₁ := .bf16) (φ₂ := .bf16) dot_S1024x2048_S2048x1024_S1024x1024_1_0_0_1_n_n none h w (constant (F := Ideal) S1024x1024 .f32 0x00000000#32)) (broadcast S1024x1024 s)) bitsLt_bf16_f32 : FVec Ideal S1024x1024 .bf16) (ix2 r j)
      = (∑ d : Fin 2048, h (ix2 r d) * w (ix2 d j)) * s := by
    pointwise
  exact e (factor i)

/-- The keys' block at an element. -/
theorem pay3_at (w : Vec Ideal S1024x2048 .bf16) (h : Vec Ideal S1024x2048 .bf16) (e : Fin 1024) (r : Fin 1024) :
    k0_pay3 w h (ix2 e r) = ∑ d : Fin 2048, w (ix2 e d) * h (ix2 r d) := by
  pointwise [k0_pay3]

theorem slt_two : ∀ i : grid0.Coords, Scalar.cmpi .slt (BitVec.ofNat 32 (i 1).val) 2#32 = if (i 1).val < 2 then 1#1 else 0#1 := by decide +kernel

/-- The real 1. -/
theorem ofBits_one : Ideal.ofBits .f32 0x3F800000#32 = 1 := by simp [Ideal.ofBits, Ideal.ieee]; rw [← EReal.coe_mul]; norm_num

/-- The named constant's value. -/
theorem qscale_eq : Named.named (F := Ideal) κ "qscale" (φ := .f32) 0x3E0293EE#32 = (((Real.sqrt 128 * Real.log 2)⁻¹ : ℝ) : EReal) :=
  IdealRules.named_const.ideal_named_scalar _ _ _ _ rfl

/-- The factor is the named constant in the first two columns of blocks and 1 in the others. -/
theorem factor_eq (i : grid0.Coords) : factor i = if (i 1).val < 2 then (((Real.sqrt 128 * Real.log 2)⁻¹ : ℝ) : EReal) else 1 := by
  unfold factor
  rw [slt_two, qscale_eq]
  by_cases h : (i 1).val < 2
  · rw [if_pos h, if_pos h]; rfl
  · rw [if_neg h, if_neg h]; exact ofBits_one

/-! ## The blocks -/

/-- The block of the product's columns at a point. -/
def qb (n : ℕ) : ℕ := if n % 6 = 0 then 0 else if n % 6 ≤ 3 then 1 else n % 6 - 2
/-- The block of the keys' rows at a point. -/
def kb (n : ℕ) : ℕ := n % 6 / 3

theorem qb_lt (n : ℕ) : qb n < 4 := by unfold qb; split <;> [omega; split <;> omega]
theorem kb_lt (n : ℕ) : kb n < 2 := by unfold kb; omega

/-- Which block of its array each window is on. -/
theorem index0 : ∀ t : Fin cfg0.N, cc0_transform_0 (grid0.coords t) 0 = t.val / 6 ∧ cc0_transform_0 (grid0.coords t) 1 = 0 := by decide +kernel
theorem index1 : ∀ t : Fin cfg0.N, cc0_transform_1 (grid0.coords t) 0 = t.val / 48 ∧ cc0_transform_1 (grid0.coords t) 1 = 0 ∧ cc0_transform_1 (grid0.coords t) 2 = 0 := by decide +kernel
theorem index2 : ∀ t : Fin cfg0.N, cc0_transform_2 (grid0.coords t) 0 = 0 ∧ cc0_transform_2 (grid0.coords t) 1 = qb t.val := by decide +kernel
theorem index3 : ∀ t : Fin cfg0.N, cc0_transform_3 (grid0.coords t) 0 = kb t.val ∧ cc0_transform_3 (grid0.coords t) 1 = 0 := by decide +kernel
theorem index7 : ∀ t : Fin cfg0.N, cc0_transform_7 (grid0.coords t) 0 = t.val / 6 ∧ cc0_transform_7 (grid0.coords t) 1 = qb t.val := by decide +kernel
theorem index8 : ∀ t : Fin cfg0.N, cc0_transform_8 (grid0.coords t) 0 = kb t.val ∧ cc0_transform_8 (grid0.coords t) 1 = t.val / 6 := by decide +kernel
/-- The points held are of the same tile and block. -/
theorem held7 : ∀ t : Fin cfg0.N, (hold7 t).val / 6 = t.val / 6 ∧ qb (hold7 t).val = qb t.val ∧ ((grid0.coords (hold7 t) 1).val < 2 ↔ qb t.val < 2) := by decide +kernel
theorem held8 : ∀ t : Fin cfg0.N, (hold8 t).val / 6 = t.val / 6 ∧ kb (hold8 t).val = kb t.val := by decide +kernel

variable (m : (ℓ : Loc nD τ sig) → Buf (Elt Ideal) ℓ) (c : Dev nD) (t : Fin cfg0.N)

/-- The row of the arrays that a row of the point's block is. -/
def rowOf (r : Fin 1024) : Fin 16384 := ⟨1024 * (t.val / 6) + r.val, by have : t.val < 96 := lt_of_lt_of_eq t.isLt size; omega⟩
/-- The column of the product that a column of the point's block is. -/
def colOf (j : Fin 1024) : Fin 4096 := ⟨1024 * qb t.val + j.val, by have := qb_lt t.val; omega⟩
/-- The row of the keys that a row of the point's block is. -/
def keyOf (j : Fin 1024) : Fin 2048 := ⟨1024 * kb t.val + j.val, by have := kb_lt t.val; omega⟩

theorem rowOf_held7 (r : Fin 1024) : rowOf (hold7 t) r = rowOf t r := Fin.ext (by show 1024 * ((hold7 t).val / 6) + r.val = 1024 * (t.val / 6) + r.val; rw [(held7 t).1])
theorem colOf_held7 (j : Fin 1024) : colOf (hold7 t) j = colOf t j := Fin.ext (by show 1024 * qb (hold7 t).val + j.val = 1024 * qb t.val + j.val; rw [(held7 t).2.1])
theorem rowOf_held8 (r : Fin 1024) : rowOf (hold8 t) r = rowOf t r := Fin.ext (by show 1024 * ((hold8 t).val / 6) + r.val = 1024 * (t.val / 6) + r.val; rw [(held8 t).1])
theorem keyOf_held8 (j : Fin 1024) : keyOf (hold8 t) j = keyOf t j := Fin.ext (by show 1024 * kb (hold8 t).val + j.val = 1024 * kb t.val + j.val; rw [(held8 t).2])

/-- The arguments, as the run starts. -/
def argX : FVec Ideal ⟨2, ![16384, 2048]⟩ .f32 := m ((c.tc : Thread nD τ).loc main_arg0)
def argM : FVec Ideal ⟨3, ![2, 6, 2048]⟩ .f32 := m ((c.tc : Thread nD τ).loc main_arg1)
def argW : FVec Ideal ⟨2, ![2048, 4096]⟩ .bf16 := m ((c.tc : Thread nD τ).loc main_arg2)
def argK : FVec Ideal ⟨2, ![2048, 2048]⟩ .bf16 := m ((c.tc : Thread nD τ).loc main_arg3)

theorem x_at (r : Fin 1024) (d : Fin 2048) : (iblk m c 0 t : Vec Ideal S1024x2048 .f32) (ix2 r d) = argX m c (ix2 (rowOf t r) d) := by
  obtain ⟨e0, e1⟩ := index0 t
  unfold iblk
  rw [View.read_apply]
  show m _ _ = m _ _
  congr 1
  funext a
  apply Fin.ext
  match a with
  | ⟨0, _⟩ =>
    show cc0_transform_0 (grid0.coords t) 0 * 1024 + 1 * r.val = 1024 * (t.val / 6) + r.val
    rw [e0]; omega
  | ⟨1, _⟩ =>
    show cc0_transform_0 (grid0.coords t) 1 * 2048 + 1 * d.val = d.val
    rw [e1]; omega

theorem mod_at (r : Fin 1024) (k : Fin 6) (j : Fin 2048) : (iblk m c 1 t : Vec Ideal S1x6x2048 .f32) (ix3 0 k j)
    = argM m c (ix3 ⟨(rowOf t r).val / 8192, by have := (rowOf t r).isLt; omega⟩ k j) := by
  obtain ⟨e0, e1, e2⟩ := index1 t
  unfold iblk
  rw [View.read_apply]
  show m _ _ = m _ _
  congr 1
  funext a
  apply Fin.ext
  match a with
  | ⟨0, _⟩ =>
    show cc0_transform_1 (grid0.coords t) 0 * 1 + 1 * 0 = (1024 * (t.val / 6) + r.val) / 8192
    rw [e0]; omega
  | ⟨1, _⟩ =>
    show cc0_transform_1 (grid0.coords t) 1 * 6 + 1 * k.val = k.val
    rw [e1]; omega
  | ⟨2, _⟩ =>
    show cc0_transform_1 (grid0.coords t) 2 * 2048 + 1 * j.val = j.val
    rw [e2]; omega

theorem w_at (d : Fin 2048) (j : Fin 1024) : (iblk m c 2 t : Vec Ideal S2048x1024 .bf16) (ix2 d j) = argW m c (ix2 d (colOf t j)) := by
  obtain ⟨e0, e1⟩ := index2 t
  unfold iblk
  rw [View.read_apply]
  show m _ _ = m _ _
  congr 1
  funext a
  apply Fin.ext
  match a with
  | ⟨0, _⟩ =>
    show cc0_transform_2 (grid0.coords t) 0 * 2048 + 1 * d.val = d.val
    rw [e0]; omega
  | ⟨1, _⟩ =>
    show cc0_transform_2 (grid0.coords t) 1 * 1024 + 1 * j.val = 1024 * qb t.val + j.val
    rw [e1]; omega

theorem k_at (e : Fin 1024) (d : Fin 2048) : (iblk m c 3 t : Vec Ideal S1024x2048 .bf16) (ix2 e d) = argK m c (ix2 (keyOf t e) d) := by
  obtain ⟨e0, e1⟩ := index3 t
  unfold iblk
  rw [View.read_apply]
  show m _ _ = m _ _
  congr 1
  funext a
  apply Fin.ext
  match a with
  | ⟨0, _⟩ =>
    show cc0_transform_3 (grid0.coords t) 0 * 1024 + 1 * e.val = 1024 * kb t.val + e.val
    rw [e0]; omega
  | ⟨1, _⟩ =>
    show cc0_transform_3 (grid0.coords t) 1 * 2048 + 1 * d.val = d.val
    rw [e1]; omega

/-- The rows of a point's tile, from the arguments. -/
theorem rows_blk (r : Fin 1024) (d : Fin 2048) : rowsB m c t (ix2 r d)
    = modu (fun d => argX m c (ix2 (rowOf t r) d)) (fun d => argM m c (ix3 ⟨(rowOf t r).val / 8192, by have := (rowOf t r).isLt; omega⟩ 0 d))
        (fun d => argM m c (ix3 ⟨(rowOf t r).val / 8192, by have := (rowOf t r).isLt; omega⟩ 1 d)) d := by
  rw [rowsB, rows_at]
  simp only [x_at, mod_at m c t r]

/-- The product's block made at a point, from the arguments. -/
theorem oT_at (r j : Fin 1024) : oT m c t (ix2 r j) = entry (argX m c) (argM m c) (argW m c) (rowOf t r) (colOf t j) * factor (grid0.coords t) := by
  rw [oT, pay2_at]
  simp only [rows_blk, w_at]
  rfl

/-- The keys' block made at a point, from the arguments. -/
theorem kT_at (e r : Fin 1024) : kT m c t (ix2 e r) = result2 (argX m c) (argM m c) (argK m c) (ix2 (keyOf t e) (rowOf t r)) := by
  rw [kT, pay3_at, result2_at]
  simp only [rows_blk, k_at]

/-- Where an element of the point's block lies in the results. -/
theorem emb7 (r : Fin 1024) (j : Fin 1024) : ((cfg0.win 7).blk t).view.emb (ix2 r j) = (ix2 (rowOf t r) (colOf t j) : S16384x4096.Idx) := by
  obtain ⟨e0, e1⟩ := index7 t
  funext a
  apply Fin.ext
  match a with
  | ⟨0, _⟩ =>
    show cc0_transform_7 (grid0.coords t) 0 * 1024 + 1 * r.val = 1024 * (t.val / 6) + r.val
    rw [e0]; omega
  | ⟨1, _⟩ =>
    show cc0_transform_7 (grid0.coords t) 1 * 1024 + 1 * j.val = 1024 * qb t.val + j.val
    rw [e1]; omega

theorem emb8 (e : Fin 1024) (r : Fin 1024) : ((cfg0.win 8).blk t).view.emb (ix2 e r) = (ix2 (keyOf t e) (rowOf t r) : S2048x16384.Idx) := by
  obtain ⟨e0, e1⟩ := index8 t
  funext a
  apply Fin.ext
  match a with
  | ⟨0, _⟩ =>
    show cc0_transform_8 (grid0.coords t) 0 * 1024 + 1 * e.val = 1024 * kb t.val + e.val
    rw [e0]; omega
  | ⟨1, _⟩ =>
    show cc0_transform_8 (grid0.coords t) 1 * 1024 + 1 * r.val = 1024 * (t.val / 6) + r.val
    rw [e1]; omega

/-- The reference's results of the kernel's arguments. -/
def want : Vec Ideal S16384x4096 .bf16 := result (argX m c) (argM m c) (argW m c)
def want2 : Vec Ideal S2048x16384 .bf16 := result2 (argX m c) (argM m c) (argK m c)

/-- What a point holds is its block of the reference's first result. -/
theorem held_eq7 (r j : Fin 1024) : oT m c (hold7 t) (ix2 r j) = want m c (ix2 (rowOf t r) (colOf t j)) := by
  rw [oT_at, want, result_at, rowOf_held7, colOf_held7, factor_eq]
  have e : ((grid0.coords (hold7 t) 1).val < 2) = ((colOf t j).val < 2048) := propext ((held7 t).2.2.trans (by
    show qb t.val < 2 ↔ 1024 * qb t.val + j.val < 2048
    constructor <;> intro h <;> omega))
  simp only [e]

/-- What a point holds is its block of the reference's second result. -/
theorem held_eq8 (e r : Fin 1024) : kT m c (hold8 t) (ix2 e r) = want2 m c (ix2 (keyOf t e) (rowOf t r)) := by
  rw [kT_at, rowOf_held8, keyOf_held8]
  rfl

/-- What a point writes back is its block of the reference's results. -/
theorem flushed_eq7 : (dats m 0 c).flushed 7 t = ((cfg0.win 7).blk t).view.read (Elt Ideal) (want m c) := by
  funext y
  obtain ⟨r, j, rfl⟩ : ∃ (r : Fin 1024) (j : Fin 1024), y = ix2 r j := ⟨_, _, eq_ix2 y⟩
  rw [View.read_apply, emb7]
  show oT m c (hold7 t) (ix2 r j) = _
  rw [held_eq7]
  rfl

theorem flushed_eq8 : (dats m 0 c).flushed 8 t = ((cfg0.win 8).blk t).view.read (Elt Ideal) (want2 m c) := by
  funext y
  obtain ⟨e, r, rfl⟩ : ∃ (e : Fin 1024) (r : Fin 1024), y = ix2 e r := ⟨_, _, eq_ix2 y⟩
  rw [View.read_apply, emb8]
  show kT m c (hold8 t) (ix2 e r) = _
  rw [held_eq8]
  rfl

/-- Every element of the first result is in some written block. -/
theorem cover7 (i : S16384x4096.Idx) : ∃ t : Fin cfg0.N, (cfg0.win 7).flush t = true ∧ i ∈ ((cfg0.win 7).blk t).view.set := by
  obtain ⟨r, d, rfl⟩ : ∃ (r : Fin 16384) (d : Fin 4096), i = ix2 r d := ⟨_, _, eq_ix2 i⟩
  obtain ⟨q, hq⟩ : ∃ q, q = if d.val / 1024 = 0 then 0 else d.val / 1024 + 2 := ⟨_, rfl⟩
  have hq6 : q < 6 ∧ q ≠ 1 ∧ q ≠ 2 ∧ qb q = d.val / 1024 := by
    unfold qb
    by_cases h : d.val / 1024 = 0
    · rw [if_pos h] at hq
      subst hq
      exact ⟨by omega, by omega, by omega, h.symm⟩
    · rw [if_neg h] at hq
      refine ⟨by omega, by omega, by omega, ?_⟩
      rw [if_neg (by omega)]
      split <;> omega
  let t : Fin cfg0.N := ⟨r.val / 1024 * 6 + q, by rw [size]; omega⟩
  have hm : t.val % 6 = q := by show (r.val / 1024 * 6 + q) % 6 = q; omega
  have h := ((cfg0.win 7).blk t).view.emb_mem_set (ix2 ⟨r.val % 1024, by omega⟩ ⟨d.val % 1024, by omega⟩)
  have er : rowOf t ⟨r.val % 1024, by omega⟩ = r := Fin.ext (by
    show 1024 * ((r.val / 1024 * 6 + q) / 6) + r.val % 1024 = r.val
    omega)
  have eq : qb t.val = d.val / 1024 := by
    rw [← hq6.2.2.2]
    unfold qb
    rw [hm, Nat.mod_eq_of_lt hq6.1]
  have ed : colOf t ⟨d.val % 1024, by omega⟩ = d := Fin.ext (by
    show 1024 * qb t.val + d.val % 1024 = d.val
    rw [eq]; omega)
  rw [emb7, er, ed] at h
  exact ⟨t, (flush7 t).trans (decide_eq_true (by rw [hm]; exact ⟨hq6.2.1, hq6.2.2.1⟩)), h⟩

/-- Every element of the second result is in some written block. -/
theorem cover8 (i : S2048x16384.Idx) : ∃ t : Fin cfg0.N, (cfg0.win 8).flush t = true ∧ i ∈ ((cfg0.win 8).blk t).view.set := by
  obtain ⟨e, r, rfl⟩ : ∃ (e : Fin 2048) (r : Fin 16384), i = ix2 e r := ⟨_, _, eq_ix2 i⟩
  let t : Fin cfg0.N := ⟨r.val / 1024 * 6 + (e.val / 1024 * 3 + 2), by rw [size]; omega⟩
  have h := ((cfg0.win 8).blk t).view.emb_mem_set (ix2 ⟨e.val % 1024, by omega⟩ ⟨r.val % 1024, by omega⟩)
  have er : rowOf t ⟨r.val % 1024, by omega⟩ = r := Fin.ext (by
    show 1024 * ((r.val / 1024 * 6 + (e.val / 1024 * 3 + 2)) / 6) + r.val % 1024 = r.val
    omega)
  have ee : keyOf t ⟨e.val % 1024, by omega⟩ = e := Fin.ext (by
    show 1024 * ((r.val / 1024 * 6 + (e.val / 1024 * 3 + 2)) % 6 / 3) + e.val % 1024 = e.val
    omega)
  rw [emb8, ee, er] at h
  exact ⟨t, (flush8 t).trans (decide_eq_true (by show (r.val / 1024 * 6 + (e.val / 1024 * 3 + 2)) % 3 = 2; omega)), h⟩

/-- The result arrays at the end of the run. -/
theorem final : (dats m 0 c).arrAt 7 cfg0.N = want m c :=
  (dats m 0 c).arrAt_eq_of_cover 7 (want m c) (fun t _ => flushed_eq7 m c t) cover7

theorem final2 : (dats m 0 c).arrAt 8 cfg0.N = want2 m c :=
  (dats m 0 c).arrAt_eq_of_cover 8 (want2 m c) (fun t _ => flushed_eq8 m c t) cover8

end Cert.OddIdeal.Hand
end
-- ==== Proof.OddCalls.lean ====
/-
  The odd mixer's first product: its programs leave their arguments as they were and every counter at zero, the named
  constant has its value, and kernel and reference compute the same queries beside values and the same keys.
-/
module

public import proofs.«01_k».proof.Defs
public import proofs.«01_k».proof.Proof.OddPlain
public import proofs.«01_k».proof.Proof.OddValue
public import Idealize.ShloMosaic.Adequacy
public import Idealize.ShloMosaic.Init

@[expose] public section

noncomputable section

namespace Cert.Proof

open Idealize.ShloMosaic Idealize.ShloMosaic.TcCoe Idealize.SL.Sem

/-- The kernel as printed ends with its arguments unchanged. -/
theorem odd_frame_p : Cert.quiescent_Odd := fun m ρ _ => Cert.Odd.Hand.run_main m ρ

/-- The kernel over the extended reals ends with its arguments unchanged. -/
theorem odd_frame_pi : Cert.quiescent_OddIdeal := fun m ρ _ =>
  (θ_run Cert.OddIdeal.defs _ _).mono (fun r h => ⟨fun c => (h.1 c).2.2, h.2⟩)
    (Cert.OddIdeal.Hand.run_main (F := Ideal) m ρ)

/-- The reference ends with its arguments unchanged. -/
theorem odd_frame_ri : Cert.quiescent_OddRefIdeal := fun m ρ _ =>
  (θ_run Cert.OddRefIdeal.defs _ _).mono (fun r h => ⟨fun c => (h c).2.2,
      Idealize.ShloMosaic.sem_eq_zero_of_no_sems (by decide) r.2⟩)
    (Cert.OddRefIdeal.Value.run (F := Ideal) m ρ)

/-- The named constant has the value the table gives it. -/
theorem odd_preserves : Cert.preserves_Odd_OddIdeal :=
  IdealRules.named_const.statement Cert.OddIdeal.κ "qscale" .f32 0x3E0293EE#32 ((((Real.sqrt 128) * (Real.log 2))⁻¹ : ℝ) : EReal) rfl

/-- From the same arguments, kernel and reference end with the same results. -/
theorem odd_algebraic : Cert.algebraic_OddIdeal_OddRefIdeal := fun m ρ m' ρ' _ hargs =>
  ⟨Cert.OddIdeal.Hand.want m, Cert.OddIdeal.Hand.want2 m,
    (θ_run Cert.OddIdeal.defs _ _).mono (fun r h c => ⟨(h.1 c).1.trans (Cert.OddIdeal.Hand.final m c),
        (h.1 c).2.1.trans (Cert.OddIdeal.Hand.final2 m c), (h.1 c).2.2⟩)
      (Cert.OddIdeal.Hand.run_main (F := Ideal) m ρ),
    (θ_run Cert.OddRefIdeal.defs _ _).mono (fun r h c => ⟨(h c).1.trans (by
        obtain ⟨e0, e1, e2, e3, _⟩ := hargs c
        rw [e0, e1, e2]
        rfl), (h c).2.1.trans (by
        obtain ⟨e0, e1, e2, e3, _⟩ := hargs c
        rw [e0, e1, e3]
        rfl), (h c).2.2⟩)
      (Cert.OddRefIdeal.Value.run (F := Ideal) m' ρ')⟩

end Cert.Proof

end
-- ==== Proof.LastRef.lean ====
/-
  The last residual and norm: the reference's result at the ideal values, element by element.
-/
module

public import proofs.«01_k».proof.Proof.Gen.LastRefIdeal.Run
public import proofs.«01_k».proof.Proof.ProjRef
public import Idealize.ShloMosaic.Lib.Pointwise

@[expose] public section

set_option maxRecDepth 16384

noncomputable section

namespace Cert.LastRefIdeal.Hand

open Cert.LastRefIdeal Cert.LastRefIdeal.Gen
open Idealize.ShloMosaic Idealize.ShloMosaic.TcCoe
open Cert.ProjRefIdeal.Hand (cen ln)

variable (x y : FVec Ideal S16384x2048 .f32)
  (mod : FVec Ideal S2x6x2048 .f32) (g b : FVec Ideal S1x2048 .f32)

/-- The scaled residual and the gated output. -/
def uR : FVec Ideal S2x8192x2048 .f32 :=
  addf (mulf (broadcastInDim S2x8192x2048 ![] bcast_S_S2x8192x2048 (constant S_ .f32 0x3FB504F3#32)) (shapeCast _ x shapeCasts_S16384x2048_S2x8192x2048)) (mulf (broadcastInDim S2x8192x2048 ![0, 1, 2] bcast_S2x1x2048_S2x8192x2048_0_1_2 (addf (broadcastInDim S2x1x2048 ![] bcast_S_S2x1x2048 (constant S_ .f32 0x3F800000#32)) (extractStridedSlice S2x1x2048 ![0, 5, 0] mod slices_S2x6x2048_S2x1x2048_0_5_0))) (shapeCast _ y shapeCasts_S16384x2048_S2x8192x2048))

/-- Rows less their means. -/
def cenR (u : FVec Ideal S2x8192x2048 .f32) : FVec Ideal S2x8192x2048 .f32 :=
  subf u (broadcastInDim S2x8192x2048 ![0, 1, 2] bcast_S2x8192x1_S2x8192x2048_0_1_2 (Host.divf (broadcastInDim S2x8192x1 ![0, 1] bcast_S2x8192_S2x8192x1_0_1 (Host.reduceAdd u (constant S_ .f32 0x00000000#32) reducesTo_S2x8192x2048_S2x8192_d2 h_S_)) (broadcastInDim S2x8192x1 ![] bcast_S_S2x8192x1 (constant S_ .f32 0x45000000#32))))

/-- Rows over their root mean squares, scaled and shifted, as the result's rows. -/
def lnR (d : FVec Ideal S2x8192x2048 .f32) : FVec Ideal S16384x2048 .f32 :=
  shapeCast _ (addf (mulf (mulf d (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf d d) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x3727C5AC#32)))))) (broadcastInDim S2x8192x2048 ![0, 1, 2] bcast_S1x1x2048_S2x8192x2048_0_1_2 (broadcastInDim S1x1x2048 ![1, 2] bcast_S1x2048_S1x1x2048_1_2 g))) (broadcastInDim S2x8192x2048 ![0, 1, 2] bcast_S1x1x2048_S2x8192x2048_0_1_2 (broadcastInDim S1x1x2048 ![1, 2] bcast_S1x2048_S1x1x2048_1_2 b))) shapeCasts_S2x8192x2048_S16384x2048

/-- The reference's result of its arguments. -/
def result : FVec Ideal S16384x2048 .f32 := lnR g b (cenR (uR x y mod))

/-- The reference's result, in these steps. -/
theorem res_eq (m : (ℓ : Loc nD τ sig) → Buf (Elt Ideal) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := rfl

/-- One entry of the residual, of a row of `x` and of `y` and a gate. -/
def mix (x y gate : Fin 2048 → EReal) (j : Fin 2048) : EReal :=
  Ideal.ofBits .f32 0x3FB504F3#32 * x j + (1 + gate j) * y j

/-- The residual at an element. -/
theorem uR_at (s : Fin 2) (r : Fin 8192) (j : Fin 2048) : uR x y mod (ix3 s r j)
    = mix (fun j => x (ix2 ⟨s.val * 8192 + r.val, by omega⟩ j)) (fun j => y (ix2 ⟨s.val * 8192 + r.val, by omega⟩ j))
        (fun j => mod (ix3 s 5 j)) j := by
  pointwise [uR, mix]

/-- Less its mean. -/
theorem cenR_at (u : FVec Ideal S2x8192x2048 .f32) (s : Fin 2) (r : Fin 8192) (j : Fin 2048) :
    cenR u (ix3 s r j) = cen (fun k => u (ix3 s r k)) j := by
  pointwise [cenR, cen]

/-- Over the root mean square, scaled and shifted. -/
theorem lnR_at (d : FVec Ideal S2x8192x2048 .f32) (i : Fin 16384) (j : Fin 2048) :
    lnR g b d (ix2 i j) = ln (fun k => d (ix3 ⟨i.val / 8192, by omega⟩ ⟨i.val % 8192, by omega⟩ k)) (fun k => g (ix2 0 k)) (fun k => b (ix2 0 k)) j := by
  pointwise [lnR, ln]

/-- The result at an element. -/
theorem result_at (i : Fin 16384) (j : Fin 2048) : result x y mod g b (ix2 i j)
    = ln (cen (mix (fun j => x (ix2 i j)) (fun j => y (ix2 i j)) (fun j => mod (ix3 ⟨i.val / 8192, by omega⟩ 5 j))))
        (fun k => g (ix2 0 k)) (fun k => b (ix2 0 k)) j := by
  have e : (⟨i.val / 8192 * 8192 + i.val % 8192, by omega⟩ : Fin 16384) = i := Fin.ext (by show i.val / 8192 * 8192 + i.val % 8192 = i.val; omega)
  rw [result, lnR_at]
  refine congrArg (fun d => ln d _ _ j) (funext fun k => ?_)
  rw [cenR_at]
  refine congrArg (fun u => cen u k) (funext fun l => ?_)
  rw [uR_at]
  simp only [e]

end Cert.LastRefIdeal.Hand
end
-- ==== Proof.LastValue.lean ====
/-
  The last residual and norm: the kernel's result array is the reference's result of the arguments.
-/
module

public import proofs.«01_k».proof.Proof.LastRef
public import proofs.«01_k».proof.Proof.Gen.LastIdeal.Value
public import Idealize.ShloMosaic.Lib.Pipeline.Value
public import Idealize.ShloMosaic.Lib.Pipeline.ValueKit.Tiles

@[expose] public section

set_option maxRecDepth 16384

noncomputable section

namespace Cert.LastIdeal.Hand

open Cert.LastIdeal.Gen
open Idealize.ShloMosaic Idealize.ShloMosaic.TcCoe
open Cert.ProjRefIdeal.Hand (cen ln)
open Cert.LastRefIdeal.Hand (result result_at mix)

/-- What the body stores, at an element. -/
theorem pay_at (v0 : Vec Ideal S1x1x2048 .f32) (v2 v7 : Vec Ideal S512x2048 .f32) (v11 v12 : Vec Ideal S1x2048 .f32) (r : Fin 512) (j : Fin 2048) :
    k0_pay1 v0 v2 v7 v11 v12 (ix2 r j)
      = ln (cen (mix (fun j => v2 (ix2 r j)) (fun j => v7 (ix2 r j)) (fun j => v0 (ix3 0 0 j)))) (fun k => v11 (ix2 0 k)) (fun k => v12 (ix2 0 k)) j := by
  pointwise [k0_pay1, ln, cen, mix]

theorem hz : (![0, 0] : Fin 2 → Nat) = fun _ => 0 := funext fun a => by fin_cases a <;> rfl

/-- What the body leaves in the output's block, at an element. -/
theorem out_at (x0 x1 : Vec Ideal S512x2048 .f32) (x2 : Vec Ideal S1x6x2048 .f32) (x3 x4 : Vec Ideal S1x2048 .f32) (r : Fin 512) (j : Fin 2048) :
    out0_5 x0 x1 x2 x3 x4 (ix2 r j)
      = ln (cen (mix (fun j => x0 (ix2 r j)) (fun j => x1 (ix2 r j)) (fun j => x2 (ix3 0 5 j)))) (fun k => x3 (ix2 0 k)) (fun k => x4 (ix2 0 k)) j := by
  unfold out0_5
  rw [View.canon_unit_zero hz, View.ld_unit_zero (S := S512x2048) hz, View.ld_unit_zero (S := S512x2048) hz,
    View.ld_unit_zero (S := S1x2048) hz, View.ld_unit_zero (S := S1x2048) hz, pay_at]
  have e (k : Fin 2048) : View.ld x2 r0_0 (ix3 0 0 k) = x2 (ix3 0 5 k) :=
    View.ld_unit_apply_of x2 _ _ _ _ _ fun a => match a with
      | ⟨0, _⟩ => rfl
      | ⟨1, _⟩ => rfl
      | ⟨2, _⟩ => (Nat.zero_add _).symm
  simp only [e]

/-- Which block of its array each window is on. -/
theorem index0 : ∀ i : grid0.Coords, cc0_transform_0 i 0 = (i 0).val ∧ cc0_transform_0 i 1 = 0 := by decide +kernel
theorem index1 : ∀ i : grid0.Coords, cc0_transform_1 i 0 = (i 0).val ∧ cc0_transform_1 i 1 = 0 := by decide +kernel
theorem index2 : ∀ i : grid0.Coords, cc0_transform_2 i 0 = (i 0).val / 16 ∧ cc0_transform_2 i 1 = 0 ∧ cc0_transform_2 i 2 = 0 := by decide +kernel
theorem index3 : ∀ i : grid0.Coords, cc0_transform_3 i 0 = 0 ∧ cc0_transform_3 i 1 = 0 := by decide +kernel
theorem index4 : ∀ i : grid0.Coords, cc0_transform_4 i 0 = 0 ∧ cc0_transform_4 i 1 = 0 := by decide +kernel
theorem index5 : ∀ i : grid0.Coords, cc0_transform_5 i 0 = (i 0).val ∧ cc0_transform_5 i 1 = 0 := by decide +kernel

/-- A point's tile, by its number. -/
theorem coords_at : ∀ t : Fin cfg0.N, (grid0.coords t 0).val = t.val := by decide +kernel

variable (m : (ℓ : Loc nD τ sig) → Buf (Elt Ideal) ℓ) (c : Dev nD) (t : Fin cfg0.N)

/-- The tile of a point. -/
def tileOf : Fin 32 := ⟨(grid0.coords t 0).val, (grid0.coords t 0).isLt⟩

/-- The row of the arrays that a row of the point's block is. -/
def rowOf (r : Fin 512) : Fin 16384 := ⟨512 * (tileOf t).val + r.val, by have := (tileOf t).isLt; omega⟩

/-- The arguments, as the run starts. -/
def argX : FVec Ideal ⟨2, ![16384, 2048]⟩ .f32 := m ((c.tc : Thread nD τ).loc main_arg0)
def argY : FVec Ideal ⟨2, ![16384, 2048]⟩ .f32 := m ((c.tc : Thread nD τ).loc main_arg1)
def argM : FVec Ideal ⟨3, ![2, 6, 2048]⟩ .f32 := m ((c.tc : Thread nD τ).loc main_arg2)
def argG : FVec Ideal ⟨2, ![1, 2048]⟩ .f32 := m ((c.tc : Thread nD τ).loc main_arg3)
def argB : FVec Ideal ⟨2, ![1, 2048]⟩ .f32 := m ((c.tc : Thread nD τ).loc main_arg4)

theorem x_at (r : Fin 512) (j : Fin 2048) : (iblk m c 0 t : Vec Ideal S512x2048 .f32) (ix2 r j) = argX m c (ix2 (rowOf t r) j) := by
  obtain ⟨e0, e1⟩ := index0 (grid0.coords t)
  unfold iblk
  rw [View.read_apply]
  show m _ _ = m _ _
  congr 1
  funext a
  apply Fin.ext
  match a with
  | ⟨0, _⟩ =>
    show cc0_transform_0 (grid0.coords t) 0 * 512 + 1 * r.val = 512 * (grid0.coords t 0).val + r.val
    rw [e0]; omega
  | ⟨1, _⟩ =>
    show cc0_transform_0 (grid0.coords t) 1 * 2048 + 1 * j.val = j.val
    rw [e1]; omega

theorem y_at (r : Fin 512) (j : Fin 2048) : (iblk m c 1 t : Vec Ideal S512x2048 .f32) (ix2 r j) = argY m c (ix2 (rowOf t r) j) := by
  obtain ⟨e0, e1⟩ := index1 (grid0.coords t)
  unfold iblk
  rw [View.read_apply]
  show m _ _ = m _ _
  congr 1
  funext a
  apply Fin.ext
  match a with
  | ⟨0, _⟩ =>
    show cc0_transform_1 (grid0.coords t) 0 * 512 + 1 * r.val = 512 * (grid0.coords t 0).val + r.val
    rw [e0]; omega
  | ⟨1, _⟩ =>
    show cc0_transform_1 (grid0.coords t) 1 * 2048 + 1 * j.val = j.val
    rw [e1]; omega

theorem mod_at (r : Fin 512) (k : Fin 6) (j : Fin 2048) : (iblk m c 2 t : Vec Ideal S1x6x2048 .f32) (ix3 0 k j)
    = argM m c (ix3 ⟨(rowOf t r).val / 8192, by have := (rowOf t r).isLt; omega⟩ k j) := by
  obtain ⟨e0, e1, e2⟩ := index2 (grid0.coords t)
  unfold iblk
  rw [View.read_apply]
  show m _ _ = m _ _
  congr 1
  funext a
  apply Fin.ext
  match a with
  | ⟨0, _⟩ =>
    show cc0_transform_2 (grid0.coords t) 0 * 1 + 1 * 0 = (512 * (grid0.coords t 0).val + r.val) / 8192
    rw [e0]; omega
  | ⟨1, _⟩ =>
    show cc0_transform_2 (grid0.coords t) 1 * 6 + 1 * k.val = k.val
    rw [e1]; omega
  | ⟨2, _⟩ =>
    show cc0_transform_2 (grid0.coords t) 2 * 2048 + 1 * j.val = j.val
    rw [e2]; omega

theorem g_at (j : Fin 2048) : (iblk m c 3 t : Vec Ideal S1x2048 .f32) (ix2 0 j) = argG m c (ix2 0 j) := by
  obtain ⟨e0, e1⟩ := index3 (grid0.coords t)
  unfold iblk
  rw [View.read_apply]
  show m _ _ = m _ _
  congr 1
  funext a
  apply Fin.ext
  match a with
  | ⟨0, _⟩ =>
    show cc0_transform_3 (grid0.coords t) 0 * 1 + 1 * 0 = 0
    rw [e0]
  | ⟨1, _⟩ =>
    show cc0_transform_3 (grid0.coords t) 1 * 2048 + 1 * j.val = j.val
    rw [e1]; omega

theorem b_at (j : Fin 2048) : (iblk m c 4 t : Vec Ideal S1x2048 .f32) (ix2 0 j) = argB m c (ix2 0 j) := by
  obtain ⟨e0, e1⟩ := index4 (grid0.coords t)
  unfold iblk
  rw [View.read_apply]
  show m _ _ = m _ _
  congr 1
  funext a
  apply Fin.ext
  match a with
  | ⟨0, _⟩ =>
    show cc0_transform_4 (grid0.coords t) 0 * 1 + 1 * 0 = 0
    rw [e0]
  | ⟨1, _⟩ =>
    show cc0_transform_4 (grid0.coords t) 1 * 2048 + 1 * j.val = j.val
    rw [e1]; omega

/-- Where an element of the point's output block lies in the result. -/
theorem emb5 (r : Fin 512) (j : Fin 2048) : ((cfg0.win 5).blk t).view.emb (ix2 r j) = (ix2 (rowOf t r) j : S16384x2048.Idx) := by
  obtain ⟨e0, e1⟩ := index5 (grid0.coords t)
  funext a
  apply Fin.ext
  match a with
  | ⟨0, _⟩ =>
    show cc0_transform_5 (grid0.coords t) 0 * 512 + 1 * r.val = 512 * (grid0.coords t 0).val + r.val
    rw [e0]; omega
  | ⟨1, _⟩ =>
    show cc0_transform_5 (grid0.coords t) 1 * 2048 + 1 * j.val = j.val
    rw [e1]; omega

/-- The reference's result of the kernel's arguments. -/
def want : Vec Ideal S16384x2048 .f32 := result (argX m c) (argY m c) (argM m c) (argG m c) (argB m c)

/-- What a point writes back is its block of the reference's result. -/
theorem flushed_eq : (dats m 0 c).flushed 5 t = ((cfg0.win 5).blk t).view.read (Elt Ideal) (want m c) := by
  rw [Value.flushed5]
  funext y
  obtain ⟨r, j, rfl⟩ : ∃ (r : Fin 512) (j : Fin 2048), y = ix2 r j := ⟨_, _, eq_ix2 y⟩
  rw [View.read_apply, emb5, want, result_at]
  show out0_5 (iblk m c 0 t) (iblk m c 1 t) (iblk m c 2 t) (iblk m c 3 t) (iblk m c 4 t) (ix2 r j) = _
  rw [out_at]
  simp only [x_at, y_at, mod_at m c t r, g_at, b_at]
  rfl

/-- Every element of the result is in some point's block. -/
theorem cover (i : S16384x2048.Idx) : ∃ t : Fin cfg0.N, (cfg0.win 5).flush t = true ∧ i ∈ ((cfg0.win 5).blk t).view.set := by
  obtain ⟨r, d, rfl⟩ : ∃ (r : Fin 16384) (d : Fin 2048), i = ix2 r d := ⟨_, _, eq_ix2 i⟩
  have hN : cfg0.N = 32 := by decide +kernel
  let t : Fin cfg0.N := ⟨r.val / 512, by omega⟩
  have c0 := coords_at t
  have tv : t.val = r.val / 512 := rfl
  have h := ((cfg0.win 5).blk t).view.emb_mem_set (ix2 ⟨r.val % 512, by omega⟩ d)
  have er : rowOf t ⟨r.val % 512, by omega⟩ = r := by
    apply Fin.ext
    show 512 * (grid0.coords t 0).val + r.val % 512 = r.val
    rw [c0]; omega
  rw [emb5, er] at h
  exact ⟨t, flush0_5 t, h⟩

/-- The result array at the end of the run. -/
theorem final : (dats m 0 c).arrAt 5 cfg0.N = want m c :=
  (dats m 0 c).arrAt_eq_of_cover 5 (want m c) (fun t _ => flushed_eq m c t) cover

end Cert.LastIdeal.Hand
end
-- ==== Proof.AdaRef.lean ====
/-
  The modulation: the reference's result at the ideal values, element by element.
-/
module

public import proofs.«01_k».proof.Proof.Gen.AdaRefIdeal.Run
public import Idealize.ShloMosaic.Lib.Pointwise

@[expose] public section

set_option maxRecDepth 16384

noncomputable section

namespace Cert.AdaRefIdeal.Hand

open Cert.AdaRefIdeal Cert.AdaRefIdeal.Gen
open Idealize.ShloMosaic Idealize.ShloMosaic.TcCoe

variable (c : FVec Ideal S8x2048 .f32) (w : FVec Ideal S2x2048x12288 .f32) (b : FVec Ideal S2x12288 .f32)

/-- The condition's rows through the activation. -/
def actR : FVec Ideal S8x2048 .f32 :=
  mulf c (Host.divf (broadcastInDim S8x2048 ![] bcast_S_S8x2048 (constant S_ .f32 0x3F800000#32)) (addf (broadcastInDim S8x2048 ![] bcast_S_S8x2048 (constant S_ .f32 0x3F800000#32)) (Host.exp (Host.negf c))))

/-- The product of rows with the weights, and the bias. -/
def prodR (a : FVec Ideal S8x2048 .f32) : FVec Ideal S2x8x12288 .f32 :=
  addf (transpose S2x8x12288 [0, 2, 1] (Host.dotGeneral dot_S2x2048x12288_S8x2048_S2x12288x8_1_1_02_0_n_n none w a) transposes_S2x12288x8_S2x8x12288_0_2_1) (broadcastInDim S2x8x12288 ![0, 1, 2] bcast_S2x1x12288_S2x8x12288_0_1_2 (broadcastInDim S2x1x12288 ![0, 2] bcast_S2x12288_S2x1x12288_0_2 b))

/-- The reference's result of its arguments. -/
def result : FVec Ideal S2x8x12288 .f32 := prodR w b (actR c)

/-- The activation of one number: the number over one plus the exponential of its negative. -/
def silu (x : EReal) : EReal := x * Ideal.div 1 (1 + Ideal.exp (-x))

/-- The activation at an element. -/
theorem actR_at (r : Fin 8) (d : Fin 2048) : actR c (ix2 r d) = silu (c (ix2 r d)) := by
  pointwise [actR, silu]

/-- The product at an element. -/
theorem prodR_at (a : FVec Ideal S8x2048 .f32) (l : Fin 2) (r : Fin 8) (e : Fin 12288) :
    prodR w b a (ix3 l r e) = (∑ d : Fin 2048, w (ix3 l d e) * a (ix2 r d)) + b (ix2 l e) := by
  pointwise [prodR]

/-- The result at an element. -/
theorem result_at (l : Fin 2) (r : Fin 8) (e : Fin 12288) :
    result c w b (ix3 l r e) = (∑ d : Fin 2048, w (ix3 l d e) * silu (c (ix2 r d))) + b (ix2 l e) := by
  rw [result, prodR_at]
  simp only [actR_at]

end Cert.AdaRefIdeal.Hand
end
-- ==== Proof.AdaValue.lean ====
/-
  The modulation: the kernel's result array is the reference's result of the arguments.
-/
module

public import proofs.«01_k».proof.Proof.AdaRef
public import proofs.«01_k».proof.Proof.Gen.AdaIdeal.Value
public import Idealize.ShloMosaic.Lib.Pipeline.Value
public import Idealize.ShloMosaic.Lib.Pipeline.ValueKit.Tiles

@[expose] public section

set_option maxRecDepth 16384

noncomputable section

namespace Cert.AdaIdeal.Hand

open Cert.AdaIdeal.Gen
open Idealize.ShloMosaic Idealize.ShloMosaic.TcCoe
open Cert.AdaRefIdeal.Hand (result result_at silu)

/-- The activation as the body computes it, by the hyperbolic tangent of half the number. -/
def act (x : EReal) : EReal :=
  x * (Ideal.ofBits .f32 0x3F000000#32 * Ideal.tanh (Ideal.ofBits .f32 0x3F000000#32 * x) + Ideal.ofBits .f32 0x3F000000#32)

/-- The real 1/2. -/
theorem ofBits_half : Ideal.ofBits .f32 0x3F000000#32 = ((1 / 2 : ℝ) : EReal) := by
  simp [Ideal.ofBits, Ideal.ieee, -EReal.coe_mul]; norm_num

/-- Over the reals half the tangent and a half are the logistic function. -/
theorem half_tanh (x : ℝ) : 1 / 2 * Real.tanh (1 / 2 * x) + 1 / 2 = 1 / (1 + Real.exp (-x)) := by
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  have p := Real.exp_pos (1 / 2 * x)
  have q := Real.exp_pos (-(1 / 2 * x))
  rw [h1, Real.tanh_eq_sinh_div_cosh, Real.sinh_eq, Real.cosh_eq]
  have e : 1 + Real.exp (-(1 / 2 * x)) * Real.exp (-(1 / 2 * x)) = Real.exp (-(1 / 2 * x)) * (Real.exp (1 / 2 * x) + Real.exp (-(1 / 2 * x))) := by
    rw [mul_add, mul_comm _ (Real.exp (1 / 2 * x)), h2]
  rw [e]
  generalize Real.exp (1 / 2 * x) = u at *
  generalize Real.exp (-(1 / 2 * x)) = v at *
  have hs : u + v ≠ 0 := by positivity
  have hv : v ≠ 0 := q.ne'
  field_simp
  linear_combination (2 : ℝ) * h2

/-- The two forms of the activation agree, at the infinities too. -/
theorem act_eq (x : EReal) : act x = silu x := by
  unfold act silu
  rw [ofBits_half]
  congr 1
  induction x with
  | bot =>
    rw [EReal.coe_mul_bot_of_pos (by norm_num), Ideal.tanh_bot, EReal.neg_bot, Ideal.exp_top]
    have e : (1 : EReal) + ⊤ = ⊤ := EReal.add_top_of_ne_bot (by decide)
    rw [e, Ideal.div, if_neg (by decide), EReal.inv_top, mul_zero]
    have e1 : (-1 : EReal) = ((-1 : ℝ) : EReal) := (EReal.coe_neg 1).symm
    rw [e1, ← EReal.coe_mul, ← EReal.coe_add]
    norm_num
  | top =>
    rw [EReal.coe_mul_top_of_pos (by norm_num), Ideal.tanh_top, EReal.neg_top, Ideal.exp_bot, add_zero, mul_one, ← EReal.coe_add]
    have e : (1 : EReal) = ((1 : ℝ) : EReal) := rfl
    rw [e, Ideal.div_coe one_ne_zero, ← EReal.coe_mul]
    norm_num
  | coe x =>
    have e : (1 : EReal) = ((1 : ℝ) : EReal) := rfl
    have h : 1 + Real.exp (-x) ≠ 0 := by positivity
    rw [← EReal.coe_mul, Ideal.tanh_coe, ← EReal.coe_neg, Ideal.exp_coe, e, ← EReal.coe_add, Ideal.div_coe h, ← EReal.coe_mul, ← EReal.coe_mul,
      ← EReal.coe_add, one_mul, half_tanh]

/-- What the body stores, at an element. -/
theorem pay_at (v0 : Vec Ideal S8x2048 .f32) (v9 : Vec Ideal S1x2048x1024 .f32) (v12 : Vec Ideal S1x1x1024 .f32) (r : Fin 8) (j : Fin 1024) :
    k0_pay1 v0 v9 v12 (ix3 0 r j) = (∑ d : Fin 2048, act (v0 (ix2 r d)) * v9 (ix3 0 d j)) + v12 (ix3 0 0 j) := by
  pointwise [k0_pay1, act]

theorem hz : (![0, 0] : Fin 2 → Nat) = fun _ => 0 := funext fun a => by fin_cases a <;> rfl
theorem hz3 : (![0, 0, 0] : Fin 3 → Nat) = fun _ => 0 := funext fun a => by fin_cases a <;> rfl

/-- What the body leaves in the output's block, at an element. -/
theorem out_at (x0 : Vec Ideal S8x2048 .f32) (x1 : Vec Ideal S1x2048x1024 .f32) (x2 : Vec Ideal S1x1x1024 .f32) (r : Fin 8) (j : Fin 1024) :
    out0_3 x0 x1 x2 (ix3 0 r j) = (∑ d : Fin 2048, x1 (ix3 0 d j) * silu (x0 (ix2 r d))) + x2 (ix3 0 0 j) := by
  unfold out0_3
  rw [View.canon_unit_zero hz3, View.ld_unit_zero (S := S8x2048) hz, View.ld_unit_zero (S := S1x2048x1024) hz3,
    View.ld_unit_zero (S := S1x1x1024) hz3, pay_at]
  refine congrArg (· + _) (Finset.sum_congr rfl fun d _ => ?_)
  rw [act_eq, mul_comm]

/-- Which block of its array each window is on. -/
theorem index0 : ∀ t : Fin cfg0.N, cc0_transform_0 (grid0.coords t) 0 = 0 ∧ cc0_transform_0 (grid0.coords t) 1 = 0 := by decide +kernel
theorem index1 : ∀ t : Fin cfg0.N, cc0_transform_1 (grid0.coords t) 0 = t.val / 12 ∧ cc0_transform_1 (grid0.coords t) 1 = 0 ∧ cc0_transform_1 (grid0.coords t) 2 = t.val % 12 := by decide +kernel
theorem index2 : ∀ t : Fin cfg0.N, cc0_transform_2 (grid0.coords t) 0 = t.val / 12 ∧ cc0_transform_2 (grid0.coords t) 1 = 0 ∧ cc0_transform_2 (grid0.coords t) 2 = t.val % 12 := by decide +kernel
theorem index3 : ∀ t : Fin cfg0.N, cc0_transform_3 (grid0.coords t) 0 = t.val / 12 ∧ cc0_transform_3 (grid0.coords t) 1 = 0 ∧ cc0_transform_3 (grid0.coords t) 2 = t.val % 12 := by decide +kernel

/-- The number of points. -/
theorem size : cfg0.N = 24 := by decide +kernel

variable (m : (ℓ : Loc nD τ sig) → Buf (Elt Ideal) ℓ) (c : Dev nD) (t : Fin cfg0.N)

/-- The layer of a point. -/
def layer : Fin 2 := ⟨t.val / 12, by have : t.val < 24 := lt_of_lt_of_eq t.isLt size; omega⟩
/-- The column of the result that a column of the point's block is. -/
def colOf (j : Fin 1024) : Fin 12288 := ⟨1024 * (t.val % 12) + j.val, by omega⟩

/-- The arguments, as the run starts. -/
def argC : FVec Ideal ⟨2, ![8, 2048]⟩ .f32 := m ((c.tc : Thread nD τ).loc main_arg0)
def argW : FVec Ideal ⟨3, ![2, 2048, 12288]⟩ .f32 := m ((c.tc : Thread nD τ).loc main_arg1)
def argB : FVec Ideal ⟨2, ![2, 12288]⟩ .f32 := m ((c.tc : Thread nD τ).loc main_arg2)

/-- The bias as the launch finds it: the argument with an axis of length one between. -/
theorem bias_eq : V m c main_v0 = shapeCast S2x1x12288 (argB m c) shapeCasts_S2x12288_S2x1x12288 := by
  show StableHlo.after hostOps0 (fun b => m (c, b)) main_v0 = _
  after_results
  rfl

theorem bias_at (l : Fin 2) (e : Fin 12288) : V m c main_v0 (ix3 l 0 e : S2x1x12288.Idx) = argB m c (ix2 l e) := by
  rw [bias_eq]
  pointwise

theorem c_at (r : Fin 8) (d : Fin 2048) : (iblk m c 0 t : Vec Ideal S8x2048 .f32) (ix2 r d) = argC m c (ix2 r d) := by
  obtain ⟨e0, e1⟩ := index0 t
  unfold iblk
  rw [View.read_apply]
  show V m c main_arg0 _ = _
  rw [V_main_arg0]
  show m _ _ = m _ _
  congr 1
  funext a
  apply Fin.ext
  match a with
  | ⟨0, _⟩ =>
    show cc0_transform_0 (grid0.coords t) 0 * 8 + 1 * r.val = r.val
    rw [e0]; omega
  | ⟨1, _⟩ =>
    show cc0_transform_0 (grid0.coords t) 1 * 2048 + 1 * d.val = d.val
    rw [e1]; omega

theorem w_at (d : Fin 2048) (j : Fin 1024) : (iblk m c 1 t : Vec Ideal S1x2048x1024 .f32) (ix3 0 d j) = argW m c (ix3 (layer t) d (colOf t j)) := by
  obtain ⟨e0, e1, e2⟩ := index1 t
  unfold iblk
  rw [View.read_apply]
  show V m c main_arg1 _ = _
  rw [V_main_arg1]
  show m _ _ = m _ _
  congr 1
  funext a
  apply Fin.ext
  match a with
  | ⟨0, _⟩ =>
    show cc0_transform_1 (grid0.coords t) 0 * 1 + 1 * 0 = t.val / 12
    rw [e0]; omega
  | ⟨1, _⟩ =>
    show cc0_transform_1 (grid0.coords t) 1 * 2048 + 1 * d.val = d.val
    rw [e1]; omega
  | ⟨2, _⟩ =>
    show cc0_transform_1 (grid0.coords t) 2 * 1024 + 1 * j.val = 1024 * (t.val % 12) + j.val
    rw [e2]; omega

theorem b_at (j : Fin 1024) : (iblk m c 2 t : Vec Ideal S1x1x1024 .f32) (ix3 0 0 j) = argB m c (ix2 (layer t) (colOf t j)) := by
  obtain ⟨e0, e1, e2⟩ := index2 t
  rw [← bias_at]
  unfold iblk
  rw [View.read_apply]
  show V m c main_v0 _ = V m c main_v0 _
  congr 1
  funext a
  apply Fin.ext
  match a with
  | ⟨0, _⟩ =>
    show cc0_transform_2 (grid0.coords t) 0 * 1 + 1 * 0 = t.val / 12
    rw [e0]; omega
  | ⟨1, _⟩ =>
    show cc0_transform_2 (grid0.coords t) 1 * 1 + 1 * 0 = 0
    rw [e1]
  | ⟨2, _⟩ =>
    show cc0_transform_2 (grid0.coords t) 2 * 1024 + 1 * j.val = 1024 * (t.val % 12) + j.val
    rw [e2]; omega

/-- Where an element of the point's output block lies in the result. -/
theorem emb3 (r : Fin 8) (j : Fin 1024) : ((cfg0.win 3).blk t).view.emb (ix3 0 r j) = (ix3 (layer t) r (colOf t j) : S2x8x12288.Idx) := by
  obtain ⟨e0, e1, e2⟩ := index3 t
  funext a
  apply Fin.ext
  match a with
  | ⟨0, _⟩ =>
    show cc0_transform_3 (grid0.coords t) 0 * 1 + 1 * 0 = t.val / 12
    rw [e0]; omega
  | ⟨1, _⟩ =>
    show cc0_transform_3 (grid0.coords t) 1 * 8 + 1 * r.val = r.val
    rw [e1]; omega
  | ⟨2, _⟩ =>
    show cc0_transform_3 (grid0.coords t) 2 * 1024 + 1 * j.val = 1024 * (t.val % 12) + j.val
    rw [e2]; omega

/-- The reference's result of the kernel's arguments. -/
def want : Vec Ideal S2x8x12288 .f32 := result (argC m c) (argW m c) (argB m c)

/-- What a point writes back is its block of the reference's result. -/
theorem flushed_eq : (dats m 0 c).flushed 3 t = ((cfg0.win 3).blk t).view.read (Elt Ideal) (want m c) := by
  rw [Value.flushed3]
  funext y
  obtain ⟨z, r, j, rfl⟩ : ∃ (z : Fin 1) (r : Fin 8) (j : Fin 1024), y = ix3 z r j := ⟨_, _, _, eq_ix3 y⟩
  obtain rfl : z = 0 := Subsingleton.elim _ _
  rw [View.read_apply, emb3, want, result_at]
  show out0_3 (iblk m c 0 t) (iblk m c 1 t) (iblk m c 2 t) (ix3 0 r j) = _
  rw [out_at]
  simp only [c_at, w_at, b_at]
  rfl

/-- Every element of the result is in some point's block. -/
theorem cover (i : S2x8x12288.Idx) : ∃ t : Fin cfg0.N, (cfg0.win 3).flush t = true ∧ i ∈ ((cfg0.win 3).blk t).view.set := by
  obtain ⟨l, r, e, rfl⟩ : ∃ (l : Fin 2) (r : Fin 8) (e : Fin 12288), i = ix3 l r e := ⟨_, _, _, eq_ix3 i⟩
  let t : Fin cfg0.N := ⟨l.val * 12 + e.val / 1024, by rw [size]; omega⟩
  have h := ((cfg0.win 3).blk t).view.emb_mem_set (ix3 0 r ⟨e.val % 1024, by omega⟩)
  have el : layer t = l := Fin.ext (by
    show (l.val * 12 + e.val / 1024) / 12 = l.val
    omega)
  have ee : colOf t ⟨e.val % 1024, by omega⟩ = e := Fin.ext (by
    show 1024 * ((l.val * 12 + e.val / 1024) % 12) + e.val % 1024 = e.val
    omega)
  rw [emb3, el, ee] at h
  exact ⟨t, flush0_3 t, h⟩

/-- The result array at the end of the run. -/
theorem final : (dats m 0 c).arrAt 3 cfg0.N = want m c :=
  (dats m 0 c).arrAt_eq_of_cover 3 (want m c) (fun t _ => flushed_eq m c t) cover

end Cert.AdaIdeal.Hand
end
-- ==== Proof.SmallCalls.lean ====
/-
  The last residual and the modulation: their programs leave their arguments as they were and every counter at zero, and
  kernel and reference compute the same result.
-/
module

public import proofs.«01_k».proof.Defs
public import proofs.«01_k».proof.Proof.LastValue
public import proofs.«01_k».proof.Proof.Gen.Last.Frame
public import proofs.«01_k».proof.Proof.AdaValue
public import proofs.«01_k».proof.Proof.Gen.Ada.Frame
public import Idealize.ShloMosaic.Adequacy
public import Idealize.ShloMosaic.Init

@[expose] public section

noncomputable section

namespace Cert.Proof

open Idealize.ShloMosaic Idealize.ShloMosaic.TcCoe Idealize.SL.Sem

/-! ## The last residual and norm -/

/-- The kernel as printed ends with its arguments unchanged. -/
theorem last_frame_p : Cert.quiescent_Last := fun m ρ _ => Cert.Last.Gen.frame m ρ

/-- The kernel over the extended reals ends with its arguments unchanged. -/
theorem last_frame_pi : Cert.quiescent_LastIdeal := fun m ρ _ => Cert.LastIdeal.Gen.frame m ρ

/-- The reference ends with its arguments unchanged. -/
theorem last_frame_ri : Cert.quiescent_LastRefIdeal := fun m ρ _ =>
  (θ_run Cert.LastRefIdeal.defs _ _).mono (fun r h => ⟨fun c => (h c).2,
      Idealize.ShloMosaic.sem_eq_zero_of_no_sems (by decide) r.2⟩)
    (Cert.LastRefIdeal.Value.run (F := Ideal) m ρ)

/-- Nothing was rewritten between the kernel as printed and over the extended reals. -/
theorem last_preserves : Cert.preserves_Last_LastIdeal := trivial

/-- From the same arguments, kernel and reference end with the same result. -/
theorem last_algebraic : Cert.algebraic_LastIdeal_LastRefIdeal := fun m ρ m' ρ' _ hargs =>
  ⟨Cert.LastIdeal.Hand.want m,
    (θ_run Cert.LastIdeal.defs _ _).mono (fun r h c => ⟨(h c).1.trans (Cert.LastIdeal.Hand.final m c), (h c).2⟩)
      (Cert.LastIdeal.Value.run_blocks (F := Ideal) m ρ),
    (θ_run Cert.LastRefIdeal.defs _ _).mono (fun r h c => ⟨(h c).1.trans (by
        refine (Cert.LastRefIdeal.Hand.res_eq m' c).trans ?_
        obtain ⟨e0, e1, e2, e3, e4⟩ := hargs c
        rw [e0, e1, e2, e3, e4]
        rfl), (h c).2⟩)
      (Cert.LastRefIdeal.Value.run (F := Ideal) m' ρ')⟩

/-! ## The modulation -/

/-- The kernel as printed ends with its arguments unchanged. -/
theorem ada_frame_p : Cert.quiescent_Ada := fun m ρ _ => Cert.Ada.Gen.frame m ρ

/-- The kernel over the extended reals ends with its arguments unchanged. -/
theorem ada_frame_pi : Cert.quiescent_AdaIdeal := fun m ρ _ => Cert.AdaIdeal.Gen.frame m ρ

/-- The reference ends with its arguments unchanged. -/
theorem ada_frame_ri : Cert.quiescent_AdaRefIdeal := fun m ρ _ =>
  (θ_run Cert.AdaRefIdeal.defs _ _).mono (fun r h => ⟨fun c => (h c).2,
      Idealize.ShloMosaic.sem_eq_zero_of_no_sems (by decide) r.2⟩)
    (Cert.AdaRefIdeal.Value.run (F := Ideal) m ρ)

/-- Nothing was rewritten between the kernel as printed and over the extended reals. -/
theorem ada_preserves : Cert.preserves_Ada_AdaIdeal := trivial

/-- From the same arguments, kernel and reference end with the same result. -/
theorem ada_algebraic : Cert.algebraic_AdaIdeal_AdaRefIdeal := fun m ρ m' ρ' _ hargs =>
  ⟨Cert.AdaIdeal.Hand.want m,
    (θ_run Cert.AdaIdeal.defs _ _).mono (fun r h c => ⟨(h c).1.trans (Cert.AdaIdeal.Hand.final m c), (h c).2⟩)
      (Cert.AdaIdeal.Value.run_blocks (F := Ideal) m ρ),
    (θ_run Cert.AdaRefIdeal.defs _ _).mono (fun r h c => ⟨(h c).1.trans (by
        obtain ⟨e0, e1, e2⟩ := hargs c
        rw [e0, e1, e2]
        rfl), (h c).2⟩)
      (Cert.AdaRefIdeal.Value.run (F := Ideal) m' ρ')⟩

end Cert.Proof

end
-- ==== Proof.DenseRef.lean ====
/-
  The experts' evaluation: the reference's result at the ideal values, element by element.
-/
module

public import proofs.«01_k».proof.Proof.Gen.DenseRefIdeal.Run
public import Idealize.ShloMosaic.Lib.Pointwise

@[expose] public section

set_option maxRecDepth 16384

noncomputable section

namespace Cert.DenseRefIdeal.Hand

open Cert.DenseRefIdeal Cert.DenseRefIdeal.Gen
open Idealize.ShloMosaic Idealize.ShloMosaic.TcCoe

variable (h : FVec Ideal S16384x2048 .bf16) (g : FVec Ideal S2048x128x8x128 .f32) (u v : FVec Ideal S2x16384x2048 .bf16)

/-- The first layer's table, as rows. -/
def tabR (u : FVec Ideal S2x16384x2048 .bf16) : FVec Ideal S16384x2048 .f32 :=
  extf .f32 (shapeCast _ (extractStridedSlice S1x16384x2048 ![0, 0, 0] u slices_S2x16384x2048_S1x16384x2048_0_0_0) shapeCasts_S1x16384x2048_S16384x2048 : FVec Ideal S16384x2048 .bf16) bitsLt_bf16_f32

/-- Every row against every expert. -/
def preR (u : FVec Ideal S16384x2048 .f32) : FVec Ideal S16384x16384 .f32 :=
  Host.dotGeneral dot_S16384x2048_S16384x2048_S16384x16384_1_1_0_0_n_n none (extf .f32 h bitsLt_bf16_f32 : FVec Ideal S16384x2048 .f32) u

/-- The activation, entry by entry. -/
def geluR (z : FVec Ideal S16384x16384 .f32) : FVec Ideal S16384x16384 .f32 :=
  mulf z (mulf (broadcastInDim S16384x16384 ![] bcast_S_S16384x16384 (constant S_ .f32 0x3F000000#32)) (addf (broadcastInDim S16384x16384 ![] bcast_S_S16384x16384 (constant S_ .f32 0x3F800000#32)) (Host.tanh (mulf (broadcastInDim S16384x16384 ![] bcast_S_S16384x16384 (constant S_ .f32 0x3F4C422A#32)) (addf z (mulf (broadcastInDim S16384x16384 ![] bcast_S_S16384x16384 (constant S_ .f32 0x3D372713#32)) (mulf (mulf z z) z)))))))

/-- The gates, a row for each position. -/
def gateR : FVec Ideal S16384x16384 .f32 :=
  shapeCast _ (transpose S2048x8x128x128 [0, 2, 1, 3] g transposes_S2048x128x8x128_S2048x8x128x128_0_2_1_3 : FVec Ideal S2048x8x128x128 .f32) shapeCasts_S2048x8x128x128_S16384x16384

/-- The experts' rows, weighted and added. -/
def addR (a : FVec Ideal S16384x16384 .f32) (v : FVec Ideal S16384x2048 .f32) : FVec Ideal S16384x2048 .f32 :=
  Host.dotGeneral dot_S16384x16384_S16384x2048_S16384x2048_1_0_0_1_n_n none a v

/-- The reference's result of its arguments. -/
def result : FVec Ideal S16384x2048 .f32 := addR (mulf (geluR (preR h (tabR u))) (gateR g)) (tabR v)

/-- The activation of one number. -/
def gelu (z : EReal) : EReal :=
  z * (Ideal.ofBits .f32 0x3F000000#32 * (1 + Ideal.tanh (Ideal.ofBits .f32 0x3F4C422A#32 * (z + Ideal.ofBits .f32 0x3D372713#32 * (z * z * z)))))

theorem tabR_at (e : Fin 16384) (d : Fin 2048) : tabR u (ix2 e d) = u (ix3 0 e d) := by
  pointwise [tabR]

theorem preR_at (w : FVec Ideal S16384x2048 .f32) (t e : Fin 16384) : preR h w (ix2 t e) = ∑ k : Fin 2048, h (ix2 t k) * w (ix2 e k) := by
  pointwise [preR]

theorem geluR_at (z : FVec Ideal S16384x16384 .f32) (t e : Fin 16384) : geluR z (ix2 t e) = gelu (z (ix2 t e)) := by
  pointwise [geluR, gelu]

theorem gateR_at (t e : Fin 16384) : gateR g (ix2 t e)
    = g (ix4 ⟨t.val / 8, by omega⟩ ⟨e.val / 128, by omega⟩ ⟨t.val % 8, by omega⟩ ⟨e.val % 128, by omega⟩) := by
  pointwise [gateR]

theorem addR_at (a : FVec Ideal S16384x16384 .f32) (w : FVec Ideal S16384x2048 .f32) (t : Fin 16384) (d : Fin 2048) :
    addR a w (ix2 t d) = ∑ e : Fin 16384, a (ix2 t e) * w (ix2 e d) := by
  pointwise [addR]

/-- One expert's part of one entry. -/
def part (h : Fin 2048 → EReal) (u : Fin 2048 → EReal) (g v : EReal) : EReal := gelu (∑ k : Fin 2048, h k * u k) * g * v

/-- The result at an element. -/
theorem result_at (t : Fin 16384) (d : Fin 2048) : result h g u v (ix2 t d)
    = ∑ e : Fin 16384, part (fun k => h (ix2 t k)) (fun k => u (ix3 0 e k))
        (g (ix4 ⟨t.val / 8, by omega⟩ ⟨e.val / 128, by omega⟩ ⟨t.val % 8, by omega⟩ ⟨e.val % 128, by omega⟩)) (v (ix3 0 e d)) := by
  rw [result, addR_at]
  refine Finset.sum_congr rfl fun e _ => ?_
  show geluR _ (ix2 t e) * gateR g (ix2 t e) * _ = _
  rw [geluR_at, gateR_at, preR_at, tabR_at, part]
  simp only [tabR_at]

end Cert.DenseRefIdeal.Hand
end
-- ==== Proof.DenseBody.lean ====
/-
  The experts' evaluation: what one point of the kernel makes of its blocks.
-/
module

public import proofs.«01_k».proof.Proof.DenseRef
public import proofs.«01_k».proof.Proof.Gen.DenseIdeal.Value
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.DenseIdeal.Hand

open Cert.DenseIdeal.Gen
open Idealize.ShloMosaic Idealize.ShloMosaic.TcCoe
open Cert.DenseRefIdeal.Hand (gelu)

/-- The activation as the kernel multiplies it out. -/
def act1 (z : EReal) : EReal :=
  Ideal.ofBits .f32 0x3F000000#32 * z * (1 + Ideal.tanh (Ideal.ofBits .f32 0x3F4C422A#32 * (z + Ideal.ofBits .f32 0x3D372713#32 * (z * z * z))))

/-- It is the reference's. -/
theorem act1_eq (z : EReal) : act1 z = gelu z := by
  rw [act1, gelu, mul_comm (Ideal.ofBits .f32 0x3F000000#32) z, mul_assoc]

/-- The gated activation of a row and an expert. -/
def gated (h u : Fin 2048 → EReal) (g : EReal) : EReal := act1 (∑ k : Fin 2048, h k * u k) * g

section Pays
variable (h : Vec Ideal S1024x2048 .bf16) (u : Vec Ideal S1x256x2048 .bf16) (g : Vec Ideal S128x1x8x128 .f32) (r : Fin 1024) (q : Fin 128)

/-- The gated activation of a row of the block and one of the first 128 experts of a group. -/
def lowAct : EReal := gated (fun k => h (ix2 r k)) (fun k => u (ix3 0 ⟨q.val, by omega⟩ k)) (g (ix4 ⟨r.val / 8, by omega⟩ 0 ⟨r.val % 8, by omega⟩ q))

/-- The same of the last 128. -/
def highAct : EReal := gated (fun k => h (ix2 r k)) (fun k => u (ix3 0 ⟨128 + q.val, by omega⟩ k)) (g (ix4 ⟨r.val / 8, by omega⟩ 0 ⟨r.val % 8, by omega⟩ q))

theorem pay0_at : k0_pay6 h u g (ix2 r q) = lowAct h u g r q := by
  pointwise [k0_pay6, k0_pay5, lowAct, gated, act1]

theorem pay1_at : k0_pay9 (k0_pay7 g) (k0_pay8 h u) (Scalar.ofBits .f32 0x3F000000#32) (ix2 r q) = highAct h u g r q := by
  pointwise [k0_pay9, k0_pay7, k0_pay8, k0_pay5, highAct, gated, act1]

theorem pay2_at : k0_pay12 (k0_pay11 h u g) (ix2 r q) = lowAct h u g r q := by
  pointwise [k0_pay12, k0_pay11, k0_pay10, lowAct, gated, act1]

theorem pay3_at : k0_pay13 (k0_pay10 h u) g (ix2 r q) = highAct h u g r q := by
  pointwise [k0_pay13, k0_pay10, highAct, gated, act1]

theorem pay4_at : k0_pay18 (k0_pay15 g) (k0_pay16 h u) k0_pay17 (ix2 r q) = lowAct h u g r q := by
  pointwise [k0_pay18, k0_pay15, k0_pay16, k0_pay17, k0_pay14, lowAct, gated, act1]

theorem pay5_at : k0_pay19 (k0_pay14 h u) g (ix2 r q) = highAct h u g r q := by
  pointwise [k0_pay19, k0_pay14, highAct, gated, act1]

theorem pay6_at : k0_pay21 h u g (ix2 r q) = lowAct h u g r q := by
  pointwise [k0_pay21, k0_pay20, lowAct, gated, act1]

theorem pay7_at : k0_pay1 (k0_pay22 g) (k0_pay24 h u) (k0_pay25 h u) (ix2 r q) = highAct h u g r q := by
  pointwise [k0_pay1, k0_pay22, k0_pay24, k0_pay25, k0_pay23, k0_pay20, highAct, gated, act1]

end Pays

/-- The sum so far and the first half's product. -/
theorem add_at (o : Vec Ideal S1024x2048 .f32) (a : Vec Ideal S1024x512 .bf16) (v : Vec Ideal S1x512x2048 .bf16) (r : Fin 1024) (d : Fin 2048) :
    k0_pay2 o a v (ix2 r d) = o (ix2 r d) + ∑ e : Fin 512, a (ix2 r e) * v (ix3 0 e d) := by
  pointwise [k0_pay2]

/-- The sum so far and the second half's product. -/
theorem add_at' (o : Vec Ideal S1024x2048 .f32) (a : Vec Ideal S1024x512 .bf16) (v : Vec Ideal S1x512x2048 .bf16) (r : Fin 1024) (d : Fin 2048) :
    k0_pay3 o a v (ix2 r d) = o (ix2 r d) + ∑ e : Fin 512, a (ix2 r e) * v (ix3 0 e d) := by
  pointwise [k0_pay3]

/-- The block before the first experts. -/
theorem zero_at (r : Fin 1024) (d : Fin 2048) : (k0_pay4 : FVec Ideal S1024x2048 .f32) (ix2 r d) = 0 := by
  pointwise [k0_pay4]

theorem hz : (![0, 0] : Fin 2 → Nat) = fun _ => 0 := funext fun a => by fin_cases a <;> rfl

/-- The rows of the experts' table that a group's product takes. -/
def uAt (x2 : Vec Ideal S1x1024x2048 .bf16) (o : Nat) (inb : ∀ a, (![0, o, 0] : Fin 3 → Nat) a + S1x256x2048.size a ≤ S1x1024x2048.size a) : Vec Ideal S1x256x2048 .bf16 :=
  View.ld x2 (Rect.unit (s := S1x1024x2048) ![0, o, 0] S1x256x2048.size inb)

/-- The gates of one row of experts. -/
def gAt (x1 : Vec Ideal S128x8x8x128 .f32) (o : Nat) (inb : ∀ a, (![0, o, 0, 0] : Fin 4 → Nat) a + S128x1x8x128.size a ≤ S128x8x8x128.size a) : Vec Ideal S128x1x8x128 .f32 :=
  View.ld x1 (Rect.unit (s := S128x8x8x128) ![0, o, 0, 0] S128x1x8x128.size inb)

theorem uAt_at (x2 : Vec Ideal S1x1024x2048 .bf16) (o : Nat) (inb) (q : Fin 256) (k : Fin 2048) (p : Fin 1024) (hp : p.val = o + q.val) :
    uAt x2 o inb (ix3 0 q k) = x2 (ix3 0 p k) :=
  View.ld_unit_apply_of x2 _ _ _ _ _ fun a => match a with
    | ⟨0, _⟩ => rfl
    | ⟨1, _⟩ => hp
    | ⟨2, _⟩ => (Nat.zero_add _).symm

theorem gAt_at (x1 : Vec Ideal S128x8x8x128 .f32) (o : Nat) (inb) (a : Fin 128) (b : Fin 8) (q : Fin 128) (p : Fin 8) (hp : p.val = o) :
    gAt x1 o inb (ix4 a 0 b q) = x1 (ix4 a p b q) :=
  View.ld_unit_apply_of x1 _ _ _ _ _ fun a => match a with
    | ⟨0, _⟩ => (Nat.zero_add _).symm
    | ⟨1, _⟩ => hp
    | ⟨2, _⟩ => (Nat.zero_add _).symm
    | ⟨3, _⟩ => (Nat.zero_add _).symm

/-- The gated activations of a block, as the body keeps them. -/
def acts (x0 : Vec Ideal S1024x2048 .bf16) (x1 : Vec Ideal S128x8x8x128 .f32) (x2 : Vec Ideal S1x1024x2048 .bf16) (r e : Fin 1024) : EReal :=
  gated (fun k => x0 (ix2 r k)) (fun k => x2 (ix3 0 e k)) (x1 (ix4 ⟨r.val / 8, by omega⟩ ⟨e.val / 128, by omega⟩ ⟨r.val % 8, by omega⟩ ⟨e.val % 128, by omega⟩))

/-- A store of the first 128 experts of a group has the activations at its place. -/
theorem tile_low (x0 : Vec Ideal S1024x2048 .bf16) (x1 : Vec Ideal S128x8x8x128 .f32) (x2 : Vec Ideal S1x1024x2048 .bf16) (n b o w : Nat) (ho : o = 256 * n) (hw : w = 128 * b) (hb : b = 2 * n)
    (iu) (ig) (P : Vec Ideal S1024x128 .bf16) (hP : ∀ r q, P (ix2 r q) = lowAct x0 (uAt x2 o iu) (gAt x1 b ig) r q) (r e : Fin 1024) :
    View.TileAt (S := S1024x1024) (e := .bf16) (Val := Elt Ideal) (ix2 r e) ![0, w] S1024x128.size P (acts x0 x1 x2 r e) := by
  intro x hx
  obtain ⟨p, q, rfl⟩ : ∃ (p : Fin 1024) (q : Fin 128), x = ix2 p q := ⟨_, _, eq_ix2 x⟩
  have h0 : r.val = 0 + p.val := hx 0
  have h1 : e.val = w + q.val := hx 1
  obtain rfl : p = r := Fin.ext (by omega)
  rw [hP, lowAct, acts, gAt_at x1 b ig _ _ _ ⟨e.val / 128, by omega⟩ (by show e.val / 128 = b; omega)]
  have eq : (⟨e.val % 128, by omega⟩ : Fin 128) = q := Fin.ext (by show e.val % 128 = q.val; omega)
  rw [eq]
  refine congrArg (fun u => gated _ u _) (funext fun k => ?_)
  exact uAt_at x2 o iu _ k e (by show e.val = o + q.val; omega)

/-- A store of the last 128 likewise. -/
theorem tile_high (x0 : Vec Ideal S1024x2048 .bf16) (x1 : Vec Ideal S128x8x8x128 .f32) (x2 : Vec Ideal S1x1024x2048 .bf16) (n b o w : Nat) (ho : o = 256 * n) (hw : w = 128 * b) (hb : b = 2 * n + 1)
    (iu) (ig) (P : Vec Ideal S1024x128 .bf16) (hP : ∀ r q, P (ix2 r q) = highAct x0 (uAt x2 o iu) (gAt x1 b ig) r q) (r e : Fin 1024) :
    View.TileAt (S := S1024x1024) (e := .bf16) (Val := Elt Ideal) (ix2 r e) ![0, w] S1024x128.size P (acts x0 x1 x2 r e) := by
  intro x hx
  obtain ⟨p, q, rfl⟩ : ∃ (p : Fin 1024) (q : Fin 128), x = ix2 p q := ⟨_, _, eq_ix2 x⟩
  have h0 : r.val = 0 + p.val := hx 0
  have h1 : e.val = w + q.val := hx 1
  obtain rfl : p = r := Fin.ext (by omega)
  rw [hP, highAct, acts, gAt_at x1 b ig _ _ _ ⟨e.val / 128, by omega⟩ (by show e.val / 128 = b; omega)]
  have eq : (⟨e.val % 128, by omega⟩ : Fin 128) = q := Fin.ext (by show e.val % 128 = q.val; omega)
  rw [eq]
  refine congrArg (fun u => gated _ u _) (funext fun k => ?_)
  exact uAt_at x2 o iu _ k e (by show e.val = o + (128 + q.val); omega)

/-- The body's eight stores of activations, the last first. -/
def stores (x0 : Vec Ideal S1024x2048 .bf16) (x1 : Vec Ideal S128x8x8x128 .f32) (x2 : Vec Ideal S1x1024x2048 .bf16) : List (View.Piece (Elt Ideal) S1024x1024 .bf16) :=
  [⟨Rect.unit (s := S1024x1024) ![0, 896] S1024x128.size inb_S1024x1024_S1024x128_0_896, k0_pay1 (k0_pay22 (gAt x1 7 inb_S128x8x8x128_S128x1x8x128_0_7_0_0)) (k0_pay24 x0 (uAt x2 768 inb_S1x1024x2048_S1x256x2048_0_768_0)) (k0_pay25 x0 (uAt x2 768 inb_S1x1024x2048_S1x256x2048_0_768_0))⟩,
    ⟨Rect.unit (s := S1024x1024) ![0, 768] S1024x128.size inb_S1024x1024_S1024x128_0_768, k0_pay21 x0 (uAt x2 768 inb_S1x1024x2048_S1x256x2048_0_768_0) (gAt x1 6 inb_S128x8x8x128_S128x1x8x128_0_6_0_0)⟩,
    ⟨Rect.unit (s := S1024x1024) ![0, 640] S1024x128.size inb_S1024x1024_S1024x128_0_640, k0_pay19 (k0_pay14 x0 (uAt x2 512 inb_S1x1024x2048_S1x256x2048_0_512_0)) (gAt x1 5 inb_S128x8x8x128_S128x1x8x128_0_5_0_0)⟩,
    ⟨Rect.unit (s := S1024x1024) ![0, 512] S1024x128.size inb_S1024x1024_S1024x128_0_512, k0_pay18 (k0_pay15 (gAt x1 4 inb_S128x8x8x128_S128x1x8x128_0_4_0_0)) (k0_pay16 x0 (uAt x2 512 inb_S1x1024x2048_S1x256x2048_0_512_0)) k0_pay17⟩,
    ⟨Rect.unit (s := S1024x1024) ![0, 384] S1024x128.size inb_S1024x1024_S1024x128_0_384, k0_pay13 (k0_pay10 x0 (uAt x2 256 inb_S1x1024x2048_S1x256x2048_0_256_0)) (gAt x1 3 inb_S128x8x8x128_S128x1x8x128_0_3_0_0)⟩,
    ⟨Rect.unit (s := S1024x1024) ![0, 256] S1024x128.size inb_S1024x1024_S1024x128_0_256, k0_pay12 (k0_pay11 x0 (uAt x2 256 inb_S1x1024x2048_S1x256x2048_0_256_0) (gAt x1 2 inb_S128x8x8x128_S128x1x8x128_0_2_0_0))⟩,
    ⟨Rect.unit (s := S1024x1024) ![0, 128] S1024x128.size inb_S1024x1024_S1024x128_0_128, k0_pay9 (k0_pay7 (gAt x1 1 inb_S128x8x8x128_S128x1x8x128_0_1_0_0)) (k0_pay8 x0 (uAt x2 0 inb_S1x1024x2048_S1x256x2048_0_0_0)) (Scalar.ofBits .f32 0x3F000000#32)⟩,
    ⟨Rect.unit (s := S1024x1024) ![0, 0] S1024x128.size inb_S1024x1024_S1024x128_0_0, k0_pay6 x0 (uAt x2 0 inb_S1x1024x2048_S1x256x2048_0_0_0) (gAt x1 0 inb_S128x8x8x128_S128x1x8x128_0_0_0_0)⟩]

/-- Read back, they are the activations. -/
theorem stores_at (x0 : Vec Ideal S1024x2048 .bf16) (x1 : Vec Ideal S128x8x8x128 .f32) (x2 : Vec Ideal S1x1024x2048 .bf16) (r e : Fin 1024) :
    View.canon (stores x0 x1 x2) (ix2 r e) = acts x0 x1 x2 r e := by
  refine View.canon_eq_of_allAt _ _ _ (View.cover_of_tiledL (stores x0 x1 x2) S1024x128.size (by sl_kernel_rfl) _) ?_
  unfold stores
  refine View.allAt_cons_unit _ _ _ _ _ (tile_high x0 x1 x2 3 7 768 896 rfl rfl rfl _ _ _ (fun r q => pay7_at x0 _ _ r q) r e) ?_
  refine View.allAt_cons_unit _ _ _ _ _ (tile_low x0 x1 x2 3 6 768 768 rfl rfl rfl _ _ _ (fun r q => pay6_at x0 _ _ r q) r e) ?_
  refine View.allAt_cons_unit _ _ _ _ _ (tile_high x0 x1 x2 2 5 512 640 rfl rfl rfl _ _ _ (fun r q => pay5_at x0 _ _ r q) r e) ?_
  refine View.allAt_cons_unit _ _ _ _ _ (tile_low x0 x1 x2 2 4 512 512 rfl rfl rfl _ _ _ (fun r q => pay4_at x0 _ _ r q) r e) ?_
  refine View.allAt_cons_unit _ _ _ _ _ (tile_high x0 x1 x2 1 3 256 384 rfl rfl rfl _ _ _ (fun r q => pay3_at x0 _ _ r q) r e) ?_
  refine View.allAt_cons_unit _ _ _ _ _ (tile_low x0 x1 x2 1 2 256 256 rfl rfl rfl _ _ _ (fun r q => pay2_at x0 _ _ r q) r e) ?_
  refine View.allAt_cons_unit _ _ _ _ _ (tile_high x0 x1 x2 0 1 0 128 rfl rfl rfl _ _ _ (fun r q => pay1_at x0 _ _ r q) r e) ?_
  refine View.allAt_cons_unit _ _ _ _ _ (tile_low x0 x1 x2 0 0 0 0 rfl rfl rfl _ _ _ (fun r q => pay0_at x0 _ _ r q) r e) ?_
  exact View.allAt_nil _ _

/-- The activations of the first or the last half of the experts, as the body loads them. -/
def half (x0 : Vec Ideal S1024x2048 .bf16) (x1 : Vec Ideal S128x8x8x128 .f32) (x2 : Vec Ideal S1x1024x2048 .bf16) (o : Nat)
    (inb : ∀ a, (![0, o] : Fin 2 → Nat) a + S1024x512.size a ≤ S1024x1024.size a) : Vec Ideal S1024x512 .bf16 :=
  View.ld (View.canon (stores x0 x1 x2)) (Rect.unit (s := S1024x1024) ![0, o] S1024x512.size inb)

theorem ld_half (A : Vec Ideal S1024x1024 .bf16) (o : Nat) (inb : ∀ a, (![0, o] : Fin 2 → Nat) a + S1024x512.size a ≤ S1024x1024.size a) (r : Fin 1024) (q : Fin 512) (e : Fin 1024) (he : e.val = o + q.val) :
    View.ld A (Rect.unit (s := S1024x1024) ![0, o] S1024x512.size inb) (ix2 r q) = A (ix2 r e) :=
  View.ld_unit_apply_of A _ _ _ _ _ fun a => match a with
    | ⟨0, _⟩ => (Nat.zero_add _).symm
    | ⟨1, _⟩ => he

theorem half_at (x0 : Vec Ideal S1024x2048 .bf16) (x1 : Vec Ideal S128x8x8x128 .f32) (x2 : Vec Ideal S1x1024x2048 .bf16) (o : Nat) (inb) (r : Fin 1024) (q : Fin 512) (e : Fin 1024) (he : e.val = o + q.val) :
    half x0 x1 x2 o inb (ix2 r q) = acts x0 x1 x2 r e := by
  rw [half, ld_half _ o inb r q e he, stores_at]

/-- The rows of the second table that a half takes. -/
def vAt (x3 : Vec Ideal S1x1024x2048 .bf16) (o : Nat) (inb : ∀ a, (![0, o, 0] : Fin 3 → Nat) a + S1x512x2048.size a ≤ S1x1024x2048.size a) : Vec Ideal S1x512x2048 .bf16 :=
  View.ld x3 (Rect.unit (s := S1x1024x2048) ![0, o, 0] S1x512x2048.size inb)

theorem vAt_at (x3 : Vec Ideal S1x1024x2048 .bf16) (o : Nat) (inb) (q : Fin 512) (d : Fin 2048) (e : Fin 1024) (he : e.val = o + q.val) :
    vAt x3 o inb (ix3 0 q d) = x3 (ix3 0 e d) :=
  View.ld_unit_apply_of x3 _ _ _ _ _ fun a => match a with
    | ⟨0, _⟩ => rfl
    | ⟨1, _⟩ => he
    | ⟨2, _⟩ => (Nat.zero_add _).symm

/-- A block with one tile of experts added. -/
def grown (x0 : Vec Ideal S1024x2048 .bf16) (x1 : Vec Ideal S128x8x8x128 .f32) (x2 x3 : Vec Ideal S1x1024x2048 .bf16) (xo : Vec Ideal S1024x2048 .f32) : Vec Ideal S1024x2048 .f32 :=
  k0_pay3 (k0_pay2 xo (half x0 x1 x2 0 inb_S1024x1024_S1024x512_0_0) (vAt x3 0 inb_S1x1024x2048_S1x512x2048_0_0_0))
    (half x0 x1 x2 512 inb_S1024x1024_S1024x512_0_512) (vAt x3 512 inb_S1x1024x2048_S1x512x2048_0_512_0)

/-- Its elements: the tile's 1024 experts are added. -/
theorem grown_at (x0 : Vec Ideal S1024x2048 .bf16) (x1 : Vec Ideal S128x8x8x128 .f32) (x2 x3 : Vec Ideal S1x1024x2048 .bf16) (xo : Vec Ideal S1024x2048 .f32) (r : Fin 1024) (d : Fin 2048) :
    grown x0 x1 x2 x3 xo (ix2 r d) = xo (ix2 r d) + ∑ e : Fin 1024, acts x0 x1 x2 r e * x3 (ix3 0 e d) := by
  rw [grown, add_at', add_at, add_assoc]
  refine congrArg (xo (ix2 r d) + ·) ?_
  refine Eq.trans ?_ (Fin.sum_univ_add (a := 512) (b := 512) fun e : Fin 1024 => acts x0 x1 x2 r e * x3 (ix3 0 e d)).symm
  refine congrArg₂ (· + ·) (Finset.sum_congr rfl fun q _ => ?_) (Finset.sum_congr rfl fun q _ => ?_)
  · rw [half_at x0 x1 x2 0 _ r q (Fin.castAdd 512 q) (Nat.zero_add _).symm, vAt_at x3 0 _ q d (Fin.castAdd 512 q) (Nat.zero_add _).symm]
  · rw [half_at x0 x1 x2 512 _ r q (Fin.natAdd 512 q) rfl, vAt_at x3 512 _ q d (Fin.natAdd 512 q) rfl]

/-- What the body makes of a block that it finds. -/
theorem out_B (c : Dev nD) (i : grid0.Coords) (a2 : Memref sig .tc .vmem S1024x2048 .bf16) (h2 : a2.IsWhole) (a3 : Memref sig .tc .vmem S128x8x8x128 .f32) (h3 : a3.IsWhole)
    (a4 : Memref sig .tc .vmem S1x1024x2048 .bf16) (h4 : a4.IsWhole) (a5 : Memref sig .tc .vmem S1x1024x2048 .bf16) (h5 : a5.IsWhole) (a6 : Memref sig .tc .vmem S1024x2048 .f32) (h6 : a6.IsWhole)
    (a7 : Memref sig .tc .vmem S1024x1024 .bf16) (h7 : a7.IsWhole) (hc : ¬cond0_0 i) (x0 : Vec Ideal S1024x2048 .bf16) (x1 : Vec Ideal S128x8x8x128 .f32) (x2 x3 : Vec Ideal S1x1024x2048 .bf16) (xo : Vec Ideal S1024x2048 .f32) :
    out0_B_4 c i a2 h2 a3 h3 a4 h4 a5 h5 a6 h6 a7 h7 hc x0 x1 x2 x3 xo = grown x0 x1 x2 x3 xo := by
  unfold out0_B_4
  rw [View.read_writes_eq_canon _ _ _ (cover0_B_4 c i a2 h2 a3 h3 a4 h4 a5 h5 a6 h6 a7 h7 hc x0 x1 x2 x3 xo)]
  unfold kernelRun0_B
  dsimp only
  sl_unfold_words
  rw [View.canon_cons_unit_zero (S := S1024x2048) hz]
  simp only [View.readAt_eq_ld, h2.read_unread, h3.read_unread, h4.read_unread, h5.read_unread, h6.read_unread, View.ld_unit_zero (S := S1024x2048) hz]
  rw [View.readCov_unit_zero (S := S1024x2048) _ hz]
  simp only [View.readCov_eq_canon']
  rfl

/-- What it makes of a block that it clears first. -/
theorem out_A (c : Dev nD) (i : grid0.Coords) (a2 : Memref sig .tc .vmem S1024x2048 .bf16) (h2 : a2.IsWhole) (a3 : Memref sig .tc .vmem S128x8x8x128 .f32) (h3 : a3.IsWhole)
    (a4 : Memref sig .tc .vmem S1x1024x2048 .bf16) (h4 : a4.IsWhole) (a5 : Memref sig .tc .vmem S1x1024x2048 .bf16) (h5 : a5.IsWhole) (a6 : Memref sig .tc .vmem S1024x2048 .f32) (h6 : a6.IsWhole)
    (a7 : Memref sig .tc .vmem S1024x1024 .bf16) (h7 : a7.IsWhole) (hc : cond0_0 i) (x0 : Vec Ideal S1024x2048 .bf16) (x1 : Vec Ideal S128x8x8x128 .f32) (x2 x3 : Vec Ideal S1x1024x2048 .bf16) :
    out0_A_4 c i a2 h2 a3 h3 a4 h4 a5 h5 a6 h6 a7 h7 hc x0 x1 x2 x3 = grown x0 x1 x2 x3 (k0_pay4 (F := Ideal)) := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_cons_unit_zero (S := S1024x2048) hz]
  simp only [View.readAt_eq_ld, h2.read_unread, h3.read_unread, h4.read_unread, h5.read_unread, h6.read_unread, View.ld_unit_zero (S := S1024x2048) hz]
  rw [View.readCov_cons_toLoadRect, View.readCov_cons_toLoadRect]
  simp only [View.readCov_eq_canon']
  rfl

end Cert.DenseIdeal.Hand
end
-- ==== Proof.DenseValue.lean ====
/-
  The experts' evaluation: the kernel's result array is the reference's result of the arguments.
-/
module

public import proofs.«01_k».proof.Proof.DenseBody

@[expose] public section

set_option maxRecDepth 16384

noncomputable section

namespace Cert.DenseIdeal.Hand

open Cert.DenseIdeal.Gen
open Idealize.ShloMosaic Idealize.ShloMosaic.TcCoe
open Cert.DenseRefIdeal.Hand (result result_at part gelu)

/-- Which block of its array each window is on. -/
theorem index0 : ∀ i : grid0.Coords, cc0_transform_0 i 0 = (i 0).val ∧ cc0_transform_0 i 1 = 0 := by decide +kernel
theorem index1 : ∀ i : grid0.Coords, cc0_transform_1 i 0 = (i 0).val ∧ cc0_transform_1 i 1 = (i 1).val ∧ cc0_transform_1 i 2 = 0 ∧ cc0_transform_1 i 3 = 0 := by decide +kernel
theorem index2' : ∀ i : grid0.Coords, cc0_transform_2 i 0 = 0 ∧ cc0_transform_2 i 1 = (i 1).val ∧ cc0_transform_2 i 2 = 0 := by decide +kernel
theorem index3 : ∀ i : grid0.Coords, cc0_transform_3 i 0 = 0 ∧ cc0_transform_3 i 1 = (i 1).val ∧ cc0_transform_3 i 2 = 0 := by decide +kernel
theorem index4 : ∀ i : grid0.Coords, cc0_transform_4 i 0 = (i 0).val ∧ cc0_transform_4 i 1 = 0 := by decide +kernel

/-- A point's tile of rows and tile of experts, by its number. -/
theorem coords_at : ∀ t : Fin cfg0.N, (grid0.coords t 0).val = t.val / 16 ∧ (grid0.coords t 1).val = t.val % 16 := by decide +kernel

variable (m : (ℓ : Loc nD τ sig) → Buf (Elt Ideal) ℓ) (c : Dev nD) (t : Fin cfg0.N)

theorem count : cfg0.N = 256 := by decide +kernel

theorem lt_count : t.val < 256 := lt_of_lt_of_eq t.isLt count

/-- The row of the arrays that a row of the point's block is. -/
def rowOf (r : Fin 1024) : Fin 16384 := ⟨1024 * (t.val / 16) + r.val, by have := lt_count t; omega⟩

/-- The expert that an expert of the point's tile is. -/
def expOf (e : Fin 1024) : Fin 16384 := ⟨1024 * (t.val % 16) + e.val, by omega⟩

/-- The arguments, as the run starts. -/
def argH : FVec Ideal ⟨2, ![16384, 2048]⟩ .bf16 := m ((c.tc : Thread nD τ).loc main_arg0)
def argG : FVec Ideal ⟨4, ![2048, 128, 8, 128]⟩ .f32 := m ((c.tc : Thread nD τ).loc main_arg1)
def argU : FVec Ideal ⟨3, ![2, 16384, 2048]⟩ .bf16 := m ((c.tc : Thread nD τ).loc main_arg2)
def argV : FVec Ideal ⟨3, ![2, 16384, 2048]⟩ .bf16 := m ((c.tc : Thread nD τ).loc main_arg3)

theorem h_at (r : Fin 1024) (d : Fin 2048) : (iblk m c 0 t : Vec Ideal S1024x2048 .bf16) (ix2 r d) = argH m c (ix2 (rowOf t r) d) := by
  obtain ⟨e0, e1⟩ := index0 (grid0.coords t)
  obtain ⟨c0, c1⟩ := coords_at t
  unfold iblk
  rw [View.read_apply]
  show m _ _ = m _ _
  congr 1
  funext a
  apply Fin.ext
  match a with
  | ⟨0, _⟩ =>
    show cc0_transform_0 (grid0.coords t) 0 * 1024 + 1 * r.val = 1024 * (t.val / 16) + r.val
    rw [e0, c0]; omega
  | ⟨1, _⟩ =>
    show cc0_transform_0 (grid0.coords t) 1 * 2048 + 1 * d.val = d.val
    rw [e1]; omega

theorem g_at (r e : Fin 1024) : (iblk m c 1 t : Vec Ideal S128x8x8x128 .f32) (ix4 ⟨r.val / 8, by omega⟩ ⟨e.val / 128, by omega⟩ ⟨r.val % 8, by omega⟩ ⟨e.val % 128, by omega⟩)
    = argG m c (ix4 ⟨(rowOf t r).val / 8, by have := (rowOf t r).isLt; omega⟩ ⟨(expOf t e).val / 128, by have := (expOf t e).isLt; omega⟩
        ⟨(rowOf t r).val % 8, by omega⟩ ⟨(expOf t e).val % 128, by omega⟩) := by
  obtain ⟨e0, e1, e2, e3⟩ := index1 (grid0.coords t)
  obtain ⟨c0, c1⟩ := coords_at t
  unfold iblk
  rw [View.read_apply]
  show m _ _ = m _ _
  congr 1
  funext a
  apply Fin.ext
  match a with
  | ⟨0, _⟩ =>
    show cc0_transform_1 (grid0.coords t) 0 * 128 + 1 * (r.val / 8) = (1024 * (t.val / 16) + r.val) / 8
    rw [e0, c0]; omega
  | ⟨1, _⟩ =>
    show cc0_transform_1 (grid0.coords t) 1 * 8 + 1 * (e.val / 128) = (1024 * (t.val % 16) + e.val) / 128
    rw [e1, c1]; omega
  | ⟨2, _⟩ =>
    show cc0_transform_1 (grid0.coords t) 2 * 8 + 1 * (r.val % 8) = (1024 * (t.val / 16) + r.val) % 8
    rw [e2]; omega
  | ⟨3, _⟩ =>
    show cc0_transform_1 (grid0.coords t) 3 * 128 + 1 * (e.val % 128) = (1024 * (t.val % 16) + e.val) % 128
    rw [e3]; omega

theorem u_at (e : Fin 1024) (d : Fin 2048) : (iblk m c 2 t : Vec Ideal S1x1024x2048 .bf16) (ix3 0 e d) = argU m c (ix3 0 (expOf t e) d) := by
  obtain ⟨e0, e1, e2⟩ := index2' (grid0.coords t)
  obtain ⟨c0, c1⟩ := coords_at t
  unfold iblk
  rw [View.read_apply]
  show m _ _ = m _ _
  congr 1
  funext a
  apply Fin.ext
  match a with
  | ⟨0, _⟩ =>
    show cc0_transform_2 (grid0.coords t) 0 * 1 + 1 * 0 = 0
    rw [e0]
  | ⟨1, _⟩ =>
    show cc0_transform_2 (grid0.coords t) 1 * 1024 + 1 * e.val = 1024 * (t.val % 16) + e.val
    rw [e1, c1]; omega
  | ⟨2, _⟩ =>
    show cc0_transform_2 (grid0.coords t) 2 * 2048 + 1 * d.val = d.val
    rw [e2]; omega

theorem v_at (e : Fin 1024) (d : Fin 2048) : (iblk m c 3 t : Vec Ideal S1x1024x2048 .bf16) (ix3 0 e d) = argV m c (ix3 0 (expOf t e) d) := by
  obtain ⟨e0, e1, e2⟩ := index3 (grid0.coords t)
  obtain ⟨c0, c1⟩ := coords_at t
  unfold iblk
  rw [View.read_apply]
  show m _ _ = m _ _
  congr 1
  funext a
  apply Fin.ext
  match a with
  | ⟨0, _⟩ =>
    show cc0_transform_3 (grid0.coords t) 0 * 1 + 1 * 0 = 0
    rw [e0]
  | ⟨1, _⟩ =>
    show cc0_transform_3 (grid0.coords t) 1 * 1024 + 1 * e.val = 1024 * (t.val % 16) + e.val
    rw [e1, c1]; omega
  | ⟨2, _⟩ =>
    show cc0_transform_3 (grid0.coords t) 2 * 2048 + 1 * d.val = d.val
    rw [e2]; omega

/-- One expert's part of one entry of the result. -/
def partOf (r : Fin 16384) (d : Fin 2048) (e : Fin 16384) : EReal :=
  part (fun k => argH m c (ix2 r k)) (fun k => argU m c (ix3 0 e k))
    (argG m c (ix4 ⟨r.val / 8, by omega⟩ ⟨e.val / 128, by omega⟩ ⟨r.val % 8, by omega⟩ ⟨e.val % 128, by omega⟩)) (argV m c (ix3 0 e d))

/-- The same by the expert's number, nothing past the last. -/
def partAt (r : Fin 16384) (d : Fin 2048) (n : Nat) : EReal := if h : n < 16384 then partOf m c r d ⟨n, h⟩ else 0

/-- The reference's result of the kernel's arguments. -/
def want : Vec Ideal S16384x2048 .f32 := result (argH m c) (argG m c) (argU m c) (argV m c)

/-- It is the sum of the parts. -/
theorem want_at (r : Fin 16384) (d : Fin 2048) : want m c (ix2 r d) = ∑ n ∈ Finset.range 16384, partAt m c r d n := by
  rw [want, result_at, Finset.sum_range]
  refine Finset.sum_congr rfl fun e _ => ?_
  rw [partAt, dif_pos e.isLt]
  rfl

/-- What a point adds: the parts of its tile of experts. -/
theorem tile_sum (r : Fin 1024) (d : Fin 2048) :
    ∑ e : Fin 1024, acts (iblk m c 0 t) (iblk m c 1 t) (iblk m c 2 t) r e * (iblk m c 3 t : Vec Ideal S1x1024x2048 .bf16) (ix3 0 e d)
      = ∑ n ∈ Finset.range 1024, partAt m c (rowOf t r) d (1024 * (t.val % 16) + n) := by
  rw [Finset.sum_range]
  refine Finset.sum_congr rfl fun e _ => ?_
  rw [partAt, dif_pos (show 1024 * (t.val % 16) + e.val < 16384 by omega)]
  show _ = partOf m c (rowOf t r) d (expOf t e)
  rw [acts, gated, act1_eq, g_at, v_at, partOf, part]
  simp only [h_at, u_at]

/-- What the block holds after a point: the parts of the experts up to its tile. -/
theorem held : ∀ (n : Nat) (hn : n < cfg0.N) (r : Fin 1024) (d : Fin 2048),
    outsAt0 m c n hn (ix2 r d) = ∑ e ∈ Finset.range (1024 * (n % 16) + 1024), partAt m c (rowOf ⟨n, hn⟩ r) d e := by
  intro n
  induction n with
  | zero =>
    intro hn r d
    rw [outsAt0_A m c ⟨0, hn⟩ rfl, out_A, grown_at, zero_at, zero_add, tile_sum m c ⟨0, hn⟩ r d]
    refine Finset.sum_congr rfl fun e _ => ?_
    exact congrArg (partAt m c _ d) (Nat.zero_add e)
  | succ n ih =>
    intro hn r d
    by_cases h : (n + 1) % 16 = 0
    · rw [outsAt0_A m c ⟨n + 1, hn⟩ h, out_A, grown_at, zero_at, zero_add, tile_sum m c ⟨n + 1, hn⟩ r d]
      show ∑ e ∈ Finset.range 1024, partAt m c _ d (1024 * ((n + 1) % 16) + e) = _
      rw [h]
      refine Finset.sum_congr rfl fun e _ => ?_
      exact congrArg (partAt m c _ d) (Nat.zero_add e)
    · have hr : rowOf ⟨n, by omega⟩ r = rowOf ⟨n + 1, hn⟩ r := by
        apply Fin.ext
        show 1024 * (n / 16) + r.val = 1024 * ((n + 1) / 16) + r.val
        omega
      rw [outsAt0_B m c ⟨n + 1, hn⟩ h, out_B, grown_at, tile_sum m c ⟨n + 1, hn⟩ r d]
      show outsAt0 m c n _ (ix2 r d) + ∑ e ∈ Finset.range 1024, partAt m c _ d (1024 * ((n + 1) % 16) + e) = _
      rw [ih, hr, show 1024 * (n % 16) + 1024 = 1024 * ((n + 1) % 16) by omega]
      exact (Finset.sum_range_add _ _ _).symm

/-- Where an element of the point's block lies in the result. -/
theorem emb4 (r : Fin 1024) (d : Fin 2048) : ((cfg0.win 4).blk t).view.emb (ix2 r d) = (ix2 (rowOf t r) d : S16384x2048.Idx) := by
  obtain ⟨e0, e1⟩ := index4 (grid0.coords t)
  obtain ⟨c0, c1⟩ := coords_at t
  funext a
  apply Fin.ext
  match a with
  | ⟨0, _⟩ =>
    show cc0_transform_4 (grid0.coords t) 0 * 1024 + 1 * r.val = 1024 * (t.val / 16) + r.val
    rw [e0, c0]; omega
  | ⟨1, _⟩ =>
    show cc0_transform_4 (grid0.coords t) 1 * 2048 + 1 * d.val = d.val
    rw [e1]; omega

/-- What is written back after the last tile of experts is its block of the reference's result. -/
theorem flushed_eq (h : t.val % 16 = 15) : (dats m 0 c).flushed 4 t = ((cfg0.win 4).blk t).view.read (Elt Ideal) (want m c) := by
  funext y
  obtain ⟨r, d, rfl⟩ : ∃ (r : Fin 1024) (d : Fin 2048), y = ix2 r d := ⟨_, _, eq_ix2 y⟩
  rw [View.read_apply, emb4, Value.flushed4, want_at]
  show outsAt0 m c t.val t.isLt (ix2 r d) = _
  rw [held, h]
  exact (cast_eq _ _).symm

/-- Every element of the result is in some point's block. -/
theorem cover4 (i : S16384x2048.Idx) : ∃ t : Fin cfg0.N, (cfg0.win 4).flush t = true ∧ i ∈ ((cfg0.win 4).blk t).view.set := by
  obtain ⟨r, d, rfl⟩ : ∃ (r : Fin 16384) (d : Fin 2048), i = ix2 r d := ⟨_, _, eq_ix2 i⟩
  let t : Fin cfg0.N := ⟨r.val / 1024 * 16 + 15, by rw [count]; omega⟩
  have h := ((cfg0.win 4).blk t).view.emb_mem_set (ix2 ⟨r.val % 1024, by omega⟩ d)
  have er : rowOf t ⟨r.val % 1024, by omega⟩ = r := by
    apply Fin.ext
    show 1024 * ((r.val / 1024 * 16 + 15) / 16) + r.val % 1024 = r.val
    omega
  rw [emb4, er] at h
  exact ⟨t, (flush0_4 t).mpr (by show (r.val / 1024 * 16 + 15) % 16 = 15; omega), h⟩

/-- The result array at the end of the run. -/
theorem final : (dats m 0 c).arrAt 4 cfg0.N = want m c :=
  (dats m 0 c).arrAt_eq_of_cover 4 (want m c) (fun t h => flushed_eq m c t ((flush0_4 t).mp h)) cover4

end Cert.DenseIdeal.Hand
end
-- ==== Proof.DenseCalls.lean ====
/-
  The experts' evaluation: its programs leave their arguments as they were and every counter at zero, nothing was rewritten
  in it, and kernel and reference compute the same experts' output.
-/
module

public import proofs.«01_k».proof.Defs
public import proofs.«01_k».proof.Proof.DenseValue
public import proofs.«01_k».proof.Proof.Gen.Dense.Frame
public import Idealize.ShloMosaic.Adequacy
public import Idealize.ShloMosaic.Init

@[expose] public section

noncomputable section

namespace Cert.Proof

open Idealize.ShloMosaic Idealize.ShloMosaic.TcCoe Idealize.SL.Sem

/-- The kernel as printed ends with its arguments unchanged. -/
theorem dense_frame_p : Cert.quiescent_Dense := fun m ρ _ => Cert.Dense.Gen.frame m ρ

/-- The kernel over the extended reals ends with its arguments unchanged. -/
theorem dense_frame_pi : Cert.quiescent_DenseIdeal := fun m ρ _ => Cert.DenseIdeal.Gen.frame m ρ

/-- The reference ends with its arguments unchanged. -/
theorem dense_frame_ri : Cert.quiescent_DenseRefIdeal := fun m ρ _ =>
  (θ_run Cert.DenseRefIdeal.defs _ _).mono (fun r h => ⟨fun c => (h c).2,
      Idealize.ShloMosaic.sem_eq_zero_of_no_sems (by decide) r.2⟩)
    (Cert.DenseRefIdeal.Value.run (F := Ideal) m ρ)

/-- Nothing was rewritten between the kernel as printed and over the extended reals. -/
theorem dense_preserves : Cert.preserves_Dense_DenseIdeal := trivial

/-- From the same arguments, kernel and reference end with the same result. -/
theorem dense_algebraic : Cert.algebraic_DenseIdeal_DenseRefIdeal := fun m ρ m' ρ' _ hargs =>
  ⟨Cert.DenseIdeal.Hand.want m,
    (θ_run Cert.DenseIdeal.defs _ _).mono (fun r h c => ⟨(h c).1.trans (Cert.DenseIdeal.Hand.final m c), (h c).2⟩)
      (Cert.DenseIdeal.Value.run_blocks (F := Ideal) m ρ),
    (θ_run Cert.DenseRefIdeal.defs _ _).mono (fun r h c => ⟨(h c).1.trans (by
        obtain ⟨e0, e1, e2, e3⟩ := hargs c
        rw [e0, e1, e2, e3]
        rfl), (h c).2⟩)
      (Cert.DenseRefIdeal.Value.run (F := Ideal) m' ρ')⟩

end Cert.Proof

end
-- ==== Proof.lean ====
/-
  The certificate: the programs' stated side conditions, the frames, the named constant, and the equality of kernel and reference.
-/
module

public import proofs.«01_k».proof.Defs
public import proofs.«01_k».proof.Proof.Frames
public import proofs.«01_k».proof.Proof.Calls
public import proofs.«01_k».proof.Proof.Gen.Kernel
public import proofs.«01_k».proof.Proof.Gen.KernelIdeal
public import proofs.«01_k».proof.Proof.Gen.ReferenceIdeal
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.Even.Frame
public import proofs.«01_k».proof.Proof.Gen.EvenIdeal.Frame
public import proofs.«01_k».proof.Proof.Gen.EvenIdeal.Value
public import proofs.«01_k».proof.Proof.Gen.EvenRefIdeal.Run
public import proofs.«01_k».proof.Proof.Gen.Quer.Frame
public import proofs.«01_k».proof.Proof.Gen.QuerIdeal.Frame
public import proofs.«01_k».proof.Proof.Gen.QuerIdeal.Value
public import proofs.«01_k».proof.Proof.Gen.QuerRefIdeal.Run
public import proofs.«01_k».proof.Proof.OddCalls
public import proofs.«01_k».proof.Proof.SmallCalls
public import proofs.«01_k».proof.Proof.DenseCalls
public import proofs.«01_k».proof.Proof.Gen.OddIdeal.Frame
public import proofs.«01_k».proof.Proof.Gen.OddIdeal.Skeleton
public import proofs.«01_k».proof.Proof.Gen.Odd.Skeleton
public import proofs.«01_k».proof.Proof.Gen.Odd.Frame
public import proofs.«01_k».proof.Proof.Gen.OddRefIdeal.Run
public import proofs.«01_k».proof.Proof.Gen.Last.Frame
public import proofs.«01_k».proof.Proof.Gen.LastIdeal.Frame
public import proofs.«01_k».proof.Proof.Gen.LastIdeal.Value
public import proofs.«01_k».proof.Proof.Gen.LastRefIdeal.Run
public import proofs.«01_k».proof.Proof.Gen.Ada.Frame
public import proofs.«01_k».proof.Proof.Gen.AdaIdeal.Frame
public import proofs.«01_k».proof.Proof.Gen.AdaIdeal.Value
public import proofs.«01_k».proof.Proof.Gen.AdaRefIdeal.Run
public import proofs.«01_k».proof.Proof.Gen.Dense.Frame
public import proofs.«01_k».proof.Proof.Gen.DenseIdeal.Frame
public import proofs.«01_k».proof.Proof.Gen.DenseIdeal.Value
public import proofs.«01_k».proof.Proof.Gen.DenseRefIdeal.Run

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    Cert.Proj.Gen.facts, Cert.ProjIdeal.Gen.facts, Cert.ProjRefIdeal.Gen.facts,
    Cert.Even.Gen.facts, Cert.EvenIdeal.Gen.facts, Cert.EvenRefIdeal.Gen.facts,
    Cert.Quer.Gen.facts, Cert.QuerIdeal.Gen.facts, Cert.QuerRefIdeal.Gen.facts,
    Cert.Odd.Gen.facts, Cert.OddIdeal.Gen.facts, Cert.OddRefIdeal.Gen.facts,
    Cert.Last.Gen.facts, Cert.LastIdeal.Gen.facts, Cert.LastRefIdeal.Gen.facts,
    Cert.Ada.Gen.facts, Cert.AdaIdeal.Gen.facts, Cert.AdaRefIdeal.Gen.facts,
    Cert.Dense.Gen.facts, Cert.DenseIdeal.Gen.facts, Cert.DenseRefIdeal.Gen.facts,
    Cert.Finite.facts,
    frame_p, frame_pi, @frame_pi_finite Cert.Finite.facts, frame_ri, @frame_ri_finite Cert.Finite.facts,
    proj_frame_p, proj_frame_pi, proj_frame_ri,
    even_frame_p, even_frame_pi, even_frame_ri,
    quer_frame_p, quer_frame_pi, quer_frame_ri,
    odd_frame_p, odd_frame_pi, odd_frame_ri,
    last_frame_p, last_frame_pi, last_frame_ri,
    ada_frame_p, ada_frame_pi, ada_frame_ri,
    dense_frame_p, dense_frame_pi, dense_frame_ri,
    preserves, @algebraic Cert.Finite.facts,
    proj_preserves, proj_algebraic,
    even_preserves, even_algebraic,
    quer_preserves, quer_algebraic,
    odd_preserves, odd_algebraic,
    last_preserves, last_algebraic,
    ada_preserves, ada_algebraic,
    dense_preserves, dense_algebraic⟩

end Cert.Proof

end
